-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_scores [hPre_finite_scores : Cert.Pre_finite_scores.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_scores [hPre_finite_scores : Cert.Pre_finite_scores.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_scores [hKernel2Ideal : Cert.Kernel2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_scores m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_scores [hReference2Ideal : Cert.Reference2Ideal.Facts] [hPre_finite_scores : Cert.Pre_finite_scores.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_scores m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal_pre_finite_scores [hKernel2Ideal : Cert.Kernel2Ideal.Facts] [hReference2Ideal : Cert.Reference2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_scores m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v25)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v42)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v42) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v77) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v19_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_v19_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v59_0)) (v1 : (c : Dev Cert.Kernel5Ideal.nD) → Buf (Elt Ideal) ((c.tc : Thread Cert.Kernel5Ideal.nD Cert.Kernel5Ideal.τ).loc Cert.Kernel5Ideal.main_v59_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v59_0) = v0 c
          ∧ r.2.mem ((c.tc : Thread Cert.Kernel5Ideal.nD Cert.Kernel5Ideal.τ).loc Cert.Kernel5Ideal.main_v59_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v149) = v0 c
          ∧ r.2.mem ((c.tc : Thread Cert.Reference5Ideal.nD Cert.Reference5Ideal.τ).loc Cert.Reference5Ideal.main_v150) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_scores (hKernel2Ideal := hKernel2Ideal) (hPre_finite_scores := hPre_finite_scores)
    ∧ quiescent_Reference2Ideal (hReference2Ideal := hReference2Ideal)
    ∧ quiescent_Reference2Ideal_pre_finite_scores (hReference2Ideal := hReference2Ideal) (hPre_finite_scores := hPre_finite_scores)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_scores (hKernel2Ideal := hKernel2Ideal) (hReference2Ideal := hReference2Ideal) (hPre_finite_scores := hPre_finite_scores)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S1x1 : Shape := ⟨2, ![1, 1]⟩
abbrev S4x4096x8x128 : Shape := ⟨4, ![4, 4096, 8, 128]⟩
abbrev S4x4352x2x128 : Shape := ⟨4, ![4, 4352, 2, 128]⟩
abbrev S_ : Shape := ⟨0, ![]⟩

class Facts : Prop where
  bcast_S_S4x4096x8x128 : S_.BroadcastsInDim S4x4096x8x128 (![] : Fin 0 → Fin S4x4096x8x128.rank)
  reducesTo_S4x4096x8x128_S_d0_1_2_3 : S4x4096x8x128.ReducesTo [0, 1, 2, 3] S_
  h_S_ : 0 < S_.numel
  bcast_S_S4x4352x2x128 : S_.BroadcastsInDim S4x4352x2x128 (![] : Fin 0 → Fin S4x4352x2x128.rank)
  reducesTo_S4x4352x2x128_S_d0_1_2_3 : S4x4352x2x128.ReducesTo [0, 1, 2, 3] S_

variable [Facts]

def fn {F : FTy → Type} [FloatOps F] (main_arg0 : FVec F S1x1 .f32) (main_arg1 : FVec F S4x4096x8x128 .f32) (main_arg2 : FVec F S4x4352x2x128 .f32) (main_arg3 : FVec F S4x4352x2x128 .f32) : IVec S_ 1 :=
  let main_v0 : FVec F S4x4096x8x128 .f32 := Host.absf main_arg1
  let main_cst : FVec F S_ .f32 := constant S_ .f32 0x7F800000#32
  let main_v1 : FVec F S4x4096x8x128 .f32 := broadcastInDim S4x4096x8x128 ![] bcast_S_S4x4096x8x128 main_cst
  let main_v2 : IVec S4x4096x8x128 1 := cmpf .olt main_v0 main_v1
  let main_c : IVec S_ 1 := constantI S_ 1 1#1
  let main_v3 : IVec S_ 1 := (fun x v => Host.reduce IntOp.andi x v reducesTo_S4x4096x8x128_S_d0_1_2_3 h_S_) main_v2 main_c
  let main_v4 : FVec F S4x4352x2x128 .f32 := Host.absf main_arg2
  let main_cst_0 : FVec F S_ .f32 := constant S_ .f32 0x7F800000#32
  let main_v5 : FVec F S4x4352x2x128 .f32 := broadcastInDim S4x4352x2x128 ![] bcast_S_S4x4352x2x128 main_cst_0
  let main_v6 : IVec S4x4352x2x128 1 := cmpf .olt main_v4 main_v5
  let main_c_1 : IVec S_ 1 := constantI S_ 1 1#1
  let main_v7 : IVec S_ 1 := (fun x v => Host.reduce IntOp.andi x v reducesTo_S4x4352x2x128_S_d0_1_2_3 h_S_) main_v6 main_c_1
  let main_v8 : IVec S_ 1 := andi main_v3 main_v7
  main_v8
-- ==== Kernel.lean ====
abbrev S1x1024x6688 : Shape := ⟨3, ![1, 1024, 6688]⟩
abbrev S1024x6688 : Shape := ⟨2, ![1024, 6688]⟩
abbrev S6688x1024 : Shape := ⟨2, ![6688, 1024]⟩
abbrev S13x1024x512 : Shape := ⟨3, ![13, 1024, 512]⟩
abbrev S1024x128 : Shape := ⟨2, ![1024, 128]⟩
abbrev S512x1024 : Shape := ⟨2, ![512, 1024]⟩
abbrev S32x1024 : Shape := ⟨2, ![32, 1024]⟩
abbrev S1x1024x512 : Shape := ⟨3, ![1, 1024, 512]⟩
abbrev S1024x512 : Shape := ⟨2, ![1024, 512]⟩
abbrev S96x1024 : Shape := ⟨2, ![96, 1024]⟩
abbrev S128x1024 : Shape := ⟨2, ![128, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1x1024x6688, .f32⟩
  | .hbm, ⟨1, _⟩ => ⟨S1024x6688, .f32⟩
  | .hbm, ⟨2, _⟩ => ⟨S6688x1024, .f32⟩
  | .hbm, ⟨3, _⟩ => ⟨S13x1024x512, .bf16⟩
  | .hbm, ⟨4, _⟩ => ⟨S1024x128, .bf16⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1024x128, .bf16⟩
  | _, _ => ⟨S1x1024x6688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c11_i32 : BitVec 32 := 11#32
  let v0 : BitVec 1 := Scalar.cmpi .eq arg0 c11_i32
  let c193_i32 : BitVec 32 := 193#32
  let c97_i32 : BitVec 32 := 97#32
  let v1 : BitVec 32 := Scalar.select v0 c193_i32 c97_i32
  let c10_i32 : BitVec 32 := 10#32
  let v2 : BitVec 1 := Scalar.cmpi .eq arg0 c10_i32
  let c177_i32 : BitVec 32 := 177#32
  let v3 : BitVec 32 := Scalar.select v2 c177_i32 v1
  let c9_i32 : BitVec 32 := 9#32
  let v4 : BitVec 1 := Scalar.cmpi .eq arg0 c9_i32
  let c161_i32 : BitVec 32 := 161#32
  let v5 : BitVec 32 := Scalar.select v4 c161_i32 v3
  let c8_i32 : BitVec 32 := 8#32
  let v6 : BitVec 1 := Scalar.cmpi .eq arg0 c8_i32
  let c145_i32 : BitVec 32 := 145#32
  let v7 : BitVec 32 := Scalar.select v6 c145_i32 v5
  let c7_i32 : BitVec 32 := 7#32
  let v8 : BitVec 1 := Scalar.cmpi .eq arg0 c7_i32
  let c129_i32 : BitVec 32 := 129#32
  let v9 : BitVec 32 := Scalar.select v8 c129_i32 v7
  let c6_i32 : BitVec 32 := 6#32
  let v10 : BitVec 1 := Scalar.cmpi .eq arg0 c6_i32
  let c113_i32 : BitVec 32 := 113#32
  let v11 : BitVec 32 := Scalar.select v10 c113_i32 v9
  let c5_i32 : BitVec 32 := 5#32
  let v12 : BitVec 1 := Scalar.cmpi .eq arg0 c5_i32
  let c81_i32 : BitVec 32 := 81#32
  let v13 : BitVec 32 := Scalar.select v12 c81_i32 v11
  let c4_i32 : BitVec 32 := 4#32
  let v14 : BitVec 1 := Scalar.cmpi .eq arg0 c4_i32
  let c65_i32 : BitVec 32 := 65#32
  let v15 : BitVec 32 := Scalar.select v14 c65_i32 v13
  let c3_i32 : BitVec 32 := 3#32
  let v16 : BitVec 1 := Scalar.cmpi .eq arg0 c3_i32
  let c48_i32 : BitVec 32 := 48#32
  let v17 : BitVec 32 := Scalar.select v16 c48_i32 v15
  let c2_i32 : BitVec 32 := 2#32
  let v18 : BitVec 1 := Scalar.cmpi .eq arg0 c2_i32
  let c32_i32 : BitVec 32 := 32#32
  let v19 : BitVec 32 := Scalar.select v18 c32_i32 v17
  let c1_i32 : BitVec 32 := 1#32
  let v20 : BitVec 1 := Scalar.cmpi .eq arg0 c1_i32
  let c16_i32 : BitVec 32 := 16#32
  let v21 : BitVec 32 := Scalar.select v20 c16_i32 v19
  let c0_i32 : BitVec 32 := 0#32
  let v22 : BitVec 1 := Scalar.cmpi .eq arg0 c0_i32
  let c0_i32_0 : BitVec 32 := 0#32
  let v23 : BitVec 32 := Scalar.select v22 c0_i32_0 v21
  let c32_i32_1 : BitVec 32 := 32#32
  let v24 : BitVec 32 := Scalar.muli v23 c32_i32_1
  let c0_i32_2 : BitVec 32 := 0#32
  let c0_i32_3 : BitVec 32 := 0#32
  ![v24.toNat, c0_i32_2.toNat]

def cc0_transform_1 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1x1024x6688 : Shape := ⟨3, ![1, 1024, 6688]⟩
abbrev S1024x6688 : Shape := ⟨2, ![1024, 6688]⟩
abbrev S1024x256 : Shape := ⟨2, ![1024, 256]⟩
abbrev S1024x512 : Shape := ⟨2, ![1024, 512]⟩
abbrev S1024x1024 : Shape := ⟨2, ![1024, 1024]⟩
abbrev S1024x16 : Shape := ⟨2, ![1024, 16]⟩
abbrev S_ : Shape := ⟨0, ![]⟩
abbrev S1024x6656 : Shape := ⟨2, ![1024, 6656]⟩
abbrev S1024x96 : Shape := ⟨2, ![1024, 96]⟩
abbrev S1024x128 : Shape := ⟨2, ![1024, 128]⟩
abbrev S1024x13x512 : Shape := ⟨3, ![1024, 13, 512]⟩
abbrev S13x1024x512 : Shape := ⟨3, ![13, 1024, 512]⟩

abbrev nBuf : Space → Nat
  | .hbm => 24
  | .vmem => 0
  | .smem => 0
  | _ => 0

abbrev bufTy : (tb : Table) → Fin (tcTables nBuf tb) → BufTy
  | .hbm, ⟨0, _⟩ => ⟨S1x1024x6688, .f32⟩
  | .hbm, ⟨1, _⟩ => ⟨S1024x6688, .f32⟩
  | .hbm, ⟨2, _⟩ => ⟨S1024x256, .f32⟩
  | .hbm, ⟨3, _⟩ => ⟨S1024x256, .f32⟩
  | .hbm, ⟨4, _⟩ => ⟨S1024x512, .f32⟩
  | .hbm, ⟨5, _⟩ => ⟨S1024x1024, .f32⟩
  | .hbm, ⟨6, _⟩ => ⟨S1024x16, .f32⟩
  | .hbm, ⟨7, _⟩ => ⟨S1024x16, .f32⟩
  | .hbm, ⟨8, _⟩ => ⟨S1024x1024, .f32⟩
  | .hbm, ⟨9, _⟩ => ⟨S1024x512, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x6656, .f32⟩
  | .hbm, ⟨17, _⟩ => ⟨S1024x6656, .bf16⟩
  | .hbm, ⟨18, _⟩ => ⟨S_, .f32⟩
  | .hbm, ⟨19, _⟩ => ⟨S1024x96, .f32⟩
  | .hbm, ⟨20, _⟩ => ⟨S1024x128, .f32⟩
  | .hbm, ⟨21, _⟩ => ⟨S1024x128, .bf16⟩
  | .hbm, ⟨22, _⟩ => ⟨S1024x13x512, .bf16⟩
  | .hbm, ⟨23, _⟩ => ⟨S13x1024x512, .bf16⟩
  | _, _ => ⟨S1x1024x6688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst_0 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== Kernel2.lean ====
abbrev S1x1 : Shape := ⟨2, ![1, 1]⟩
abbrev S4x4096x8x128 : Shape := ⟨4, ![4, 4096, 8, 128]⟩
abbrev S4x4352x2x128 : Shape := ⟨4, ![4, 4352, 2, 128]⟩
abbrev S_ : Shape := ⟨0, ![]⟩
abbrev S16384x1024 : Shape := ⟨2, ![16384, 1024]⟩
abbrev S4x4096x2x128 : Shape := ⟨4, ![4, 4096, 2, 128]⟩
abbrev S16384x256 : Shape := ⟨2, ![16384, 256]⟩
abbrev S16384x1536 : Shape := ⟨2, ![16384, 1536]⟩
abbrev S16384x3584 : Shape := ⟨2, ![16384, 3584]⟩
abbrev S16384x6656 : Shape := ⟨2, ![16384, 6656]⟩
abbrev S4x256x2x128 : Shape := ⟨4, ![4, 256, 2, 128]⟩
abbrev S1024x256 : Shape := ⟨2, ![1024, 256]⟩
abbrev S1024x1536 : Shape := ⟨2, ![1024, 1536]⟩
abbrev S1024x2048 : Shape := ⟨2, ![1024, 2048]⟩
abbrev S1024x512 : Shape := ⟨2, ![1024, 512]⟩
abbrev S4096x128 : Shape := ⟨2, ![4096, 128]⟩
abbrev S256x128 : Shape := ⟨2, ![256, 128]⟩
abbrev S8x128x512 : Shape := ⟨3, ![8, 128, 512]⟩
abbrev S128x256 : Shape := ⟨2, ![128, 256]⟩
abbrev S1x4096 : Shape := ⟨2, ![1, 4096]⟩
abbrev S8x4096 : Shape := ⟨2, ![8, 4096]⟩
abbrev S128x4096 : Shape := ⟨2, ![128, 4096]⟩
abbrev S512x128 : Shape := ⟨2, ![512, 128]⟩
abbrev S128x512 : Shape := ⟨2, ![128, 512]⟩
abbrev S1x128x512 : Shape := ⟨3, ![1, 128, 512]⟩
abbrev S1024x128 : Shape := ⟨2, ![1024, 128]⟩
abbrev S512x4096 : Shape := ⟨2, ![512, 4096]⟩
abbrev S64x8x4096 : Shape := ⟨3, ![64, 8, 4096]⟩
abbrev S256x4096 : Shape := ⟨2, ![256, 4096]⟩
abbrev S32x8x4096 : Shape := ⟨3, ![32, 8, 4096]⟩
abbrev S4096 : Shape := ⟨1, ![4096]⟩

abbrev nBuf : Space → Nat
  | .hbm => 36
  | .vmem => 17
  | .smem => 1
  | _ => 0

abbrev bufTy : (tb : Table) → Fin (tcTables nBuf tb) → BufTy
  | .hbm, ⟨0, _⟩ => ⟨S1x1, .f32⟩
  | .hbm, ⟨1, _⟩ => ⟨S4x4096x8x128, .f32⟩
  | .hbm, ⟨2, _⟩ => ⟨S4x4352x2x128, .f32⟩
  | .hbm, ⟨3, _⟩ => ⟨S4x4352x2x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .bf16⟩
  | .hbm, ⟨15, _⟩ => ⟨S4x4096x2x128, .f32⟩
  | .hbm, ⟨16, _⟩ => ⟨S16384x256, .f32⟩
  | .hbm, ⟨17, _⟩ => ⟨S16384x256, .bf16⟩
  | .hbm, ⟨18, _⟩ => ⟨S4x4096x2x128, .f32⟩
  | .hbm, ⟨19, _⟩ => ⟨S16384x256, .f32⟩
  | .hbm, ⟨20, _⟩ => ⟨S16384x256, .bf16⟩
  | .hbm, ⟨21, _⟩ => ⟨S_, .bf16⟩
  | .hbm, ⟨22, _⟩ => ⟨S16384x1536, .bf16⟩
  | .hbm, ⟨23, _⟩ => ⟨S_, .bf16⟩
  | .hbm, ⟨24, _⟩ => ⟨S16384x3584, .bf16⟩
  | .hbm, ⟨25, _⟩ => ⟨S16384x6656, .bf16⟩
  | .hbm, ⟨26, _⟩ => ⟨S4x256x2x128, .f32⟩
  | .hbm, ⟨27, _⟩ => ⟨S1024x256, .f32⟩
  | .hbm, ⟨28, _⟩ => ⟨S1024x256, .bf16⟩
  | .hbm, ⟨29, _⟩ => ⟨S4x256x2x128, .f32⟩
  | .hbm, ⟨30, _⟩ => ⟨S1024x256, .f32⟩
  | .hbm, ⟨31, _⟩ => ⟨S1024x256, .bf16⟩
  | .hbm, ⟨32, _⟩ => ⟨S_, .bf16⟩
  | .hbm, ⟨33, _⟩ => ⟨S1024x1536, .bf16⟩
  | .hbm, ⟨34, _⟩ => ⟨S1024x2048, .bf16⟩
  | .hbm, ⟨35, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S1024x512, .bf16⟩
  | .local _ .vmem, ⟨11, _⟩ => ⟨S1024x512, .bf16⟩
  | .local _ .vmem, ⟨12, _⟩ => ⟨S8x128x512, .bf16⟩
  | .local _ .vmem, ⟨13, _⟩ => ⟨S128x256, .bf16⟩
  | .local _ .vmem, ⟨14, _⟩ => ⟨S1x4096, .f32⟩
  | .local _ .vmem, ⟨15, _⟩ => ⟨S8x4096, .f32⟩
  | .local _ .vmem, ⟨16, _⟩ => ⟨S128x4096, .f32⟩
  | .local _ .smem, ⟨0, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 2, 4], ![false, false, false]⟩

@[reducible] def k0_t1_loop : Scf.Loop 32 :=
  let c0_i32_18 : BitVec 32 := 0#32
  let c8_i32 : BitVec 32 := 8#32
  let v31 : BitVec 32 := Scalar.addi c0_i32_18 c8_i32
  let c1_i32 : BitVec 32 := 1#32
  ⟨c0_i32_18, v31, c1_i32⟩
def k0_mult1 (k0_t1 : Fin k0_t1_loop.trips) : BitVec 32 :=
  let c0_i32_18 : BitVec 32 := 0#32
  let c1_i32 : BitVec 32 := 1#32
  let arg15 : BitVec 32 := Scf.iv c0_i32_18 c1_i32 k0_t1
  let c512_i32 : BitVec 32 := 512#32
  let v85 : BitVec 32 := Scalar.muli arg15 c512_i32
  v85
def k0_off1 (k0_t1 : Fin k0_t1_loop.trips) : Fin 2 → Nat :=
  let c0_i32_18 : BitVec 32 := 0#32
  let c1_i32 : BitVec 32 := 1#32
  let arg15 : BitVec 32 := Scf.iv c0_i32_18 c1_i32 k0_t1
  let c512_i32 : BitVec 32 := 512#32
  let v85 : BitVec 32 := Scalar.muli arg15 c512_i32
  let v86 : BitVec 32 := v85
  let v87 : Index := Scalar.indexCast v86
  let c0_53 : Index := 0#32
  ![v87.toNat, 0]
def k0_off2 (k0_t1 : Fin k0_t1_loop.trips) : Fin 3 → Nat :=
  let c0_i32_18 : BitVec 32 := 0#32
  let c1_i32 : BitVec 32 := 1#32
  let arg15 : BitVec 32 := Scf.iv c0_i32_18 c1_i32 k0_t1
  let v90 : Index := Scalar.indexCast arg15
  let c0_54 : Index := 0#32
  let c0_55 : Index := 0#32
  ![v90.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c4_i32_0 : BitVec 32 := 4#32
  let v2 : BitVec 32 := Scalar.addi c4_i32_0 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference2Ideal.lean ====
abbrev S1x1 : Shape := ⟨2, ![1, 1]⟩
abbrev S4x4096x8x128 : Shape := ⟨4, ![4, 4096, 8, 128]⟩
abbrev S4x4352x2x128 : Shape := ⟨4, ![4, 4352, 2, 128]⟩
abbrev S4x4096x2x4x128 : Shape := ⟨5, ![4, 4096, 2, 4, 128]⟩
abbrev S4x2x4352x4096x4 : Shape := ⟨5, ![4, 2, 4352, 4096, 4]⟩
abbrev S4x2x4x4096x4352 : Shape := ⟨5, ![4, 2, 4, 4096, 4352]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩
abbrev S16384x1024 : Shape := ⟨2, ![16384, 1024]⟩

abbrev nBuf : Space → Nat
  | .hbm => 29
  | .vmem => 0
  | .smem => 0
  | _ => 0

abbrev bufTy : (tb : Table) → Fin (tcTables nBuf tb) → BufTy
  | .hbm, ⟨0, _⟩ => ⟨S1x1, .f32⟩
  | .hbm, ⟨1, _⟩ => ⟨S4x4096x8x128, .f32⟩
  | .hbm, ⟨2, _⟩ => ⟨S4x4352x2x128, .f32⟩
  | .hbm, ⟨3, _⟩ => ⟨S4x4352x2x128, .f32⟩
  | .hbm, ⟨4, _⟩ => ⟨S4x4096x2x4x128, .f32⟩
  | .hbm, ⟨5, _⟩ => ⟨S4x2x4352x4096x4, .f32⟩
  | .hbm, ⟨6, _⟩ => ⟨S4x2x4x4096x4352, .f32⟩
  | .hbm, ⟨7, _⟩ => ⟨S_, .f32⟩
  | .hbm, ⟨8, _⟩ => ⟨S_, .f32⟩
  | .hbm, ⟨9, _⟩ => ⟨S4x2x4x4096x4352, .f32⟩
  | .hbm, ⟨10, _⟩ => ⟨S4x2x4x4096x4352, .f32⟩
  | .hbm, ⟨11, _⟩ => ⟨S_, .f32⟩
  | .hbm, ⟨12, _⟩ => ⟨S4x2x4x4096, .f32⟩
  | .hbm, ⟨13, _⟩ => ⟨S_, .f32⟩
  | .hbm, ⟨14, _⟩ => ⟨S4x2x4x4096, .f32⟩
  | .hbm, ⟨15, _⟩ => ⟨S4x2x4x4096, .f32⟩
  | .hbm, ⟨16, _⟩ => ⟨S4x2x4x4096x1, .f32⟩
  | .hbm, ⟨17, _⟩ => ⟨S4x2x4x4096x4352, .f32⟩
  | .hbm, ⟨18, _⟩ => ⟨S4x2x4x4096x4352, .f32⟩
  | .hbm, ⟨19, _⟩ => ⟨S4x2x4x4096x4352, .f32⟩
  | .hbm, ⟨20, _⟩ => ⟨S_, .f32⟩
  | .hbm, ⟨21, _⟩ => ⟨S4x2x4x4096, .f32⟩
  | .hbm, ⟨22, _⟩ => ⟨S4x2x4x4096x1, .f32⟩
  | .hbm, ⟨23, _⟩ => ⟨S4x2x4x4096x4352, .f32⟩
  | .hbm, ⟨24, _⟩ => ⟨S4x2x4x4096x4352, .f32⟩
  | .hbm, ⟨25, _⟩ => ⟨S4x2x128x4x4096, .f32⟩
  | .hbm, ⟨26, _⟩ => ⟨S4x4096x2x4x128, .f32⟩
  | .hbm, ⟨27, _⟩ => ⟨S16384x1024, .f32⟩
  | .hbm, ⟨28, _⟩ => ⟨S16384x1024, .bf16⟩
  | _, _ => ⟨S1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4x4096x256 : Shape := ⟨4, ![4, 4, 4096, 256]⟩
abbrev S256 : Shape := ⟨1, ![256]⟩
abbrev S4x6144 : Shape := ⟨2, ![4, 6144]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384x3072 : Shape := ⟨2, ![16384, 3072]⟩
abbrev S16384x1024 : Shape := ⟨2, ![16384, 1024]⟩
abbrev S16384x512 : Shape := ⟨2, ![16384, 512]⟩
abbrev S16384x6656 : Shape := ⟨2, ![16384, 6656]⟩
abbrev S8x6144 : Shape := ⟨2, ![8, 6144]⟩
abbrev S8x6x1x1024 : Shape := ⟨4, ![8, 6, 1, 1024]⟩
abbrev S4x4096x4x256 : Shape := ⟨4, ![4, 4096, 4, 256]⟩
abbrev S1x256 : Shape := ⟨2, ![1, 256]⟩
abbrev S1x1024 : Shape := ⟨2, ![1, 1024]⟩
abbrev S512x1024 : Shape := ⟨2, ![512, 1024]⟩
abbrev S1x1x1x1024 : Shape := ⟨4, ![1, 1, 1, 1024]⟩
abbrev S512x256 : Shape := ⟨2, ![512, 256]⟩
abbrev S512 : Shape := ⟨1, ![512]⟩
abbrev S512x1 : Shape := ⟨2, ![512, 1]⟩

abbrev nBuf : Space → Nat
  | .hbm => 73
  | .vmem => 31
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4x4096x256, .f32⟩
  | .hbm, ⟨3, _⟩ => ⟨S4x4x4096x256, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S256, .f32⟩
  | .hbm, ⟨8, _⟩ => ⟨S4x6144, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024, .f32⟩
  | .hbm, ⟨13, _⟩ => ⟨S1024x4096, .f32⟩
  | .hbm, ⟨14, _⟩ => ⟨S4096x1024, .f32⟩
  | .hbm, ⟨15, _⟩ => ⟨S_, .bf16⟩
  | .hbm, ⟨16, _⟩ => ⟨S16384x3072, .bf16⟩
  | .hbm, ⟨17, _⟩ => ⟨S4x4096x1024, .f32⟩
  | .hbm, ⟨18, _⟩ => ⟨S4x4096x1024, .f32⟩
  | .hbm, ⟨19, _⟩ => ⟨S_, .f32⟩
  | .hbm, ⟨20, _⟩ => ⟨S4x4096x1024, .f32⟩
  | .hbm, ⟨21, _⟩ => ⟨S4x4096x1024, .f32⟩
  | .hbm, ⟨22, _⟩ => ⟨S_, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S16384x1024, .f32⟩
  | .hbm, ⟨27, _⟩ => ⟨S16384x1024, .bf16⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x4096x1024, .f32⟩
  | .hbm, ⟨32, _⟩ => ⟨S4x4096x1024, .f32⟩
  | .hbm, ⟨33, _⟩ => ⟨S_, .f32⟩
  | .hbm, ⟨34, _⟩ => ⟨S4x4096x1024, .f32⟩
  | .hbm, ⟨35, _⟩ => ⟨S4x4096x1024, .f32⟩
  | .hbm, ⟨36, _⟩ => ⟨S16384x1024, .f32⟩
  | .hbm, ⟨37, _⟩ => ⟨S16384x1024, .bf16⟩
  | .hbm, ⟨38, _⟩ => ⟨S4x4096x1024, .f32⟩
  | .hbm, ⟨39, _⟩ => ⟨S4x4096x1024, .f32⟩
  | .hbm, ⟨40, _⟩ => ⟨S_, .f32⟩
  | .hbm, ⟨41, _⟩ => ⟨S4x4096x1024, .f32⟩
  | .hbm, ⟨42, _⟩ => ⟨S4x4096x1024, .f32⟩
  | .hbm, ⟨43, _⟩ => ⟨S_, .f32⟩
  | .hbm, ⟨44, _⟩ => ⟨S4x4096x1024, .f32⟩
  | .hbm, ⟨45, _⟩ => ⟨S4x4096x1024, .f32⟩
  | .hbm, ⟨46, _⟩ => ⟨S16384x1024, .f32⟩
  | .hbm, ⟨47, _⟩ => ⟨S16384x1024, .bf16⟩
  | .hbm, ⟨48, _⟩ => ⟨S_, .bf16⟩
  | .hbm, ⟨49, _⟩ => ⟨S16384x512, .bf16⟩
  | .hbm, ⟨50, _⟩ => ⟨S16384x6656, .bf16⟩
  | .hbm, ⟨51, _⟩ => ⟨S_, .f32⟩
  | .hbm, ⟨52, _⟩ => ⟨S4x6144, .f32⟩
  | .hbm, ⟨53, _⟩ => ⟨S8x6144, .f32⟩
  | .hbm, ⟨54, _⟩ => ⟨S8x6x1x1024, .f32⟩
  | .hbm, ⟨55, _⟩ => ⟨S16384x1024, .f32⟩
  | .hbm, ⟨56, _⟩ => ⟨S16384x1024, .f32⟩
  | .hbm, ⟨57, _⟩ => ⟨S16384x1024, .bf16⟩
  | .hbm, ⟨58, _⟩ => ⟨S4x4096x4x256, .f32⟩
  | .hbm, ⟨59, _⟩ => ⟨S16384x1024, .f32⟩
  | .hbm, ⟨60, _⟩ => ⟨S16384x1024, .bf16⟩
  | .hbm, ⟨61, _⟩ => ⟨S4x4x4096x256, .f32⟩
  | .hbm, ⟨62, _⟩ => ⟨S4x4096x4x256, .f32⟩
  | .hbm, ⟨63, _⟩ => ⟨S16384x1024, .f32⟩
  | .hbm, ⟨64, _⟩ => ⟨S16384x1024, .bf16⟩
  | .hbm, ⟨65, _⟩ => ⟨S1x256, .f32⟩
  | .hbm, ⟨66, _⟩ => ⟨S1024x1024, .bf16⟩
  | .hbm, ⟨67, _⟩ => ⟨S1024x1024, .bf16⟩
  | .hbm, ⟨68, _⟩ => ⟨S1024x1024, .bf16⟩
  | .hbm, ⟨69, _⟩ => ⟨S1x1024, .f32⟩
  | .hbm, ⟨70, _⟩ => ⟨S1024x4096, .bf16⟩
  | .hbm, ⟨71, _⟩ => ⟨S4096x1024, .bf16⟩
  | .hbm, ⟨72, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x256, .f32⟩
  | .local _ .vmem, ⟨15, _⟩ => ⟨S1x1x1x1024, .f32⟩
  | .local _ .vmem, ⟨16, _⟩ => ⟨S1x1x1x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1x1x1x1024, .f32⟩
  | .local _ .vmem, ⟨21, _⟩ => ⟨S1x1x1x1024, .f32⟩
  | .local _ .vmem, ⟨22, _⟩ => ⟨S1x1x1x1024, .f32⟩
  | .local _ .vmem, ⟨23, _⟩ => ⟨S1x1x1x1024, .f32⟩
  | .local _ .vmem, ⟨24, _⟩ => ⟨S1x1x1x1024, .f32⟩
  | .local _ .vmem, ⟨25, _⟩ => ⟨S1x1x1x1024, .f32⟩
  | .local _ .vmem, ⟨26, _⟩ => ⟨S1x1024, .f32⟩
  | .local _ .vmem, ⟨27, _⟩ => ⟨S1024x4096, .bf16⟩
  | .local _ .vmem, ⟨28, _⟩ => ⟨S4096x1024, .bf16⟩
  | .local _ .vmem, ⟨29, _⟩ => ⟨S512x1024, .f32⟩
  | .local _ .vmem, ⟨30, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_2 : Ref sig .tc := ⟨.hbm, 40, rfl⟩
abbrev main_v14 : Ref sig .tc := ⟨.hbm, 41, rfl⟩
abbrev main_v15 : Ref sig .tc := ⟨.hbm, 42, rfl⟩
abbrev main_cst_3 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_4 : Ref sig .tc := ⟨.hbm, 48, rfl⟩
abbrev main_v20 : Ref sig .tc := ⟨.hbm, 49, rfl⟩
abbrev main_v21 : Ref sig .tc := ⟨.hbm, 50, rfl⟩
abbrev main_cst_5 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  let c0_i32_6 : BitVec 32 := 0#32
  ![v16.toNat, c2_i32.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![v16.toNat, c3_i32.toNat, c0_i32_4.toNat, c0_i32_5.toNat]

def cc0_transform_13 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let c0_i32_5 : BitVec 32 := 0#32
  let c0_i32_6 : BitVec 32 := 0#32
  ![v16.toNat, c4_i32.toNat, c0_i32_4.toNat, c0_i32_5.toNat]

def cc0_transform_14 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let c0_i32_4 : BitVec 32 := 0#32
  let c0_i32_5 : BitVec 32 := 0#32
  let c0_i32_6 : BitVec 32 := 0#32
  ![v16.toNat, c5_i32.toNat, c0_i32_4.toNat, c0_i32_5.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x4096 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4096x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S4x4096x1024 : Shape := ⟨3, ![4, 4096, 1024]⟩
abbrev S4x4x4096x256 : Shape := ⟨4, ![4, 4, 4096, 256]⟩
abbrev S256 : Shape := ⟨1, ![256]⟩
abbrev S4x6144 : Shape := ⟨2, ![4, 6144]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S4x1024 : Shape := ⟨2, ![4, 1024]⟩
abbrev S4x4096x4x256 : Shape := ⟨4, ![4, 4096, 4, 256]⟩
abbrev S_ : Shape := ⟨0, ![]⟩
abbrev S4x4096x4 : Shape := ⟨3, ![4, 4096, 4]⟩
abbrev S4x4096x4x1 : Shape := ⟨4, ![4, 4096, 4, 1]⟩
abbrev S1x1x1x256 : Shape := ⟨4, ![1, 1, 1, 256]⟩
abbrev S4x1x1024 : Shape := ⟨3, ![4, 1, 1024]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩
abbrev S16384x1024 : Shape := ⟨2, ![16384, 1024]⟩

abbrev nBuf : Space → Nat
  | .hbm => 114
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4x4096x256, .f32⟩
  | .hbm, ⟨3, _⟩ => ⟨S4x4x4096x256, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S256, .f32⟩
  | .hbm, ⟨8, _⟩ => ⟨S4x6144, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024, .f32⟩
  | .hbm, ⟨13, _⟩ => ⟨S1024x4096, .f32⟩
  | .hbm, ⟨14, _⟩ => ⟨S4096x1024, .f32⟩
  | .hbm, ⟨15, _⟩ => ⟨S4x1024, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S4x1024, .f32⟩
  | .hbm, ⟨20, _⟩ => ⟨S4x1024, .f32⟩
  | .hbm, ⟨21, _⟩ => ⟨S4x4x4096x256, .f32⟩
  | .hbm, ⟨22, _⟩ => ⟨S4x4x4096x256, .f32⟩
  | .hbm, ⟨23, _⟩ => ⟨S4x4096x4x256, .f32⟩
  | .hbm, ⟨24, _⟩ => ⟨S4x4096x4x256, .f32⟩
  | .hbm, ⟨25, _⟩ => ⟨S_, .f32⟩
  | .hbm, ⟨26, _⟩ => ⟨S4x4096x4, .f32⟩
  | .hbm, ⟨27, _⟩ => ⟨S4x4096x4x1, .f32⟩
  | .hbm, ⟨28, _⟩ => ⟨S_, .f32⟩
  | .hbm, ⟨29, _⟩ => ⟨S4x4096x4x1, .f32⟩
  | .hbm, ⟨30, _⟩ => ⟨S4x4096x4x1, .f32⟩
  | .hbm, ⟨31, _⟩ => ⟨S_, .f32⟩
  | .hbm, ⟨32, _⟩ => ⟨S4x4096x4x1, .f32⟩
  | .hbm, ⟨33, _⟩ => ⟨S4x4096x4x1, .f32⟩
  | .hbm, ⟨34, _⟩ => ⟨S4x4096x4x1, .f32⟩
  | .hbm, ⟨35, _⟩ => ⟨S4x4096x4x256, .f32⟩
  | .hbm, ⟨36, _⟩ => ⟨S4x4096x4x256, .f32⟩
  | .hbm, ⟨37, _⟩ => ⟨S1x1x1x256, .f32⟩
  | .hbm, ⟨38, _⟩ => ⟨S4x4096x4x256, .f32⟩
  | .hbm, ⟨39, _⟩ => ⟨S4x4096x4x256, .f32⟩
  | .hbm, ⟨40, _⟩ => ⟨S4x4096x4x256, .f32⟩
  | .hbm, ⟨41, _⟩ => ⟨S4x4096x4x256, .f32⟩
  | .hbm, ⟨42, _⟩ => ⟨S4x4096x4x256, .f32⟩
  | .hbm, ⟨43, _⟩ => ⟨S_, .f32⟩
  | .hbm, ⟨44, _⟩ => ⟨S4x4096x4x256, .f32⟩
  | .hbm, ⟨45, _⟩ => ⟨S4x4096x4x256, .f32⟩
  | .hbm, ⟨46, _⟩ => ⟨S_, .f32⟩
  | .hbm, ⟨47, _⟩ => ⟨S4x4096x4x256, .f32⟩
  | .hbm, ⟨48, _⟩ => ⟨S4x4096x4x256, .f32⟩
  | .hbm, ⟨49, _⟩ => ⟨S4x4096x4x256, .f32⟩
  | .hbm, ⟨50, _⟩ => ⟨S4x4096x4x256, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S_, .f32⟩
  | .hbm, ⟨55, _⟩ => ⟨S4x4096x1024, .f32⟩
  | .hbm, ⟨56, _⟩ => ⟨S4x4096x1024, .f32⟩
  | .hbm, ⟨57, _⟩ => ⟨S_, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S_, .f32⟩
  | .hbm, ⟨65, _⟩ => ⟨S4x4096x1024, .f32⟩
  | .hbm, ⟨66, _⟩ => ⟨S4x4096x1024, .f32⟩
  | .hbm, ⟨67, _⟩ => ⟨S_, .f32⟩
  | .hbm, ⟨68, _⟩ => ⟨S4x4096x1024, .f32⟩
  | .hbm, ⟨69, _⟩ => ⟨S4x4096x1024, .f32⟩
  | .hbm, ⟨70, _⟩ => ⟨S4x4096x1024, .f32⟩
  | .hbm, ⟨71, _⟩ => ⟨S4x4096x1024, .f32⟩
  | .hbm, ⟨72, _⟩ => ⟨S4x4096x1024, .f32⟩
  | .hbm, ⟨73, _⟩ => ⟨S4x1x1024, .f32⟩
  | .hbm, ⟨74, _⟩ => ⟨S4x4096x1024, .f32⟩
  | .hbm, ⟨75, _⟩ => ⟨S4x4096x1024, .f32⟩
  | .hbm, ⟨76, _⟩ => ⟨S4x4096x1024, .f32⟩
  | .hbm, ⟨77, _⟩ => ⟨S4x4096x1024, .f32⟩
  | .hbm, ⟨78, _⟩ => ⟨S4x4096x1024, .f32⟩
  | .hbm, ⟨79, _⟩ => ⟨S_, .f32⟩
  | .hbm, ⟨80, _⟩ => ⟨S4x4096, .f32⟩
  | .hbm, ⟨81, _⟩ => ⟨S4x4096x1, .f32⟩
  | .hbm, ⟨82, _⟩ => ⟨S_, .f32⟩
  | .hbm, ⟨83, _⟩ => ⟨S4x4096x1, .f32⟩
  | .hbm, ⟨84, _⟩ => ⟨S4x4096x1, .f32⟩
  | .hbm, ⟨85, _⟩ => ⟨S_, .f32⟩
  | .hbm, ⟨86, _⟩ => ⟨S4x4096x1, .f32⟩
  | .hbm, ⟨87, _⟩ => ⟨S4x4096x1, .f32⟩
  | .hbm, ⟨88, _⟩ => ⟨S4x4096x1, .f32⟩
  | .hbm, ⟨89, _⟩ => ⟨S4x4096x1024, .f32⟩
  | .hbm, ⟨90, _⟩ => ⟨S4x4096x1024, .f32⟩
  | .hbm, ⟨91, _⟩ => ⟨S1x1x1024, .f32⟩
  | .hbm, ⟨92, _⟩ => ⟨S4x4096x1024, .f32⟩
  | .hbm, ⟨93, _⟩ => ⟨S4x4096x1024, .f32⟩
  | .hbm, ⟨94, _⟩ => ⟨S4x1x1024, .f32⟩
  | .hbm, ⟨95, _⟩ => ⟨S_, .f32⟩
  | .hbm, ⟨96, _⟩ => ⟨S4x1x1024, .f32⟩
  | .hbm, ⟨97, _⟩ => ⟨S4x1x1024, .f32⟩
  | .hbm, ⟨98, _⟩ => ⟨S4x4096x1024, .f32⟩
  | .hbm, ⟨99, _⟩ => ⟨S4x4096x1024, .f32⟩
  | .hbm, ⟨100, _⟩ => ⟨S4x1x1024, .f32⟩
  | .hbm, ⟨101, _⟩ => ⟨S4x4096x1024, .f32⟩
  | .hbm, ⟨102, _⟩ => ⟨S4x4096x1024, .f32⟩
  | .hbm, ⟨103, _⟩ => ⟨S4x1x1024, .f32⟩
  | .hbm, ⟨104, _⟩ => ⟨S4x4096x4096, .f32⟩
  | .hbm, ⟨105, _⟩ => ⟨S_, .f32⟩
  | .hbm, ⟨106, _⟩ => ⟨S4x4096x4096, .f32⟩
  | .hbm, ⟨107, _⟩ => ⟨S4x4096x4096, .f32⟩
  | .hbm, ⟨108, _⟩ => ⟨S4x4096x4096, .f32⟩
  | .hbm, ⟨109, _⟩ => ⟨S4x4096x1024, .f32⟩
  | .hbm, ⟨110, _⟩ => ⟨S4x4096x1024, .f32⟩
  | .hbm, ⟨111, _⟩ => ⟨S4x4096x1024, .f32⟩
  | .hbm, ⟨112, _⟩ => ⟨S4x4096x1024, .f32⟩
  | .hbm, ⟨113, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_2 : Ref sig .tc := ⟨.hbm, 54, rfl⟩
abbrev main_v28 : Ref sig .tc := ⟨.hbm, 55, rfl⟩
abbrev main_v29 : Ref sig .tc := ⟨.hbm, 56, rfl⟩
abbrev main_cst_3 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_4 : Ref sig .tc := ⟨.hbm, 64, rfl⟩
abbrev main_v36 : Ref sig .tc := ⟨.hbm, 65, rfl⟩
abbrev main_v37 : Ref sig .tc := ⟨.hbm, 66, rfl⟩
abbrev main_cst_5 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_6 : Ref sig .tc := ⟨.hbm, 79, rfl⟩
abbrev main_v49 : Ref sig .tc := ⟨.hbm, 80, rfl⟩
abbrev main_v50 : Ref sig .tc := ⟨.hbm, 81, rfl⟩
abbrev main_cst_7 : Ref sig .tc := ⟨.hbm, 82, rfl⟩
abbrev main_v51 : Ref sig .tc := ⟨.hbm, 83, rfl⟩
abbrev main_v52 : Ref sig .tc := ⟨.hbm, 84, rfl⟩
abbrev main_cst_8 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_9 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_call1_cst : Ref sig .tc := ⟨.hbm, 105, rfl⟩
abbrev main_call1_v0 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩

abbrev nD : Nat := 1
abbrev τ : Topo := Topo.v7x

variable {F : FTy → Type} [FloatOps F]
-- ==== Kernel4.lean ====
abbrev S4x256x512 : Shape := ⟨3, ![4, 256, 512]⟩
abbrev S4x256x1024 : Shape := ⟨3, ![4, 256, 1024]⟩
abbrev S4x4x256x128 : Shape := ⟨4, ![4, 4, 256, 128]⟩
abbrev S_ : Shape := ⟨0, ![]⟩
abbrev S1024x512 : Shape := ⟨2, ![1024, 512]⟩
abbrev S1024x1024 : Shape := ⟨2, ![1024, 1024]⟩
abbrev S1024x2048 : Shape := ⟨2, ![1024, 2048]⟩
abbrev S4x256x4x128 : Shape := ⟨4, ![4, 256, 4, 128]⟩
abbrev S256x512 : Shape := ⟨2, ![256, 512]⟩
abbrev S256x1024 : Shape := ⟨2, ![256, 1024]⟩
abbrev S1x4x256x128 : Shape := ⟨4, ![1, 4, 256, 128]⟩
abbrev S256x256 : Shape := ⟨2, ![256, 256]⟩
abbrev S1x512 : Shape := ⟨2, ![1, 512]⟩
abbrev S256x128 : Shape := ⟨2, ![256, 128]⟩
abbrev S1x1x256x128 : Shape := ⟨4, ![1, 1, 256, 128]⟩

abbrev nBuf : Space → Nat
  | .hbm => 28
  | .vmem => 12
  | .smem => 0
  | _ => 0

abbrev bufTy : (tb : Table) → Fin (tcTables nBuf tb) → BufTy
  | .hbm, ⟨0, _⟩ => ⟨S4x256x512, .f32⟩
  | .hbm, ⟨1, _⟩ => ⟨S4x256x1024, .f32⟩
  | .hbm, ⟨2, _⟩ => ⟨S4x4x256x128, .f32⟩
  | .hbm, ⟨3, _⟩ => ⟨S4x4x256x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .bf16⟩
  | .hbm, ⟨9, _⟩ => ⟨S1024x512, .bf16⟩
  | .hbm, ⟨10, _⟩ => ⟨S1024x512, .f32⟩
  | .hbm, ⟨11, _⟩ => ⟨S1024x512, .bf16⟩
  | .hbm, ⟨12, _⟩ => ⟨S1024x1024, .f32⟩
  | .hbm, ⟨13, _⟩ => ⟨S1024x1024, .bf16⟩
  | .hbm, ⟨14, _⟩ => ⟨S1024x2048, .bf16⟩
  | .hbm, ⟨15, _⟩ => ⟨S4x256x4x128, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1024x512, .bf16⟩
  | .hbm, ⟨20, _⟩ => ⟨S4x256x4x128, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S1024x512, .bf16⟩
  | .hbm, ⟨25, _⟩ => ⟨S1024x1024, .bf16⟩
  | .hbm, ⟨26, _⟩ => ⟨S4x4x256x128, .f32⟩
  | .hbm, ⟨27, _⟩ => ⟨S4x4x256x128, .f32⟩
  | .local _ .vmem, ⟨0, _⟩ => ⟨S256x512, .bf16⟩
  | .local _ .vmem, ⟨1, _⟩ => ⟨S256x512, .bf16⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S1x4x256x128, .f32⟩
  | .local _ .vmem, ⟨9, _⟩ => ⟨S1x4x256x128, .f32⟩
  | .local _ .vmem, ⟨10, _⟩ => ⟨S1x4x256x128, .f32⟩
  | .local _ .vmem, ⟨11, _⟩ => ⟨S1x4x256x128, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S4x256x512 : Shape := ⟨3, ![4, 256, 512]⟩
abbrev S4x256x1024 : Shape := ⟨3, ![4, 256, 1024]⟩
abbrev S4x4x256x128 : Shape := ⟨4, ![4, 4, 256, 128]⟩
abbrev S4x256x4x128 : Shape := ⟨4, ![4, 256, 4, 128]⟩
abbrev S4x256x4x256 : Shape := ⟨4, ![4, 256, 4, 256]⟩
abbrev S4x4x256x256 : Shape := ⟨4, ![4, 4, 256, 256]⟩
abbrev S_ : Shape := ⟨0, ![]⟩
abbrev S4x4x1x128 : Shape := ⟨4, ![4, 4, 1, 128]⟩

abbrev nBuf : Space → Nat
  | .hbm => 29
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x256x1024, .f32⟩
  | .hbm, ⟨2, _⟩ => ⟨S4x4x256x128, .f32⟩
  | .hbm, ⟨3, _⟩ => ⟨S4x4x256x128, .f32⟩
  | .hbm, ⟨4, _⟩ => ⟨S4x256x4x128, .f32⟩
  | .hbm, ⟨5, _⟩ => ⟨S4x4x256x128, .f32⟩
  | .hbm, ⟨6, _⟩ => ⟨S4x256x4x256, .f32⟩
  | .hbm, ⟨7, _⟩ => ⟨S4x4x256x256, .f32⟩
  | .hbm, ⟨8, _⟩ => ⟨S_, .f32⟩
  | .hbm, ⟨9, _⟩ => ⟨S_, .f32⟩
  | .hbm, ⟨10, _⟩ => ⟨S4x4x256x128, .f32⟩
  | .hbm, ⟨11, _⟩ => ⟨S4x4x1x128, .f32⟩
  | .hbm, ⟨12, _⟩ => ⟨S4x4x256x128, .f32⟩
  | .hbm, ⟨13, _⟩ => ⟨S4x4x256x128, .f32⟩
  | .hbm, ⟨14, _⟩ => ⟨S4x4x256x128, .f32⟩
  | .hbm, ⟨15, _⟩ => ⟨S4x4x256x128, .f32⟩
  | .hbm, ⟨16, _⟩ => ⟨S4x4x256x128, .f32⟩
  | .hbm, ⟨17, _⟩ => ⟨S4x4x256x128, .f32⟩
  | .hbm, ⟨18, _⟩ => ⟨S4x4x256x256, .f32⟩
  | .hbm, ⟨19, _⟩ => ⟨S4x4x256x128, .f32⟩
  | .hbm, ⟨20, _⟩ => ⟨S_, .f32⟩
  | .hbm, ⟨21, _⟩ => ⟨S_, .f32⟩
  | .hbm, ⟨22, _⟩ => ⟨S4x4x256x128, .f32⟩
  | .hbm, ⟨23, _⟩ => ⟨S4x4x1x128, .f32⟩
  | .hbm, ⟨24, _⟩ => ⟨S4x4x256x128, .f32⟩
  | .hbm, ⟨25, _⟩ => ⟨S4x4x256x128, .f32⟩
  | .hbm, ⟨26, _⟩ => ⟨S4x4x256x128, .f32⟩
  | .hbm, ⟨27, _⟩ => ⟨S4x4x256x128, .f32⟩
  | .hbm, ⟨28, _⟩ => ⟨S4x4x256x128, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call4_call0_cst : Ref sig .tc := ⟨.hbm, 20, rfl⟩
abbrev main_call4_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel5.lean ====
abbrev S4x4096x1024 : Shape := ⟨3, ![4, 4096, 1024]⟩
abbrev S4x6144 : Shape := ⟨2, ![4, 6144]⟩
abbrev S1024 : Shape := ⟨1, ![1024]⟩
abbrev S1024x6688 : Shape := ⟨2, ![1024, 6688]⟩
abbrev S128 : Shape := ⟨1, ![128]⟩
abbrev S16x512 : Shape := ⟨2, ![16, 512]⟩
abbrev S512 : Shape := ⟨1, ![512]⟩
abbrev S4096x2x32 : Shape := ⟨3, ![4096, 2, 32]⟩
abbrev S_ : Shape := ⟨0, ![]⟩
abbrev S8x6144 : Shape := ⟨2, ![8, 6144]⟩
abbrev S8x6x1x1024 : Shape := ⟨4, ![8, 6, 1, 1024]⟩
abbrev S1024x2048 : Shape := ⟨2, ![1024, 2048]⟩
abbrev S1024x1024 : Shape := ⟨2, ![1024, 1024]⟩
abbrev S1024x512 : Shape := ⟨2, ![1024, 512]⟩
abbrev S1024x6656 : Shape := ⟨2, ![1024, 6656]⟩
abbrev S1024x13x512 : Shape := ⟨3, ![1024, 13, 512]⟩
abbrev S13x1024x512 : Shape := ⟨3, ![13, 1024, 512]⟩
abbrev S1024x32 : Shape := ⟨2, ![1024, 32]⟩
abbrev S1024x96 : Shape := ⟨2, ![1024, 96]⟩
abbrev S1024x128 : Shape := ⟨2, ![1024, 128]⟩
abbrev S128x512 : Shape := ⟨2, ![128, 512]⟩
abbrev S128x1024 : Shape := ⟨2, ![128, 1024]⟩
abbrev S1x1024 : Shape := ⟨2, ![1, 1024]⟩
abbrev S4096x1x32 : Shape := ⟨3, ![4096, 1, 32]⟩
abbrev S4096x32 : Shape := ⟨2, ![4096, 32]⟩
abbrev S4096x128 : Shape := ⟨2, ![4096, 128]⟩
abbrev S16384x1024 : Shape := ⟨2, ![16384, 1024]⟩
abbrev S1x128 : Shape := ⟨2, ![1, 128]⟩
abbrev S16384x6656 : Shape := ⟨2, ![16384, 6656]⟩
abbrev S512x1024 : Shape := ⟨2, ![512, 1024]⟩
abbrev S1x1x1x1024 : Shape := ⟨4, ![1, 1, 1, 1024]⟩
abbrev S512x128 : Shape := ⟨2, ![512, 128]⟩
abbrev S512x6656 : Shape := ⟨2, ![512, 6656]⟩
abbrev S256x1024 : Shape := ⟨2, ![256, 1024]⟩
abbrev S256 : Shape := ⟨1, ![256]⟩
abbrev S256x1 : Shape := ⟨2, ![256, 1]⟩
abbrev S1x1024x512 : Shape := ⟨3, ![1, 1024, 512]⟩
abbrev S256x512 : Shape := ⟨2, ![256, 512]⟩
abbrev S256x128 : Shape := ⟨2, ![256, 128]⟩
abbrev S128x128 : Shape := ⟨2, ![128, 128]⟩

abbrev nBuf : Space → Nat
  | .hbm => 85
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024, .f32⟩
  | .hbm, ⟨3, _⟩ => ⟨S1024x6688, .f32⟩
  | .hbm, ⟨4, _⟩ => ⟨S128, .f32⟩
  | .hbm, ⟨5, _⟩ => ⟨S128, .f32⟩
  | .hbm, ⟨6, _⟩ => ⟨S16x512, .f32⟩
  | .hbm, ⟨7, _⟩ => ⟨S512, .f32⟩
  | .hbm, ⟨8, _⟩ => ⟨S16x512, .f32⟩
  | .hbm, ⟨9, _⟩ => ⟨S512, .f32⟩
  | .hbm, ⟨10, _⟩ => ⟨S4096x2x32, .f32⟩
  | .hbm, ⟨11, _⟩ => ⟨S4096x2x32, .f32⟩
  | .hbm, ⟨12, _⟩ => ⟨S_, .f32⟩
  | .hbm, ⟨13, _⟩ => ⟨S4x6144, .f32⟩
  | .hbm, ⟨14, _⟩ => ⟨S8x6144, .f32⟩
  | .hbm, ⟨15, _⟩ => ⟨S8x6x1x1024, .f32⟩
  | .hbm, ⟨16, _⟩ => ⟨S1024x2048, .f32⟩
  | .hbm, ⟨17, _⟩ => ⟨S_, .f32⟩
  | .hbm, ⟨18, _⟩ => ⟨S1024x2048, .f32⟩
  | .hbm, ⟨19, _⟩ => ⟨S1024x2048, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | .hbm, ⟨40, _⟩ => ⟨S1024x6656, .f32⟩
  | .hbm, ⟨41, _⟩ => ⟨S1024x13x512, .f32⟩
  | .hbm, ⟨42, _⟩ => ⟨S13x1024x512, .f32⟩
  | .hbm, ⟨43, _⟩ => ⟨S13x1024x512, .bf16⟩
  | .hbm, ⟨44, _⟩ => ⟨S1024x32, .f32⟩
  | .hbm, ⟨45, _⟩ => ⟨S_, .f32⟩
  | .hbm, ⟨46, _⟩ => ⟨S1024x96, .f32⟩
  | .hbm, ⟨47, _⟩ => ⟨S1024x128, .f32⟩
  | .hbm, ⟨48, _⟩ => ⟨S1024x128, .bf16⟩
  | .hbm, ⟨49, _⟩ => ⟨S_, .i32⟩
  | .hbm, ⟨50, _⟩ => ⟨S_, .f32⟩
  | .hbm, ⟨51, _⟩ => ⟨S128x512, .f32⟩
  | .hbm, ⟨52, _⟩ => ⟨S_, .i32⟩
  | .hbm, ⟨53, _⟩ => ⟨S_, .f32⟩
  | .hbm, ⟨54, _⟩ => ⟨S128x512, .f32⟩
  | .hbm, ⟨55, _⟩ => ⟨S128x1024, .f32⟩
  | .hbm, ⟨56, _⟩ => ⟨S128x1024, .bf16⟩
  | .hbm, ⟨57, _⟩ => ⟨S1024, .f32⟩
  | .hbm, ⟨58, _⟩ => ⟨S1x1024, .f32⟩
  | .hbm, ⟨59, _⟩ => ⟨S4096x1x32, .f32⟩
  | .hbm, ⟨60, _⟩ => ⟨S4096x32, .f32⟩
  | .hbm, ⟨61, _⟩ => ⟨S4096x1x32, .f32⟩
  | .hbm, ⟨62, _⟩ => ⟨S4096x32, .f32⟩
  | .hbm, ⟨63, _⟩ => ⟨S4096x1x32, .f32⟩
  | .hbm, ⟨64, _⟩ => ⟨S4096x32, .f32⟩
  | .hbm, ⟨65, _⟩ => ⟨S4096x1x32, .f32⟩
  | .hbm, ⟨66, _⟩ => ⟨S4096x32, .f32⟩
  | .hbm, ⟨67, _⟩ => ⟨S4096x128, .f32⟩
  | .hbm, ⟨68, _⟩ => ⟨S4096x1x32, .f32⟩
  | .hbm, ⟨69, _⟩ => ⟨S4096x32, .f32⟩
  | .hbm, ⟨70, _⟩ => ⟨S4096x32, .f32⟩
  | .hbm, ⟨71, _⟩ => ⟨S4096x1x32, .f32⟩
  | .hbm, ⟨72, _⟩ => ⟨S4096x32, .f32⟩
  | .hbm, ⟨73, _⟩ => ⟨S4096x1x32, .f32⟩
  | .hbm, ⟨74, _⟩ => ⟨S4096x32, .f32⟩
  | .hbm, ⟨75, _⟩ => ⟨S4096x32, .f32⟩
  | .hbm, ⟨76, _⟩ => ⟨S4096x1x32, .f32⟩
  | .hbm, ⟨77, _⟩ => ⟨S4096x32, .f32⟩
  | .hbm, ⟨78, _⟩ => ⟨S4096x128, .f32⟩
  | .hbm, ⟨79, _⟩ => ⟨S16384x1024, .f32⟩
  | .hbm, ⟨80, _⟩ => ⟨S1x1024, .f32⟩
  | .hbm, ⟨81, _⟩ => ⟨S1x128, .f32⟩
  | .hbm, ⟨82, _⟩ => ⟨S1x128, .f32⟩
  | .hbm, ⟨83, _⟩ => ⟨S16384x6656, .bf16⟩
  | .hbm, ⟨84, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S13x1024x512, .bf16⟩
  | .local _ .vmem, ⟨8, _⟩ => ⟨S1024x128, .bf16⟩
  | .local _ .vmem, ⟨9, _⟩ => ⟨S128x1024, .bf16⟩
  | .local _ .vmem, ⟨10, _⟩ => ⟨S1x1024, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S1x128, .f32⟩
  | .local _ .vmem, ⟨16, _⟩ => ⟨S1x128, .f32⟩
  | .local _ .vmem, ⟨17, _⟩ => ⟨S512x6656, .bf16⟩
  | .local _ .vmem, ⟨18, _⟩ => ⟨S512x6656, .bf16⟩
  | .local _ .vmem, ⟨19, _⟩ => ⟨S512x1024, .bf16⟩
  | .local _ .vmem, ⟨20, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c : Ref sig .tc := ⟨.hbm, 49, rfl⟩
abbrev main_call0_v0 : Ref sig .tc := ⟨.hbm, 50, rfl⟩
abbrev main_v29 : Ref sig .tc := ⟨.hbm, 51, rfl⟩
abbrev main_c_7 : Ref sig .tc := ⟨.hbm, 52, rfl⟩
abbrev main_call1_v0 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59_0 : Ref sig .tc := ⟨.hbm, 83, rfl⟩
abbrev main_v59_1 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![v16.toNat, c1_i32_4.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S13x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x6656 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S4x4096x1024 : Shape := ⟨3, ![4, 4096, 1024]⟩
abbrev S4x6144 : Shape := ⟨2, ![4, 6144]⟩
abbrev S1024 : Shape := ⟨1, ![1024]⟩
abbrev S1024x6688 : Shape := ⟨2, ![1024, 6688]⟩
abbrev S128 : Shape := ⟨1, ![128]⟩
abbrev S16x512 : Shape := ⟨2, ![16, 512]⟩
abbrev S512 : Shape := ⟨1, ![512]⟩
abbrev S4096x2x32 : Shape := ⟨3, ![4096, 2, 32]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x6688 : Shape := ⟨3, ![4, 4096, 6688]⟩
abbrev S4x4096x256 : Shape := ⟨3, ![4, 4096, 256]⟩
abbrev S4x4096x512 : Shape := ⟨3, ![4, 4096, 512]⟩
abbrev S4x4096x16 : Shape := ⟨3, ![4, 4096, 16]⟩
abbrev S4x4096x2x128 : Shape := ⟨4, ![4, 4096, 2, 128]⟩
abbrev S4x4096x2 : Shape := ⟨3, ![4, 4096, 2]⟩
abbrev S4x4096x2x1 : Shape := ⟨4, ![4, 4096, 2, 1]⟩
abbrev S1x1x1x128 : Shape := ⟨4, ![1, 1, 1, 128]⟩
abbrev S4x4096x2x2x2x32 : Shape := ⟨6, ![4, 4096, 2, 2, 2, 32]⟩
abbrev S1x4096x1x2x32 : Shape := ⟨5, ![1, 4096, 1, 2, 32]⟩
abbrev S4x4096x2x2x1x32 : Shape := ⟨6, ![4, 4096, 2, 2, 1, 32]⟩
abbrev S4x4096x2x2x32 : Shape := ⟨5, ![4, 4096, 2, 2, 32]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S4x4096x8x2x2x32 : Shape := ⟨6, ![4, 4096, 8, 2, 2, 32]⟩
abbrev S4x4096x8x2x1x32 : Shape := ⟨6, ![4, 4096, 8, 2, 1, 32]⟩
abbrev S4x4096x8x2x32 : Shape := ⟨5, ![4, 4096, 8, 2, 32]⟩
abbrev S16384x256 : Shape := ⟨2, ![16384, 256]⟩
abbrev S16384x512 : Shape := ⟨2, ![16384, 512]⟩
abbrev S16384x1024 : Shape := ⟨2, ![16384, 1024]⟩
abbrev S16384x6656 : Shape := ⟨2, ![16384, 6656]⟩
abbrev S1x1x512 : Shape := ⟨3, ![1, 1, 512]⟩

abbrev nBuf : Space → Nat
  | .hbm => 220
  | .vmem => 0
  | .smem => 0
  | _ => 0

abbrev hbmTy0_0 (i : Nat) : BufTy := match i % 128 with
  | 0 => ⟨S4x4096x1024, .f32⟩
  | 1 => ⟨S4x6144, .f32⟩
  | 2 => ⟨S1024, .f32⟩
  | 3 => ⟨S1024x6688, .f32⟩
  | 4 => ⟨S128, .f32⟩
  | 5 => ⟨S128, .f32⟩
  | 6 => ⟨S16x512, .f32⟩
  | 7 => ⟨S512, .f32⟩
  | 8 => ⟨S16x512, .f32⟩
  | 9 => ⟨S512, .f32⟩
  | 10 => ⟨S4096x2x32, .f32⟩
  | 11 => ⟨S4096x2x32, .f32⟩
  | 12 => ⟨S4x1024, .f32⟩
  | 13 => ⟨S4x1024, .f32⟩
  | 14 => ⟨S4x4096x1024, .f32⟩
  | 15 => ⟨S_, .f32⟩
  | 16 => ⟨S4x4096, .f32⟩
  | 17 => ⟨S4x4096x1, .f32⟩
  | 18 => ⟨S_, .f32⟩
  | 19 => ⟨S4x4096x1, .f32⟩
  | 20 => ⟨S4x4096x1, .f32⟩
  | 21 => ⟨S_, .f32⟩
  | 22 => ⟨S4x4096x1, .f32⟩
  | 23 => ⟨S4x4096x1, .f32⟩
  | 24 => ⟨S4x4096x1, .f32⟩
  | 25 => ⟨S4x4096x1024, .f32⟩
  | 26 => ⟨S4x4096x1024, .f32⟩
  | 27 => ⟨S1x1x1024, .f32⟩
  | 28 => ⟨S4x4096x1024, .f32⟩
  | 29 => ⟨S4x4096x1024, .f32⟩
  | 30 => ⟨S4x1x1024, .f32⟩
  | 31 => ⟨S_, .f32⟩
  | 32 => ⟨S4x1x1024, .f32⟩
  | 33 => ⟨S4x1x1024, .f32⟩
  | 34 => ⟨S4x4096x1024, .f32⟩
  | 35 => ⟨S4x4096x1024, .f32⟩
  | 36 => ⟨S4x1x1024, .f32⟩
  | 37 => ⟨S4x4096x1024, .f32⟩
  | 38 => ⟨S4x4096x1024, .f32⟩
  | 39 => ⟨S4x4096x6688, .f32⟩
  | 40 => ⟨S4x4096x256, .f32⟩
  | 41 => ⟨S4x4096x256, .f32⟩
  | 42 => ⟨S4x4096x512, .f32⟩
  | 43 => ⟨S4x4096x1024, .f32⟩
  | 44 => ⟨S4x4096x16, .f32⟩
  | 45 => ⟨S4x4096x16, .f32⟩
  | 46 => ⟨S4x4096x1024, .f32⟩
  | 47 => ⟨S4x4096x512, .f32⟩
  | 48 => ⟨S4x4096x1024, .f32⟩
  | 49 => ⟨S4x4096x1024, .f32⟩
  | 50 => ⟨S4x4096x1024, .f32⟩
  | 51 => ⟨S4x4096x2x128, .f32⟩
  | 52 => ⟨S4x4096x2x128, .f32⟩
  | 53 => ⟨S_, .f32⟩
  | 54 => ⟨S4x4096x2, .f32⟩
  | 55 => ⟨S4x4096x2x1, .f32⟩
  | 56 => ⟨S_, .f32⟩
  | 57 => ⟨S4x4096x2x1, .f32⟩
  | 58 => ⟨S4x4096x2x1, .f32⟩
  | 59 => ⟨S_, .f32⟩
  | 60 => ⟨S4x4096x2x1, .f32⟩
  | 61 => ⟨S4x4096x2x1, .f32⟩
  | 62 => ⟨S4x4096x2x1, .f32⟩
  | 63 => ⟨S4x4096x2x128, .f32⟩
  | 64 => ⟨S4x4096x2x128, .f32⟩
  | 65 => ⟨S1x1x1x128, .f32⟩
  | 66 => ⟨S4x4096x2x128, .f32⟩
  | 67 => ⟨S4x4096x2x128, .f32⟩
  | 68 => ⟨S4x4096x2x2x2x32, .f32⟩
  | 69 => ⟨S1x4096x1x2x32, .f32⟩
  | 70 => ⟨S1x4096x1x2x32, .f32⟩
  | 71 => ⟨S4x4096x2x2x1x32, .f32⟩
  | 72 => ⟨S4x4096x2x2x32, .f32⟩
  | 73 => ⟨S4x4096x2x2x1x32, .f32⟩
  | 74 => ⟨S4x4096x2x2x32, .f32⟩
  | 75 => ⟨S4x4096x2x2x32, .f32⟩
  | 76 => ⟨S4x4096x2x2x32, .f32⟩
  | 77 => ⟨S4x4096x2x2x32, .f32⟩
  | 78 => ⟨S4x4096x2x2x32, .f32⟩
  | 79 => ⟨S4x4096x2x2x32, .f32⟩
  | 80 => ⟨S4x4096x2x2x32, .f32⟩
  | 81 => ⟨S4x4096x2x2x32, .f32⟩
  | 82 => ⟨S4x4096x2x2x32, .f32⟩
  | 83 => ⟨S4x4096x2x2x32, .f32⟩
  | 84 => ⟨S4x4096x2x2x32, .f32⟩
  | 85 => ⟨S4x4096x2x2x1x32, .f32⟩
  | 86 => ⟨S4x4096x2x2x1x32, .f32⟩
  | 87 => ⟨S4x4096x2x2x2x32, .f32⟩
  | 88 => ⟨S4x4096x8x128, .f32⟩
  | 89 => ⟨S4x4096x8x128, .f32⟩
  | 90 => ⟨S_, .f32⟩
  | 91 => ⟨S4x4096x8, .f32⟩
  | 92 => ⟨S4x4096x8x1, .f32⟩
  | 93 => ⟨S_, .f32⟩
  | 94 => ⟨S4x4096x8x1, .f32⟩
  | 95 => ⟨S4x4096x8x1, .f32⟩
  | 96 => ⟨S_, .f32⟩
  | 97 => ⟨S4x4096x8x1, .f32⟩
  | 98 => ⟨S4x4096x8x1, .f32⟩
  | 99 => ⟨S4x4096x8x1, .f32⟩
  | 100 => ⟨S4x4096x8x128, .f32⟩
  | 101 => ⟨S4x4096x8x128, .f32⟩
  | 102 => ⟨S1x1x1x128, .f32⟩
  | 103 => ⟨S4x4096x8x128, .f32⟩
  | 104 => ⟨S4x4096x8x128, .f32⟩
  | 105 => ⟨S4x4096x8x2x2x32, .f32⟩
  | 106 => ⟨S1x4096x1x2x32, .f32⟩
  | 107 => ⟨S1x4096x1x2x32, .f32⟩
  | 108 => ⟨S4x4096x8x2x1x32, .f32⟩
  | 109 => ⟨S4x4096x8x2x32, .f32⟩
  | 110 => ⟨S4x4096x8x2x1x32, .f32⟩
  | 111 => ⟨S4x4096x8x2x32, .f32⟩
  | 112 => ⟨S4x4096x8x2x32, .f32⟩
  | 113 => ⟨S4x4096x8x2x32, .f32⟩
  | 114 => ⟨S4x4096x8x2x32, .f32⟩
  | 115 => ⟨S4x4096x8x2x32, .f32⟩
  | 116 => ⟨S4x4096x8x2x32, .f32⟩
  | 117 => ⟨S4x4096x8x2x32, .f32⟩
  | 118 => ⟨S4x4096x8x2x32, .f32⟩
  | 119 => ⟨S4x4096x8x2x32, .f32⟩
  | 120 => ⟨S4x4096x8x2x32, .f32⟩
  | 121 => ⟨S4x4096x8x2x32, .f32⟩
  | 122 => ⟨S4x4096x8x2x1x32, .f32⟩
  | 123 => ⟨S4x4096x8x2x1x32, .f32⟩
  | 124 => ⟨S4x4096x8x2x2x32, .f32⟩
  | 125 => ⟨S16384x256, .f32⟩
  | 126 => ⟨S16384x256, .f32⟩
  | 127 => ⟨S16384x512, .f32⟩
  | _ => ⟨S4x4096x1024, .f32⟩

abbrev hbmTy0_1 (i : Nat) : BufTy := match i % 128 with
  | 0 => ⟨S16384x1024, .f32⟩
  | 1 => ⟨S16384x1024, .f32⟩
  | 2 => ⟨S4x4096x1024, .f32⟩
  | 3 => ⟨S4x4096x1024, .f32⟩
  | 4 => ⟨S_, .f32⟩
  | 5 => ⟨S4x4096x1024, .f32⟩
  | 6 => ⟨S4x4096x1024, .f32⟩
  | 7 => ⟨S_, .f32⟩
  | 8 => ⟨S4x4096x1024, .f32⟩
  | 9 => ⟨S4x4096x1024, .f32⟩
  | 10 => ⟨S4x4096x1024, .f32⟩
  | 11 => ⟨S16384x1024, .f32⟩
  | 12 => ⟨S4x4096x1024, .f32⟩
  | 13 => ⟨S4x4096x1024, .f32⟩
  | 14 => ⟨S_, .f32⟩
  | 15 => ⟨S4x4096x1024, .f32⟩
  | 16 => ⟨S4x4096x1024, .f32⟩
  | 17 => ⟨S_, .f32⟩
  | 18 => ⟨S4x4096x1024, .f32⟩
  | 19 => ⟨S4x4096x1024, .f32⟩
  | 20 => ⟨S16384x1024, .f32⟩
  | 21 => ⟨S4x4096x1024, .f32⟩
  | 22 => ⟨S4x4096x1024, .f32⟩
  | 23 => ⟨S_, .f32⟩
  | 24 => ⟨S4x4096x1024, .f32⟩
  | 25 => ⟨S4x4096x1024, .f32⟩
  | 26 => ⟨S_, .f32⟩
  | 27 => ⟨S4x4096x1024, .f32⟩
  | 28 => ⟨S4x4096x1024, .f32⟩
  | 29 => ⟨S16384x1024, .f32⟩
  | 30 => ⟨S_, .f32⟩
  | 31 => ⟨S4x4096x512, .f32⟩
  | 32 => ⟨S4x4096x512, .f32⟩
  | 33 => ⟨S16384x512, .f32⟩
  | 34 => ⟨S16384x6656, .f32⟩
  | 35 => ⟨S4x4096x512, .f32⟩
  | 36 => ⟨S1x1x512, .f32⟩
  | 37 => ⟨S4x4096x512, .f32⟩
  | 38 => ⟨S4x4096x512, .f32⟩
  | 39 => ⟨S4x4096x512, .f32⟩
  | 40 => ⟨S_, .f32⟩
  | 41 => ⟨S4x4096x512, .f32⟩
  | 42 => ⟨S4x4096x512, .f32⟩
  | 43 => ⟨S4x4096x512, .f32⟩
  | 44 => ⟨S4x4096x512, .f32⟩
  | 45 => ⟨S4x4096x512, .i1⟩
  | 46 => ⟨S4x4096x512, .f32⟩
  | 47 => ⟨S4x4096x512, .f32⟩
  | 48 => ⟨S4x4096x512, .f32⟩
  | 49 => ⟨S4x4096x512, .f32⟩
  | 50 => ⟨S4x4096x512, .f32⟩
  | 51 => ⟨S4x4096x512, .f32⟩
  | 52 => ⟨S4x4096x512, .f32⟩
  | 53 => ⟨S4x4096x512, .f32⟩
  | 54 => ⟨S4x4096x512, .f32⟩
  | 55 => ⟨S_, .f32⟩
  | 56 => ⟨S4x4096x512, .f32⟩
  | 57 => ⟨S4x4096x512, .f32⟩
  | 58 => ⟨S_, .f32⟩
  | 59 => ⟨S4x4096x512, .f32⟩
  | 60 => ⟨S4x4096x512, .f32⟩
  | 61 => ⟨S16384x512, .f32⟩
  | 62 => ⟨S4x4096x512, .f32⟩
  | 63 => ⟨S1x1x512, .f32⟩
  | 64 => ⟨S4x4096x512, .f32⟩
  | 65 => ⟨S4x4096x512, .f32⟩
  | 66 => ⟨S4x4096x512, .f32⟩
  | 67 => ⟨S_, .f32⟩
  | 68 => ⟨S4x4096x512, .f32⟩
  | 69 => ⟨S4x4096x512, .f32⟩
  | 70 => ⟨S4x4096x512, .f32⟩
  | 71 => ⟨S4x4096x512, .f32⟩
  | 72 => ⟨S4x4096x512, .i1⟩
  | 73 => ⟨S4x4096x512, .f32⟩
  | 74 => ⟨S4x4096x512, .f32⟩
  | 75 => ⟨S4x4096x512, .f32⟩
  | 76 => ⟨S4x4096x512, .f32⟩
  | 77 => ⟨S4x4096x512, .f32⟩
  | 78 => ⟨S4x4096x512, .f32⟩
  | 79 => ⟨S4x4096x512, .f32⟩
  | 80 => ⟨S4x4096x512, .f32⟩
  | 81 => ⟨S4x4096x512, .f32⟩
  | 82 => ⟨S_, .f32⟩
  | 83 => ⟨S4x4096x512, .f32⟩
  | 84 => ⟨S4x4096x512, .f32⟩
  | 85 => ⟨S_, .f32⟩
  | 86 => ⟨S4x4096x512, .f32⟩
  | 87 => ⟨S4x4096x512, .f32⟩
  | 88 => ⟨S16384x512, .f32⟩
  | 89 => ⟨S16384x1024, .f32⟩
  | 90 => ⟨S16384x6656, .bf16⟩
  | 91 => ⟨S16384x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_6 : Ref sig .tc := ⟨.hbm, 90, rfl⟩
abbrev main_v71 : Ref sig .tc := ⟨.hbm, 91, rfl⟩
abbrev main_v72 : Ref sig .tc := ⟨.hbm, 92, rfl⟩
abbrev main_cst_7 : Ref sig .tc := ⟨.hbm, 93, rfl⟩
abbrev main_v73 : Ref sig .tc := ⟨.hbm, 94, rfl⟩
abbrev main_v74 : Ref sig .tc := ⟨.hbm, 95, rfl⟩
abbrev main_cst_8 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_call0_v0 : Ref sig .tc := ⟨.hbm, 130, rfl⟩
abbrev main_call0_v1 : Ref sig .tc := ⟨.hbm, 131, rfl⟩
abbrev main_call0_cst : Ref sig .tc := ⟨.hbm, 132, rfl⟩
abbrev main_call0_v2 : Ref sig .tc := ⟨.hbm, 133, rfl⟩
abbrev main_call0_v3 : Ref sig .tc := ⟨.hbm, 134, rfl⟩
abbrev main_call0_cst_0 : Ref sig .tc := ⟨.hbm, 135, rfl⟩
abbrev main_call0_v4 : Ref sig .tc := ⟨.hbm, 136, rfl⟩
abbrev main_call0_v5 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_9 : Ref sig .tc := ⟨.hbm, 142, rfl⟩
abbrev main_v112 : Ref sig .tc := ⟨.hbm, 143, rfl⟩
abbrev main_v113 : Ref sig .tc := ⟨.hbm, 144, rfl⟩
abbrev main_cst_10 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_11 : Ref sig .tc := ⟨.hbm, 151, rfl⟩
abbrev main_v119 : Ref sig .tc := ⟨.hbm, 152, rfl⟩
abbrev main_v120 : Ref sig .tc := ⟨.hbm, 153, rfl⟩
abbrev main_cst_12 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_13 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_call1_v0 : Ref sig .tc := ⟨.hbm, 167, rfl⟩
abbrev main_call1_call0_cst : Ref sig .tc := ⟨.hbm, 168, rfl⟩
abbrev main_call1_call0_v0 : Ref sig .tc := ⟨.hbm, 169, rfl⟩
abbrev main_call1_call0_v1 : Ref sig .tc := ⟨.hbm, 170, rfl⟩
abbrev main_call1_call0_v2 : Ref sig .tc := ⟨.hbm, 171, rfl⟩
abbrev main_call1_call0_v3 : Ref sig .tc := ⟨.hbm, 172, rfl⟩
abbrev main_call1_call0_v4 : Ref sig .tc := ⟨.hbm, 173, rfl⟩
abbrev main_call1_call0_v5 : Ref sig .tc := ⟨.hbm, 174, rfl⟩
abbrev main_call1_call0_v6 : Ref sig .tc := ⟨.hbm, 175, rfl⟩
abbrev main_call1_call0_v7 : Ref sig .tc := ⟨.hbm, 176, rfl⟩
abbrev main_call1_call0_v8 : Ref sig .tc := ⟨.hbm, 177, rfl⟩
abbrev main_call1_call0_v9 : Ref sig .tc := ⟨.hbm, 178, rfl⟩
abbrev main_call1_call0_v10 : Ref sig .tc := ⟨.hbm, 179, rfl⟩
abbrev main_call1_call0_v11 : Ref sig .tc := ⟨.hbm, 180, rfl⟩
abbrev main_call1_v1 : Ref sig .tc := ⟨.hbm, 181, rfl⟩
abbrev main_v132 : Ref sig .tc := ⟨.hbm, 182, rfl⟩
abbrev main_cst_14 : Ref sig .tc := ⟨.hbm, 183, rfl⟩
abbrev main_v133 : Ref sig .tc := ⟨.hbm, 184, rfl⟩
abbrev main_v134 : Ref sig .tc := ⟨.hbm, 185, rfl⟩
abbrev main_cst_15 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_call2_v0 : Ref sig .tc := ⟨.hbm, 194, rfl⟩
abbrev main_call2_call0_cst : Ref sig .tc := ⟨.hbm, 195, rfl⟩
abbrev main_call2_call0_v0 : Ref sig .tc := ⟨.hbm, 196, rfl⟩
abbrev main_call2_call0_v1 : Ref sig .tc := ⟨.hbm, 197, rfl⟩
abbrev main_call2_call0_v2 : Ref sig .tc := ⟨.hbm, 198, rfl⟩
abbrev main_call2_call0_v3 : Ref sig .tc := ⟨.hbm, 199, rfl⟩
abbrev main_call2_call0_v4 : Ref sig .tc := ⟨.hbm, 200, rfl⟩
abbrev main_call2_call0_v5 : Ref sig .tc := ⟨.hbm, 201, rfl⟩
abbrev main_call2_call0_v6 : Ref sig .tc := ⟨.hbm, 202, rfl⟩
abbrev main_call2_call0_v7 : Ref sig .tc := ⟨.hbm, 203, rfl⟩
abbrev main_call2_call0_v8 : Ref sig .tc := ⟨.hbm, 204, rfl⟩
abbrev main_call2_call0_v9 : Ref sig .tc := ⟨.hbm, 205, rfl⟩
abbrev main_call2_call0_v10 : Ref sig .tc := ⟨.hbm, 206, rfl⟩
abbrev main_call2_call0_v11 : Ref sig .tc := ⟨.hbm, 207, rfl⟩
abbrev main_call2_v1 : Ref sig .tc := ⟨.hbm, 208, rfl⟩
abbrev main_v142 : Ref sig .tc := ⟨.hbm, 209, rfl⟩
abbrev main_cst_16 : Ref sig .tc := ⟨.hbm, 210, rfl⟩
abbrev main_v143 : Ref sig .tc := ⟨.hbm, 211, rfl⟩
abbrev main_v144 : Ref sig .tc := ⟨.hbm, 212, rfl⟩
abbrev main_cst_17 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩

abbrev nD : Nat := 1
abbrev τ : Topo := Topo.v7x

variable {F : FTy → Type} [FloatOps F]
-- ==== Proof.RegroupKernel.lean ====
/- What the weight-regrouping kernel leaves in its two results, as functions of the argument array: result 1 is
   thirteen column chunks of the input projection's weights, the last one scaled, result 2 the two low-rank gates'
   columns followed by zeros. The chunks are read through an element-indexed window (`pl.Element`), whose offset at
   each grid point is decided over the thirteen points. -/
module

public import proofs.«01_k».proof.Defs
public import proofs.«01_k».proof.Proof.Gen.KernelIdeal.Value
public import Idealize.ShloMosaic.Lib.Pipeline.Value
public import Idealize.ShloMosaic.Lib.ValueIdx
public import Idealize.ShloMosaic.Lib.StableHlo.Run

@[expose] public section

noncomputable section

open Idealize.ShloMosaic Idealize.ShloMosaic.TcCoe Idealize.SL.Sem Idealize.ShloMosaic.ValueIdx
open Idealize.ShloMosaic.Pipeline (Dat)

namespace Cert.Regroup

/-- The first weight column of chunk `j`: the chunks are the attention's keys and values, the linear attention's keys and
    values, the attention's queries, the linear attention's output gate, the two branch gates and its queries. -/
def off : Fin 13 → Nat := ![0, 512, 1024, 1536, 2080, 2592, 3616, 4128, 4640, 5152, 5664, 6176, 3104]

/-- Every chunk's 512 columns lie inside the 6688. -/
theorem off_le (j : Fin 13) : off j + 512 ≤ 6688 := by revert j; decide

/-- The factor of chunk `j`: one, but for the linear attention's queries the word nearest 128^(-1/2). -/
def scale (j : Fin 13) : EReal := if j = 12 then Ideal.ofBits .f32 0x3DB504F3#32 else 1

/-- Result 1 from the weights `a`: entry `(j, r, q)` is row `r`, column `off j + q`, times the chunk's factor. -/
def main (a : (⟨3, ![1, 1024, 6688]⟩ : Shape).Idx → EReal) (j : Fin 13) (r : Fin 1024) (q : Fin 512) : EReal :=
  a (ix3 (0 : Fin 1) r (⟨off j + q, by have := off_le j; omega⟩ : Fin 6688)) * scale j

/-- Result 2: columns 2048 to 2079 of the weights, then zeros. -/
def lowRank (a : (⟨3, ![1, 1024, 6688]⟩ : Shape).Idx → EReal) (r : Fin 1024) (l : Fin 128) : EReal :=
  if h : (l : Nat) < 32 then a (ix3 (0 : Fin 1) r (⟨2048 + l, by omega⟩ : Fin 6688)) else 0

end Cert.Regroup

namespace Cert.KernelIdeal.Regroup

open Cert.KernelIdeal Cert.KernelIdeal.Gen

variable (m : (ℓ : Loc nD τ sig) → Buf (Elt Ideal) ℓ) (ρ : Dev nD → PrngReg)

/-- The weights as launched. -/
abbrev arg (c : Dev nD) : S1x1024x6688.Idx → EReal := m ((c : Thread nD τ).loc main_arg0)

/-- The array both input windows read, the host's transposed copy of the weights, at an index. -/
theorem V_apply (c : Dev nD) (u : Fin 6688) (r : Fin 1024) :
    (V m c main_v1 : S6688x1024.Idx → EReal) (ix2 u r) = arg m c (ix3 (0 : Fin 1) r u) := by
  have e : (V m c main_v1 : S6688x1024.Idx → EReal)
      = transpose S6688x1024 [1, 0] (shapeCast S1024x6688 (arg m c) shapeCasts_S1x1024x6688_S1024x6688)
          transposes_S1024x6688_S6688x1024_1_0 := by
    show StableHlo.after hostOps0 _ _ = _
    after_results <;> rfl
  rw [e, transpose_apply _ _ _ _ (ix2 r u) (by intro b; fin_cases b <;> rfl),
    shapeCast_apply _ _ _ (ix3 (0 : Fin 1) r u)]
  rw [Shape.rowMajor_val_three, Shape.rowMajor_val_two]
  show (0 * 1024 + r.val) * 6688 + u.val = r.val * 6688 + u.val
  omega

/-- The grid has thirteen points. -/
theorem hN : cfg0.N = 13 := N_0
theorem lt_thirteen (t : Fin cfg0.N) : t.val < 13 := t.isLt.trans_eq hN
theorem lt_N {n : Nat} (h : n < 13) : n < cfg0.N := h.trans_eq hN.symm

/-- The windows' index maps over the thirteen points: the element window begins at the chunk's first column, the
    low-rank gates' window at block 64, each point writes its own block of result 1 and the whole of result 2. -/
theorem idx_facts : ∀ t : Fin cfg0.N, win0_0.index t 0 = Cert.Regroup.off (⟨t.val, lt_thirteen t⟩ : Fin 13)
    ∧ win0_0.index t 1 = 0 ∧ win0_1.index t 0 = 64 ∧ win0_1.index t 1 = 0
    ∧ win0_2.index t 0 = t.val ∧ win0_2.index t 1 = 0 ∧ win0_2.index t 2 = 0
    ∧ win0_3.index t 0 = 0 ∧ win0_3.index t 1 = 0 ∧ ((grid0.coords t) 0).val = t.val :=
  (by decide +kernel : ∀ t : Fin grid0.N, win0_0.index t 0 = Cert.Regroup.off (⟨t.val, lt_thirteen t⟩ : Fin 13)
    ∧ win0_0.index t 1 = 0 ∧ win0_1.index t 0 = 64 ∧ win0_1.index t 1 = 0
    ∧ win0_2.index t 0 = t.val ∧ win0_2.index t 1 = 0 ∧ win0_2.index t 2 = 0
    ∧ win0_3.index t 0 = 0 ∧ win0_3.index t 1 = 0 ∧ ((grid0.coords t) 0).val = t.val)

/-- A grid point as a chunk's number. -/
abbrev chunk (t : Fin cfg0.N) : Fin 13 := ⟨t.val, lt_thirteen t⟩

/-- The block the element window stages at point `t`: rows of the transposed weights from the chunk's first on. -/
theorem iblk0_apply (c : Dev nD) (t : Fin cfg0.N) (q : Fin 512) (r : Fin 1024) :
    (iblk m c 0 t : S512x1024.Idx → EReal) (ix2 q r)
      = arg m c (ix3 (0 : Fin 1) r (⟨Cert.Regroup.off (chunk t) + q, by have := Cert.Regroup.off_le (chunk t); omega⟩ : Fin 6688)) := by
  rw [← V_apply]
  show (V m c main_v1 : S6688x1024.Idx → EReal) ((win0_0.rect t).emb (ix2 q r)) = _
  congr 1
  funext a
  refine Fin.ext ?_
  rw [win0_0.rect_emb_val_off t (ix2 q r) a]
  match a with
  | ⟨0, _⟩ => show win0_0.index t 0 + q.val = _; rw [(idx_facts t).1]
  | ⟨1, _⟩ => show win0_0.index t 1 + r.val = _; rw [(idx_facts t).2.1]; show 0 + r.val = r.val; omega

/-- The block the second window stages at every point: the transposed weights' rows 2048 to 2079. -/
theorem iblk1_apply (c : Dev nD) (t : Fin cfg0.N) (l : Fin 32) (r : Fin 1024) :
    (iblk m c 1 t : S32x1024.Idx → EReal) (ix2 l r)
      = arg m c (ix3 (0 : Fin 1) r (⟨2048 + l, by omega⟩ : Fin 6688)) := by
  rw [← V_apply]
  show (V m c main_v1 : S6688x1024.Idx → EReal) ((win0_1.rect t).emb (ix2 l r)) = _
  congr 1
  funext a
  refine Fin.ext ?_
  rw [win0_1.rect_emb_val t (ix2 l r) a]
  match a with
  | ⟨0, _⟩ => show win0_1.index t 0 * 32 + l.val = _; rw [(idx_facts t).2.2.1]
  | ⟨1, _⟩ => show win0_1.index t 1 * 1024 + r.val = _; rw [(idx_facts t).2.2.2.1]; show 0 * 1024 + r.val = r.val; omega

/-- The kernel's ladder of selects over the grid coordinate is the chunk's factor. -/
theorem pay3_apply (i : grid0.Coords) (x : S512x1024.Idx → EReal) (r : Fin 1024) (q : Fin 512) :
    (k0_pay3 (F := Ideal) i x : S1024x512.Idx → EReal) (ix2 r q) = x (ix2 q r) * Cert.Regroup.scale (i 0) := by
  have one : Ideal.ofBits .f32 0x3F800000#32 = (1 : EReal) := by
    simp [Ideal.ofBits, Ideal.ieee, -EReal.coe_mul]; norm_num
  unfold k0_pay3
  dsimp only
  rw [truncf_apply, transpose_apply _ _ _ _ (ix2 q r) (by intro b; fin_cases b <;> rfl), mulf_apply, shapeCast_self]
  congr 1
  obtain ⟨j, hj⟩ : ∃ j : Fin 13, i 0 = j := ⟨_, rfl⟩
  show Scalar.select _ (Ideal.ofBits .f32 0x3F800000#32) _ = _
  rw [hj]
  fin_cases j <;> first | exact one | rfl

theorem hz2 : (![0, 0] : Fin 2 → Nat) = fun _ => 0 := funext fun a => by fin_cases a <;> rfl
theorem hz3 : (![0, 0, 0] : Fin 3 → Nat) = fun _ => 0 := funext fun a => by fin_cases a <;> rfl

/-- Result 1 as an array. -/
def out2 (c : Dev nD) : Buf (Elt Ideal) ((c : Thread nD τ).loc main_v2_0) :=
  fun y : S13x1024x512.Idx => Cert.Regroup.main (arg m c) (y 0) (y 1) (y 2)

/-- Result 2 as an array. -/
def out3 (c : Dev nD) : Buf (Elt Ideal) ((c : Thread nD τ).loc main_v2_1) :=
  fun y : S1024x128.Idx => Cert.Regroup.lowRank (arg m c) (y 0) (y 1)

/-- What point `t` writes back to result 1 is block `t` of the regrouped weights. -/
theorem flushed2_eq (c : Dev nD) (t : Fin cfg0.N) :
    (dats m 0 c).flushed 2 t = (win0_2.blk t).view.read (Elt Ideal) (out2 m c) := by
  rw [Cert.KernelIdeal.Value.flushed2]
  unfold out0_2
  rw [View.canon_unit_zero hz3, View.ld_unit_zero hz2]
  funext (y : S1x1024x512.Idx)
  obtain ⟨z, r, q, rfl⟩ : ∃ (z : Fin 1) (r : Fin 1024) (q : Fin 512), y = ix3 z r q := ⟨y 0, y 1, y 2, eq_ix3 y⟩
  show (k0_pay1 (F := Ideal) (k0_pay3 (grid0.coords t) (iblk m c 0 t)) : S1x1024x512.Idx → EReal) (ix3 z r q)
    = out2 m c ((win0_2.rect t).emb (ix3 z r q))
  have he : (win0_2.rect t).emb (ix3 z r q) = (ix3 (chunk t) r q : S13x1024x512.Idx) := by
    funext a
    refine Fin.ext ?_
    rw [win0_2.rect_emb_val t (ix3 z r q) a]
    have hzv : z.val = 0 := by omega
    obtain ⟨-, -, -, -, e0, e1, e2, -⟩ := idx_facts t
    match a with
    | ⟨0, _⟩ => show win0_2.index t 0 * 1 + z.val = t.val; omega
    | ⟨1, _⟩ => show win0_2.index t 1 * 1024 + r.val = r.val; omega
    | ⟨2, _⟩ => show win0_2.index t 2 * 512 + q.val = q.val; omega
  rw [he]
  unfold k0_pay1
  rw [shapeCast_apply _ _ _ (ix2 r q)
    (by rw [Shape.rowMajor_val_three, Shape.rowMajor_val_two]
        show r.val * 512 + q.val = (z.val * 1024 + r.val) * 512 + q.val; omega), pay3_apply, iblk0_apply]
  have hc : (grid0.coords t) 0 = chunk t := Fin.ext (idx_facts t).2.2.2.2.2.2.2.2.2
  rw [hc]
  rfl

/-- What a point writes back to result 2 is the whole of it. -/
theorem flushed3_eq (c : Dev nD) (t : Fin cfg0.N) :
    (dats m 0 c).flushed 3 t = (win0_3.blk t).view.read (Elt Ideal) (out3 m c) := by
  rw [Cert.KernelIdeal.Value.flushed3]
  unfold out0_3
  rw [View.canon_unit_zero hz2, View.ld_unit_zero hz2]
  funext (y : S1024x128.Idx)
  obtain ⟨r, l, rfl⟩ : ∃ (r : Fin 1024) (l : Fin 128), y = ix2 r l := ⟨y 0, y 1, eq_ix2 y⟩
  show (k0_pay2 (F := Ideal) (iblk m c 1 t) : S1024x128.Idx → EReal) (ix2 r l)
    = out3 m c ((win0_3.rect t).emb (ix2 r l))
  have he : (win0_3.rect t).emb (ix2 r l) = (ix2 r l : S1024x128.Idx) := by
    funext a
    refine Fin.ext ?_
    rw [win0_3.rect_emb_val t (ix2 r l) a]
    obtain ⟨-, -, -, -, -, -, -, e0, e1, -⟩ := idx_facts t
    match a with
    | ⟨0, _⟩ => show win0_3.index t 0 * 1024 + r.val = r.val; omega
    | ⟨1, _⟩ => show win0_3.index t 1 * 128 + l.val = l.val; omega
  rw [he]
  unfold k0_pay2
  show _ = Cert.Regroup.lowRank (arg m c) r l
  dsimp only
  rw [truncf_apply, transpose_apply _ _ _ _ (ix2 l r) (by intro b; fin_cases b <;> rfl)]
  unfold Cert.Regroup.lowRank
  split
  · rename_i h
    refine Eq.trans (concatenate_apply_piece (0 : Fin S128x1024.rank) _ _ _ 0 (by exact Nat.zero_lt_two) S32x1024 _ rfl rfl 0 rfl
      (ix2 (⟨l.val, h⟩ : Fin 32) r) ?_ ?_) ?_
    · intro b hb; fin_cases b
      · exact absurd rfl hb
      · rfl
    · show 0 + l.val = l.val; omega
    · rw [shapeCast_self, iblk1_apply]
  · rename_i h
    refine Eq.trans (concatenate_apply_piece (0 : Fin S128x1024.rank) _ _ _ 1 (by exact Nat.one_lt_two) S96x1024 _ rfl rfl 32 rfl
      (ix2 (⟨l.val - 32, by omega⟩ : Fin 96) r) ?_ ?_) ?_
    · intro b hb; fin_cases b
      · exact absurd rfl hb
      · rfl
    · show 32 + (l.val - 32) = l.val; omega
    show Ideal.ofBits .f32 0x00000000#32 = 0
    simp [Ideal.ofBits, Ideal.ieee]

/-- An entry is in a point's block when each coordinate is within the block's bounds. -/
theorem mem_blk2 (t : Fin cfg0.N) (i : S13x1024x512.Idx) : i ∈ ((cfg0.win 2).blk t).view.set ↔
    ∀ a : Fin 3, win0_2.index t a * win0_2.size a ≤ (i a : Nat) ∧ (i a : Nat) < win0_2.index t a * win0_2.size a + win0_2.size a := by
  show i ∈ ((View.whole main_v2_0).slice (win0_2.rect t)).set ↔ _
  rw [View.set_slice_whole, Rect.mem_set_unit]
  exact Iff.rfl

/-- The thirteen blocks tile result 1: entry `(j, r, q)` is in point `j`'s. -/
theorem cover2 (i : S13x1024x512.Idx) :
    ∃ t : Fin cfg0.N, (cfg0.win 2).flush t = true ∧ i ∈ ((cfg0.win 2).blk t).view.set := by
  have h0 : (i 0 : Nat) < 13 := (i 0).isLt
  have h1 : (i 1 : Nat) < 1024 := (i 1).isLt
  have h2 : (i 2 : Nat) < 512 := (i 2).isLt
  refine ⟨⟨i 0, lt_N h0⟩, flush0_2 _, ?_⟩
  rw [mem_blk2]
  obtain ⟨-, -, -, -, e0, e1, e2, -⟩ := idx_facts ⟨i 0, lt_N h0⟩
  intro a
  match a with
  | ⟨0, _⟩ => show win0_2.index _ 0 * 1 ≤ (i 0 : Nat) ∧ (i 0 : Nat) < win0_2.index _ 0 * 1 + 1; rw [e0]; dsimp only; omega
  | ⟨1, _⟩ => show win0_2.index _ 1 * 1024 ≤ (i 1 : Nat) ∧ (i 1 : Nat) < win0_2.index _ 1 * 1024 + 1024; rw [e1]; omega
  | ⟨2, _⟩ => show win0_2.index _ 2 * 512 ≤ (i 2 : Nat) ∧ (i 2 : Nat) < win0_2.index _ 2 * 512 + 512; rw [e2]; omega

/-- An entry is in a point's block when each coordinate is within the block's bounds. -/
theorem mem_blk3 (t : Fin cfg0.N) (i : S1024x128.Idx) : i ∈ ((cfg0.win 3).blk t).view.set ↔
    ∀ a : Fin 2, win0_3.index t a * win0_3.size a ≤ (i a : Nat) ∧ (i a : Nat) < win0_3.index t a * win0_3.size a + win0_3.size a := by
  show i ∈ ((View.whole main_v2_1).slice (win0_3.rect t)).set ↔ _
  rw [View.set_slice_whole, Rect.mem_set_unit]
  exact Iff.rfl

/-- Result 2's one block, written back after the last point, is the whole of it. -/
theorem cover3 (i : S1024x128.Idx) :
    ∃ t : Fin cfg0.N, (cfg0.win 3).flush t = true ∧ i ∈ ((cfg0.win 3).blk t).view.set := by
  have h0 : (i 0 : Nat) < 1024 := (i 0).isLt
  have h1 : (i 1 : Nat) < 128 := (i 1).isLt
  refine ⟨⟨12, lt_N (by decide)⟩, by decide +kernel, ?_⟩
  rw [mem_blk3]
  obtain ⟨-, -, -, -, -, -, -, e0, e1, -⟩ := idx_facts ⟨12, lt_N (by decide)⟩
  intro a
  match a with
  | ⟨0, _⟩ => show win0_3.index _ 0 * 1024 ≤ (i 0 : Nat) ∧ (i 0 : Nat) < win0_3.index _ 0 * 1024 + 1024; rw [e0]; omega
  | ⟨1, _⟩ => show win0_3.index _ 1 * 128 ≤ (i 1 : Nat) ∧ (i 1 : Nat) < win0_3.index _ 1 * 128 + 128; rw [e1]; omega

/-- The run with both results read: the regrouped weights, the weights themselves unchanged. -/
theorem run : θ_run defs (onTc (τ := τ) (Cert.KernelIdeal.main (F := Ideal))) ⟨m, fun _ => 0, ρ⟩ fun r => ∀ c : Dev nD,
      r.2.mem ((c : Thread nD τ).loc main_v2_0) = out2 m c
      ∧ r.2.mem ((c : Thread nD τ).loc main_v2_1) = out3 m c
      ∧ r.2.mem ((c : Thread nD τ).loc main_arg0) = m ((c : Thread nD τ).loc main_arg0) :=
  (θ_run defs _ _).mono (fun _ h c => ⟨
      (h c).1.trans ((dats m 0 c).arrAt_eq_of_cover 2 (out2 m c) (fun t _ => flushed2_eq m c t) cover2),
      (h c).2.1.trans ((dats m 0 c).arrAt_eq_of_cover 3 (out3 m c) (fun t _ => flushed3_eq m c t) cover3),
      (h c).2.2⟩)
    (Cert.KernelIdeal.Value.run_blocks m ρ)

end Cert.KernelIdeal.Regroup

end
-- ==== Proof.RegroupReference.lean ====
/- What the plain host lines leave in their two results, read at an index: the concatenation of the projection's column
   groups, cut into chunks of 512 columns, is the same function of the weights as the kernel's. -/
module

public import proofs.«01_k».proof.Proof.RegroupKernel
public import proofs.«01_k».proof.Proof.Gen.ReferenceIdeal.Run

@[expose] public section

noncomputable section

open Idealize.ShloMosaic Idealize.ShloMosaic.TcCoe Idealize.SL.Sem Idealize.ShloMosaic.ValueIdx

namespace Cert.ReferenceIdeal.Regroup

open Cert.ReferenceIdeal Cert.ReferenceIdeal.Gen

/-- A group of columns from `o` on, at an index: the weights at that column. -/
theorem slice_apply {n : Nat} (a : S1x1024x6688.Idx → EReal) (h : S1x1024x6688.ShapeCasts S1024x6688) (o : Nat)
    (hs : S1024x6688.Slices ![0, o] (⟨2, ![1024, n]⟩ : Shape)) (r : Fin 1024) (q : Fin n) (u : Fin 6688) (hu : u.val = o + q.val) :
    (extractStridedSlice (⟨2, ![1024, n]⟩ : Shape) ![0, o] (shapeCast S1024x6688 a h) hs) (ix2 r q)
      = a (ix3 (0 : Fin 1) r u) := by
  rw [extractStridedSlice_apply _ _ _ _ (ix2 r u)
    (by intro b; match b with
        | ⟨0, _⟩ => show r.val = 0 + r.val; omega
        | ⟨1, _⟩ => exact hu), shapeCast_apply _ _ _ (ix3 (0 : Fin 1) r u)]
  rw [Shape.rowMajor_val_three, Shape.rowMajor_val_two]
  show (0 * 1024 + r.val) * 6688 + u.val = r.val * 6688 + u.val
  omega

/-- A concatenation along the columns read inside its `k`th piece, which begins at column `pre`. -/
theorem concat_cols {N n : Nat} (xs : List ((s : Shape) × (s.Idx → EReal)))
    (h : Shape.Concatenates (xs.map (·.1)) (⟨2, ![1024, N]⟩ : Shape) 1) (r : Fin 1024) (u : Fin N)
    (k : Nat) (hk : k < xs.length) (x₁ : (⟨2, ![1024, n]⟩ : Shape).Idx → EReal) (hxk : xs[k] = ⟨⟨2, ![1024, n]⟩, x₁⟩) (pre : Nat)
    (hpre : (((xs.take k).map (·.1)).map fun s => if h : s.rank = (⟨2, ![1024, N]⟩ : Shape).rank then s.size ((1 : Fin (⟨2, ![1024, N]⟩ : Shape).rank).cast h.symm) else 0).sum = pre)
    (q : Fin n) (hq : pre + q.val = u.val) :
    concatenate (⟨2, ![1024, N]⟩ : Shape) 1 xs h (ix2 r u) = x₁ (ix2 r q) :=
  concatenate_apply_piece (1 : Fin (⟨2, ![1024, N]⟩ : Shape).rank) xs h (ix2 r u) k hk _ x₁ hxk rfl pre hpre (ix2 r q)
    (by intro b hb; fin_cases b
        · rfl
        · exact absurd rfl hb) hq

variable (m : (ℓ : Loc nD τ sig) → Buf (Elt Ideal) ℓ) (ρ : Dev nD → PrngReg)

/-- The weights as launched. -/
abbrev arg (c : Dev nD) : S1x1024x6688.Idx → EReal := m ((c : Thread nD τ).loc main_arg0)

set_option maxRecDepth 65536 in
set_option maxHeartbeats 1000000 in
/-- The run with both results read as the kernel's functions of the weights. -/
theorem run : θ_run defs (onTc (τ := τ) (Cert.ReferenceIdeal.main (F := Ideal))) ⟨m, fun _ => 0, ρ⟩ fun r => ∀ c : Dev nD,
      r.2.mem ((c : Thread nD τ).loc main_v20)
          = (fun y : S13x1024x512.Idx => Cert.Regroup.main (arg m c) (y 0) (y 1) (y 2))
      ∧ r.2.mem ((c : Thread nD τ).loc main_v18)
          = (fun y : S1024x128.Idx => Cert.Regroup.lowRank (arg m c) (y 0) (y 1))
      ∧ r.2.mem ((c : Thread nD τ).loc main_arg0) = m ((c : Thread nD τ).loc main_arg0) := by
  refine (θ_run defs _ _).mono (fun _ h c => ⟨(h c).1.trans ?_, (h c).2.1.trans ?_, (h c).2.2⟩)
    (Cert.ReferenceIdeal.Value.run (F := Ideal) m ρ)
  · funext (y : S13x1024x512.Idx)
    obtain ⟨j, r, q, rfl⟩ : ∃ (j : Fin 13) (r : Fin 1024) (q : Fin 512), y = ix3 j r q := ⟨y 0, y 1, y 2, eq_ix3 y⟩
    show _ = Cert.Regroup.main (arg m c) j r q
    rw [transpose_apply _ _ _ _ (ix3 r j q) (by intro b; fin_cases b <;> rfl),
      shapeCast_apply _ _ _ (ix2 r (⟨j.val * 512 + q.val, by omega⟩ : Fin 6656))
        (by rw [Shape.rowMajor_val_three, Shape.rowMajor_val_two]
            show r.val * 6656 + (j.val * 512 + q.val) = (r.val * 13 + j.val) * 512 + q.val; omega), truncf_apply]
    unfold Cert.Regroup.main
    fin_cases j
    · by_cases hq : q.val < 256
      · rw [concat_cols (n := 256) _ _ r _ 0 (by exact (by decide : 0 < 9)) _ rfl 0 rfl ⟨q.val, hq⟩ (by show 0 + q.val = 0 * 512 + q.val; omega),
          slice_apply (n := 256) _ _ _ _ r _ (⟨0 + q.val, by omega⟩ : Fin 6688) (by show 0 + q.val = 0 + q.val; omega)]
        exact (mul_one _).symm
      · rw [concat_cols (n := 256) _ _ r _ 1 (by exact (by decide : 1 < 9)) _ rfl 256 rfl ⟨q.val - 256, by omega⟩ (by show 256 + (q.val - 256) = 0 * 512 + q.val; omega),
          slice_apply (n := 256) _ _ _ _ r _ (⟨0 + q.val, by omega⟩ : Fin 6688) (by show 0 + q.val = 256 + (q.val - 256); omega)]
        exact (mul_one _).symm
    · rw [concat_cols (n := 512) _ _ r _ 2 (by exact (by decide : 2 < 9)) _ rfl 512 rfl ⟨0 + q.val, by omega⟩ (by show 512 + (0 + q.val) = 1 * 512 + q.val; omega),
        slice_apply (n := 512) _ _ _ _ r _ (⟨512 + q.val, by omega⟩ : Fin 6688) (by show 512 + q.val = 512 + (0 + q.val); omega)]
      exact (mul_one _).symm
    · rw [concat_cols (n := 1024) _ _ r _ 3 (by exact (by decide : 3 < 9)) _ rfl 1024 rfl ⟨0 + q.val, by omega⟩ (by show 1024 + (0 + q.val) = 2 * 512 + q.val; omega),
        slice_apply (n := 1024) _ _ _ _ r _ (⟨1024 + q.val, by omega⟩ : Fin 6688) (by show 1024 + q.val = 1024 + (0 + q.val); omega)]
      exact (mul_one _).symm
    · rw [concat_cols (n := 1024) _ _ r _ 3 (by exact (by decide : 3 < 9)) _ rfl 1024 rfl ⟨512 + q.val, by omega⟩ (by show 1024 + (512 + q.val) = 3 * 512 + q.val; omega),
        slice_apply (n := 1024) _ _ _ _ r _ (⟨1536 + q.val, by omega⟩ : Fin 6688) (by show 1536 + q.val = 1024 + (512 + q.val); omega)]
      exact (mul_one _).symm
    · rw [concat_cols (n := 1024) _ _ r _ 4 (by exact (by decide : 4 < 9)) _ rfl 2048 rfl ⟨0 + q.val, by omega⟩ (by show 2048 + (0 + q.val) = 4 * 512 + q.val; omega),
        slice_apply (n := 1024) _ _ _ _ r _ (⟨2080 + q.val, by omega⟩ : Fin 6688) (by show 2080 + q.val = 2080 + (0 + q.val); omega)]
      exact (mul_one _).symm
    · rw [concat_cols (n := 1024) _ _ r _ 4 (by exact (by decide : 4 < 9)) _ rfl 2048 rfl ⟨512 + q.val, by omega⟩ (by show 2048 + (512 + q.val) = 5 * 512 + q.val; omega),
        slice_apply (n := 1024) _ _ _ _ r _ (⟨2592 + q.val, by omega⟩ : Fin 6688) (by show 2592 + q.val = 2080 + (512 + q.val); omega)]
      exact (mul_one _).symm
    · rw [concat_cols (n := 1024) _ _ r _ 5 (by exact (by decide : 5 < 9)) _ rfl 3072 rfl ⟨0 + q.val, by omega⟩ (by show 3072 + (0 + q.val) = 6 * 512 + q.val; omega),
        slice_apply (n := 1024) _ _ _ _ r _ (⟨3616 + q.val, by omega⟩ : Fin 6688) (by show 3616 + q.val = 3616 + (0 + q.val); omega)]
      exact (mul_one _).symm
    · rw [concat_cols (n := 1024) _ _ r _ 5 (by exact (by decide : 5 < 9)) _ rfl 3072 rfl ⟨512 + q.val, by omega⟩ (by show 3072 + (512 + q.val) = 7 * 512 + q.val; omega),
        slice_apply (n := 1024) _ _ _ _ r _ (⟨4128 + q.val, by omega⟩ : Fin 6688) (by show 4128 + q.val = 3616 + (512 + q.val); omega)]
      exact (mul_one _).symm
    · rw [concat_cols (n := 1024) _ _ r _ 6 (by exact (by decide : 6 < 9)) _ rfl 4096 rfl ⟨0 + q.val, by omega⟩ (by show 4096 + (0 + q.val) = 8 * 512 + q.val; omega),
        slice_apply (n := 1024) _ _ _ _ r _ (⟨4640 + q.val, by omega⟩ : Fin 6688) (by show 4640 + q.val = 4640 + (0 + q.val); omega)]
      exact (mul_one _).symm
    · rw [concat_cols (n := 1024) _ _ r _ 6 (by exact (by decide : 6 < 9)) _ rfl 4096 rfl ⟨512 + q.val, by omega⟩ (by show 4096 + (512 + q.val) = 9 * 512 + q.val; omega),
        slice_apply (n := 1024) _ _ _ _ r _ (⟨5152 + q.val, by omega⟩ : Fin 6688) (by show 5152 + q.val = 4640 + (512 + q.val); omega)]
      exact (mul_one _).symm
    · rw [concat_cols (n := 1024) _ _ r _ 7 (by exact (by decide : 7 < 9)) _ rfl 5120 rfl ⟨0 + q.val, by omega⟩ (by show 5120 + (0 + q.val) = 10 * 512 + q.val; omega),
        slice_apply (n := 1024) _ _ _ _ r _ (⟨5664 + q.val, by omega⟩ : Fin 6688) (by show 5664 + q.val = 5664 + (0 + q.val); omega)]
      exact (mul_one _).symm
    · rw [concat_cols (n := 1024) _ _ r _ 7 (by exact (by decide : 7 < 9)) _ rfl 5120 rfl ⟨512 + q.val, by omega⟩ (by show 5120 + (512 + q.val) = 11 * 512 + q.val; omega),
        slice_apply (n := 1024) _ _ _ _ r _ (⟨6176 + q.val, by omega⟩ : Fin 6688) (by show 6176 + q.val = 5664 + (512 + q.val); omega)]
      exact (mul_one _).symm
    · rw [concat_cols (n := 512) _ _ r _ 8 (by exact (by decide : 8 < 9)) _ rfl 6144 rfl ⟨q.val, q.isLt⟩ (by show 6144 + q.val = 12 * 512 + q.val; omega),
        mulf_apply, slice_apply (n := 512) _ _ _ _ r _ (⟨3104 + q.val, by omega⟩ : Fin 6688) (by show 3104 + q.val = 3104 + q.val; omega)]
      rfl
  · funext (y : S1024x128.Idx)
    obtain ⟨r, l, rfl⟩ : ∃ (r : Fin 1024) (l : Fin 128), y = ix2 r l := ⟨y 0, y 1, eq_ix2 y⟩
    show _ = Cert.Regroup.lowRank (arg m c) r l
    rw [truncf_apply]
    unfold Cert.Regroup.lowRank
    by_cases h1 : l.val < 16
    · rw [dif_pos (by omega), concat_cols (n := 16) _ _ r _ 0 (by exact (by decide : 0 < 3)) _ rfl 0 rfl ⟨l.val, h1⟩ (by show 0 + l.val = l.val; omega),
        slice_apply (n := 16) _ _ _ _ r _ (⟨2048 + l.val, by omega⟩ : Fin 6688) (by show 2048 + l.val = 2048 + l.val; omega)]
    by_cases h2 : l.val < 32
    · rw [dif_pos h2, concat_cols (n := 16) _ _ r _ 1 (by exact (by decide : 1 < 3)) _ rfl 16 rfl ⟨l.val - 16, by omega⟩ (by show 16 + (l.val - 16) = l.val; omega),
        slice_apply (n := 16) _ _ _ _ r _ (⟨2048 + l.val, by omega⟩ : Fin 6688) (by show 2048 + l.val = 2064 + (l.val - 16); omega)]
    · rw [dif_neg h2, concat_cols (n := 96) _ _ r _ 2 (by exact (by decide : 2 < 3)) _ rfl 32 rfl ⟨l.val - 32, by omega⟩ (by show 32 + (l.val - 32) = l.val; omega)]
      show Ideal.ofBits .f32 0x00000000#32 = 0
      simp [Ideal.ofBits, Ideal.ieee]

end Cert.ReferenceIdeal.Regroup

end
-- ==== Proof.Regroup.lean ====
/- The claims of the weight-regrouping call: frames, preservation, and the equality of both results with the plain host
   lines at the extended reals. -/
module

public import proofs.«01_k».proof.Proof.RegroupReference
public import proofs.«01_k».proof.Proof.Gen.Kernel.Frame
public import Idealize.ShloMosaic.Lib.Quiescent

@[expose] public section

noncomputable section

open Idealize.ShloMosaic Idealize.ShloMosaic.TcCoe Idealize.SL.Sem

namespace Cert.Proof.Regroup

/-- The kernel ends, leaving its argument as it was and every counter at zero. -/
theorem frame_kernel : Cert.quiescent_Kernel := fun m ρ _ => Cert.Kernel.Gen.frame m ρ

/-- The same at the ideal instance. -/
theorem frame_kernelIdeal : Cert.quiescent_KernelIdeal := fun m ρ _ => Cert.KernelIdeal.Gen.frame m ρ

/-- The host lines end, leaving their argument as it was; they have no counter. -/
theorem frame_referenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Nothing was rewritten on the way to the ideal instance. -/
theorem preserves : Cert.preserves_Kernel_KernelIdeal := trivial

/-- On equal weights the kernel and the host lines leave the same two arrays. -/
theorem algebraic : Cert.algebraic_KernelIdeal_ReferenceIdeal := by
  intro m ρ m' ρ' _ hagree
  refine ⟨fun c => Cert.KernelIdeal.Regroup.out2 m c, fun c => Cert.KernelIdeal.Regroup.out3 m c,
    Cert.KernelIdeal.Regroup.run m ρ, ?_⟩
  have e (c : Dev Cert.KernelIdeal.nD) : Cert.ReferenceIdeal.Regroup.arg m' c = Cert.KernelIdeal.Regroup.arg m c := hagree c
  refine (θ_run Cert.ReferenceIdeal.defs _ _).mono (fun _ h c => ⟨(h c).1.trans ?_, (h c).2.1.trans ?_, (h c).2.2⟩)
    (Cert.ReferenceIdeal.Regroup.run m' ρ')
  · rw [e c]; rfl
  · rw [e c]; rfl

end Cert.Proof.Regroup

end
-- ==== Proof.AttnStretches.lean ====
/- The attention kernel's body cut into two stretches, each a program of its own: the transposition of the values'
   blocks into the scratch buffers (taken at the first query block of a batch entry and a key head), and the
   rest, one of the two softmaxes. -/
module

public import proofs.«01_k».proof.Proof.Gen.Kernel2Ideal.Skeleton

@[expose] public section

noncomputable section

open Idealize.ShloMosaic Idealize.ShloMosaic.TcCoe Idealize.SL.Sem

namespace Cert.Attn

open Cert.Kernel2Ideal Cert.Kernel2Ideal.Gen

variable {F : FTy → Type} [FloatOps F]

/-- The values' eight row blocks and the context's values, transposed into the scratch buffers. -/
def fill (i : grid0.Coords) (arg3 : Memref sig .tc .smem S1x1 .f32) (harg3 : arg3.IsWhole) (arg4 : Memref sig .tc .vmem S1024x512 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S1024x512 .bf16) (harg9 : arg9.IsWhole) (arg10 : Memref sig .tc .vmem S8x128x512 .bf16) (harg10 : arg10.IsWhole) (arg11 : Memref sig .tc .vmem S128x256 .bf16) (harg11 : arg11.IsWhole) (arg12 : Memref sig .tc .vmem S1x4096 .f32) (harg12 : arg12.IsWhole) (arg13 : Memref sig .tc .vmem S8x4096 .f32) (harg13 : arg13.IsWhole) (arg14 : Memref sig .tc .vmem S128x4096 .f32) (harg14 : arg14.IsWhole) :
    Prog (TpuEff nD τ sig (Elt F) Λ₀ .tc) PUnit := do
  let v52 : FVec F S512x128 .bf16 ← k0_part1 i arg3 harg3 arg4 harg4 arg5 harg5 arg6 harg6 arg7 harg7 arg8 harg8 arg9 harg9 arg10 harg10 arg11 harg11 arg12 harg12 arg13 harg13 arg14 harg14
  let v87 : FVec F S128x256 .bf16 ← k0_part2 i arg3 harg3 arg4 harg4 arg5 harg5 arg6 harg6 arg7 harg7 arg8 harg8 arg9 harg9 arg10 harg10 arg11 harg11 arg12 harg12 arg13 harg13 arg14 harg14 v52
  let v88 : Vec F S128x256 .bf16 ← Prog.lift (.load arg11 (Rect.unit (s := S128x256) ![0, 0] S128x256.size inb_S128x256_S128x256_0_0).toLoadRect (View.loadsAt_vmem h_S128x256))
  Prog.lift (.store arg11 (Rect.unit (s := S128x256) ![0, 0] S128x256.size inb_S128x256_S128x256_0_0) (k0_pay1 v87) Finset.univ (View.stores_vmem h_S128x256 (harg11.storeExact_slice rfl _ packedbf16_S128x256_S128x256_0_0) (fun _ => rfl)) (.inl rfl))
  pure ⟨⟩

/-- The four heads' queries stacked, the bound compared with the literal, one of the two softmaxes. -/
def rest (i : grid0.Coords) (arg3 : Memref sig .tc .smem S1x1 .f32) (harg3 : arg3.IsWhole) (arg4 : Memref sig .tc .vmem S1024x512 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S1024x512 .bf16) (harg9 : arg9.IsWhole) (arg10 : Memref sig .tc .vmem S8x128x512 .bf16) (harg10 : arg10.IsWhole) (arg11 : Memref sig .tc .vmem S128x256 .bf16) (harg11 : arg11.IsWhole) (arg12 : Memref sig .tc .vmem S1x4096 .f32) (harg12 : arg12.IsWhole) (arg13 : Memref sig .tc .vmem S8x4096 .f32) (harg13 : arg13.IsWhole) (arg14 : Memref sig .tc .vmem S128x4096 .f32) (harg14 : arg14.IsWhole) :
    Prog (TpuEff nD τ sig (Elt F) Λ₀ .tc) PUnit := do
  let v3 : Vec F S1024x128 .bf16 ← Prog.lift (.load arg4 (Rect.unit (s := S1024x512) ![0, 0] S1024x128.size inb_S1024x512_S1024x128_0_0).toLoadRect (View.loadsAt_vmem h_S1024x128))
  let v5 : Vec F S1024x128 .bf16 ← Prog.lift (.load arg4 (Rect.unit (s := S1024x512) ![0, 128] S1024x128.size inb_S1024x512_S1024x128_0_128).toLoadRect (View.loadsAt_vmem h_S1024x128))
  let v7 : Vec F S1024x128 .bf16 ← Prog.lift (.load arg4 (Rect.unit (s := S1024x512) ![0, 256] S1024x128.size inb_S1024x512_S1024x128_0_256).toLoadRect (View.loadsAt_vmem h_S1024x128))
  let v9 : Vec F S1024x128 .bf16 ← Prog.lift (.load arg4 (Rect.unit (s := S1024x512) ![0, 384] S1024x128.size inb_S1024x512_S1024x128_0_384).toLoadRect (View.loadsAt_vmem h_S1024x128))
  let v12 : Elt F .f32 ← smemLoad arg3 (Rect.unit (s := S1x1) ![0, 0] S1x1.size inb_S1x1_S1x1_0_0) numel1_S1x1 rfl
  have cst : F .f32 := Scalar.ofBits .f32 0x42600000#32
  let v13 : BitVec 1 := Scalar.cmpf .ole v12 cst
  let v14 : BitVec 32 := Scalar.extui v13
  let v15 : BitVec 1 := Scalar.cmpi .ne v14 0#32
  if v15 = 1#1 then do
    let ⟨v20, v22, v24, v26, v28, v30, v32, v34, v36, v38, v40, v42, v44⟩ : Σ' (v20 : FVec F S512x128 .bf16) (v22 : FVec F S128x512 .bf16) (v24 : FVec F S512x128 .bf16) (v26 : FVec F S128x512 .bf16) (v28 : FVec F S512x128 .bf16) (v30 : FVec F S128x512 .bf16) (v32 : FVec F S512x128 .bf16) (v34 : FVec F S128x512 .bf16) (v36 : FVec F S512x128 .bf16) (v38 : FVec F S128x512 .bf16) (v40 : FVec F S512x128 .bf16) (v42 : FVec F S128x512 .bf16), FVec F S512x128 .bf16 ← k0_part3 i arg3 harg3 arg4 harg4 arg5 harg5 arg6 harg6 arg7 harg7 arg8 harg8 arg9 harg9 arg10 harg10 arg11 harg11 arg12 harg12 arg13 harg13 arg14 harg14
    let ⟨v46, v48, v50, v52, v53, v75, v81, v82⟩ : Σ' (v46 : FVec F S128x512 .bf16) (v48 : FVec F S512x128 .bf16) (v50 : FVec F S128x512 .bf16) (v52 : FVec F S256x128 .bf16) (v53 : Vec F S128x256 .bf16) (v75 : FVec F S8x4096 .f32) (v81 : FVec F S8x4096 .f32), FVec F S128x4096 .f32 ← k0_part4 i arg3 harg3 arg4 harg4 arg5 harg5 arg6 harg6 arg7 harg7 arg8 harg8 arg9 harg9 arg10 harg10 arg11 harg11 arg12 harg12 arg13 harg13 arg14 harg14 (k0_pay2 v3 v5 v7 v9) v20 v22 v24 v26 v28 v30 v32 v34
    let ⟨v122, v126⟩ : Σ' (v122 : FVec F S128x4096 .f32), FVec F S128x4096 .f32 ← k0_part5 i arg3 harg3 arg4 harg4 arg5 harg5 arg6 harg6 arg7 harg7 arg8 harg8 arg9 harg9 arg10 harg10 arg11 harg11 arg12 harg12 arg13 harg13 arg14 harg14 (k0_pay2 v3 v5 v7 v9) v36 v38 v40 v42 v44 v46 v48 v50 v52 v53 v75 v81 v82
    let v131 : Vec F S1024x128 .bf16 ← Prog.lift (.load arg9 (Rect.unit (s := S1024x512) ![0, 0] S1024x128.size inb_S1024x512_S1024x128_0_0).toLoadRect (View.loadsAt_vmem h_S1024x128))
    Prog.lift (.store arg9 (Rect.unit (s := S1024x512) ![0, 0] S1024x128.size inb_S1024x512_S1024x128_0_0) (k0_pay4 v122 v126) Finset.univ (View.stores_vmem h_S1024x128 (harg9.storeExact_slice rfl _ packedbf16_S1024x512_S1024x128_0_0) (fun _ => rfl)) (.inl rfl))
    let v134 : Vec F S1024x128 .bf16 ← Prog.lift (.load arg9 (Rect.unit (s := S1024x512) ![0, 128] S1024x128.size inb_S1024x512_S1024x128_0_128).toLoadRect (View.loadsAt_vmem h_S1024x128))
    Prog.lift (.store arg9 (Rect.unit (s := S1024x512) ![0, 128] S1024x128.size inb_S1024x512_S1024x128_0_128) (k0_pay5 v122 v126) Finset.univ (View.stores_vmem h_S1024x128 (harg9.storeExact_slice rfl _ packedbf16_S1024x512_S1024x128_0_128) (fun _ => rfl)) (.inl rfl))
    let v137 : Vec F S1024x128 .bf16 ← Prog.lift (.load arg9 (Rect.unit (s := S1024x512) ![0, 256] S1024x128.size inb_S1024x512_S1024x128_0_256).toLoadRect (View.loadsAt_vmem h_S1024x128))
    Prog.lift (.store arg9 (Rect.unit (s := S1024x512) ![0, 256] S1024x128.size inb_S1024x512_S1024x128_0_256) (k0_pay6 v122 v126) Finset.univ (View.stores_vmem h_S1024x128 (harg9.storeExact_slice rfl _ packedbf16_S1024x512_S1024x128_0_256) (fun _ => rfl)) (.inl rfl))
    let v140 : Vec F S1024x128 .bf16 ← Prog.lift (.load arg9 (Rect.unit (s := S1024x512) ![0, 384] S1024x128.size inb_S1024x512_S1024x128_0_384).toLoadRect (View.loadsAt_vmem h_S1024x128))
    Prog.lift (.store arg9 (Rect.unit (s := S1024x512) ![0, 384] S1024x128.size inb_S1024x512_S1024x128_0_384) (k0_pay7 v122 v126) Finset.univ (View.stores_vmem h_S1024x128 (harg9.storeExact_slice rfl _ packedbf16_S1024x512_S1024x128_0_384) (fun _ => rfl)) (.inl rfl))
    pure ⟨⟩
  else do
    pure ⟨⟩
  let v16 : BitVec 1 := Scalar.xori v13 1#1
  let v17 : BitVec 32 := Scalar.extui v16
  let v18 : BitVec 1 := Scalar.cmpi .ne v17 0#32
  if v18 = 1#1 then do
    let ⟨v39, v42, v44, v50⟩ : Σ' (v39 : FVec F S1x4096 .f32) (v42 : FVec F S256x4096 .f32) (v44 : FVec F S1x4096 .f32), FVec F S128x4096 .f32 ← k0_part7 i arg3 harg3 arg4 harg4 arg5 harg5 arg6 harg6 arg7 harg7 arg8 harg8 arg9 harg9 arg10 harg10 arg11 harg11 arg12 harg12 arg13 harg13 arg14 harg14 (k0_pay2 v3 v5 v7 v9)
    let v83 : FVec F S1024x128 .bf16 ← k0_part8 i arg3 harg3 arg4 harg4 arg5 harg5 arg6 harg6 arg7 harg7 arg8 harg8 arg9 harg9 arg10 harg10 arg11 harg11 arg12 harg12 arg13 harg13 arg14 harg14 v39 v42 v44 v50
    let v84 : Vec F S1024x128 .bf16 ← Prog.lift (.load arg9 (Rect.unit (s := S1024x512) ![0, 384] S1024x128.size inb_S1024x512_S1024x128_0_384).toLoadRect (View.loadsAt_vmem h_S1024x128))
    Prog.lift (.store arg9 (Rect.unit (s := S1024x512) ![0, 384] S1024x128.size inb_S1024x512_S1024x128_0_384) v83 Finset.univ (View.stores_vmem h_S1024x128 (harg9.storeExact_slice rfl _ packedbf16_S1024x512_S1024x128_0_384) (fun _ => rfl)) (.inl rfl))
    pure ⟨⟩
  else do
    pure ⟨⟩
  pure ⟨⟩

/-- The body's condition: the point is the first query block of its batch entry and key head. -/
abbrev first (i : grid0.Coords) : Prop :=
  Scalar.cmpi .ne (Scalar.extui (Scalar.cmpi .eq (BitVec.ofNat 32 (i 2).val) 0#32)) 0#32 = 1#1

set_option maxRecDepth 65536 in
set_option maxHeartbeats 1000000 in
/-- At a first query block the body is the transposition, then the rest. -/
theorem attn_first (i : grid0.Coords) (arg3 : Memref sig .tc .smem S1x1 .f32) (harg3 : arg3.IsWhole) (arg4 : Memref sig .tc .vmem S1024x512 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S1024x512 .bf16) (harg9 : arg9.IsWhole) (arg10 : Memref sig .tc .vmem S8x128x512 .bf16) (harg10 : arg10.IsWhole) (arg11 : Memref sig .tc .vmem S128x256 .bf16) (harg11 : arg11.IsWhole) (arg12 : Memref sig .tc .vmem S1x4096 .f32) (harg12 : arg12.IsWhole) (arg13 : Memref sig .tc .vmem S8x4096 .f32) (harg13 : arg13.IsWhole) (arg14 : Memref sig .tc .vmem S128x4096 .f32) (harg14 : arg14.IsWhole) (h : first i) :
    cc0_attn (F := F) i arg3 harg3 arg4 harg4 arg5 harg5 arg6 harg6 arg7 harg7 arg8 harg8 arg9 harg9 arg10 harg10 arg11 harg11 arg12 harg12 arg13 harg13 arg14 harg14 = (fill i arg3 harg3 arg4 harg4 arg5 harg5 arg6 harg6 arg7 harg7 arg8 harg8 arg9 harg9 arg10 harg10 arg11 harg11 arg12 harg12 arg13 harg13 arg14 harg14) >>= fun _ => rest i arg3 harg3 arg4 harg4 arg5 harg5 arg6 harg6 arg7 harg7 arg8 harg8 arg9 harg9 arg10 harg10 arg11 harg11 arg12 harg12 arg13 harg13 arg14 harg14 := by
  rw [cc0_attn_eq_skeleton]
  unfold cc0_attn_skel
  dsimp only
  rw [dif_pos h]
  unfold fill
  simp only [bind_assoc, pure_bind]
  rfl

set_option maxRecDepth 65536 in
set_option maxHeartbeats 1000000 in
/-- At any other query block it is the rest alone. -/
theorem attn_later (i : grid0.Coords) (arg3 : Memref sig .tc .smem S1x1 .f32) (harg3 : arg3.IsWhole) (arg4 : Memref sig .tc .vmem S1024x512 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S1024x512 .bf16) (harg9 : arg9.IsWhole) (arg10 : Memref sig .tc .vmem S8x128x512 .bf16) (harg10 : arg10.IsWhole) (arg11 : Memref sig .tc .vmem S128x256 .bf16) (harg11 : arg11.IsWhole) (arg12 : Memref sig .tc .vmem S1x4096 .f32) (harg12 : arg12.IsWhole) (arg13 : Memref sig .tc .vmem S8x4096 .f32) (harg13 : arg13.IsWhole) (arg14 : Memref sig .tc .vmem S128x4096 .f32) (harg14 : arg14.IsWhole) (h : ¬first i) :
    cc0_attn (F := F) i arg3 harg3 arg4 harg4 arg5 harg5 arg6 harg6 arg7 harg7 arg8 harg8 arg9 harg9 arg10 harg10 arg11 harg11 arg12 harg12 arg13 harg13 arg14 harg14 = rest i arg3 harg3 arg4 harg4 arg5 harg5 arg6 harg6 arg7 harg7 arg8 harg8 arg9 harg9 arg10 harg10 arg11 harg11 arg12 harg12 arg13 harg13 arg14 harg14 := by
  rw [cc0_attn_eq_skeleton]
  unfold cc0_attn_skel
  dsimp only
  rw [dif_neg h]
  rfl

end Cert.Attn

end
-- ==== Proof.AttnPlain.lean ====
/- What the attention kernel's body computes, as functions of its blocks: the transposed values in the scratch buffers, the
   stacked queries, the softmax without maxima, the state of the softmax with running maxima after each key block, and the
   output block the two leave. -/
module

public import proofs.«01_k».proof.Proof.Gen.Kernel2Ideal.Skeleton
public import Idealize.ShloMosaic.Lib.Pipeline.Value
public import Idealize.ShloMosaic.Lib.ValueIdx

@[expose] public section

noncomputable section

open Idealize.ShloMosaic Idealize.ShloMosaic.TcCoe Idealize.SL.Sem Idealize.ShloMosaic.ValueIdx

namespace Cert.Attn

open Cert.Kernel2Ideal Cert.Kernel2Ideal.Gen

variable {F : FTy → Type} [FloatOps F]

/-- Row block `j` (512 rows) lies inside the 4096 rows. -/
theorem rows_inb (j : Fin 8) : ∀ a, (![512 * j.val, 0] : Fin 2 → Nat) a + S512x128.size a ≤ S4096x128.size a := by
  revert j; decide

/-- Row block `j` of the keys or values. -/
def rows (X : Vec F S4096x128 .bf16) (j : Fin 8) : Vec F S512x128 .bf16 :=
  View.ld X (Rect.unit (s := S4096x128) ![512 * j.val, 0] S512x128.size (rows_inb j))

/-- Slab `j` lies inside the eight slabs. -/
theorem slab_inb (j : Fin 8) : ∀ a, (![j.val, 0, 0] : Fin 3 → Nat) a + S1x128x512.size a ≤ S8x128x512.size a := by
  revert j; decide

/-- Slab `j` of the transposed values. -/
def slab (T : Vec F S8x128x512 .bf16) (j : Fin 8) : Vec F S1x128x512 .bf16 :=
  View.ld T (Rect.unit (s := S8x128x512) ![j.val, 0, 0] S1x128x512.size (slab_inb j))

/-- The transposed values: slab `j` is the transpose of row block `j`. -/
def vt (V : Vec F S4096x128 .bf16) : Vec F S8x128x512 .bf16 := fun y =>
  k0_pay8 (rows V (y 0 : Fin 8)) (ix3 (0 : Fin 1) (y 1 : Fin 128) (y 2 : Fin 512))

/-- The context's values transposed. -/
def vct (VC : Vec F S256x128 .bf16) : Vec F S128x256 .bf16 := k0_pay1 (k0_pay17 VC)

/-- Head `g`'s 128 columns lie inside the 512. -/
theorem cols_inb (g : Fin 4) : ∀ a, (![0, 128 * g.val] : Fin 2 → Nat) a + S1024x128.size a ≤ S1024x512.size a := by
  revert g; decide

/-- Head `g`'s queries. -/
def cols (Q : Vec F S1024x512 .bf16) (g : Fin 4) : Vec F S1024x128 .bf16 :=
  View.ld Q (Rect.unit (s := S1024x512) ![0, 128 * g.val] S1024x128.size (cols_inb g))

/-- The four heads' queries, one below the other. -/
def qs (Q : Vec F S1024x512 .bf16) : FVec F S4096x128 .bf16 := k0_pay2 (cols Q 0) (cols Q 1) (cols Q 2) (cols Q 3)

/-- The output block from the stacked heads' rows: head `g`'s rows are its 128 columns. -/
def unstack (n : FVec F S4096x128 .f32) : Vec F S1024x512 .bf16 := fun y =>
  (truncf .bf16 n bitsLt_bf16_f32 : FVec F S4096x128 .bf16)
    (ix2 (⟨1024 * ((y 1).val / 128) + (y 0).val, by
        have h0 : (y 0).val < 1024 := (y 0).isLt
        have h1 : (y 1).val < 512 := (y 1).isLt
        omega⟩ : Fin 4096) (⟨(y 1).val % 128, Nat.mod_lt _ (by decide)⟩ : Fin 128))

/-- The softmax without maxima: the weighted sum of the values. -/
def accU (q : FVec F S4096x128 .bf16) (K : Vec F S4096x128 .bf16) (T : Vec F S8x128x512 .bf16) (KC : Vec F S256x128 .bf16)
    (C : Vec F S128x256 .bf16) : FVec F S128x4096 .f32 :=
  k0_pay47 q (k0_pay18 (rows K 4)) (k0_pay19 (slab T 4)) (k0_pay18 (rows K 5)) (k0_pay19 (slab T 5)) (k0_pay18 (rows K 6))
    (k0_pay19 (slab T 6)) (k0_pay18 (rows K 7)) (k0_pay19 (slab T 7)) (k0_pay34 KC) C
    (k0_pay41 q (k0_pay18 (rows K 0)) (k0_pay19 (slab T 0)) (k0_pay18 (rows K 1)) (k0_pay19 (slab T 1)) (k0_pay18 (rows K 2))
      (k0_pay19 (slab T 2)) (k0_pay18 (rows K 3)) (k0_pay19 (slab T 3)))

/-- The softmax without maxima: the sum of the weights, repeated over the rows. -/
def sumU (q : FVec F S4096x128 .bf16) (K : Vec F S4096x128 .bf16) (KC : Vec F S256x128 .bf16) : FVec F S128x4096 .f32 :=
  k0_pay48 q (k0_pay18 (rows K 4)) (k0_pay18 (rows K 5)) (k0_pay18 (rows K 6)) (k0_pay18 (rows K 7)) (k0_pay34 KC)
    (k0_pay38 q (k0_pay18 (rows K 0)) (k0_pay18 (rows K 1)) (k0_pay18 (rows K 2))) (k0_pay40 q (k0_pay18 (rows K 3)))

/-- The output block of the softmax without maxima. -/
def outU (Q : Vec F S1024x512 .bf16) (K : Vec F S4096x128 .bf16) (T : Vec F S8x128x512 .bf16) (KC : Vec F S256x128 .bf16)
    (C : Vec F S128x256 .bf16) : Vec F S1024x512 .bf16 :=
  unstack (k0_pay3 (accU (qs Q) K T KC C) (sumU (qs Q) K KC))

/-- The state of the softmax with running maxima: the maximum, the eight partial sums of the weights, the weighted sum. -/
structure Online (F : FTy → Type) where
  /-- the running maximum -/
  max : Vec F S1x4096 .f32
  /-- the weights' partial sums -/
  sum : Vec F S8x4096 .f32
  /-- the weighted sum of the values -/
  acc : Vec F S128x4096 .f32

/-- Before the first key block. -/
def Online.start : Online F := ⟨k0_pay55, k0_pay57, k0_pay56⟩

/-- One key block `k` with its transposed values `v`. -/
def Online.step (q : FVec F S4096x128 .bf16) (k : Vec F S512x128 .bf16) (v : Vec F S1x128x512 .bf16) (s : Online F) : Online F :=
  ⟨k0_pay58 (k0_pay50 q k s.max), k0_pay54 q k s.max s.sum, k0_pay53 q k v s.max s.acc⟩

/-- After the first `n` key blocks. -/
def Online.after (q : FVec F S4096x128 .bf16) (K : Vec F S4096x128 .bf16) (T : Vec F S8x128x512 .bf16) : Nat → Online F
  | 0 => .start
  | n + 1 => if h : n < 8 then (Online.after q K T n).step q (rows K ⟨n, h⟩) (slab T ⟨n, h⟩) else Online.after q K T n

/-- The context's keys and values taken in after the eight blocks: the weights' partial sums. -/
def sumO (q : FVec F S4096x128 .bf16) (KC : Vec F S256x128 .bf16) (s : Online F) : FVec F S8x4096 .f32 :=
  k0_pay65 (k0_pay61 q KC s.max) (k0_pay62 q KC s.max) s.sum

/-- The context's keys and values taken in after the eight blocks: the weighted sum. -/
def accO (q : FVec F S4096x128 .bf16) (KC : Vec F S256x128 .bf16) (C : Vec F S128x256 .bf16) (s : Online F) : FVec F S128x4096 .f32 :=
  k0_pay64 (k0_pay63 q KC C s.max s.acc)

/-- The output block of the softmax with running maxima. -/
def outO (Q : Vec F S1024x512 .bf16) (K : Vec F S4096x128 .bf16) (T : Vec F S8x128x512 .bf16) (KC : Vec F S256x128 .bf16)
    (C : Vec F S128x256 .bf16) : Vec F S1024x512 .bf16 :=
  unstack (k0_pay67 (accO (qs Q) KC C (Online.after (qs Q) K T 8)) (sumO (qs Q) KC (Online.after (qs Q) K T 8)))

/-- The bound is at most the literal: the scores need no maximum. -/
abbrev small (W : Vec F S1x1 .f32) : Prop := Scalar.cmpf .ole (W (ix2 (0 : Fin 1) (0 : Fin 1))) (Scalar.ofBits .f32 0x42600000#32) = 1#1

/-- The bound's block has one index. -/
theorem one_index (x y : S1x1.Idx) : x = y := by
  funext a
  apply Fin.ext
  fin_cases a
  · have hx : (x 0).val < 1 := (x 0).isLt
    have hy : (y 0).val < 1 := (y 0).isLt
    show (x 0).val = (y 0).val
    omega
  · have hx : (x 1).val < 1 := (x 1).isLt
    have hy : (y 1).val < 1 := (y 1).isLt
    show (x 1).val = (y 1).val
    omega

/-- The bound's one word, however it is read. -/
theorem word_read (arg3 : Memref sig .tc .smem S1x1 .f32) (f : arg3.view.ty.Contents (Elt F))
    (x : (Rect.unit (s := S1x1) ![0, 0] S1x1.size inb_S1x1_S1x1_0_0).toLoadRect.shape.Idx) :
    arg3.view.readAt (Elt F) (Rect.unit (s := S1x1) ![0, 0] S1x1.size inb_S1x1_S1x1_0_0).toLoadRect f x
      = arg3.view.read (Elt F) f (ix2 (0 : Fin 1) (0 : Fin 1)) :=
  congrArg (arg3.view.read (Elt F) f) (one_index _ _)

open Classical in
/-- The output block. -/
def out (W : Vec F S1x1 .f32) (Q : Vec F S1024x512 .bf16) (K : Vec F S4096x128 .bf16) (T : Vec F S8x128x512 .bf16) (KC : Vec F S256x128 .bf16)
    (C : Vec F S128x256 .bf16) : Vec F S1024x512 .bf16 :=
  if small W then outU Q K T KC C else outO Q K T KC C

/-- A transposed block is its slab of the transposed values. -/
theorem vt_slab (V : Vec F S4096x128 .bf16) (j : Fin 8) (h) (x : S1x128x512.Idx) :
    k0_pay8 (rows V j) x = vt V ((Rect.unit (s := S8x128x512) ![j.val, 0, 0] S1x128x512.size h).emb x) := by
  unfold vt
  have e0 : (((Rect.unit (s := S8x128x512) ![j.val, 0, 0] S1x128x512.size h).emb x) 0 : Fin 8) = j := by
    apply Fin.ext
    show j.val + 1 * (x 0).val = j.val
    have : (x 0).val < 1 := (x 0).isLt
    omega
  rw [e0]
  congr 1
  funext a
  apply Fin.ext
  fin_cases a
  · show (x 0).val = 0
    have : (x 0).val < 1 := (x 0).isLt
    omega
  · show (x 1).val = 0 + 1 * (x 1).val
    omega
  · show (x 2).val = 0 + 1 * (x 2).val
    omega

/-- A head's rows are its columns of the output block. -/
theorem unstack_cols (n : FVec F S4096x128 .f32) (g : Fin 4) (h h') (x : S1024x128.Idx) :
    (truncf .bf16 (extractStridedSlice S1024x128 ![1024 * g.val, 0] n h' : FVec F S1024x128 .f32) bitsLt_bf16_f32 : FVec F S1024x128 .bf16) x
      = unstack n ((Rect.unit (s := S1024x512) ![0, 128 * g.val] S1024x128.size h).emb x) := by
  unfold unstack
  show FloatOps.truncf .bf16 _ _ = FloatOps.truncf .bf16 _ _
  congr 1
  show n _ = n _
  congr 1
  have h0 : (x 0).val < 1024 := (x 0).isLt
  have h1 : (x 1).val < 128 := (x 1).isLt
  funext a
  apply Fin.ext
  fin_cases a
  · show 1024 * g.val + (x 0).val = 1024 * ((128 * g.val + 1 * (x 1).val) / 128) + (0 + 1 * (x 0).val)
    omega
  · show 0 + (x 1).val = (128 * g.val + 1 * (x 1).val) % 128
    omega

end Cert.Attn

end
-- ==== Proof.AttnFill.lean ====
/- The first stretch of the attention kernel's body: run from the values' blocks it leaves their transposes in the two
   scratch buffers. -/
module

public import proofs.«01_k».proof.Proof.AttnStretches
public import proofs.«01_k».proof.Proof.AttnPlain
public import Idealize.ShloMosaic.Lib.Pipeline.FrameBody
public import Idealize.ShloMosaic.Lib.Pipeline.Kit
public import Idealize.ShloMosaic.Lib.Exec
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

set_option maxHeartbeats 1000000 in
/-- The transposition's run: the values' blocks are read, the scratch buffers end at the transposed values. -/
theorem fill_wp (c : Dev nD) (i : grid0.Coords) (arg3 : Memref sig .tc .smem S1x1 .f32) (harg3 : arg3.IsWhole) (arg4 : Memref sig .tc .vmem S1024x512 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S1024x512 .bf16) (harg9 : arg9.IsWhole) (arg10 : Memref sig .tc .vmem S8x128x512 .bf16) (harg10 : arg10.IsWhole) (arg11 : Memref sig .tc .vmem S128x256 .bf16) (harg11 : arg11.IsWhole) (arg12 : Memref sig .tc .vmem S1x4096 .f32) (harg12 : arg12.IsWhole) (arg13 : Memref sig .tc .vmem S8x4096 .f32) (harg13 : arg13.IsWhole) (arg14 : Memref sig .tc .vmem S128x4096 .f32) (harg14 : arg14.IsWhole)
    (V : Vec F S4096x128 .bf16) (VC : Vec F S256x128 .bf16) (E : Set ℕ) (R : PUnit → sProp (MT nD τ sig Unit (Elt F) ℕ (UR sig nD τ) ℕ)) :
    iprop(owns (c : Thread nD τ) arg6 fullShare V ∗ owns (c : Thread nD τ) arg8 fullShare VC ∗ (∃ d, owns (c : Thread nD τ) arg10 fullShare d) ∗ (∃ d, owns (c : Thread nD τ) arg11 fullShare d)
        ∗ (iprop(owns (c : Thread nD τ) arg6 fullShare V ∗ owns (c : Thread nD τ) arg8 fullShare VC ∗ owns (c : Thread nD τ) arg10 fullShare (vt V) ∗ owns (c : Thread nD τ) arg11 fullShare (vct VC)) -∗ R ⟨⟩))
      ⊢ wp frame (wpE (defs₀ (F := F)) Variants.none c none) E (fill i arg3 harg3 arg4 harg4 arg5 harg5 arg6 harg6 arg7 harg7 arg8 harg8 arg9 harg9 arg10 harg10 arg11 harg11 arg12 harg12 arg13 harg13 arg14 harg14) R := by
  unfold fill
  simp only [k0_part1_eq_skeleton, k0_part2_eq_skeleton]
  unfold owns
  iintro ⟨⟨%f6, %hf6, H6⟩, ⟨%f8, %hf8, H8⟩, ⟨%d10, %f10, -, H10⟩, ⟨%d11, %f11, -, H11⟩, Hk⟩
  obtain rfl := hf6; obtain rfl := hf8
  sl_exec
  sl_step
  iapply Hk
  isplitl [H6]
  · iexists _; isplitr; · ipureintro; rfl
    iexact H6
  isplitl [H8]
  · iexists _; isplitr; · ipureintro; rfl
    iexact H8
  isplitl [H10]
  · iexists _; isplitr; swap; · iexact H10
    ipureintro
    funext y
    refine View.read_writes_apply_of_pieces _ _ (vt (arg6.view.read (Elt F) f6)) _ ?_ y (View.cover_of_tiledL (s := S8x128x512) _ ![1, 128, 512] (by sl_kernel_rfl) y)
    sl_unfold_run_names
    simp only [List.forall_mem_cons, List.not_mem_nil, IsEmpty.forall_iff, implies_true, and_true]
    refine ⟨fun x => ?_, fun x => ?_, fun x => ?_, fun x => ?_, fun x => ?_, fun x => ?_, fun x => ?_, fun x => ?_⟩
    · exact vt_slab _ 7 _ x
    · exact vt_slab _ 6 _ x
    · exact vt_slab _ 5 _ x
    · exact vt_slab _ 4 _ x
    · exact vt_slab _ 3 _ x
    · exact vt_slab _ 2 _ x
    · exact vt_slab _ 1 _ x
    · exact vt_slab _ 0 _ x
  · iexists _; isplitr; swap; · iexact H11
    ipureintro
    refine (View.read_writes_full _ _ _ _ _).trans ?_
    sl_unfold_run_names
    exact congrArg (fun z => k0_pay1 (k0_pay17 z)) (View.readAt_full _ _ _)

end Cert.Attn

end
-- ==== Proof.AttnSmall.lean ====
/- The rest of the attention kernel's body where the bound is small: the softmax without maxima. -/
module

public import proofs.«01_k».proof.Proof.AttnStretches
public import proofs.«01_k».proof.Proof.AttnPlain
public import Idealize.ShloMosaic.Lib.Pipeline.FrameBody
public import Idealize.ShloMosaic.Lib.Pipeline.Kit
public import Idealize.ShloMosaic.Lib.Exec
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

/-- The one word of the bound, however it is read. -/
theorem word_small (arg3 : Memref sig .tc .smem S1x1 .f32) (f3 : arg3.view.ty.Contents (Elt F)) (hs : small (arg3.view.read (Elt F) f3)) :
    ∀ x, Scalar.cmpf .ole (arg3.view.readAt (Elt F) (Rect.unit (s := S1x1) ![0, 0] S1x1.size inb_S1x1_S1x1_0_0).toLoadRect f3 x) (FloatOps.ofBits .f32 0x42600000#32) = 1#1 := by
  intro x
  have e := word_read arg3 f3 x
  exact (congrArg (fun v => Scalar.cmpf .ole v (FloatOps.ofBits .f32 0x42600000#32)) e).trans hs

set_option maxHeartbeats 1000000 in
/-- The run where the bound is small: everything read is left as it was and the output block holds the softmax without maxima. -/
theorem rest_small (c : Dev nD) (i : grid0.Coords) (arg3 : Memref sig .tc .smem S1x1 .f32) (harg3 : arg3.IsWhole) (arg4 : Memref sig .tc .vmem S1024x512 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S1024x512 .bf16) (harg9 : arg9.IsWhole) (arg10 : Memref sig .tc .vmem S8x128x512 .bf16) (harg10 : arg10.IsWhole) (arg11 : Memref sig .tc .vmem S128x256 .bf16) (harg11 : arg11.IsWhole) (arg12 : Memref sig .tc .vmem S1x4096 .f32) (harg12 : arg12.IsWhole) (arg13 : Memref sig .tc .vmem S8x4096 .f32) (harg13 : arg13.IsWhole) (arg14 : Memref sig .tc .vmem S128x4096 .f32) (harg14 : arg14.IsWhole)
    (W : Vec F S1x1 .f32) (Q : Vec F S1024x512 .bf16) (K : Vec F S4096x128 .bf16) (KC : Vec F S256x128 .bf16)
    (T : Vec F S8x128x512 .bf16) (C : Vec F S128x256 .bf16) (hs : small W)
    (E : Set ℕ) (R : PUnit → sProp (MT nD τ sig Unit (Elt F) ℕ (UR sig nD τ) ℕ)) :
    iprop(owns (c : Thread nD τ) arg3 fullShare W ∗ owns (c : Thread nD τ) arg4 fullShare Q ∗ owns (c : Thread nD τ) arg5 fullShare K ∗ owns (c : Thread nD τ) arg7 fullShare KC ∗ owns (c : Thread nD τ) arg10 fullShare T ∗ owns (c : Thread nD τ) arg11 fullShare C ∗ (∃ d, owns (c : Thread nD τ) arg9 fullShare d)
        ∗ (iprop(owns (c : Thread nD τ) arg3 fullShare W ∗ owns (c : Thread nD τ) arg4 fullShare Q ∗ owns (c : Thread nD τ) arg5 fullShare K ∗ owns (c : Thread nD τ) arg7 fullShare KC ∗ owns (c : Thread nD τ) arg10 fullShare T ∗ owns (c : Thread nD τ) arg11 fullShare C ∗ owns (c : Thread nD τ) arg9 fullShare (outU Q K T KC C)) -∗ R ⟨⟩))
      ⊢ wp frame (wpE (defs₀ (F := F)) Variants.none c none) E (rest i arg3 harg3 arg4 harg4 arg5 harg5 arg6 harg6 arg7 harg7 arg8 harg8 arg9 harg9 arg10 harg10 arg11 harg11 arg12 harg12 arg13 harg13 arg14 harg14) R := by
  unfold rest
  simp only [k0_part3_eq_skeleton, k0_part4_eq_skeleton, k0_part5_eq_skeleton]
  unfold owns
  iintro ⟨⟨%f3, %hf3, H3⟩, ⟨%f4, %hf4, H4⟩, ⟨%f5, %hf5, H5⟩, ⟨%f7, %hf7, H7⟩, ⟨%f10, %hf10, H10⟩, ⟨%f11, %hf11, H11⟩, ⟨%d9, %f9, -, H9⟩, Hk⟩
  obtain rfl := hf3; obtain rfl := hf4; obtain rfl := hf5; obtain rfl := hf7; obtain rfl := hf10; obtain rfl := hf11
  have hw : ∀ x, Scalar.cmpf .ole (arg3.view.readAt (Elt F) (Rect.unit (s := S1x1) ![0, 0] S1x1.size inb_S1x1_S1x1_0_0).toLoadRect f3 x) (FloatOps.ofBits .f32 0x42600000#32) = 1#1 :=
    word_small arg3 f3 hs
  have hA : ∀ x, Scalar.cmpi .ne (Scalar.extui (Scalar.cmpf .ole (arg3.view.readAt (Elt F) (Rect.unit (s := S1x1) ![0, 0] S1x1.size inb_S1x1_S1x1_0_0).toLoadRect f3 x) (FloatOps.ofBits .f32 0x42600000#32)) : BitVec 32) 0#32 = 1#1 :=
    fun x => by rw [hw x]; rfl
  have hB : ∀ x, ¬Scalar.cmpi .ne (Scalar.extui (Scalar.xori (Scalar.cmpf .ole (arg3.view.readAt (Elt F) (Rect.unit (s := S1x1) ![0, 0] S1x1.size inb_S1x1_S1x1_0_0).toLoadRect f3 x) (FloatOps.ofBits .f32 0x42600000#32)) 1#1) : BitVec 32) 0#32 = 1#1 :=
    fun x => by rw [hw x]; decide
  sl_exec (disch := first | exact hA _ | exact hB _)
  sl_step
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H7]
  · iexists _; isplitr; · ipureintro; rfl
    iexact H7
  isplitl [H10]
  · iexists _; isplitr; · ipureintro; rfl
    iexact H10
  isplitl [H11]
  · iexists _; isplitr; · ipureintro; rfl
    iexact H11
  · iexists _; isplitr; swap; · iexact H9
    ipureintro
    funext y
    refine View.read_writes_apply_of_pieces _ _ (outU (arg4.view.read (Elt F) f4) (arg5.view.read (Elt F) f5) (arg10.view.read (Elt F) f10) (arg7.view.read (Elt F) f7) (arg11.view.read (Elt F) f11)) _ ?_ y (View.cover_of_tiledL (s := S1024x512) _ ![1024, 128] (by sl_kernel_rfl) y)
    sl_unfold_run_names
    simp only [List.forall_mem_cons, List.not_mem_nil, IsEmpty.forall_iff, implies_true, and_true]
    have eC := View.readAt_full arg11.view f11 inb_S128x256_S128x256_0_0
    have eK := View.readAt_full arg7.view f7 inb_S256x128_S256x128_0_0
    rw [eC, eK]
    refine ⟨fun x => ?_, fun x => ?_, fun x => ?_, fun x => ?_⟩
    · exact unstack_cols (k0_pay3 _ _) 3 _ _ x
    · exact unstack_cols (k0_pay3 _ _) 2 _ _ x
    · exact unstack_cols (k0_pay3 _ _) 1 _ _ x
    · exact unstack_cols (k0_pay3 _ _) 0 _ _ x

end Cert.Attn

end
-- ==== Proof.AttnLoop.lean ====
/- The loop of the softmax with running maxima: one trip takes the state of the key blocks before it to the state after it. -/
module

public import proofs.«01_k».proof.Proof.AttnStretches
public import proofs.«01_k».proof.Proof.AttnPlain
public import Idealize.ShloMosaic.Lib.Pipeline.FrameBody
public import Idealize.ShloMosaic.Lib.Pipeline.Kit
public import Idealize.ShloMosaic.Lib.Exec
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

/-- The loop runs eight trips. -/
theorem trips_eq : k0_t1_loop.trips = 8 := by decide +kernel

/-- Trip `k` reads row block `k`. -/
theorem rows_off : ∀ k : Fin k0_t1_loop.trips, k0_off1 k = ![512 * k.val, 0] := by decide +kernel

/-- Trip `k` reads slab `k`. -/
theorem slab_off : ∀ k : Fin k0_t1_loop.trips, k0_off2 k = ![k.val, 0, 0] := by decide +kernel

/-- A load at trip `k`'s offsets is the row block. -/
theorem rows_read (X : Vec F S4096x128 .bf16) {off : Fin 2 → Nat} (j : Fin 8) (h : off = ![512 * j.val, 0])
    (inb : ∀ a, off a + S512x128.size a ≤ S4096x128.size a) :
    View.ld X (Rect.unit (s := S4096x128) off S512x128.size inb) = rows X j := by
  subst h; rfl

/-- A load at trip `k`'s slab. -/
theorem slab_read (X : Vec F S8x128x512 .bf16) {off : Fin 3 → Nat} (j : Fin 8) (h : off = ![j.val, 0, 0])
    (inb : ∀ a, off a + S1x128x512.size a ≤ S8x128x512.size a) :
    View.ld X (Rect.unit (s := S8x128x512) off S1x128x512.size inb) = slab X j := by
  subst h; rfl

/-- The state after trip `k`. -/
theorem Online.after_succ (q : FVec F S4096x128 .bf16) (K : Vec F S4096x128 .bf16) (T : Vec F S8x128x512 .bf16) (k : Nat) (h : k < 8) :
    Online.after q K T (k + 1) = (Online.after q K T k).step q (rows K ⟨k, h⟩) (slab T ⟨k, h⟩) := by
  rw [Online.after]; exact dif_pos h

/-- Before trip `n`: the keys and the transposed values as they were, the three accumulators at the state of `n` blocks. -/
abbrev loopState (c : Dev nD) (arg5 : Memref sig .tc .vmem S4096x128 .bf16) (arg10 : Memref sig .tc .vmem S8x128x512 .bf16) (arg12 : Memref sig .tc .vmem S1x4096 .f32) (arg13 : Memref sig .tc .vmem S8x4096 .f32) (arg14 : Memref sig .tc .vmem S128x4096 .f32)
    (q : FVec F S4096x128 .bf16) (f5 : BufTy.Contents (Elt F) arg5.view.ty) (f10 : BufTy.Contents (Elt F) arg10.view.ty) (n : Nat) : sProp (MT nD τ sig Unit (Elt F) ℕ (UR sig nD τ) ℕ) :=
  iprop((arg5.view.loc (c : Thread nD τ) ↦[arg5.view.set]{fullShare} f5) ∗ (arg10.view.loc (c : Thread nD τ) ↦[arg10.view.set]{fullShare} f10)
    ∗ (∃ f, (arg12.view.loc (c : Thread nD τ) ↦[arg12.view.set]{fullShare} f) ∗ ⌜arg12.view.read (Elt F) f = (Online.after q (arg5.view.read (Elt F) f5) (arg10.view.read (Elt F) f10) n).max⌝)
    ∗ (∃ f, (arg13.view.loc (c : Thread nD τ) ↦[arg13.view.set]{fullShare} f) ∗ ⌜arg13.view.read (Elt F) f = (Online.after q (arg5.view.read (Elt F) f5) (arg10.view.read (Elt F) f10) n).sum⌝)
    ∗ (∃ f, (arg14.view.loc (c : Thread nD τ) ↦[arg14.view.set]{fullShare} f) ∗ ⌜arg14.view.read (Elt F) f = (Online.after q (arg5.view.read (Elt F) f5) (arg10.view.read (Elt F) f10) n).acc⌝))

set_option maxHeartbeats 1000000 in
set_option warn.classDefReducibility false in
/-- The loop by that invariant. -/
@[sl_loop] def loopInv (𝒱 : Variants) (c : Dev nD) (bd : Option 𝒱.V) (E : Set ℕ) (i : grid0.Coords) (arg3 : Memref sig .tc .smem S1x1 .f32) (harg3 : arg3.IsWhole) (arg4 : Memref sig .tc .vmem S1024x512 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S1024x512 .bf16) (harg9 : arg9.IsWhole) (arg10 : Memref sig .tc .vmem S8x128x512 .bf16) (harg10 : arg10.IsWhole) (arg11 : Memref sig .tc .vmem S128x256 .bf16) (harg11 : arg11.IsWhole) (arg12 : Memref sig .tc .vmem S1x4096 .f32) (harg12 : arg12.IsWhole) (arg13 : Memref sig .tc .vmem S8x4096 .f32) (harg13 : arg13.IsWhole) (arg14 : Memref sig .tc .vmem S128x4096 .f32) (harg14 : arg14.IsWhole)
    (q : FVec F S4096x128 .bf16) (f5 : BufTy.Contents (Elt F) arg5.view.ty) (f10 : BufTy.Contents (Elt F) arg10.view.ty) :
    LoopInv (M := (MT nD τ sig Unit (Elt F) ℕ (UR sig nD τ) ℕ)) frame (wpE (defs₀ (F := F)) 𝒱 (c : Thread nD τ) bd) E
      k0_t1_loop.lb k0_t1_loop.ub k0_t1_loop.st k0_t1_ok () (k0_t1_body (F := F) i arg3 harg3 arg4 harg4 arg5 harg5 arg6 harg6 arg7 harg7 arg8 harg8 arg9 harg9 arg10 harg10 arg11 harg11 arg12 harg12 arg13 harg13 arg14 harg14 q) where
  inv n _ := loopState (F := F) c arg5 arg10 arg12 arg13 arg14 q f5 f10 n
  step k acc := by
    have hk : k.val < 8 := lt_of_lt_of_eq k.isLt trips_eq
    unfold k0_t1_body
    iintro ⟨H5, H10, ⟨%f12, H12, %h12⟩, ⟨%f13, H13, %h13⟩, ⟨%f14, H14, %h14⟩⟩
    sl_exec
    sl_step
    have e5 : arg5.view.readAt (Elt F) (Rect.unit (s := S4096x128) (k0_off1 k) S512x128.size (k0_off1_inb k)).toLoadRect f5
        = rows (arg5.view.read (Elt F) f5) ⟨k.val, hk⟩ := rows_read _ _ (rows_off k) (k0_off1_inb k)
    have e10 : arg10.view.readAt (Elt F) (Rect.unit (s := S8x128x512) (k0_off2 k) S1x128x512.size (k0_off2_inb k)).toLoadRect f10
        = slab (arg10.view.read (Elt F) f10) ⟨k.val, hk⟩ := slab_read _ _ (slab_off k) (k0_off2_inb k)
    have e12 := (View.readAt_full arg12.view f12 inb_S1x4096_S1x4096_0_0).trans h12
    have e13 := (View.readAt_full arg13.view f13 inb_S8x4096_S8x4096_0_0).trans h13
    have e14 := (View.readAt_full arg14.view f14 inb_S128x4096_S128x4096_0_0).trans h14
    isplitl [H5]; · iexact H5
    isplitl [H10]; · iexact H10
    isplitl [H12]
    · iexists _; isplitl [H12]; · iexact H12
      ipureintro
      refine (View.read_writes_full _ _ _ _ _).trans ?_
      sl_unfold_run_names
      rw [Online.after_succ q _ _ k.val hk, e5, e12]
      rfl
    isplitl [H13]
    · iexists _; isplitl [H13]; · iexact H13
      ipureintro
      refine (View.read_writes_full _ _ _ _ _).trans ?_
      sl_unfold_run_names
      rw [Online.after_succ q _ _ k.val hk, e5, e12, e13]
      rfl
    · iexists _; isplitl [H14]; · iexact H14
      ipureintro
      refine (View.read_writes_full _ _ _ _ _).trans ?_
      sl_unfold_run_names
      rw [Online.after_succ q _ _ k.val hk, e5, e10, e12, e14]
      rfl

end Cert.Attn

end
-- ==== Proof.AttnLarge.lean ====
/- The rest of the attention kernel's body where the bound is not small: the softmax with running maxima. -/
module

public import proofs.«01_k».proof.Proof.AttnStretches
public import proofs.«01_k».proof.Proof.AttnLoop
public import Idealize.ShloMosaic.Lib.Pipeline.FrameBody
public import Idealize.ShloMosaic.Lib.Pipeline.Kit
public import Idealize.ShloMosaic.Lib.Exec
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

/-- The one word of the bound, however it is read, where the bound is not small. -/
theorem word_large (arg3 : Memref sig .tc .smem S1x1 .f32) (f3 : arg3.view.ty.Contents (Elt F)) (hs : ¬small (arg3.view.read (Elt F) f3)) :
    ∀ x, Scalar.cmpf .ole (arg3.view.readAt (Elt F) (Rect.unit (s := S1x1) ![0, 0] S1x1.size inb_S1x1_S1x1_0_0).toLoadRect f3 x) (FloatOps.ofBits .f32 0x42600000#32) = 0#1 := by
  intro x
  have e := word_read arg3 f3 x
  have h : ∀ b : BitVec 1, ¬b = 1#1 → b = 0#1 := by decide
  exact (congrArg (fun v => Scalar.cmpf .ole v (FloatOps.ofBits .f32 0x42600000#32)) e).trans (h _ hs)

set_option maxHeartbeats 1000000 in
/-- The run where the bound is not small: everything read is left as it was and the output block holds the softmax with running maxima. -/
theorem rest_large (c : Dev nD) (i : grid0.Coords) (arg3 : Memref sig .tc .smem S1x1 .f32) (harg3 : arg3.IsWhole) (arg4 : Memref sig .tc .vmem S1024x512 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S1024x512 .bf16) (harg9 : arg9.IsWhole) (arg10 : Memref sig .tc .vmem S8x128x512 .bf16) (harg10 : arg10.IsWhole) (arg11 : Memref sig .tc .vmem S128x256 .bf16) (harg11 : arg11.IsWhole) (arg12 : Memref sig .tc .vmem S1x4096 .f32) (harg12 : arg12.IsWhole) (arg13 : Memref sig .tc .vmem S8x4096 .f32) (harg13 : arg13.IsWhole) (arg14 : Memref sig .tc .vmem S128x4096 .f32) (harg14 : arg14.IsWhole)
    (W : Vec F S1x1 .f32) (Q : Vec F S1024x512 .bf16) (K : Vec F S4096x128 .bf16) (KC : Vec F S256x128 .bf16)
    (T : Vec F S8x128x512 .bf16) (C : Vec F S128x256 .bf16) (hs : ¬small W)
    (E : Set ℕ) (R : PUnit → sProp (MT nD τ sig Unit (Elt F) ℕ (UR sig nD τ) ℕ)) :
    iprop(owns (c : Thread nD τ) arg3 fullShare W ∗ owns (c : Thread nD τ) arg4 fullShare Q ∗ owns (c : Thread nD τ) arg5 fullShare K ∗ owns (c : Thread nD τ) arg7 fullShare KC ∗ owns (c : Thread nD τ) arg10 fullShare T ∗ owns (c : Thread nD τ) arg11 fullShare C ∗ (∃ d, owns (c : Thread nD τ) arg9 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg3 fullShare W ∗ owns (c : Thread nD τ) arg4 fullShare Q ∗ owns (c : Thread nD τ) arg5 fullShare K ∗ owns (c : Thread nD τ) arg7 fullShare KC ∗ owns (c : Thread nD τ) arg10 fullShare T ∗ owns (c : Thread nD τ) arg11 fullShare C ∗ owns (c : Thread nD τ) arg9 fullShare (outO Q K T KC C) ∗ (∃ d, owns (c : Thread nD τ) arg12 fullShare d) ∗ (∃ d, owns (c : Thread nD τ) arg13 fullShare d) ∗ (∃ d, owns (c : Thread nD τ) arg14 fullShare d)) -∗ R ⟨⟩))
      ⊢ wp frame (wpE (defs₀ (F := F)) Variants.none c none) E (rest i arg3 harg3 arg4 harg4 arg5 harg5 arg6 harg6 arg7 harg7 arg8 harg8 arg9 harg9 arg10 harg10 arg11 harg11 arg12 harg12 arg13 harg13 arg14 harg14) R := by
  unfold rest
  simp only [k0_part7_eq_skeleton, k0_part8_eq_skeleton]
  unfold owns
  iintro ⟨⟨%f3, %hf3, H3⟩, ⟨%f4, %hf4, H4⟩, ⟨%f5, %hf5, H5⟩, ⟨%f7, %hf7, H7⟩, ⟨%f10, %hf10, H10⟩, ⟨%f11, %hf11, H11⟩, ⟨%d9, %f9, -, H9⟩, ⟨%d12, %f12, -, H12⟩, ⟨%d13, %f13, -, H13⟩, ⟨%d14, %f14, -, H14⟩, Hk⟩
  obtain rfl := hf3; obtain rfl := hf4; obtain rfl := hf5; obtain rfl := hf7; obtain rfl := hf10; obtain rfl := hf11
  have hw := word_large arg3 f3 hs
  have hA : ∀ x, ¬Scalar.cmpi .ne (Scalar.extui (Scalar.cmpf .ole (arg3.view.readAt (Elt F) (Rect.unit (s := S1x1) ![0, 0] S1x1.size inb_S1x1_S1x1_0_0).toLoadRect f3 x) (FloatOps.ofBits .f32 0x42600000#32)) : BitVec 32) 0#32 = 1#1 :=
    fun x => by rw [hw x]; decide
  have hB : ∀ x, Scalar.cmpi .ne (Scalar.extui (Scalar.xori (Scalar.cmpf .ole (arg3.view.readAt (Elt F) (Rect.unit (s := S1x1) ![0, 0] S1x1.size inb_S1x1_S1x1_0_0).toLoadRect f3 x) (FloatOps.ofBits .f32 0x42600000#32)) 1#1) : BitVec 32) 0#32 = 1#1 :=
    fun x => by rw [hw x]; rfl
  have h12 : arg12.view.read (Elt F) (arg12.view.writes (Elt F) arg12.view.junk [⟨Rect.unit (s := S1x4096) ![0, 0] S1x4096.size inb_S1x4096_S1x4096_0_0, k0_pay55 (F := F)⟩])
      = (Online.after (qs (arg4.view.read (Elt F) f4)) (arg5.view.read (Elt F) f5) (arg10.view.read (Elt F) f10) 0).max :=
    View.read_writes_full _ _ _ _ _
  have h13 : arg13.view.read (Elt F) (arg13.view.writes (Elt F) arg13.view.junk [⟨Rect.unit (s := S8x4096) ![0, 0] S8x4096.size inb_S8x4096_S8x4096_0_0, k0_pay57 (F := F)⟩])
      = (Online.after (qs (arg4.view.read (Elt F) f4)) (arg5.view.read (Elt F) f5) (arg10.view.read (Elt F) f10) 0).sum :=
    View.read_writes_full _ _ _ _ _
  have h14 : arg14.view.read (Elt F) (arg14.view.writes (Elt F) arg14.view.junk [⟨Rect.unit (s := S128x4096) ![0, 0] S128x4096.size inb_S128x4096_S128x4096_0_0, k0_pay56 (F := F)⟩])
      = (Online.after (qs (arg4.view.read (Elt F) f4)) (arg5.view.read (Elt F) f5) (arg10.view.read (Elt F) f10) 0).acc :=
    View.read_writes_full _ _ _ _ _
  sl_exec (disch := first | exact hA _ | exact hB _)
  sl_step
  have e12 : arg12.view.read (Elt F) fL0 = (Online.after (qs (arg4.view.read (Elt F) f4)) (arg5.view.read (Elt F) f5) (arg10.view.read (Elt F) f10) 8).max := hL3
  have e13 : arg13.view.read (Elt F) fL1 = (Online.after (qs (arg4.view.read (Elt F) f4)) (arg5.view.read (Elt F) f5) (arg10.view.read (Elt F) f10) 8).sum := hL5
  have e14 : arg14.view.read (Elt F) fL2 = (Online.after (qs (arg4.view.read (Elt F) f4)) (arg5.view.read (Elt F) f5) (arg10.view.read (Elt F) f10) 8).acc := hL7
  iapply Hk
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H7]
  · iexists _; isplitr; · ipureintro; rfl
    iexact H7
  isplitl [H10]
  · iexists _; isplitr; · ipureintro; rfl
    iexact H10
  isplitl [H11]
  · iexists _; isplitr; · ipureintro; rfl
    iexact H11
  isplitl [H9]
  · iexists _; isplitr; swap; · iexact H9
    ipureintro
    funext y
    refine View.read_writes_apply_of_pieces _ _ (outO (arg4.view.read (Elt F) f4) (arg5.view.read (Elt F) f5) (arg10.view.read (Elt F) f10) (arg7.view.read (Elt F) f7) (arg11.view.read (Elt F) f11)) _ ?_ y (View.cover_of_tiledL (s := S1024x512) _ ![1024, 128] (by sl_kernel_rfl) y)
    sl_unfold_run_names
    simp only [List.forall_mem_cons, List.not_mem_nil, IsEmpty.forall_iff, implies_true, and_true]
    rw [View.readAt_full arg7.view f7 inb_S256x128_S256x128_0_0, View.readAt_full arg11.view f11 inb_S128x256_S128x256_0_0,
      View.readAt_full arg12.view fL0 inb_S1x4096_S1x4096_0_0, View.readAt_full arg13.view fL1 inb_S8x4096_S8x4096_0_0,
      View.readAt_full arg14.view fL2 inb_S128x4096_S128x4096_0_0, View.readCov_full, View.readCov_full, e12, e13, e14]
    refine ⟨fun x => ?_, fun x => ?_, fun x => ?_, fun x => ?_⟩
    · exact unstack_cols (k0_pay67 _ _) 3 _ _ x
    · exact unstack_cols (k0_pay67 _ _) 2 _ _ x
    · exact unstack_cols (k0_pay67 _ _) 1 _ _ x
    · exact unstack_cols (k0_pay67 _ _) 0 _ _ x
  isplitl [H12]
  · iexists _, _; isplitr; swap; · iexact H12
    ipureintro; rfl
  isplitl [H13]
  · iexists _, _; isplitr; swap; · iexact H13
    ipureintro; rfl
  · iexists _, _; isplitr; swap; · iexact H14
    ipureintro; rfl

end Cert.Attn

end
-- ==== Proof.AttnBody.lean ====
/- One run of the attention kernel's body, whatever the bound is and whichever query block it is at. -/
module

public import proofs.«01_k».proof.Proof.AttnStretches
public import proofs.«01_k».proof.Proof.AttnFill
public import proofs.«01_k».proof.Proof.AttnSmall
public import proofs.«01_k».proof.Proof.AttnLarge
public import Idealize.ShloMosaic.Lib.Pipeline.FrameBody
public import Idealize.ShloMosaic.Lib.Pipeline.Kit
public import Idealize.ShloMosaic.Lib.Exec
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

/-- The rest of the body: the output block is `out`'s, and the three working scratches end at anything. -/
theorem rest_wp (c : Dev nD) (i : grid0.Coords) (arg3 : Memref sig .tc .smem S1x1 .f32) (harg3 : arg3.IsWhole) (arg4 : Memref sig .tc .vmem S1024x512 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S1024x512 .bf16) (harg9 : arg9.IsWhole) (arg10 : Memref sig .tc .vmem S8x128x512 .bf16) (harg10 : arg10.IsWhole) (arg11 : Memref sig .tc .vmem S128x256 .bf16) (harg11 : arg11.IsWhole) (arg12 : Memref sig .tc .vmem S1x4096 .f32) (harg12 : arg12.IsWhole) (arg13 : Memref sig .tc .vmem S8x4096 .f32) (harg13 : arg13.IsWhole) (arg14 : Memref sig .tc .vmem S128x4096 .f32) (harg14 : arg14.IsWhole)
    (W : Vec F S1x1 .f32) (Q : Vec F S1024x512 .bf16) (K : Vec F S4096x128 .bf16) (KC : Vec F S256x128 .bf16)
    (T : Vec F S8x128x512 .bf16) (C : Vec F S128x256 .bf16)
    (E : Set ℕ) (R : PUnit → sProp (MT nD τ sig Unit (Elt F) ℕ (UR sig nD τ) ℕ)) :
    iprop(owns (c : Thread nD τ) arg3 fullShare W ∗ owns (c : Thread nD τ) arg4 fullShare Q ∗ owns (c : Thread nD τ) arg5 fullShare K ∗ owns (c : Thread nD τ) arg7 fullShare KC ∗ owns (c : Thread nD τ) arg10 fullShare T ∗ owns (c : Thread nD τ) arg11 fullShare C ∗ (∃ d, owns (c : Thread nD τ) arg9 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg3 fullShare W ∗ owns (c : Thread nD τ) arg4 fullShare Q ∗ owns (c : Thread nD τ) arg5 fullShare K ∗ owns (c : Thread nD τ) arg7 fullShare KC ∗ owns (c : Thread nD τ) arg10 fullShare T ∗ owns (c : Thread nD τ) arg11 fullShare C ∗ owns (c : Thread nD τ) arg9 fullShare (out W Q K T KC C) ∗ (∃ d, owns (c : Thread nD τ) arg12 fullShare d) ∗ (∃ d, owns (c : Thread nD τ) arg13 fullShare d) ∗ (∃ d, owns (c : Thread nD τ) arg14 fullShare d)) -∗ R ⟨⟩))
      ⊢ wp frame (wpE (defs₀ (F := F)) Variants.none c none) E (rest i arg3 harg3 arg4 harg4 arg5 harg5 arg6 harg6 arg7 harg7 arg8 harg8 arg9 harg9 arg10 harg10 arg11 harg11 arg12 harg12 arg13 harg13 arg14 harg14) R := by
  by_cases hs : small W
  · rw [show out W Q K T KC C = outU Q K T KC C from if_pos hs]
    iintro ⟨H3, H4, H5, H7, H10, H11, H9, H12, H13, H14, Hk⟩
    iapply (rest_small c i arg3 harg3 arg4 harg4 arg5 harg5 arg6 harg6 arg7 harg7 arg8 harg8 arg9 harg9 arg10 harg10 arg11 harg11 arg12 harg12 arg13 harg13 arg14 harg14 W Q K KC T C hs E R)
    isplitl [H3]
    · iexact H3
    isplitl [H4]
    · iexact H4
    isplitl [H5]
    · iexact H5
    isplitl [H7]
    · iexact H7
    isplitl [H10]
    · iexact H10
    isplitl [H11]
    · iexact H11
    isplitl [H9]
    · iexact H9
    iintro ⟨H3, H4, H5, H7, H10, H11, H9⟩
    iapply Hk
    isplitl [H3]
    · iexact H3
    isplitl [H4]
    · iexact H4
    isplitl [H5]
    · iexact H5
    isplitl [H7]
    · iexact H7
    isplitl [H10]
    · iexact H10
    isplitl [H11]
    · iexact H11
    isplitl [H9]
    · iexact H9
    isplitl [H12]
    · iexact H12
    isplitl [H13]
    · iexact H13
    iexact H14
  · rw [show out W Q K T KC C = outO Q K T KC C from if_neg hs]
    exact rest_large c i arg3 harg3 arg4 harg4 arg5 harg5 arg6 harg6 arg7 harg7 arg8 harg8 arg9 harg9 arg10 harg10 arg11 harg11 arg12 harg12 arg13 harg13 arg14 harg14 W Q K KC T C hs E R

/-- The whole body: where it is not at a first query block it needs the transposed values in the scratches already. -/
theorem body_wp (c : Dev nD) (i : grid0.Coords) (arg3 : Memref sig .tc .smem S1x1 .f32) (harg3 : arg3.IsWhole) (arg4 : Memref sig .tc .vmem S1024x512 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S1024x512 .bf16) (harg9 : arg9.IsWhole) (arg10 : Memref sig .tc .vmem S8x128x512 .bf16) (harg10 : arg10.IsWhole) (arg11 : Memref sig .tc .vmem S128x256 .bf16) (harg11 : arg11.IsWhole) (arg12 : Memref sig .tc .vmem S1x4096 .f32) (harg12 : arg12.IsWhole) (arg13 : Memref sig .tc .vmem S8x4096 .f32) (harg13 : arg13.IsWhole) (arg14 : Memref sig .tc .vmem S128x4096 .f32) (harg14 : arg14.IsWhole)
    (W : Vec F S1x1 .f32) (Q : Vec F S1024x512 .bf16) (K V : Vec F S4096x128 .bf16) (KC VC : Vec F S256x128 .bf16)
    (T : Vec F S8x128x512 .bf16) (C : Vec F S128x256 .bf16) (hT : ¬first i → T = vt V ∧ C = vct VC)
    (E : Set ℕ) (R : PUnit → sProp (MT nD τ sig Unit (Elt F) ℕ (UR sig nD τ) ℕ)) :
    iprop(owns (c : Thread nD τ) arg3 fullShare W ∗ owns (c : Thread nD τ) arg4 fullShare Q ∗ owns (c : Thread nD τ) arg5 fullShare K ∗ owns (c : Thread nD τ) arg6 fullShare V ∗ owns (c : Thread nD τ) arg7 fullShare KC ∗ owns (c : Thread nD τ) arg8 fullShare VC ∗ (∃ d, owns (c : Thread nD τ) arg9 fullShare d) ∗ owns (c : Thread nD τ) arg10 fullShare T ∗ owns (c : Thread nD τ) arg11 fullShare C ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg3 fullShare W ∗ owns (c : Thread nD τ) arg4 fullShare Q ∗ owns (c : Thread nD τ) arg5 fullShare K ∗ owns (c : Thread nD τ) arg6 fullShare V ∗ owns (c : Thread nD τ) arg7 fullShare KC ∗ owns (c : Thread nD τ) arg8 fullShare VC ∗ owns (c : Thread nD τ) arg9 fullShare (out W Q K (vt V) KC (vct VC)) ∗ owns (c : Thread nD τ) arg10 fullShare (vt V) ∗ owns (c : Thread nD τ) arg11 fullShare (vct VC) ∗ (∃ d, owns (c : Thread nD τ) arg12 fullShare d) ∗ (∃ d, owns (c : Thread nD τ) arg13 fullShare d) ∗ (∃ d, owns (c : Thread nD τ) arg14 fullShare d)) -∗ R ⟨⟩))
      ⊢ wp frame (wpE (defs₀ (F := F)) Variants.none c none) E (cc0_attn i arg3 harg3 arg4 harg4 arg5 harg5 arg6 harg6 arg7 harg7 arg8 harg8 arg9 harg9 arg10 harg10 arg11 harg11 arg12 harg12 arg13 harg13 arg14 harg14) R := by
  by_cases h : first i
  · rw [attn_first i arg3 harg3 arg4 harg4 arg5 harg5 arg6 harg6 arg7 harg7 arg8 harg8 arg9 harg9 arg10 harg10 arg11 harg11 arg12 harg12 arg13 harg13 arg14 harg14 h, Idealize.SL.Sem.wp_bind]
    iintro ⟨H3, H4, H5, H6, H7, H8, H9, H10, H11, H12, H13, H14, Hk⟩
    iapply (fill_wp c i arg3 harg3 arg4 harg4 arg5 harg5 arg6 harg6 arg7 harg7 arg8 harg8 arg9 harg9 arg10 harg10 arg11 harg11 arg12 harg12 arg13 harg13 arg14 harg14 V VC E _)
    isplitl [H6]
    · iexact H6
    isplitl [H8]
    · iexact H8
    isplitl [H10]
    · iexists _; iexact H10
    isplitl [H11]
    · iexists _; iexact H11
    iintro ⟨H6, H8, H10, H11⟩
    iapply (rest_wp c i arg3 harg3 arg4 harg4 arg5 harg5 arg6 harg6 arg7 harg7 arg8 harg8 arg9 harg9 arg10 harg10 arg11 harg11 arg12 harg12 arg13 harg13 arg14 harg14 W Q K KC (vt V) (vct VC) E R)
    isplitl [H3]
    · iexact H3
    isplitl [H4]
    · iexact H4
    isplitl [H5]
    · iexact H5
    isplitl [H7]
    · iexact H7
    isplitl [H10]
    · iexact H10
    isplitl [H11]
    · iexact H11
    isplitl [H9]
    · iexact H9
    isplitl [H12]
    · iexact H12
    isplitl [H13]
    · iexact H13
    isplitl [H14]
    · iexact H14
    iintro ⟨H3, H4, H5, H7, H10, H11, H9, H12, H13, H14⟩
    iapply Hk
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    iexact H14
  · obtain ⟨rfl, rfl⟩ := hT h
    rw [attn_later i arg3 harg3 arg4 harg4 arg5 harg5 arg6 harg6 arg7 harg7 arg8 harg8 arg9 harg9 arg10 harg10 arg11 harg11 arg12 harg12 arg13 harg13 arg14 harg14 h]
    iintro ⟨H3, H4, H5, H6, H7, H8, H9, H10, H11, H12, H13, H14, Hk⟩
    iapply (rest_wp c i arg3 harg3 arg4 harg4 arg5 harg5 arg6 harg6 arg7 harg7 arg8 harg8 arg9 harg9 arg10 harg10 arg11 harg11 arg12 harg12 arg13 harg13 arg14 harg14 W Q K KC (vt V) (vct VC) E R)
    isplitl [H3]
    · iexact H3
    isplitl [H4]
    · iexact H4
    isplitl [H5]
    · iexact H5
    isplitl [H7]
    · iexact H7
    isplitl [H10]
    · iexact H10
    isplitl [H11]
    · iexact H11
    isplitl [H9]
    · iexact H9
    isplitl [H12]
    · iexact H12
    isplitl [H13]
    · iexact H13
    isplitl [H14]
    · iexact H14
    iintro ⟨H3, H4, H5, H7, H10, H11, H9, H12, H13, H14⟩
    iapply Hk
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    iexact H14

end Cert.Attn

end
-- ==== Proof.AttnBlocks.lean ====
/- The blocks the attention kernel's windows stage at a grid point, as entries of the arrays they are cut from: the point
   stands for a batch entry, a key head and a block of 1024 queries. -/
module

public import proofs.«01_k».proof.Proof.AttnPlain
public import proofs.«01_k».proof.Proof.AttnStretches
public import proofs.«01_k».proof.Proof.Gen.Kernel2Ideal.Frame
public import Idealize.ShloMosaic.Lib.Pipeline.Value
public import Idealize.ShloMosaic.Lib.ValueIdx

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx
open Cert.Kernel2Ideal Cert.Kernel2Ideal.Gen

variable {F : FTy → Type} [FloatOps F]
variable (m : (ℓ : Loc nD τ sig) → Buf (Elt F) ℓ) (ρ : Dev nD → PrngReg)

/-- The thirty-two points. -/
theorem lt_points (t : Fin cfg0.N) : t.val < 32 := Nat.lt_of_lt_of_eq t.isLt N_0

/-- The batch entry of a point. -/
abbrev batchOf (t : Fin cfg0.N) : Fin 4 := ⟨t.val / 8, by have := lt_points t; omega⟩
/-- The key head of a point. -/
abbrev headOf (t : Fin cfg0.N) : Fin 2 := ⟨t.val / 4 % 2, by omega⟩
/-- The query block of a point. -/
abbrev partOf (t : Fin cfg0.N) : Fin 4 := ⟨t.val % 4, by omega⟩

/-- The windows' index maps over the points. -/
theorem idx_facts : ∀ t : Fin cfg0.N, win0_1.index t 0 = t.val / 8 * 4 + t.val % 4 ∧ win0_1.index t 1 = 4 + t.val / 4 % 2
    ∧ win0_2.index t 0 = t.val / 8 ∧ win0_2.index t 1 = t.val / 4 % 2
    ∧ win0_3.index t 0 = t.val / 8 ∧ win0_3.index t 1 = 2 + t.val / 4 % 2
    ∧ win0_4.index t 0 = t.val / 8 ∧ win0_4.index t 1 = t.val / 4 % 2
    ∧ win0_5.index t 0 = t.val / 8 ∧ win0_5.index t 1 = 2 + t.val / 4 % 2
    ∧ win0_6.index t 0 = t.val / 8 * 4 + t.val % 4 ∧ win0_6.index t 1 = t.val / 4 % 2
    ∧ win0_0.index t 0 = 0 ∧ win0_0.index t 1 = 0 :=
  (by decide +kernel : ∀ t : Fin grid0.N, win0_1.index t 0 = t.val / 8 * 4 + t.val % 4 ∧ win0_1.index t 1 = 4 + t.val / 4 % 2
    ∧ win0_2.index t 0 = t.val / 8 ∧ win0_2.index t 1 = t.val / 4 % 2
    ∧ win0_3.index t 0 = t.val / 8 ∧ win0_3.index t 1 = 2 + t.val / 4 % 2
    ∧ win0_4.index t 0 = t.val / 8 ∧ win0_4.index t 1 = t.val / 4 % 2
    ∧ win0_5.index t 0 = t.val / 8 ∧ win0_5.index t 1 = 2 + t.val / 4 % 2
    ∧ win0_6.index t 0 = t.val / 8 * 4 + t.val % 4 ∧ win0_6.index t 1 = t.val / 4 % 2
    ∧ win0_0.index t 0 = 0 ∧ win0_0.index t 1 = 0)

/-- A point is at a first query block when its number is a multiple of four. -/
theorem first_iff : ∀ t : Fin cfg0.N, first (grid0.coords t) ↔ t.val % 4 = 0 :=
  (by unfold first; decide +kernel : ∀ t : Fin grid0.N, first (grid0.coords t) ↔ t.val % 4 = 0)

/-- The queries staged at a point. -/
theorem iblk1_apply (c : Dev nD) (t : Fin cfg0.N) (r : Fin 1024) (l : Fin 512) :
    (iblk m c 1 t : Vec F S1024x512 .bf16) (ix2 r l)
      = (V m c main_v16 : Vec F S16384x6656 .bf16) (ix2 (⟨1024 * (4 * (batchOf t).val + (partOf t).val) + r.val, by have := (batchOf t).isLt; have := (partOf t).isLt; omega⟩ : Fin 16384) (⟨512 * (4 + (headOf t).val) + l.val, by have := (headOf t).isLt; omega⟩ : Fin 6656)) := by
  have ht := lt_points t
  obtain ⟨a0, a1, b0, b1, c0, c1, d0, d1, e0, e1, f0, f1, g0, g1⟩ := idx_facts t
  show (V m c main_v16 : Vec F S16384x6656 .bf16) ((win0_1.rect t).emb (ix2 r l)) = _
  congr 1
  funext a
  refine Fin.ext ?_
  rw [win0_1.rect_emb_val t (ix2 r l) a]
  match a with
  | ⟨0, _⟩ => show win0_1.index t 0 * 1024 + r.val = 1024 * (4 * (batchOf t).val + (partOf t).val) + r.val; dsimp only; omega
  | ⟨1, _⟩ => show win0_1.index t 1 * 512 + l.val = 512 * (4 + (headOf t).val) + l.val; dsimp only; omega

/-- The keys staged at a point. -/
theorem iblk2_apply (c : Dev nD) (t : Fin cfg0.N) (r : Fin 4096) (l : Fin 128) :
    (iblk m c 2 t : Vec F S4096x128 .bf16) (ix2 r l)
      = (V m c main_v16 : Vec F S16384x6656 .bf16) (ix2 (⟨4096 * (batchOf t).val + r.val, by have := (batchOf t).isLt; have := (partOf t).isLt; omega⟩ : Fin 16384) (⟨128 * (headOf t).val + l.val, by have := (headOf t).isLt; omega⟩ : Fin 6656)) := by
  have ht := lt_points t
  obtain ⟨a0, a1, b0, b1, c0, c1, d0, d1, e0, e1, f0, f1, g0, g1⟩ := idx_facts t
  show (V m c main_v16 : Vec F S16384x6656 .bf16) ((win0_2.rect t).emb (ix2 r l)) = _
  congr 1
  funext a
  refine Fin.ext ?_
  rw [win0_2.rect_emb_val t (ix2 r l) a]
  match a with
  | ⟨0, _⟩ => show win0_2.index t 0 * 4096 + r.val = 4096 * (batchOf t).val + r.val; dsimp only; omega
  | ⟨1, _⟩ => show win0_2.index t 1 * 128 + l.val = 128 * (headOf t).val + l.val; dsimp only; omega

/-- The values staged at a point. -/
theorem iblk3_apply (c : Dev nD) (t : Fin cfg0.N) (r : Fin 4096) (l : Fin 128) :
    (iblk m c 3 t : Vec F S4096x128 .bf16) (ix2 r l)
      = (V m c main_v16 : Vec F S16384x6656 .bf16) (ix2 (⟨4096 * (batchOf t).val + r.val, by have := (batchOf t).isLt; have := (partOf t).isLt; omega⟩ : Fin 16384) (⟨128 * (2 + (headOf t).val) + l.val, by have := (headOf t).isLt; omega⟩ : Fin 6656)) := by
  have ht := lt_points t
  obtain ⟨a0, a1, b0, b1, c0, c1, d0, d1, e0, e1, f0, f1, g0, g1⟩ := idx_facts t
  show (V m c main_v16 : Vec F S16384x6656 .bf16) ((win0_3.rect t).emb (ix2 r l)) = _
  congr 1
  funext a
  refine Fin.ext ?_
  rw [win0_3.rect_emb_val t (ix2 r l) a]
  match a with
  | ⟨0, _⟩ => show win0_3.index t 0 * 4096 + r.val = 4096 * (batchOf t).val + r.val; dsimp only; omega
  | ⟨1, _⟩ => show win0_3.index t 1 * 128 + l.val = 128 * (2 + (headOf t).val) + l.val; dsimp only; omega

/-- The context's keys staged at a point. -/
theorem iblk4_apply (c : Dev nD) (t : Fin cfg0.N) (r : Fin 256) (l : Fin 128) :
    (iblk m c 4 t : Vec F S256x128 .bf16) (ix2 r l)
      = (V m c main_v24 : Vec F S1024x2048 .bf16) (ix2 (⟨256 * (batchOf t).val + r.val, by have := (batchOf t).isLt; have := (partOf t).isLt; omega⟩ : Fin 1024) (⟨128 * (headOf t).val + l.val, by have := (headOf t).isLt; omega⟩ : Fin 2048)) := by
  have ht := lt_points t
  obtain ⟨a0, a1, b0, b1, c0, c1, d0, d1, e0, e1, f0, f1, g0, g1⟩ := idx_facts t
  show (V m c main_v24 : Vec F S1024x2048 .bf16) ((win0_4.rect t).emb (ix2 r l)) = _
  congr 1
  funext a
  refine Fin.ext ?_
  rw [win0_4.rect_emb_val t (ix2 r l) a]
  match a with
  | ⟨0, _⟩ => show win0_4.index t 0 * 256 + r.val = 256 * (batchOf t).val + r.val; dsimp only; omega
  | ⟨1, _⟩ => show win0_4.index t 1 * 128 + l.val = 128 * (headOf t).val + l.val; dsimp only; omega

/-- The context's values staged at a point. -/
theorem iblk5_apply (c : Dev nD) (t : Fin cfg0.N) (r : Fin 256) (l : Fin 128) :
    (iblk m c 5 t : Vec F S256x128 .bf16) (ix2 r l)
      = (V m c main_v24 : Vec F S1024x2048 .bf16) (ix2 (⟨256 * (batchOf t).val + r.val, by have := (batchOf t).isLt; have := (partOf t).isLt; omega⟩ : Fin 1024) (⟨128 * (2 + (headOf t).val) + l.val, by have := (headOf t).isLt; omega⟩ : Fin 2048)) := by
  have ht := lt_points t
  obtain ⟨a0, a1, b0, b1, c0, c1, d0, d1, e0, e1, f0, f1, g0, g1⟩ := idx_facts t
  show (V m c main_v24 : Vec F S1024x2048 .bf16) ((win0_5.rect t).emb (ix2 r l)) = _
  congr 1
  funext a
  refine Fin.ext ?_
  rw [win0_5.rect_emb_val t (ix2 r l) a]
  match a with
  | ⟨0, _⟩ => show win0_5.index t 0 * 256 + r.val = 256 * (batchOf t).val + r.val; dsimp only; omega
  | ⟨1, _⟩ => show win0_5.index t 1 * 128 + l.val = 128 * (2 + (headOf t).val) + l.val; dsimp only; omega

/-- The bound staged at a point. -/
theorem iblk0_eq (c : Dev nD) (t : Fin cfg0.N) : (iblk m c 0 t : Vec F S1x1 .f32) = V m c main_arg0 := by
  obtain ⟨a0, a1, b0, b1, c0, c1, d0, d1, e0, e1, f0, f1, g0, g1⟩ := idx_facts t
  funext y
  show (V m c main_arg0 : Vec F S1x1 .f32) ((win0_0.rect t).emb y) = _
  congr 1
  funext a
  refine Fin.ext ?_
  rw [win0_0.rect_emb_val t y a]
  match a with
  | ⟨0, _⟩ => show win0_0.index t 0 * 1 + (y 0).val = (y 0).val; omega
  | ⟨1, _⟩ => show win0_0.index t 1 * 1 + (y 1).val = (y 1).val; omega

/-- Between two first query blocks the values' window stays where it is. -/
theorem iblk3_stay (c : Dev nD) (t t' : Fin cfg0.N) (h : t.val / 4 = t'.val / 4) : iblk m c 3 t = iblk m c 3 t' := by
  have hb : t.val / 8 = t'.val / 8 := by omega
  have hh : t.val / 4 % 2 = t'.val / 4 % 2 := by omega
  funext (y : S4096x128.Idx)
  obtain ⟨r, l, rfl⟩ : ∃ (r : Fin 4096) (l : Fin 128), y = ix2 r l := ⟨y 0, y 1, eq_ix2 y⟩
  exact (iblk3_apply m c t r l).trans (Eq.trans (by simp only [hb, hh]) (iblk3_apply m c t' r l).symm)

/-- Nor does the window of the context's values move. -/
theorem iblk5_stay (c : Dev nD) (t t' : Fin cfg0.N) (h : t.val / 4 = t'.val / 4) : iblk m c 5 t = iblk m c 5 t' := by
  have hb : t.val / 8 = t'.val / 8 := by omega
  have hh : t.val / 4 % 2 = t'.val / 4 % 2 := by omega
  funext (y : S256x128.Idx)
  obtain ⟨r, l, rfl⟩ : ∃ (r : Fin 256) (l : Fin 128), y = ix2 r l := ⟨y 0, y 1, eq_ix2 y⟩
  exact (iblk5_apply m c t r l).trans (Eq.trans (by simp only [hb, hh]) (iblk5_apply m c t' r l).symm)

/-- What a point writes back: the attention of its queries. -/
def outAt (c : Dev nD) (t : Fin cfg0.N) : Vec F S1024x512 .bf16 :=
  out (iblk m c 0 t) (iblk m c 1 t) (iblk m c 2 t) (vt (iblk m c 3 t)) (iblk m c 4 t) (vct (iblk m c 5 t))

end Cert.Attn

end
-- ==== Proof.AttnRun.lean ====
/- The attention kernel's whole run, over any values: the pipeline's proof data, the body at each point, and the frame. -/
module

public import proofs.«01_k».proof.Proof.AttnBody
public import proofs.«01_k».proof.Proof.AttnBlocks

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx
open Cert.Kernel2Ideal Cert.Kernel2Ideal.Gen

variable {F : FTy → Type} [FloatOps F]
variable (m : (ℓ : Loc nD τ sig) → Buf (Elt F) ℓ) (ρ : Dev nD → PrngReg)

/-- The scratches before position `n`: the transposed values of the position's batch entry and head are there already unless the
    position is a first query block; the three working scratches hold anything. -/
def state (c : Dev nD) (n : ℕ) : sProp (MT nD τ sig Unit (Elt F) ℕ (UR sig nD τ) ℕ) :=
  iprop(∃ T, ∃ C, ⌜∀ t : Fin cfg0.N, t.val = n → ¬n % 4 = 0 → T = vt (iblk m c 3 t) ∧ C = vct (iblk m c 5 t)⌝
    ∗ iprop(owns (c : Thread nD τ) (Memref.whole cc0_scratch0) fullShare T ∗ owns (c : Thread nD τ) (Memref.whole cc0_scratch1) fullShare C ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r))

/-- The pipeline's own statement of the scratches, at anything. -/
theorem anything (c : Dev nD) :
    (Pipeline.ΦA spec0 c : sProp (MT nD τ sig Unit (Elt F) ℕ (UR sig nD τ) ℕ))
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- The proof data: the arrays as the call finds them; after a point each input's buffer holds its block and the output's the
    attention of the point's queries. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := state m c t.val
  q w := Pipeline.shareOf spec0 w
  owed _ := 0

/-- The proof data's arrays are those the call finds. -/
theorem A_eq (c : Dev nD) (w : Fin cfg0.W) : (dats m 0 c).A w = V m c (Pipeline.arrRef spec0 w) := by
  dsimp only [dats]

/-- Window 0 keeps its block. -/
theorem after_0 (c : Dev nD) (t : Fin cfg0.N) : (dats m 0 c).after 0 t = iblk m c 0 t := by dsimp only [dats]
/-- Window 1 keeps its block. -/
theorem after_1 (c : Dev nD) (t : Fin cfg0.N) : (dats m 0 c).after 1 t = iblk m c 1 t := by dsimp only [dats]
/-- Window 2 keeps its block. -/
theorem after_2 (c : Dev nD) (t : Fin cfg0.N) : (dats m 0 c).after 2 t = iblk m c 2 t := by dsimp only [dats]
/-- Window 3 keeps its block. -/
theorem after_3 (c : Dev nD) (t : Fin cfg0.N) : (dats m 0 c).after 3 t = iblk m c 3 t := by dsimp only [dats]
/-- Window 4 keeps its block. -/
theorem after_4 (c : Dev nD) (t : Fin cfg0.N) : (dats m 0 c).after 4 t = iblk m c 4 t := by dsimp only [dats]
/-- Window 5 keeps its block. -/
theorem after_5 (c : Dev nD) (t : Fin cfg0.N) : (dats m 0 c).after 5 t = iblk m c 5 t := by dsimp only [dats]
/-- The output's window holds the attention. -/
theorem after_6 (c : Dev nD) (t : Fin cfg0.N) : (dats m 0 c).after 6 t = outAt m c t := by dsimp only [dats]
/-- Window 0 holds its block before the body. -/
theorem before_0 (c : Dev nD) (t : Fin cfg0.N) (d) : (dats m 0 c).before 0 t d = iblk m c 0 t :=
  before0_0_of m (dats m 0 c) (A_eq m c 0) (after_0 m c) t d
/-- Window 1 holds its block before the body. -/
theorem before_1 (c : Dev nD) (t : Fin cfg0.N) (d) : (dats m 0 c).before 1 t d = iblk m c 1 t :=
  before0_1_of m (dats m 0 c) (A_eq m c 1) (after_1 m c) t d
/-- Window 2 holds its block before the body. -/
theorem before_2 (c : Dev nD) (t : Fin cfg0.N) (d) : (dats m 0 c).before 2 t d = iblk m c 2 t :=
  before0_2_of m (dats m 0 c) (A_eq m c 2) (after_2 m c) t d
/-- Window 3 holds its block before the body. -/
theorem before_3 (c : Dev nD) (t : Fin cfg0.N) (d) : (dats m 0 c).before 3 t d = iblk m c 3 t :=
  before0_3_of m (dats m 0 c) (A_eq m c 3) (after_3 m c) t d
/-- Window 4 holds its block before the body. -/
theorem before_4 (c : Dev nD) (t : Fin cfg0.N) (d) : (dats m 0 c).before 4 t d = iblk m c 4 t :=
  before0_4_of m (dats m 0 c) (A_eq m c 4) (after_4 m c) t d
/-- Window 5 holds its block before the body. -/
theorem before_5 (c : Dev nD) (t : Fin cfg0.N) (d) : (dats m 0 c).before 5 t d = iblk m c 5 t :=
  before0_5_of m (dats m 0 c) (A_eq m c 5) (after_5 m c) t d

/-- What the body is called with. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- What the body returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6,
    show (dats m 0 c).Φ t.succ = state m c (t.val + 1) from rfl, show (dats m 0 c).Φ t.castSucc = state m c t.val from rfl]
  unfold state
  iintro ⟨⟨%T, %C, %hT, ⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply (body_wp c (grid0.coords t) _ _ _ _ _ _ _ _ _ _ _ _ _ _ _ _ _ _ _ _ _ _ _ _ (iblk m c 0 t) (iblk m c 1 t) (iblk m c 2 t) (iblk m c 3 t)
    (iblk m c 4 t) (iblk m c 5 t) T C (fun h => hT t rfl fun e => h ((first_iff t).mpr e)) Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexists _; iexact H6
  isplitl [HS0]
  · iexact HS0
  isplitl [HS1]
  · iexact HS1
  isplitl [HS2]
  · iexact HS2
  isplitl [HS3]
  · iexact HS3
  isplitl [HS4]
  · iexact HS4
  iintro ⟨H0, H1, H2, H3, H4, H5, H6, HS0, HS1, HS2, HS3, HS4⟩
  isplitl [HS0 HS1 HS2 HS3 HS4 Hg]
  · iexists _, _
    isplitr
    swap
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    ipureintro
    intro t' ht' hn
    have e : t.val / 4 = t'.val / 4 := by omega
    exact ⟨congrArg vt (iblk3_stay m c t t' e), congrArg vct (iblk5_stay m c t t' e)⟩
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  iexact H6

/-- The pipeline's row for the body at a point. -/
theorem defs₀_row (t : Fin cfg0.N) : (defs₀ (F := F)) .tc cfg0.body (cfg0.bodyArgs t (cfg0.slots t)) = bodyAt0 t := by
  unfold defs₀; rw [Defs.onTc_tc]

/-- The body obligation of the pipeline. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-- The scratches at anything are a start. -/
theorem hin (c : Dev nD) : Pipeline.ΦA spec0 c ⊢ (dats m 0 c).Φ 0 := by
  rw [anything, show (dats m 0 c).Φ 0 = state m c 0 from rfl]
  unfold state
  iintro ⟨⟨⟨%T, HS0⟩, ⟨%C, HS1⟩, HS2, HS3, HS4⟩, Hg⟩
  iexists T, C
  isplitr
  · ipureintro
    intro t _ h
    exact absurd rfl h
  isplitl [HS0 HS1 HS2 HS3 HS4]
  · isplitl [HS0]
    · iexact HS0
    isplitl [HS1]
    · iexact HS1
    isplitl [HS2]
    · iexact HS2
    isplitl [HS3]
    · iexact HS3
    iexact HS4
  iexact Hg

/-- At the end the scratches are given back at anything. -/
theorem hout (c : Dev nD) : (dats m 0 c).Φ (Fin.last cfg0.N) ⊢ Pipeline.ΦA spec0 c := by
  rw [anything, show (dats m 0 c).Φ (Fin.last cfg0.N) = state m c cfg0.N from rfl]
  unfold state
  iintro ⟨%T, %C, -, ⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexact HS2
    isplitl [HS3]
    · iexact HS3
    iexact HS4
  iexact Hg

set_option backward.isDefEq.respectTransparency.types false in
/-- The whole run: every array ends as the proof data say, and no semaphore is left signalled. -/
theorem run_main_quiescent :
    θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl)
    (V := V m) (hmain := hmain m Variants.none) (hA := A_eq m) (hin := hin m) (hout := hout m)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

end Cert.Attn

end
-- ==== Proof.AttnFrames.lean ====
/- The attention kernel's frames: the run over any values, taken at the hardware's values and at the extended reals. -/
module

public import proofs.«01_k».proof.Defs
public import proofs.«01_k».proof.Proof.AttnRun
public import proofs.«01_k».proof.Proof.Gen.Kernel2
public import proofs.«01_k».proof.Proof.Gen.Reference2Ideal.Run
public import Idealize.ShloMosaic.Lib.Quiescent
public import Idealize.ShloMosaic.Lib.Claim

@[expose] public section

set_option maxRecDepth 16384

noncomputable section

namespace Cert.Attn

open Idealize.ShloMosaic Idealize.ShloMosaic.TcCoe Idealize.SL.Sem
open Cert.Kernel2Ideal Cert.Kernel2Ideal.Gen

/-- The frame over any values: the arguments end as they began and no semaphore is left signalled. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

/-- The idealized attention kernel's frame. -/
theorem frame_kernel2Ideal : Cert.quiescent_Kernel2Ideal := fun m ρ _ => frame (F := Ideal) m ρ

/-- The two programs' kernel bodies are one. -/
theorem body_same {F : FTy → Type} [FloatOps F] : @Cert.Kernel2.cc0_attn F _ Cert.Kernel2.Gen.facts = @Cert.Kernel2Ideal.cc0_attn F _ Cert.Kernel2Ideal.Gen.facts := rfl

/-- The two programs' body tables are one. -/
theorem bodies_same {F : FTy → Type} [FloatOps F] : @Cert.Kernel2.defs₀ F _ Cert.Kernel2.Gen.facts = @Cert.Kernel2Ideal.defs₀ F _ Cert.Kernel2Ideal.Gen.facts := by
  unfold Cert.Kernel2.defs₀ Cert.Kernel2Ideal.defs₀
  refine congrArg Defs.onTc (funext fun l => funext fun a => ?_)
  match l, a with
  | 0, (t, s) => exact rfl

/-- The two programs' tables, with the call's pipeline, are one. -/
theorem defs_same {F : FTy → Type} [FloatOps F] : @Cert.Kernel2.defs F _ Cert.Kernel2.Gen.facts = @Cert.Kernel2Ideal.defs F _ Cert.Kernel2Ideal.Gen.facts :=
  congrArg (Pipeline.defs Cert.Kernel2Ideal.pcfgs) bodies_same

set_option maxHeartbeats 4000000 in
/-- The two programs' main functions are one, operation by operation. -/
theorem main_same {F : FTy → Type} [FloatOps F] : @Cert.Kernel2.main F _ Cert.Kernel2.Gen.facts = @Cert.Kernel2Ideal.main F _ Cert.Kernel2Ideal.Gen.facts := by
  funext c
  unfold Cert.Kernel2.main Cert.Kernel2Ideal.main
  repeat refine congrArg₂ Bind.bind rfl (funext fun _ => ?_)
  rfl

/-- So they run the same. -/
theorem run_same {F : FTy → Type} [FloatOps F] (s : MemSt nD τ sig (Elt F)) (Q : PUnit × MemSt nD τ sig (Elt F) → Prop) :
    θ_run (@Cert.Kernel2.defs F _ Cert.Kernel2.Gen.facts) (onTc (τ := τ) (@Cert.Kernel2.main F _ Cert.Kernel2.Gen.facts)) s Q
      = θ_run (@Cert.Kernel2Ideal.defs F _ Cert.Kernel2Ideal.Gen.facts) (onTc (τ := τ) (@Cert.Kernel2Ideal.main F _ Cert.Kernel2Ideal.Gen.facts)) s Q :=
  congrArg₂ (fun D M => θ_run D (onTc (τ := τ) M) s Q) defs_same main_same

/-- The attention kernel's frame, of the same run. -/
theorem frame_kernel2 : Cert.quiescent_Kernel2 := fun m ρ _ => (run_same _ _).mpr (frame (F := Bits) m ρ)

/-- The reference's frame. -/
theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Nothing was rewritten on the way to the ideal instance. -/
theorem preserves : Cert.preserves_Kernel2_Kernel2Ideal := trivial

end Cert.Attn

end
-- ==== Proof.AttnMath.lean ====
/- The softmax average over extended reals: weights that are positive reals, values that may be anything. -/
module

public import Idealize.ShloMosaic.Lib.Pointwise

@[expose] public section

noncomputable section

namespace Cert.Attn

open Idealize.ShloMosaic

/-- A nonnegative real factor goes through a finite sum of extended reals. -/
theorem mul_sum_ereal {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (by exact_mod_cast ha) (EReal.coe_ne_top a), ih]

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A power of two. -/
def pow2 (x : ℝ) : ℝ := Real.rpow 2 x

theorem pow2_pos (x : ℝ) : 0 < pow2 x := Real.rpow_pos_of_pos (by norm_num) x
theorem pow2_add (x y : ℝ) : pow2 (x + y) = pow2 x * pow2 y := Real.rpow_add (by norm_num) x y
theorem exp2_real (x : ℝ) : Ideal.exp2 (x : EReal) = (pow2 x : EReal) := Ideal.exp2_coe x

/-- The exponential of a real is a power of two. -/
theorem exp_pow2 (x : ℝ) : Real.exp x = pow2 (x / Real.log 2) := by
  have h2 : Real.log 2 ≠ 0 := (Real.log_pos (by norm_num)).ne'
  unfold pow2
  show Real.exp x = (2 : ℝ) ^ (x / Real.log 2)
  rw [Real.rpow_def_of_pos (by norm_num), mul_div_cancel₀ _ h2]

/-- The number of keys: 4096 of the sequence and 256 of the context. -/
abbrev nKeys : Nat := 4352

/-- The weights' sum over the first `n` keys. -/
def mass (x : Nat → ℝ) (n : Nat) : ℝ := ∑ k ∈ Finset.range n, pow2 (x k)

theorem mass_pos (x : Nat → ℝ) : 0 < mass x nKeys :=
  Finset.sum_pos (fun k _ => pow2_pos _) ⟨0, by simp⟩

/-- The average of the values `v` under the softmax of the scores `x`, which are counted in powers of two. -/
def mix (x : Nat → ℝ) (v : Nat → EReal) : EReal := ∑ k ∈ Finset.range nKeys, ((pow2 (x k) / mass x nKeys : ℝ) : EReal) * v k

/-- The scores less a shift. -/
theorem mass_shift (x : Nat → ℝ) (M : ℝ) (n : Nat) : mass (fun k => x k - M) n = mass x n * pow2 (-M) := by
  unfold mass
  rw [Finset.sum_mul]
  exact Finset.sum_congr rfl fun k _ => by beta_reduce; rw [sub_eq_add_neg, pow2_add]

/-- A shift of the scores changes no average. -/
theorem mix_shift (x : Nat → ℝ) (M : ℝ) (v : Nat → EReal) : mix (fun k => x k - M) v = mix x v := by
  unfold mix
  refine Finset.sum_congr rfl fun k _ => ?_
  beta_reduce
  rw [mass_shift, sub_eq_add_neg, pow2_add, mul_div_mul_right _ _ (pow2_pos _).ne']

/-- The weighted sum over the weights' sum is the average. -/
theorem div_mix (x : Nat → ℝ) (v : Nat → EReal) :
    Ideal.div (∑ k ∈ Finset.range nKeys, (pow2 (x k) : EReal) * v k) (mass x nKeys : EReal) = mix x v := by
  have hm := mass_pos x
  rw [Ideal.div_coe hm.ne', mul_comm, mul_sum_ereal _ _ (by positivity)]
  unfold mix
  refine Finset.sum_congr rfl fun k _ => ?_
  rw [← mul_assoc, ← EReal.coe_mul, one_div, inv_mul_eq_div]

/-- The same with a shift of the scores. -/
theorem div_mix_shift (x : Nat → ℝ) (M : ℝ) (v : Nat → EReal) :
    Ideal.div (∑ k ∈ Finset.range nKeys, (pow2 (x k - M) : EReal) * v k) (mass (fun k => x k - M) nKeys : EReal) = mix x v := by
  rw [← mix_shift x M v]
  exact div_mix (fun k => x k - M) v

/-- The reference's order: each weight divided first, then the values' sum. -/
theorem sum_div_mix (y : Nat → ℝ) (M : ℝ) (v : Nat → EReal) :
    ∑ k ∈ Finset.range nKeys, v k * Ideal.div (Ideal.exp ((y k - M : ℝ) : EReal)) ((∑ k ∈ Finset.range nKeys, Real.exp (y k - M) : ℝ) : EReal)
      = mix (fun k => y k / Real.log 2) v := by
  rw [← mix_shift _ (M / Real.log 2)]
  have e (k : Nat) : Real.exp (y k - M) = pow2 (y k / Real.log 2 - M / Real.log 2) := by rw [exp_pow2, sub_div]
  have hs : (∑ k ∈ Finset.range nKeys, Real.exp (y k - M)) = mass (fun k => y k / Real.log 2 - M / Real.log 2) nKeys :=
    Finset.sum_congr rfl fun k _ => e k
  unfold mix
  refine Finset.sum_congr rfl fun k _ => ?_
  rw [hs, Ideal.div_coe (mass_pos _).ne', Ideal.exp_coe, e k, ← EReal.coe_mul, mul_one_div, mul_comm]

/-- A sum over `n` blocks of `b`. -/
theorem sum_blocks {M : Type} [AddCommMonoid M] (b n : Nat) (f : Nat → M) :
    ∑ j ∈ Finset.range n, ∑ r : Fin b, f (b * j + r.val) = ∑ k ∈ Finset.range (b * n), f k := by
  induction n with
  | zero => simp
  | succ n ih => rw [Finset.sum_range_succ, ih, Nat.mul_succ, Finset.sum_range_add, Finset.sum_range fun r => f (b * n + r)]

/-- All the keys: eight blocks of 512, then the context's 256. -/
theorem sum_keys {M : Type} [AddCommMonoid M] (f : Nat → M) :
    (∑ j ∈ Finset.range 8, ∑ r : Fin 512, f (512 * j + r.val)) + ∑ r : Fin 256, f (4096 + r.val) = ∑ k ∈ Finset.range nKeys, f k := by
  rw [sum_blocks 512 8 f, show nKeys = 512 * 8 + 256 from rfl, Finset.sum_range_add, Finset.sum_range fun r => f (512 * 8 + r)]

/-- Eight partial sums, of every eighth row each. -/
theorem sum_strided {M : Type} [AddCommMonoid M] (n : Nat) (f : Nat → M) :
    ∑ i : Fin 8, ∑ a : Fin n, f (8 * a.val + i.val) = ∑ r : Fin (8 * n), f r.val := by
  rw [Finset.sum_comm, ← Finset.sum_range fun r => f r, ← sum_blocks 8 n f, Finset.sum_range fun j => ∑ r : Fin 8, f (8 * j + r.val)]

/-- The largest of finitely many reals, from −∞ on, is real. -/
theorem fold_max_real {n : Nat} (hn : 0 < n) (f : Fin n → ℝ) : ∃ M : ℝ, Finset.univ.fold max (⊥ : EReal) (fun k => (f k : EReal)) = M := by
  have h (s : Finset (Fin n)) : s.fold max (⊥ : EReal) (fun k => (f k : EReal)) = ⊥ ∧ s = ∅ ∨ ∃ M : ℝ, s.fold max (⊥ : EReal) (fun k => (f k : EReal)) = M := by
    induction s using Finset.induction_on with
    | empty => exact .inl ⟨rfl, rfl⟩
    | insert i s hi ih =>
      right
      rw [Finset.fold_insert hi]
      rcases ih with ⟨h, _⟩ | ⟨M, h⟩
      · exact ⟨f i, by rw [h]; simp⟩
      · exact ⟨max (f i) M, by rw [h]; exact (EReal.coe_strictMono.monotone.map_max).symm⟩
  rcases h Finset.univ with ⟨_, h⟩ | h
  · exact absurd h (Finset.univ_nonempty_iff.2 ⟨⟨0, hn⟩⟩).ne_empty
  · exact h

end Cert.Attn

end
-- ==== Proof.AttnSpec.lean ====
/- The softmax attention as one expression over the queries, keys and values: the average of the values under the softmax of
   the scaled scores, the scores counted in powers of two. -/
module

public import proofs.«01_k».proof.Proof.AttnMath

@[expose] public section

noncomputable section

open Idealize.ShloMosaic

namespace Cert.Attn

/-- The scale: one over the root of 128 times the logarithm of 2. -/
def scale : ℝ := 1 / (Real.sqrt 128 * Real.log 2)

theorem sqrt128_pos : 0 < Real.sqrt 128 := Real.sqrt_pos.2 (by norm_num)
theorem log2_pos : 0 < Real.log 2 := Real.log_pos (by norm_num)

/-- Scaling is dividing by the root and by the logarithm. -/
theorem mul_scale (y : ℝ) : y * scale = y / Real.sqrt 128 / Real.log 2 := by
  have h1 := sqrt128_pos.ne'
  have h2 := log2_pos.ne'
  unfold scale
  field_simp

/-- The literal 128. -/
theorem lit128 : Ideal.ofBits .f32 1124073472#32 = ((128 : ℝ) : EReal) := by
  simp [Ideal.ofBits, Ideal.ieee, -EReal.coe_mul]; norm_num

/-- The literal 2. -/
theorem lit2 : Ideal.ofBits .f32 1073741824#32 = ((2 : ℝ) : EReal) := by
  simp [Ideal.ofBits, Ideal.ieee, -EReal.coe_mul]; norm_num

/-- The root of the literal 128. -/
theorem sqrt_lit128 : Ideal.sqrt (Ideal.ofBits .f32 1124073472#32) = (Real.sqrt 128 : EReal) := by
  rw [lit128, Ideal.sqrt_coe, if_neg (by norm_num)]

/-- The logarithm of the literal 2. -/
theorem log_lit2 : Ideal.log (Ideal.ofBits .f32 1073741824#32) = (Real.log 2 : EReal) := by
  rw [lit2, Ideal.log_coe, if_neg (by norm_num)]

/-- The products of key `k` with the query of batch entry `b`, position `n`, key head `h` and head `g` of its four. -/
def dotR (Q : (⟨4, ![4, 4096, 8, 128]⟩ : Shape).Idx → ℝ) (K : (⟨4, ![4, 4352, 2, 128]⟩ : Shape).Idx → ℝ) (b : Fin 4) (n : Fin 4096)
    (h : Fin 2) (g : Fin 4) (k : Nat) : ℝ :=
  if hk : k < 4352 then ∑ e : Fin 128, K (ix4 b ⟨k, hk⟩ h e) * Q (ix4 b n ⟨h.val * 4 + g.val, by omega⟩ e) else 0

theorem dotR_of_lt (Q : (⟨4, ![4, 4096, 8, 128]⟩ : Shape).Idx → ℝ) (K : (⟨4, ![4, 4352, 2, 128]⟩ : Shape).Idx → ℝ) (b : Fin 4) (n : Fin 4096)
    (h : Fin 2) (g : Fin 4) (k : Fin 4352) :
    dotR Q K b n h g k.val = ∑ e : Fin 128, K (ix4 b k h e) * Q (ix4 b n ⟨h.val * 4 + g.val, by omega⟩ e) :=
  dif_pos k.isLt

/-- Component `d` of value `k`. -/
def valN (V : (⟨4, ![4, 4352, 2, 128]⟩ : Shape).Idx → EReal) (b : Fin 4) (h : Fin 2) (d : Fin 128) (k : Nat) : EReal :=
  if hk : k < 4352 then V (ix4 b ⟨k, hk⟩ h d) else 0

theorem valN_of_lt (V : (⟨4, ![4, 4352, 2, 128]⟩ : Shape).Idx → EReal) (b : Fin 4) (h : Fin 2) (d : Fin 128) (k : Fin 4352) :
    valN V b h d k.val = V (ix4 b k h d) := dif_pos k.isLt

/-- The attention of one query and one component. -/
def attnAt (Q : (⟨4, ![4, 4096, 8, 128]⟩ : Shape).Idx → ℝ) (K : (⟨4, ![4, 4352, 2, 128]⟩ : Shape).Idx → ℝ)
    (V : (⟨4, ![4, 4352, 2, 128]⟩ : Shape).Idx → EReal) (b : Fin 4) (n : Fin 4096) (h : Fin 2) (g : Fin 4) (d : Fin 128) : EReal :=
  mix (fun k => dotR Q K b n h g k * scale) (valN V b h d)

/-- The attention, a row per batch entry and position, the eight heads' components side by side. -/
def attn (Q : (⟨4, ![4, 4096, 8, 128]⟩ : Shape).Idx → ℝ) (K : (⟨4, ![4, 4352, 2, 128]⟩ : Shape).Idx → ℝ)
    (V : (⟨4, ![4, 4352, 2, 128]⟩ : Shape).Idx → EReal) (R : Fin 16384) (C : Fin 1024) : EReal :=
  attnAt Q K V ⟨R.val / 4096, by omega⟩ ⟨R.val % 4096, by omega⟩ ⟨C.val / 512, by omega⟩ ⟨C.val / 128 % 4, by omega⟩ ⟨C.val % 128, by omega⟩

end Cert.Attn

end
-- ==== Proof.AttnHost.lean ====
/- The two arrays the attention's windows are cut from, as the host lays them out: keys, values and scaled queries side by
   side, and the context's keys and values. -/
module

public import proofs.«01_k».proof.Proof.AttnSpec
public import proofs.«01_k».proof.Proof.Gen.Kernel2Ideal.Frame
public import Idealize.ShloMosaic.Lib.StableHlo.Run
public import Idealize.ShloMosaic.Lib.Pointwise

@[expose] public section

set_option maxRecDepth 65536

noncomputable section

open Idealize.ShloMosaic Idealize.ShloMosaic.TcCoe Idealize.SL.Sem Idealize.ShloMosaic.StableHlo

namespace Cert.Attn

open Cert.Kernel2Ideal Cert.Kernel2Ideal.Gen

/-- The sequence's rows of the keys or values, a row per batch entry and position. -/
def seqRows (X : FVec Ideal S4x4352x2x128 .f32) : FVec Ideal S16384x256 .bf16 :=
  truncf .bf16 (shapeCast S16384x256 (extractStridedSlice S4x4096x2x128 ![0, 0, 0, 0] X slices_S4x4352x2x128_S4x4096x2x128_0_0_0_0)
    shapeCasts_S4x4096x2x128_S16384x256) bitsLt_bf16_f32

/-- The context's rows of the keys or values. -/
def ctxRows (X : FVec Ideal S4x4352x2x128 .f32) : FVec Ideal S1024x256 .bf16 :=
  truncf .bf16 (shapeCast S1024x256 (extractStridedSlice S4x256x2x128 ![0, 4096, 0, 0] X slices_S4x4352x2x128_S4x256x2x128_0_4096_0_0)
    shapeCasts_S4x256x2x128_S1024x256) bitsLt_bf16_f32

/-- The scale as the host computes it. -/
def scaleVec : FVec Ideal S_ .f32 :=
  Host.divf (constant S_ .f32 0x3F800000#32) (mulf (Host.sqrt (constant S_ .f32 0x43000000#32)) (Host.log (constant S_ .f32 0x40000000#32)))

/-- The scaled queries. -/
def qRows (Q : FVec Ideal S4x4096x8x128 .f32) : FVec Ideal S16384x1024 .bf16 :=
  truncf .bf16 (mulf (shapeCast S16384x1024 Q shapeCasts_S4x4096x8x128_S16384x1024)
    (broadcastInDim S16384x1024 ![] bcast_S_S16384x1024 scaleVec)) bitsLt_bf16_f32

/-- The main array. -/
def mainArr (Q : FVec Ideal S4x4096x8x128 .f32) (K V : FVec Ideal S4x4352x2x128 .f32) : FVec Ideal S16384x6656 .bf16 :=
  concatenate S16384x6656 1 [⟨S16384x256, seqRows K⟩, ⟨S16384x256, seqRows V⟩,
    ⟨S16384x1536, broadcastInDim S16384x1536 ![] bcast_S_S16384x1536 (constant (F := Ideal) S_ .bf16 0x0000#16)⟩, ⟨S16384x1024, qRows Q⟩,
    ⟨S16384x3584, broadcastInDim S16384x3584 ![] bcast_S_S16384x3584 (constant (F := Ideal) S_ .bf16 0x0000#16)⟩]
    concatenates_S16384x256_S16384x256_S16384x1536_S16384x1024_S16384x3584_S16384x6656_d1

/-- The context's array. -/
def ctxArr (K V : FVec Ideal S4x4352x2x128 .f32) : FVec Ideal S1024x2048 .bf16 :=
  concatenate S1024x2048 1 [⟨S1024x256, ctxRows K⟩, ⟨S1024x256, ctxRows V⟩,
    ⟨S1024x1536, broadcastInDim S1024x1536 ![] bcast_S_S1024x1536 (constant (F := Ideal) S_ .bf16 0x0000#16)⟩]
    concatenates_S1024x256_S1024x256_S1024x1536_S1024x2048_d1

section
variable (m : (ℓ : Loc nD τ sig) → Buf (Elt Ideal) ℓ)

/-- The queries. -/
abbrev argQ (c : Dev nD) : FVec Ideal S4x4096x8x128 .f32 := m ((c.tc : Thread nD τ).loc main_arg1)
/-- The keys. -/
abbrev argK (c : Dev nD) : FVec Ideal S4x4352x2x128 .f32 := m ((c.tc : Thread nD τ).loc main_arg2)
/-- The values. -/
abbrev argV (c : Dev nD) : FVec Ideal S4x4352x2x128 .f32 := m ((c.tc : Thread nD τ).loc main_arg3)

set_option maxHeartbeats 1000000 in
/-- The main array is what the call is given. -/
theorem V16_eq (c : Dev nD) : (V m c main_v16 : FVec Ideal S16384x6656 .bf16) = mainArr (argQ m c) (argK m c) (argV m c) := by
  show StableHlo.after hostOps0 _ _ = _
  after_results <;> rfl

set_option maxHeartbeats 1000000 in
/-- The context's array is what the call is given. -/
theorem V24_eq (c : Dev nD) : (V m c main_v24 : FVec Ideal S1024x2048 .bf16) = ctxArr (argK m c) (argV m c) := by
  show StableHlo.after hostOps0 _ _ = _
  after_results <;> rfl

end

/-- The host's scale. -/
theorem scaleVec_apply (i : S_.Idx) : scaleVec i = (scale : EReal) := by
  pointwise [scaleVec]
  rw [sqrt_lit128, log_lit2, ← EReal.coe_mul, Ideal.div_coe (mul_pos sqrt128_pos log2_pos).ne', one_mul]
  rfl

theorem seqRows_apply (X : FVec Ideal S4x4352x2x128 .f32) (R : Fin 16384) (C : Fin 256) :
    seqRows X (ix2 R C) = X (ix4 ⟨R.val / 4096, by omega⟩ ⟨R.val % 4096, by omega⟩ ⟨C.val / 128, by omega⟩ ⟨C.val % 128, by omega⟩) := by
  pointwise [seqRows]

theorem ctxRows_apply (X : FVec Ideal S4x4352x2x128 .f32) (R : Fin 1024) (C : Fin 256) :
    ctxRows X (ix2 R C) = X (ix4 ⟨R.val / 256, by omega⟩ ⟨4096 + R.val % 256, by omega⟩ ⟨C.val / 128, by omega⟩ ⟨C.val % 128, by omega⟩) := by
  pointwise [ctxRows]

theorem qRows_apply (X : FVec Ideal S4x4096x8x128 .f32) (R : Fin 16384) (C : Fin 1024) :
    qRows X (ix2 R C) = X (ix4 ⟨R.val / 4096, by omega⟩ ⟨R.val % 4096, by omega⟩ ⟨C.val / 128, by omega⟩ ⟨C.val % 128, by omega⟩) * (scale : EReal) := by
  pointwise [qRows, scaleVec_apply]

theorem mainArr_apply (Q : FVec Ideal S4x4096x8x128 .f32) (K V : FVec Ideal S4x4352x2x128 .f32) (R : Fin 16384) (C : Fin 6656) :
    mainArr Q K V (ix2 R C) = if h : C.val < 256 then seqRows K (ix2 R ⟨C.val, h⟩)
      else if h : C.val - 256 < 256 then seqRows V (ix2 R ⟨C.val - 256, h⟩)
      else if h : C.val - 256 - 256 < 1536 then 0
      else if h : C.val - 256 - 256 - 1536 < 1024 then qRows Q (ix2 R ⟨C.val - 256 - 256 - 1536, h⟩) else 0 := by
  pointwise [mainArr]

theorem ctxArr_apply (K V : FVec Ideal S4x4352x2x128 .f32) (R : Fin 1024) (C : Fin 2048) :
    ctxArr K V (ix2 R C) = if h : C.val < 256 then ctxRows K (ix2 R ⟨C.val, h⟩)
      else if h : C.val - 256 < 256 then ctxRows V (ix2 R ⟨C.val - 256, h⟩) else 0 := by
  pointwise [ctxArr]

section
variable (Q : FVec Ideal S4x4096x8x128 .f32) (K V : FVec Ideal S4x4352x2x128 .f32)

/-- The keys' columns of the main array. -/
theorem main_key (b : Fin 4) (r : Fin 4096) (h : Fin 2) (l : Fin 128) (hR) (hC) :
    mainArr Q K V (ix2 ⟨4096 * b.val + r.val, hR⟩ ⟨128 * h.val + l.val, hC⟩) = K (ix4 b ⟨r.val, by omega⟩ h l) := by
  rw [mainArr_apply, dif_pos (by dsimp only; omega), seqRows_apply]
  congr 2 <;> apply Fin.ext <;> dsimp only <;> omega

/-- The values' columns of the main array. -/
theorem main_val (b : Fin 4) (r : Fin 4096) (h : Fin 2) (l : Fin 128) (hR) (hC) :
    mainArr Q K V (ix2 ⟨4096 * b.val + r.val, hR⟩ ⟨128 * (2 + h.val) + l.val, hC⟩) = V (ix4 b ⟨r.val, by omega⟩ h l) := by
  rw [mainArr_apply, dif_neg (by dsimp only; omega), dif_pos (by dsimp only; omega), seqRows_apply]
  congr 2 <;> apply Fin.ext <;> dsimp only <;> omega

/-- The queries' columns of the main array. -/
theorem main_query (b : Fin 4) (n : Fin 4096) (h : Fin 2) (g : Fin 4) (l : Fin 128) (R : Fin 16384) (C : Fin 6656)
    (hR : R.val = 4096 * b.val + n.val) (hC : C.val = 512 * (4 + h.val) + (128 * g.val + l.val)) :
    mainArr Q K V (ix2 R C) = Q (ix4 b n ⟨h.val * 4 + g.val, by omega⟩ l) * (scale : EReal) := by
  rw [mainArr_apply, dif_neg (by omega), dif_neg (by omega), dif_neg (by omega), dif_pos (by omega), qRows_apply]
  congr 3 <;> apply Fin.ext <;> dsimp only <;> omega

/-- The keys' columns of the context's array. -/
theorem ctx_key (b : Fin 4) (r : Fin 256) (h : Fin 2) (l : Fin 128) (hR) (hC) :
    ctxArr K V (ix2 ⟨256 * b.val + r.val, hR⟩ ⟨128 * h.val + l.val, hC⟩) = K (ix4 b ⟨4096 + r.val, by omega⟩ h l) := by
  rw [ctxArr_apply, dif_pos (by dsimp only; omega), ctxRows_apply]
  congr 2 <;> apply Fin.ext <;> dsimp only <;> omega

/-- The values' columns of the context's array. -/
theorem ctx_val (b : Fin 4) (r : Fin 256) (h : Fin 2) (l : Fin 128) (hR) (hC) :
    ctxArr K V (ix2 ⟨256 * b.val + r.val, hR⟩ ⟨128 * (2 + h.val) + l.val, hC⟩) = V (ix4 b ⟨4096 + r.val, by omega⟩ h l) := by
  rw [ctxArr_apply, dif_neg (by dsimp only; omega), dif_pos (by dsimp only; omega), ctxRows_apply]
  congr 2 <;> apply Fin.ext <;> dsimp only <;> omega

end

end Cert.Attn

end
-- ==== Proof.AttnPoint.lean ====
/- The attention body's arithmetic at one index, at the extended reals: scores, weights, partial sums and weighted sums as
   finite sums. -/
module

public import proofs.«01_k».proof.Proof.AttnMath
public import proofs.«01_k».proof.Proof.Gen.Kernel2Ideal.Skeleton

@[expose] public section

set_option maxRecDepth 16384

noncomputable section

open Idealize.ShloMosaic Idealize.ShloMosaic.TcCoe Idealize.SL.Sem

namespace Cert.Attn

open Cert.Kernel2Ideal Cert.Kernel2Ideal.Gen

/-- A key row's score with a query row. -/
def dotKQ {n : Nat} (k : FVec Ideal ⟨2, ![n, 128]⟩ .bf16) (q : FVec Ideal S4096x128 .bf16) (r : Fin n) (c : Fin 4096) : EReal :=
  ∑ e : Fin 128, k (ix2 r e) * q (ix2 c e)

/-- The literal −∞. -/
theorem negInf : Ideal.ofBits .f32 4286578688#32 = ⊥ := by simp [Ideal.ofBits, Ideal.ieee]

variable (q : FVec Ideal S4096x128 .bf16)

theorem pay49_apply (k : Vec Ideal S512x128 .bf16) (r : Fin 512) (c : Fin 4096) : k0_pay49 q k (ix2 r c) = dotKQ k q r c := by
  pointwise [k0_pay49, dotKQ]

theorem pay59_apply (k : Vec Ideal S256x128 .bf16) (r : Fin 256) (c : Fin 4096) : k0_pay59 q k (ix2 r c) = dotKQ k q r c := by
  pointwise [k0_pay59, dotKQ]

theorem pay35_apply (k : FVec Ideal S512x128 .bf16) (r : Fin 512) (c : Fin 4096) : k0_pay35 q k (ix2 r c) = Ideal.exp2 (dotKQ k q r c) := by
  pointwise [k0_pay35, dotKQ]
  rfl

theorem pay36_apply (k : FVec Ideal S512x128 .bf16) (r : Fin 512) (c : Fin 4096) : k0_pay36 q k (ix2 r c) = Ideal.exp2 (dotKQ k q r c) := pay35_apply q k r c
theorem pay37_apply (k : FVec Ideal S512x128 .bf16) (r : Fin 512) (c : Fin 4096) : k0_pay37 q k (ix2 r c) = Ideal.exp2 (dotKQ k q r c) := pay35_apply q k r c
theorem pay39_apply (k : FVec Ideal S512x128 .bf16) (r : Fin 512) (c : Fin 4096) : k0_pay39 q k (ix2 r c) = Ideal.exp2 (dotKQ k q r c) := pay35_apply q k r c
theorem pay42_apply (k : FVec Ideal S512x128 .bf16) (r : Fin 512) (c : Fin 4096) : k0_pay42 q k (ix2 r c) = Ideal.exp2 (dotKQ k q r c) := pay35_apply q k r c
theorem pay43_apply (k : FVec Ideal S512x128 .bf16) (r : Fin 512) (c : Fin 4096) : k0_pay43 q k (ix2 r c) = Ideal.exp2 (dotKQ k q r c) := pay35_apply q k r c
theorem pay44_apply (k : FVec Ideal S512x128 .bf16) (r : Fin 512) (c : Fin 4096) : k0_pay44 q k (ix2 r c) = Ideal.exp2 (dotKQ k q r c) := pay35_apply q k r c
theorem pay45_apply (k : FVec Ideal S512x128 .bf16) (r : Fin 512) (c : Fin 4096) : k0_pay45 q k (ix2 r c) = Ideal.exp2 (dotKQ k q r c) := pay35_apply q k r c

theorem pay46_apply (k : FVec Ideal S256x128 .bf16) (r : Fin 256) (c : Fin 4096) : k0_pay46 q k (ix2 r c) = Ideal.exp2 (dotKQ k q r c) := by
  pointwise [k0_pay46, dotKQ]
  rfl

/-- A block's weighted sum of its values, its weights without a maximum. -/
def wsum {n : Nat} (k : FVec Ideal ⟨2, ![n, 128]⟩ .bf16) (v : FVec Ideal ⟨2, ![128, n]⟩ .bf16) (d : Fin 128) (c : Fin 4096) : EReal :=
  ∑ r : Fin n, v (ix2 d r) * Ideal.exp2 (dotKQ k q r c)

/-- Row `i` of a block's eight partial sums of its weights, without a maximum. -/
def psum (k : FVec Ideal S512x128 .bf16) (i : Fin 8) (c : Fin 4096) : EReal :=
  ∑ a : Fin 64, Ideal.exp2 (dotKQ k q ⟨a.val * 8 + i.val, by omega⟩ c)

/-- The same of the context's block. -/
def psumC (k : FVec Ideal S256x128 .bf16) (i : Fin 8) (c : Fin 4096) : EReal :=
  ∑ a : Fin 32, Ideal.exp2 (dotKQ k q ⟨a.val * 8 + i.val, by omega⟩ c)

theorem pay41_apply (k0 k1 k2 k3 : FVec Ideal S512x128 .bf16) (v0 v1 v2 v3 : FVec Ideal S128x512 .bf16) (d : Fin 128) (c : Fin 4096) :
    k0_pay41 q k0 v0 k1 v1 k2 v2 k3 v3 (ix2 d c) = wsum q k0 v0 d c + wsum q k1 v1 d c + wsum q k2 v2 d c + wsum q k3 v3 d c := by
  pointwise [k0_pay41, pay35_apply, pay36_apply, pay37_apply, pay39_apply, wsum]

theorem pay47_apply (k4 k5 k6 k7 : FVec Ideal S512x128 .bf16) (v4 v5 v6 v7 : FVec Ideal S128x512 .bf16) (kc : FVec Ideal S256x128 .bf16)
    (vc : FVec Ideal S128x256 .bf16) (s : FVec Ideal S128x4096 .f32) (d : Fin 128) (c : Fin 4096) :
    k0_pay47 q k4 v4 k5 v5 k6 v6 k7 v7 kc vc s (ix2 d c)
      = s (ix2 d c) + wsum q k4 v4 d c + wsum q k5 v5 d c + wsum q k6 v6 d c + wsum q k7 v7 d c + wsum q kc vc d c := by
  pointwise [k0_pay47, pay42_apply, pay43_apply, pay44_apply, pay45_apply, pay46_apply, wsum]

theorem pay38_apply (k0 k1 k2 : FVec Ideal S512x128 .bf16) (i : Fin 8) (c : Fin 4096) :
    k0_pay38 q k0 k1 k2 (ix2 i c) = psum q k0 i c + psum q k1 i c + psum q k2 i c := by
  pointwise [k0_pay38, pay35_apply, pay36_apply, pay37_apply, psum]

theorem pay40_apply (k : FVec Ideal S512x128 .bf16) (i : Fin 8) (c : Fin 4096) : k0_pay40 q k (ix2 i c) = psum q k i c := by
  pointwise [k0_pay40, pay39_apply, psum]

theorem pay48_apply (k4 k5 k6 k7 : FVec Ideal S512x128 .bf16) (kc : FVec Ideal S256x128 .bf16) (s p : FVec Ideal S8x4096 .f32) (d : Fin 128) (c : Fin 4096) :
    k0_pay48 q k4 k5 k6 k7 kc s p (ix2 d c)
      = ∑ i : Fin 8, (s (ix2 i c) + p (ix2 i c) + psum q k4 i c + psum q k5 i c + psum q k6 i c + psum q k7 i c + psumC q kc i c) := by
  pointwise [k0_pay48, pay42_apply, pay43_apply, pay44_apply, pay45_apply, pay46_apply, psum, psumC]

theorem pay3_apply (a s : FVec Ideal S128x4096 .f32) (d : Fin 128) (c : Fin 4096) : k0_pay3 a s (ix2 c d) = Ideal.div (a (ix2 d c)) (s (ix2 d c)) := by
  pointwise [k0_pay3]

theorem pay50_apply (k : Vec Ideal S512x128 .bf16) (m : Vec Ideal S1x4096 .f32) (c : Fin 4096) :
    k0_pay50 q k m (ix2 0 c) = max (m (ix2 0 c)) (Finset.univ.fold max ⊥ fun r : Fin 512 => dotKQ k q r c) := by
  pointwise [k0_pay50, pay49_apply]
  rw [negInf]

theorem pay60_apply (k : Vec Ideal S256x128 .bf16) (m : Vec Ideal S1x4096 .f32) (c : Fin 4096) :
    k0_pay60 q k m (ix2 0 c) = max (m (ix2 0 c)) (Finset.univ.fold max ⊥ fun r : Fin 256 => dotKQ k q r c) := by
  pointwise [k0_pay60, pay59_apply]
  rw [negInf]

theorem pay58_apply (m : FVec Ideal S1x4096 .f32) (c : Fin 4096) : k0_pay58 m (ix2 0 c) = m (ix2 0 c) := by pointwise [k0_pay58]

theorem pay53_apply (k : Vec Ideal S512x128 .bf16) (v : Vec Ideal S1x128x512 .bf16) (m : Vec Ideal S1x4096 .f32) (a : Vec Ideal S128x4096 .f32) (d : Fin 128) (c : Fin 4096) :
    k0_pay53 q k v m a (ix2 d c) = Ideal.exp2 (m (ix2 0 c) - k0_pay50 q k m (ix2 0 c)) * a (ix2 d c)
      + ∑ r : Fin 512, v (ix3 0 d r) * Ideal.exp2 (dotKQ k q r c - k0_pay50 q k m (ix2 0 c)) := by
  pointwise [k0_pay53, k0_pay51, k0_pay52, pay49_apply]
  rfl

theorem pay54_apply (k : Vec Ideal S512x128 .bf16) (m : Vec Ideal S1x4096 .f32) (s : Vec Ideal S8x4096 .f32) (i : Fin 8) (c : Fin 4096) :
    k0_pay54 q k m s (ix2 i c) = Ideal.exp2 (m (ix2 0 c) - k0_pay50 q k m (ix2 0 c)) * s (ix2 i c)
      + ∑ a : Fin 64, Ideal.exp2 (dotKQ k q ⟨a.val * 8 + i.val, by omega⟩ c - k0_pay50 q k m (ix2 0 c)) := by
  pointwise [k0_pay54, k0_pay51, k0_pay52, pay49_apply]
  rfl

theorem pay64_apply (k : Vec Ideal S256x128 .bf16) (v : Vec Ideal S128x256 .bf16) (m : Vec Ideal S1x4096 .f32) (a : Vec Ideal S128x4096 .f32) (d : Fin 128) (c : Fin 4096) :
    k0_pay64 (k0_pay63 q k v m a) (ix2 d c) = Ideal.exp2 (m (ix2 0 c) - k0_pay60 q k m (ix2 0 c)) * a (ix2 d c)
      + ∑ r : Fin 256, v (ix2 d r) * Ideal.exp2 (dotKQ k q r c - k0_pay60 q k m (ix2 0 c)) := by
  pointwise [k0_pay64, k0_pay63, k0_pay61, k0_pay62, pay59_apply]
  rfl

theorem pay65_apply (k : Vec Ideal S256x128 .bf16) (m : Vec Ideal S1x4096 .f32) (s : Vec Ideal S8x4096 .f32) (i : Fin 8) (c : Fin 4096) :
    k0_pay65 (k0_pay61 q k m) (k0_pay62 q k m) s (ix2 i c) = Ideal.exp2 (m (ix2 0 c) - k0_pay60 q k m (ix2 0 c)) * s (ix2 i c)
      + ∑ a : Fin 32, Ideal.exp2 (dotKQ k q ⟨a.val * 8 + i.val, by omega⟩ c - k0_pay60 q k m (ix2 0 c)) := by
  pointwise [k0_pay65, k0_pay61, k0_pay62, pay59_apply]
  rfl

theorem pay67_apply (a : Vec Ideal S128x4096 .f32) (s : Vec Ideal S8x4096 .f32) (d : Fin 128) (c : Fin 4096) :
    k0_pay67 a s (ix2 c d) = Ideal.div (a (ix2 d c)) (∑ i : Fin 8, s (ix2 i c)) := by
  pointwise [k0_pay67]

theorem pay55_apply (c : Fin 4096) : (k0_pay55 : FVec Ideal S1x4096 .f32) (ix2 0 c) = ⊥ := by
  pointwise [k0_pay55]
  exact negInf

theorem pay56_apply (d : Fin 128) (c : Fin 4096) : (k0_pay56 : FVec Ideal S128x4096 .f32) (ix2 d c) = 0 := by pointwise [k0_pay56]

theorem pay57_apply (i : Fin 8) (c : Fin 4096) : (k0_pay57 : FVec Ideal S8x4096 .f32) (ix2 i c) = 0 := by pointwise [k0_pay57]

end Cert.Attn

end
-- ==== Proof.AttnSoft.lean ====
/- Both branches of the attention body compute the softmax average: without maxima, and with running maxima. -/
module

public import proofs.«01_k».proof.Proof.AttnPlain
public import proofs.«01_k».proof.Proof.AttnPoint

@[expose] public section

set_option maxRecDepth 16384

noncomputable section

open Idealize.ShloMosaic Idealize.ShloMosaic.TcCoe Idealize.SL.Sem

namespace Cert.Attn

open Cert.Kernel2Ideal Cert.Kernel2Ideal.Gen

/-- One query row and one column of the values: the keys' real scores `x`, the values' column `v`. -/
structure Column (q : FVec Ideal S4096x128 .bf16) (K : Vec Ideal S4096x128 .bf16) (T : Vec Ideal S8x128x512 .bf16) (KC : Vec Ideal S256x128 .bf16)
    (C : Vec Ideal S128x256 .bf16) (d : Fin 128) (c : Fin 4096) (x : Nat → ℝ) (v : Nat → EReal) : Prop where
  /-- the scores of the sequence's keys -/
  key : ∀ (j : Fin 8) (r : Fin 512), dotKQ (rows K j) q r c = (x (512 * j.val + r.val) : EReal)
  /-- the scores of the context's keys -/
  ctx : ∀ r : Fin 256, dotKQ KC q r c = (x (4096 + r.val) : EReal)
  /-- the sequence's values -/
  val : ∀ (j : Fin 8) (r : Fin 512), slab T j (ix3 0 d r) = v (512 * j.val + r.val)
  /-- the context's values -/
  cval : ∀ r : Fin 256, C (ix2 d r) = v (4096 + r.val)

theorem pay18_eq (k : Vec Ideal S512x128 .bf16) : k0_pay18 k = k := by
  funext i
  idx_vars i
  pointwise [k0_pay18]

theorem pay34_eq (k : Vec Ideal S256x128 .bf16) : k0_pay34 k = k := by
  funext i
  idx_vars i
  pointwise [k0_pay34]

theorem pay19_apply (v : Vec Ideal S1x128x512 .bf16) (d : Fin 128) (r : Fin 512) : k0_pay19 v (ix2 d r) = v (ix3 0 d r) := by pointwise [k0_pay19]

section
variable {q : FVec Ideal S4096x128 .bf16} {K : Vec Ideal S4096x128 .bf16} {T : Vec Ideal S8x128x512 .bf16} {KC : Vec Ideal S256x128 .bf16}
  {C : Vec Ideal S128x256 .bf16} {d : Fin 128} {c : Fin 4096} {x : Nat → ℝ} {v : Nat → EReal}

/-! ## Without maxima -/

theorem Column.wsum_eq (h : Column q K T KC C d c x v) (j : Fin 8) :
    wsum q (k0_pay18 (rows K j)) (k0_pay19 (slab T j)) d c = ∑ r : Fin 512, (pow2 (x (512 * j.val + r.val)) : EReal) * v (512 * j.val + r.val) :=
  Finset.sum_congr rfl fun r _ => by rw [pay18_eq, pay19_apply, h.key, h.val, exp2_real, mul_comm]

theorem Column.wsumC_eq (h : Column q K T KC C d c x v) :
    wsum q (k0_pay34 KC) C d c = ∑ r : Fin 256, (pow2 (x (4096 + r.val)) : EReal) * v (4096 + r.val) :=
  Finset.sum_congr rfl fun r _ => by rw [pay34_eq, h.ctx, h.cval, exp2_real, mul_comm]

theorem Column.psum_eq (h : Column q K T KC C d c x v) (j : Fin 8) :
    ∑ i : Fin 8, psum q (k0_pay18 (rows K j)) i c = ∑ r : Fin 512, (pow2 (x (512 * j.val + r.val)) : EReal) := by
  rw [← sum_strided 64 fun r => (pow2 (x (512 * j.val + r)) : EReal)]
  refine Finset.sum_congr rfl fun i _ => Finset.sum_congr rfl fun a _ => ?_
  rw [pay18_eq, h.key, exp2_real]
  dsimp only
  rw [mul_comm a.val 8]

theorem Column.psumC_eq (h : Column q K T KC C d c x v) :
    ∑ i : Fin 8, psumC q (k0_pay34 KC) i c = ∑ r : Fin 256, (pow2 (x (4096 + r.val)) : EReal) := by
  rw [← sum_strided 32 fun r => (pow2 (x (4096 + r)) : EReal)]
  refine Finset.sum_congr rfl fun i _ => Finset.sum_congr rfl fun a _ => ?_
  rw [pay34_eq, h.ctx, exp2_real]
  dsimp only
  rw [mul_comm a.val 8]

/-- Eight blocks, one after the other. -/
theorem sum_eight {M : Type} [AddCommMonoid M] (f : Nat → M) : ∑ j ∈ Finset.range 8, f j = f 0 + f 1 + f 2 + f 3 + f 4 + f 5 + f 6 + f 7 := by
  simp only [Finset.sum_range_succ, Finset.sum_range_zero, zero_add]

theorem Column.accU_eq (h : Column q K T KC C d c x v) : accU q K T KC C (ix2 d c) = ∑ k ∈ Finset.range nKeys, (pow2 (x k) : EReal) * v k := by
  unfold accU
  rw [pay47_apply, pay41_apply, h.wsum_eq, h.wsum_eq, h.wsum_eq, h.wsum_eq, h.wsum_eq, h.wsum_eq, h.wsum_eq, h.wsum_eq, h.wsumC_eq,
    ← sum_keys fun k => (pow2 (x k) : EReal) * v k, sum_eight]
  rfl

theorem Column.sumU_eq (h : Column q K T KC C d c x v) : sumU q K KC (ix2 d c) = (mass x nKeys : EReal) := by
  unfold sumU
  rw [pay48_apply]
  simp only [pay38_apply, pay40_apply, Finset.sum_add_distrib]
  rw [h.psum_eq, h.psum_eq, h.psum_eq, h.psum_eq, h.psum_eq, h.psum_eq, h.psum_eq, h.psum_eq, h.psumC_eq, mass, coe_sum,
    ← sum_keys fun k => (pow2 (x k) : EReal), sum_eight]
  rfl

/-- Without maxima the quotient is the softmax average. -/
theorem Column.outU_eq (h : Column q K T KC C d c x v) : k0_pay3 (accU q K T KC C) (sumU q K KC) (ix2 c d) = mix x v := by
  rw [pay3_apply, h.accU_eq, h.sumU_eq, div_mix]

/-! ## With running maxima -/

/-- A change of the maximum, carried through the blocks taken in so far. -/
theorem rescale {b : Nat} (n : Nat) (m : EReal) (M' : ℝ) (hm : n = 0 ∧ m = ⊥ ∨ ∃ M : ℝ, m = M) (y : Nat → Fin b → ℝ) (w : Nat → Fin b → EReal) :
    Ideal.exp2 (m - (M' : EReal)) * ∑ j ∈ Finset.range n, ∑ r : Fin b, Ideal.exp2 ((y j r : EReal) - m) * w j r
      = ∑ j ∈ Finset.range n, ∑ r : Fin b, Ideal.exp2 ((y j r : EReal) - (M' : EReal)) * w j r := by
  rcases hm with ⟨rfl, rfl⟩ | ⟨M, rfl⟩
  · simp
  · rw [← EReal.coe_sub, exp2_real, mul_sum_ereal _ _ (pow2_pos _).le]
    refine Finset.sum_congr rfl fun j _ => ?_
    rw [mul_sum_ereal _ _ (pow2_pos _).le]
    refine Finset.sum_congr rfl fun r _ => ?_
    rw [← EReal.coe_sub, ← EReal.coe_sub, exp2_real, exp2_real, ← mul_assoc, ← EReal.coe_mul, ← pow2_add]
    congr 3
    ring

/-- The new maximum is real. -/
theorem newMax_real {b : Nat} (hb : 0 < b) (n : Nat) (m : EReal) (hm : n = 0 ∧ m = ⊥ ∨ ∃ M : ℝ, m = M) (y : Fin b → ℝ) :
    ∃ M' : ℝ, max m (Finset.univ.fold max ⊥ fun r => (y r : EReal)) = (M' : EReal) := by
  obtain ⟨B, hB⟩ := fold_max_real hb y
  rw [hB]
  rcases hm with ⟨_, rfl⟩ | ⟨M, rfl⟩
  · exact ⟨B, by simp⟩
  · exact ⟨max M B, (EReal.coe_strictMono.monotone.map_max).symm⟩

/-- The state after `n` blocks: a maximum, real from the first block on, and the sums of the weights relative to it. -/
structure After (x : Nat → ℝ) (v : Nat → EReal) (d : Fin 128) (c : Fin 4096) (n : Nat) (s : Online Ideal) (m : EReal) : Prop where
  /-- the maximum -/
  max : s.max (ix2 0 c) = m
  /-- it is −∞ before the first block and real afterwards -/
  real : n = 0 ∧ m = ⊥ ∨ ∃ M : ℝ, m = M
  /-- the partial sums of the weights -/
  sum : ∀ i : Fin 8, s.sum (ix2 i c) = ∑ j ∈ Finset.range n, ∑ a : Fin 64, Ideal.exp2 ((x (512 * j + (8 * a.val + i.val)) : EReal) - m) * 1
  /-- the weighted sum of the values -/
  acc : s.acc (ix2 d c) = ∑ j ∈ Finset.range n, ∑ r : Fin 512, Ideal.exp2 ((x (512 * j + r.val) : EReal) - m) * v (512 * j + r.val)

theorem After.start : After x v d c 0 (Online.start : Online Ideal) ⊥ :=
  ⟨pay55_apply c, .inl ⟨rfl, rfl⟩, fun i => by rw [Finset.sum_range_zero]; exact pay57_apply i c, by rw [Finset.sum_range_zero]; exact pay56_apply d c⟩

theorem After.step (h : Column q K T KC C d c x v) {n : Nat} (hn : n < 8) {s : Online Ideal} {m : EReal} (hs : After x v d c n s m) :
    ∃ m', After x v d c (n + 1) (s.step q (rows K ⟨n, hn⟩) (slab T ⟨n, hn⟩)) m' := by
  obtain ⟨M', hM'⟩ := newMax_real (by norm_num : 0 < 512) n m hs.real fun r : Fin 512 => x (512 * n + r.val)
  have hk (r : Fin 512) : dotKQ (rows K ⟨n, hn⟩) q r c = (x (512 * n + r.val) : EReal) := h.key ⟨n, hn⟩ r
  have h50 : k0_pay50 q (rows K ⟨n, hn⟩) s.max (ix2 0 c) = (M' : EReal) := by
    rw [pay50_apply, hs.max, ← hM']
    simp only [hk]
  refine ⟨(M' : EReal), ?_, .inr ⟨M', rfl⟩, fun i => ?_, ?_⟩
  · exact (pay58_apply _ c).trans h50
  · refine (pay54_apply q _ _ _ i c).trans ?_
    rw [h50, hs.max, hs.sum, rescale n m M' hs.real (fun j (a : Fin 64) => x (512 * j + (8 * a.val + i.val))) fun _ _ => 1, Finset.sum_range_succ]
    refine congrArg (_ + ·) ?_
    refine Finset.sum_congr rfl fun a _ => ?_
    rw [hk, mul_one]
    dsimp only
    rw [mul_comm a.val 8]
  · refine (pay53_apply q _ _ _ _ d c).trans ?_
    rw [h50, hs.max, hs.acc, rescale n m M' hs.real (fun j (r : Fin 512) => x (512 * j + r.val)) fun j r => v (512 * j + r.val), Finset.sum_range_succ]
    refine congrArg (_ + ·) ?_
    refine Finset.sum_congr rfl fun r _ => ?_
    rw [hk, h.val ⟨n, hn⟩ r, mul_comm]

theorem After.all (h : Column q K T KC C d c x v) : ∀ n ≤ 8, ∃ m, After x v d c n (Online.after q K T n) m
  | 0, _ => ⟨⊥, After.start⟩
  | n + 1, hn => by
    obtain ⟨m, hm⟩ := After.all h n (by omega)
    have e : Online.after q K T (n + 1) = (Online.after q K T n).step q (rows K ⟨n, hn⟩) (slab T ⟨n, hn⟩) := by
      show (if h : n < 8 then _ else _) = _
      rw [dif_pos (show n < 8 from hn)]
    rw [e]
    exact hm.step h hn

/-- With running maxima the quotient is the softmax average. -/
theorem Column.outO_eq (h : Column q K T KC C d c x v) :
    k0_pay67 (accO q KC C (Online.after q K T 8)) (sumO q KC (Online.after q K T 8)) (ix2 c d) = mix x v := by
  obtain ⟨m, hs⟩ := After.all h 8 le_rfl
  obtain ⟨M', hM'⟩ := newMax_real (by norm_num : 0 < 256) 8 m hs.real fun r : Fin 256 => x (4096 + r.val)
  have h60 : k0_pay60 q KC (Online.after q K T 8).max (ix2 0 c) = (M' : EReal) := by
    rw [pay60_apply, hs.max, ← hM']
    simp only [h.ctx]
  have hacc : accO q KC C (Online.after q K T 8) (ix2 d c) = ∑ k ∈ Finset.range nKeys, (pow2 (x k - M') : EReal) * v k := by
    refine (pay64_apply q _ _ _ _ d c).trans ?_
    rw [h60, hs.max, hs.acc, rescale 8 m M' hs.real (fun j (r : Fin 512) => x (512 * j + r.val)) fun j r => v (512 * j + r.val),
      ← sum_keys fun k => (pow2 (x k - M') : EReal) * v k]
    refine congrArg₂ (· + ·) ?_ ?_
    · refine Finset.sum_congr rfl fun j _ => Finset.sum_congr rfl fun r _ => ?_
      rw [← EReal.coe_sub, exp2_real]
    · refine Finset.sum_congr rfl fun r _ => ?_
      rw [h.ctx, h.cval, ← EReal.coe_sub, exp2_real, mul_comm]
  have hsum : ∑ i : Fin 8, sumO q KC (Online.after q K T 8) (ix2 i c) = (mass (fun k => x k - M') nKeys : EReal) := by
    have e (i : Fin 8) : sumO q KC (Online.after q K T 8) (ix2 i c)
        = ∑ j ∈ Finset.range 8, ∑ a : Fin 64, (pow2 (x (512 * j + (8 * a.val + i.val)) - M') : EReal)
          + ∑ a : Fin 32, (pow2 (x (4096 + (8 * a.val + i.val)) - M') : EReal) := by
      refine (pay65_apply q _ _ _ i c).trans ?_
      rw [h60, hs.max, hs.sum, rescale 8 m M' hs.real (fun j (a : Fin 64) => x (512 * j + (8 * a.val + i.val))) fun _ _ => 1]
      refine congrArg₂ (· + ·) ?_ ?_
      · refine Finset.sum_congr rfl fun j _ => Finset.sum_congr rfl fun r _ => ?_
        rw [← EReal.coe_sub, exp2_real, mul_one]
      · refine Finset.sum_congr rfl fun a _ => ?_
        rw [h.ctx, ← EReal.coe_sub, exp2_real]
        dsimp only
        rw [mul_comm a.val 8]
    simp only [e, Finset.sum_add_distrib]
    rw [Finset.sum_comm, mass, coe_sum, ← sum_keys fun k => (pow2 (x k - M') : EReal)]
    refine congrArg₂ (· + ·) ?_ ?_
    · exact Finset.sum_congr rfl fun j _ => sum_strided 64 fun r => (pow2 (x (512 * j + r) - M') : EReal)
    · exact sum_strided 32 fun r => (pow2 (x (4096 + r) - M') : EReal)
  rw [pay67_apply, hacc, hsum, div_mix_shift]

end

end Cert.Attn

end
-- ==== Proof.AttnValue.lean ====
/- What the attention kernel leaves in its result: the softmax average of the values, in either branch of its body. -/
module

public import proofs.«01_k».proof.Proof.AttnHost
public import proofs.«01_k».proof.Proof.AttnSoft
public import proofs.«01_k».proof.Proof.AttnRun
public import Idealize.ShloMosaic.Lib.Claim

@[expose] public section

set_option maxRecDepth 16384

noncomputable section

open Idealize.ShloMosaic Idealize.ShloMosaic.TcCoe Idealize.SL.Sem

namespace Cert.Attn

open Cert.Kernel2Ideal Cert.Kernel2Ideal.Gen

/-! ## The blocks at an index -/

/-- A row block of 512 rows. -/
theorem rows_apply (X : Vec Ideal S4096x128 .bf16) (j : Fin 8) (r : Fin 512) (e : Fin 128) :
    rows X j (ix2 r e) = X (ix2 ⟨512 * j.val + r.val, by omega⟩ e) := by
  show X ((Rect.unit (s := S4096x128) ![512 * j.val, 0] S512x128.size (rows_inb j)).emb (ix2 r e)) = _
  refine congrArg X (funext fun a => Fin.ext ?_)
  match a with
  | ⟨0, _⟩ => show 512 * j.val + 1 * r.val = 512 * j.val + r.val; omega
  | ⟨1, _⟩ => show 0 + 1 * e.val = e.val; omega

/-- A slab of the transposed values. -/
theorem slab_apply (T : Vec Ideal S8x128x512 .bf16) (j : Fin 8) (d : Fin 128) (r : Fin 512) : slab T j (ix3 0 d r) = T (ix3 j d r) := by
  show T ((Rect.unit (s := S8x128x512) ![j.val, 0, 0] S1x128x512.size (slab_inb j)).emb (ix3 0 d r)) = _
  refine congrArg T (funext fun a => Fin.ext ?_)
  match a with
  | ⟨0, _⟩ => show j.val + 1 * 0 = j.val; omega
  | ⟨1, _⟩ => show 0 + 1 * d.val = d.val; omega
  | ⟨2, _⟩ => show 0 + 1 * r.val = r.val; omega

/-- A block of values transposed. -/
theorem pay8_apply (X : Vec Ideal S512x128 .bf16) (d : Fin 128) (r : Fin 512) : k0_pay8 X (ix3 0 d r) = X (ix2 r d) := by
  pointwise [k0_pay8]

/-- The transposed values. -/
theorem vt_apply (X : Vec Ideal S4096x128 .bf16) (j : Fin 8) (d : Fin 128) (r : Fin 512) :
    vt X (ix3 j d r) = X (ix2 ⟨512 * j.val + r.val, by omega⟩ d) := by
  show k0_pay8 (rows X j) (ValueIdx.ix3 (0 : Fin 1) d r) = _
  rw [← ix3_eq_valueIdx, pay8_apply, rows_apply]

/-- The context's values transposed. -/
theorem vct_apply (X : Vec Ideal S256x128 .bf16) (d : Fin 128) (r : Fin 256) : vct X (ix2 d r) = X (ix2 r d) := by
  pointwise [vct, k0_pay1, k0_pay17]

/-- A head's queries. -/
theorem cols_apply (Q : Vec Ideal S1024x512 .bf16) (g : Fin 4) (r : Fin 1024) (e : Fin 128) :
    cols Q g (ix2 r e) = Q (ix2 r ⟨128 * g.val + e.val, by omega⟩) := by
  show Q ((Rect.unit (s := S1024x512) ![0, 128 * g.val] S1024x128.size (cols_inb g)).emb (ix2 r e)) = _
  refine congrArg Q (funext fun a => Fin.ext ?_)
  match a with
  | ⟨0, _⟩ => show 0 + 1 * r.val = r.val; omega
  | ⟨1, _⟩ => show 128 * g.val + 1 * e.val = 128 * g.val + e.val; omega

/-- Four blocks one below the other. -/
theorem pay2_apply (a b c d : Vec Ideal S1024x128 .bf16) (R : Fin 4096) (e : Fin 128) :
    k0_pay2 a b c d (ix2 R e) = if h : R.val < 1024 then a (ix2 ⟨R.val, h⟩ e)
      else if h : R.val - 1024 < 1024 then b (ix2 ⟨R.val - 1024, h⟩ e)
      else if h : R.val - 1024 - 1024 < 1024 then c (ix2 ⟨R.val - 1024 - 1024, h⟩ e)
      else d (ix2 ⟨R.val - 1024 - 1024 - 1024, by omega⟩ e) := by
  pointwise [k0_pay2]

/-- The stacked queries. -/
theorem qs_apply (Q : Vec Ideal S1024x512 .bf16) (g : Fin 4) (r : Fin 1024) (e : Fin 128) (R : Fin 4096) (hR : R.val = 1024 * g.val + r.val) :
    qs Q (ix2 R e) = Q (ix2 r ⟨128 * g.val + e.val, by omega⟩) := by
  refine Eq.trans ?_ (cols_apply Q g r e)
  show k0_pay2 (cols Q 0) (cols Q 1) (cols Q 2) (cols Q 3) (ix2 R e) = _
  rw [pay2_apply]
  fin_cases g <;> simp only at hR
  · rw [dif_pos (by omega)]
    congr 2
    apply Fin.ext
    dsimp only
    omega
  · rw [dif_neg (by omega), dif_pos (by omega)]
    congr 2
    apply Fin.ext
    dsimp only
    omega
  · rw [dif_neg (by omega), dif_neg (by omega), dif_pos (by omega)]
    congr 2
    apply Fin.ext
    dsimp only
    omega
  · rw [dif_neg (by omega), dif_neg (by omega), dif_neg (by omega)]
    congr 2
    apply Fin.ext
    dsimp only
    omega

/-- The output block's columns. -/
theorem unstack_apply (N : FVec Ideal S4096x128 .f32) (r : Fin 1024) (l : Fin 512) :
    unstack N (ix2 r l) = N (ix2 ⟨1024 * (l.val / 128) + r.val, by omega⟩ ⟨l.val % 128, by omega⟩) := by
  show (truncf .bf16 N bitsLt_bf16_f32 : FVec Ideal S4096x128 .bf16) (ValueIdx.ix2 (⟨1024 * (l.val / 128) + r.val, _⟩ : Fin 4096) (⟨l.val % 128, _⟩ : Fin 128)) = _
  rw [← ix2_eq_valueIdx]
  pointwise []

/-! ## A point's column -/

section
variable (m : (ℓ : Loc nD τ sig) → Buf (Elt Ideal) ℓ)
variable {Qr : (⟨4, ![4, 4096, 8, 128]⟩ : Shape).Idx → ℝ} {Kr : (⟨4, ![4, 4352, 2, 128]⟩ : Shape).Idx → ℝ}

/-- The query's position of row `r` of a point's block. -/
abbrev posOf (t : Fin cfg0.N) (r : Fin 1024) : Fin 4096 := ⟨1024 * (partOf t).val + r.val, by have := (partOf t).isLt; omega⟩

/-- The queries staged at a point are the queries, scaled. -/
theorem blk_query (c : Dev nD) (t : Fin cfg0.N) (g : Fin 4) (r : Fin 1024) (e : Fin 128) :
    (iblk m c 1 t : Vec Ideal S1024x512 .bf16) (ix2 r ⟨128 * g.val + e.val, by omega⟩)
      = argQ m c (ix4 (batchOf t) (posOf t r) ⟨(headOf t).val * 4 + g.val, by have := (headOf t).isLt; omega⟩ e) * (scale : EReal) := by
  rw [ix2_eq_valueIdx, iblk1_apply, ← ix2_eq_valueIdx, V16_eq]
  exact main_query _ _ _ (batchOf t) (posOf t r) (headOf t) g e _ _ (by dsimp only; omega) (by dsimp only)

/-- The keys staged at a point. -/
theorem blk_key (c : Dev nD) (t : Fin cfg0.N) (r : Fin 4096) (e : Fin 128) :
    (iblk m c 2 t : Vec Ideal S4096x128 .bf16) (ix2 r e) = argK m c (ix4 (batchOf t) ⟨r.val, by omega⟩ (headOf t) e) := by
  rw [ix2_eq_valueIdx, iblk2_apply, ← ix2_eq_valueIdx, V16_eq]
  exact main_key _ _ _ (batchOf t) r (headOf t) e _ _

/-- The values staged at a point. -/
theorem blk_val (c : Dev nD) (t : Fin cfg0.N) (r : Fin 4096) (e : Fin 128) :
    (iblk m c 3 t : Vec Ideal S4096x128 .bf16) (ix2 r e) = argV m c (ix4 (batchOf t) ⟨r.val, by omega⟩ (headOf t) e) := by
  rw [ix2_eq_valueIdx, iblk3_apply, ← ix2_eq_valueIdx, V16_eq]
  exact main_val _ _ _ (batchOf t) r (headOf t) e _ _

/-- The context's keys staged at a point. -/
theorem blk_ctxKey (c : Dev nD) (t : Fin cfg0.N) (r : Fin 256) (e : Fin 128) :
    (iblk m c 4 t : Vec Ideal S256x128 .bf16) (ix2 r e) = argK m c (ix4 (batchOf t) ⟨4096 + r.val, by omega⟩ (headOf t) e) := by
  rw [ix2_eq_valueIdx, iblk4_apply, ← ix2_eq_valueIdx, V24_eq]
  exact ctx_key _ _ (batchOf t) r (headOf t) e _ _

/-- The context's values staged at a point. -/
theorem blk_ctxVal (c : Dev nD) (t : Fin cfg0.N) (r : Fin 256) (e : Fin 128) :
    (iblk m c 5 t : Vec Ideal S256x128 .bf16) (ix2 r e) = argV m c (ix4 (batchOf t) ⟨4096 + r.val, by omega⟩ (headOf t) e) := by
  rw [ix2_eq_valueIdx, iblk5_apply, ← ix2_eq_valueIdx, V24_eq]
  exact ctx_val _ _ (batchOf t) r (headOf t) e _ _

/-- A key row times a scaled query row: the real score. -/
theorem score_real (c : Dev nD) (hQ : ∀ i, argQ m c i = (Qr i : EReal)) (hK : ∀ i, argK m c i = (Kr i : EReal)) (b : Fin 4) (n : Fin 4096)
    (h : Fin 2) (g : Fin 4) (k : Fin 4352) :
    ∑ e : Fin 128, argK m c (ix4 b k h e) * (argQ m c (ix4 b n ⟨h.val * 4 + g.val, by omega⟩ e) * (scale : EReal))
      = ((dotR Qr Kr b n h g k.val * scale : ℝ) : EReal) := by
  rw [dotR_of_lt, Finset.sum_mul, coe_sum]
  refine Finset.sum_congr rfl fun e _ => ?_
  rw [hQ, hK, EReal.coe_mul, EReal.coe_mul, mul_assoc]

/-- At a point, a query row and a component make a column of the softmax. -/
theorem column (c : Dev nD) (hQ : ∀ i, argQ m c i = (Qr i : EReal)) (hK : ∀ i, argK m c i = (Kr i : EReal)) (t : Fin cfg0.N) (g : Fin 4)
    (r : Fin 1024) (d : Fin 128) (R : Fin 4096) (hR : R.val = 1024 * g.val + r.val) :
    Column (qs (iblk m c 1 t)) (iblk m c 2 t) (vt (iblk m c 3 t)) (iblk m c 4 t) (vct (iblk m c 5 t)) d R
      (fun k => dotR Qr Kr (batchOf t) (posOf t r) (headOf t) g k * scale) (valN (argV m c) (batchOf t) (headOf t) d) where
  key j a := by
    refine Eq.trans (Finset.sum_congr rfl fun e _ => ?_)
      (score_real m c hQ hK (batchOf t) (posOf t r) (headOf t) g ⟨512 * j.val + a.val, by omega⟩)
    rw [rows_apply, blk_key, qs_apply _ g r e R hR, blk_query]
  ctx a := by
    refine Eq.trans (Finset.sum_congr rfl fun e _ => ?_)
      (score_real m c hQ hK (batchOf t) (posOf t r) (headOf t) g ⟨4096 + a.val, by omega⟩)
    rw [blk_ctxKey, qs_apply _ g r e R hR, blk_query]
  val j a := by
    rw [slab_apply, vt_apply, blk_val]
    exact (valN_of_lt (argV m c) (batchOf t) (headOf t) d ⟨512 * j.val + a.val, by omega⟩).symm
  cval a := by
    rw [vct_apply, blk_ctxVal]
    exact (valN_of_lt (argV m c) (batchOf t) (headOf t) d ⟨4096 + a.val, by omega⟩).symm

/-- What a point writes back, at an index of its block. -/
theorem outAt_apply (c : Dev nD) (hQ : ∀ i, argQ m c i = (Qr i : EReal)) (hK : ∀ i, argK m c i = (Kr i : EReal)) (t : Fin cfg0.N)
    (r : Fin 1024) (l : Fin 512) :
    outAt m c t (ix2 r l) = attnAt Qr Kr (argV m c) (batchOf t) (posOf t r) (headOf t) ⟨l.val / 128, by omega⟩ ⟨l.val % 128, by omega⟩ := by
  have h := column m c hQ hK t ⟨l.val / 128, by omega⟩ r ⟨l.val % 128, by omega⟩ ⟨1024 * (l.val / 128) + r.val, by omega⟩ rfl
  unfold outAt out
  split
  · unfold outU
    rw [unstack_apply]
    exact h.outU_eq
  · unfold outO
    rw [unstack_apply]
    exact h.outO_eq

/-! ## The whole result -/

/-- The result array. -/
def outV (Qr : (⟨4, ![4, 4096, 8, 128]⟩ : Shape).Idx → ℝ) (Kr : (⟨4, ![4, 4352, 2, 128]⟩ : Shape).Idx → ℝ) (c : Dev nD) : FVec Ideal S16384x1024 .bf16 :=
  fun i => attn Qr Kr (argV m c) (i 0 : Fin 16384) (i 1 : Fin 1024)

/-- The attention at a row and column, by their parts. -/
theorem attn_eq (Qr : (⟨4, ![4, 4096, 8, 128]⟩ : Shape).Idx → ℝ) (Kr : (⟨4, ![4, 4352, 2, 128]⟩ : Shape).Idx → ℝ)
    (V : (⟨4, ![4, 4352, 2, 128]⟩ : Shape).Idx → EReal) (R : Fin 16384) (C : Fin 1024) (b : Fin 4) (n : Fin 4096) (h : Fin 2) (g : Fin 4)
    (d : Fin 128) (hR : R.val = 4096 * b.val + n.val) (hC : C.val = 512 * h.val + (128 * g.val + d.val)) :
    attn Qr Kr V R C = attnAt Qr Kr V b n h g d := by
  have e1 : (⟨R.val / 4096, by omega⟩ : Fin 4) = b := Fin.ext (by dsimp only; omega)
  have e2 : (⟨R.val % 4096, by omega⟩ : Fin 4096) = n := Fin.ext (by dsimp only; omega)
  have e3 : (⟨C.val / 512, by omega⟩ : Fin 2) = h := Fin.ext (by dsimp only; omega)
  have e4 : (⟨C.val / 128 % 4, by omega⟩ : Fin 4) = g := Fin.ext (by dsimp only; omega)
  have e5 : (⟨C.val % 128, by omega⟩ : Fin 128) = d := Fin.ext (by dsimp only; omega)
  unfold attn
  rw [e1, e2, e3, e4, e5]

/-- A block cut for the result is the block of an array, when it is so at each index. -/
theorem cut_eq (t : Fin cfg0.N) (X : Vec Ideal S1024x512 .bf16) (A : Vec Ideal S16384x1024 .bf16)
    (h : ∀ (r : Fin 1024) (l : Fin 512), X (ix2 r l) = A (ix2 (⟨1024 * (4 * (batchOf t).val + (partOf t).val) + r.val, by have := (batchOf t).isLt; have := (partOf t).isLt; omega⟩ : Fin 16384)
      (⟨512 * (headOf t).val + l.val, by have := (headOf t).isLt; omega⟩ : Fin 1024))) :
    (cfg0.win 6).cut (grid0.coords t) X = (win0_6.blk t).view.read (Elt Ideal) A := by
  funext (y : S1024x512.Idx)
  obtain ⟨r, l, rfl⟩ : ∃ (r : Fin 1024) (l : Fin 512), y = ix2 r l := ⟨y 0, y 1, eq_ix2 y⟩
  show X (ix2 r l) = A ((win0_6.rect t).emb (ix2 r l))
  rw [h]
  refine congrArg A (funext fun a => Fin.ext ?_)
  rw [win0_6.rect_emb_val t (ix2 r l) a]
  have ht := lt_points t
  obtain ⟨a0, a1, b0, b1, c0, c1, d0, d1, e0, e1, f0, f1, g0, g1⟩ := idx_facts t
  match a with
  | ⟨0, _⟩ => show 1024 * (4 * (batchOf t).val + (partOf t).val) + r.val = win0_6.index t 0 * 1024 + r.val; dsimp only; omega
  | ⟨1, _⟩ => show 512 * (headOf t).val + l.val = win0_6.index t 1 * 512 + l.val; dsimp only; omega

/-- What a point writes back is its block of the attention. -/
theorem flushed_eq (c : Dev nD) (hQ : ∀ i, argQ m c i = (Qr i : EReal)) (hK : ∀ i, argK m c i = (Kr i : EReal)) (t : Fin cfg0.N) :
    (dats m 0 c).flushed 6 t = (win0_6.blk t).view.read (Elt Ideal) (outV m Qr Kr c) := by
  show (cfg0.win 6).cut (grid0.coords t) ((dats m 0 c).after 6 t) = _
  rw [after_6]
  refine cut_eq t _ _ fun r l => (outAt_apply m c hQ hK t r l).trans (attn_eq Qr Kr (argV m c) _ _ (batchOf t) (posOf t r) (headOf t) _ _ ?_ ?_).symm
  · show 1024 * (4 * (batchOf t).val + (partOf t).val) + r.val = 4096 * (batchOf t).val + (1024 * (partOf t).val + r.val)
    omega
  · show 512 * (headOf t).val + l.val = 512 * (headOf t).val + (128 * (l.val / 128) + l.val % 128)
    omega

/-- An entry is in a point's block when each coordinate is within the block's bounds. -/
theorem mem_blk6 (t : Fin cfg0.N) (i : S16384x1024.Idx) : i ∈ ((cfg0.win 6).blk t).view.set ↔
    ∀ a : Fin 2, win0_6.index t a * win0_6.size a ≤ (i a : Nat) ∧ (i a : Nat) < win0_6.index t a * win0_6.size a + win0_6.size a := by
  show i ∈ ((View.whole main_v25).slice (win0_6.rect t)).set ↔ _
  rw [View.set_slice_whole, Rect.mem_set_unit]
  exact Iff.rfl

/-- Every point writes back. -/
theorem flush6 : ∀ t : Fin cfg0.N, (cfg0.win 6).flush t = true := (by decide +kernel : ∀ t : Fin grid0.N, win0_6.flush t = true)

/-- The thirty-two blocks tile the result. -/
theorem cover6 (i : S16384x1024.Idx) : ∃ t : Fin cfg0.N, (cfg0.win 6).flush t = true ∧ i ∈ ((cfg0.win 6).blk t).view.set := by
  have h0 : (i 0 : Nat) < 16384 := (i 0).isLt
  have h1 : (i 1 : Nat) < 1024 := (i 1).isLt
  have hN : 8 * ((i 0 : Nat) / 4096) + 4 * ((i 1 : Nat) / 512) + (i 0 : Nat) / 1024 % 4 < cfg0.N := by
    exact Nat.lt_of_lt_of_eq (by omega) N_0.symm
  refine ⟨⟨_, hN⟩, flush6 _, ?_⟩
  rw [mem_blk6]
  obtain ⟨a0, a1, b0, b1, c0, c1, d0, d1, e0, e1, f0, f1, g0, g1⟩ := idx_facts ⟨_, hN⟩
  intro a
  match a with
  | ⟨0, _⟩ => show win0_6.index _ 0 * 1024 ≤ (i 0 : Nat) ∧ (i 0 : Nat) < win0_6.index _ 0 * 1024 + 1024; rw [f0]; dsimp only; omega
  | ⟨1, _⟩ => show win0_6.index _ 1 * 512 ≤ (i 1 : Nat) ∧ (i 1 : Nat) < win0_6.index _ 1 * 512 + 512; rw [f1]; dsimp only; omega

/-- The result array after the run. -/
theorem arr_eq (c : Dev nD) (hQ : ∀ i, argQ m c i = (Qr i : EReal)) (hK : ∀ i, argK m c i = (Kr i : EReal)) :
    (dats m 0 c).arrAt 6 cfg0.N = outV m Qr Kr c :=
  (dats m 0 c).arrAt_eq_of_cover 6 (outV m Qr Kr c) (fun t _ => flushed_eq m c hQ hK t) cover6

/-- The run: the result is the attention, the arguments end as they began. -/
theorem run {Qr : Dev nD → (⟨4, ![4, 4096, 8, 128]⟩ : Shape).Idx → ℝ} {Kr : Dev nD → (⟨4, ![4, 4352, 2, 128]⟩ : Shape).Idx → ℝ}
    (hQ : ∀ c i, argQ m c i = (Qr c i : EReal)) (hK : ∀ c i, argK m c i = (Kr c i : EReal)) (ρ : Dev nD → PrngReg) :
    θ_run defs (onTc (τ := τ) (main (F := Ideal))) ⟨m, fun _ => 0, ρ⟩ fun r => ∀ c : Dev nD,
      r.2.mem ((c.tc : Thread nD τ).loc main_v25) = outV m (Qr c) (Kr c) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h.1 c, h.2 c⟩)
    (θ_run_and ((θ_run defs _ _).mono (fun r h (c : Dev nD) => (show r.2.mem ((c.tc : Thread nD τ).loc main_v25) = (dats m 0 c).arrAt 6 cfg0.N from (h c).1 6).trans (arr_eq m c (hQ c) (hK c))) (run_main m ρ)) (frame_of m ρ (dats m) (A_eq m) (run_main m ρ)))

end

end Cert.Attn

end
-- ==== Proof.AttnReference.lean ====
/- What the plain softmax attention computes at an index. -/
module

public import proofs.«01_k».proof.Proof.AttnSpec
public import proofs.«01_k».proof.Proof.Gen.Reference2Ideal.Run
public import Idealize.ShloMosaic.Lib.Pointwise

@[expose] public section

set_option maxRecDepth 65536

noncomputable section

open Idealize.ShloMosaic Idealize.ShloMosaic.TcCoe Idealize.SL.Sem Idealize.ShloMosaic.StableHlo

namespace Cert.Attn

section
open Cert.Reference2Ideal Cert.Reference2Ideal.Gen

/-- The scores. -/
def refScores (Q : FVec Ideal S4x4096x8x128 .f32) (K : FVec Ideal S4x4352x2x128 .f32) : FVec Ideal S4x2x4x4096x4352 .f32 :=
  Host.divf (transpose S4x2x4x4096x4352 [0, 1, 4, 3, 2] (Host.dotGeneral dot_S4x4352x2x128_S4x4096x2x4x128_S4x2x4352x4096x4_3_4_1_13_02_02 none K (shapeCast _ Q shapeCasts_S4x4096x8x128_S4x4096x2x4x128)) transposes_S4x2x4352x4096x4_S4x2x4x4096x4352_0_1_4_3_2) (broadcastInDim S4x2x4x4096x4352 ![] bcast_S_S4x2x4x4096x4352 (Host.sqrt (constant S_ .f32 0x43000000#32)))

/-- The largest score of each query. -/
def refTop (s : FVec Ideal S4x2x4x4096x4352 .f32) : FVec Ideal S4x2x4x4096 .f32 :=
  maximumf (broadcastInDim S4x2x4x4096 ![] bcast_S_S4x2x4x4096 (constant S_ .f32 0xFF800000#32)) (Host.reduce FloatOps.maximumf s (constant S_ .f32 0xFF800000#32) reducesTo_S4x2x4x4096x4352_S4x2x4x4096_d4 h_S_)

/-- The exponentials of the scores less the largest. -/
def refExp (s : FVec Ideal S4x2x4x4096x4352 .f32) : FVec Ideal S4x2x4x4096x4352 .f32 :=
  Host.exp (subf s (broadcastInDim S4x2x4x4096x4352 ![0, 1, 2, 3, 4] bcast_S4x2x4x4096x1_S4x2x4x4096x4352_0_1_2_3_4 (broadcastInDim S4x2x4x4096x1 ![0, 1, 2, 3] bcast_S4x2x4x4096_S4x2x4x4096x1_0_1_2_3 (refTop s))))

/-- The weights. -/
def refWeights (e : FVec Ideal S4x2x4x4096x4352 .f32) : FVec Ideal S4x2x4x4096x4352 .f32 :=
  Host.divf e (broadcastInDim S4x2x4x4096x4352 ![0, 1, 2, 3, 4] bcast_S4x2x4x4096x1_S4x2x4x4096x4352_0_1_2_3_4 (broadcastInDim S4x2x4x4096x1 ![0, 1, 2, 3] bcast_S4x2x4x4096_S4x2x4x4096x1_0_1_2_3 (Host.reduceAdd e (constant S_ .f32 0x00000000#32) reducesTo_S4x2x4x4096x4352_S4x2x4x4096_d4 h_S_)))

/-- The weighted sum of the values, laid out as the kernel's result. -/
def refOut (p : FVec Ideal S4x2x4x4096x4352 .f32) (V : FVec Ideal S4x4352x2x128 .f32) : FVec Ideal S16384x1024 .bf16 :=
  truncf .bf16 (shapeCast _ (transpose S4x4096x2x4x128 [0, 4, 1, 3, 2] (Host.dotGeneral dot_S4x4352x2x128_S4x2x4x4096x4352_S4x2x128x4x4096_1_4_3_23_02_01 none V p) transposes_S4x2x128x4x4096_S4x4096x2x4x128_0_4_1_3_2) shapeCasts_S4x4096x2x4x128_S16384x1024) bitsLt_bf16_f32

variable {Q : FVec Ideal S4x4096x8x128 .f32} {K : FVec Ideal S4x4352x2x128 .f32} {Qr : (⟨4, ![4, 4096, 8, 128]⟩ : Shape).Idx → ℝ}
  {Kr : (⟨4, ![4, 4352, 2, 128]⟩ : Shape).Idx → ℝ}

/-- Of real queries and keys the scores are the real products over the root of 128. -/
theorem refScores_apply (hQ : ∀ i, Q i = (Qr i : EReal)) (hK : ∀ i, K i = (Kr i : EReal)) (b : Fin 4) (h : Fin 2) (g : Fin 4) (n : Fin 4096)
    (k : Fin 4352) : refScores Q K (ix5 b h g n k) = ((dotR Qr Kr b n h g k.val / Real.sqrt 128 : ℝ) : EReal) := by
  pointwise [refScores]
  simp only [hQ, hK, ← EReal.coe_mul, ← coe_sum]
  rw [sqrt_lit128, Ideal.div_coe sqrt128_pos.ne', ← EReal.coe_mul, dotR_of_lt, mul_one_div]

/-- The literal −∞. -/
theorem negInf_f32 : Ideal.ofBits .f32 4286578688#32 = ⊥ := by simp [Ideal.ofBits, Ideal.ieee]

/-- The host's maximum over the last of five axes. -/
theorem reduceMax5 {n0 n1 n2 n3 n4 : Nat} (s : FVec Ideal ⟨5, ![n0, n1, n2, n3, n4]⟩ .f32) (init : FVec Ideal ⟨0, ![]⟩ .f32)
    (h : (⟨5, ![n0, n1, n2, n3, n4]⟩ : Shape).ReducesTo [4] ⟨4, ![n0, n1, n2, n3]⟩) (hu : 0 < (⟨0, ![]⟩ : Shape).numel)
    (a : Fin n0) (b : Fin n1) (c : Fin n2) (d : Fin n3) :
    Host.reduce FloatOps.maximumf s init h hu (ix4 a b c d)
      = Finset.univ.fold max (init (Shape.Idx.first hu)) fun k : Fin n4 => s (ix5 a b c d k) := by
  pointwise []

/-- The same, taken from −∞ on, of real entries is real: the sizes left open. -/
theorem top5_real {n0 n1 n2 n3 n4 : Nat} (hn : 0 < n4) (s : FVec Ideal ⟨5, ![n0, n1, n2, n3, n4]⟩ .f32)
    (hb : (⟨0, ![]⟩ : Shape).BroadcastsInDim ⟨4, ![n0, n1, n2, n3]⟩ ![])
    (h : (⟨5, ![n0, n1, n2, n3, n4]⟩ : Shape).ReducesTo [4] ⟨4, ![n0, n1, n2, n3]⟩) (hu : 0 < (⟨0, ![]⟩ : Shape).numel)
    (a : Fin n0) (b : Fin n1) (c : Fin n2) (d : Fin n3) (y : Fin n4 → ℝ) (hy : ∀ k, s (ix5 a b c d k) = (y k : EReal)) :
    ∃ M : ℝ, maximumf (broadcastInDim ⟨4, ![n0, n1, n2, n3]⟩ ![] hb (constant (F := Ideal) ⟨0, ![]⟩ .f32 0xFF800000#32))
      (Host.reduce FloatOps.maximumf s (constant (F := Ideal) ⟨0, ![]⟩ .f32 0xFF800000#32) h hu) (ix4 a b c d) = (M : EReal) := by
  obtain ⟨M, hM⟩ := fold_max_real hn y
  refine ⟨M, ?_⟩
  pointwise []
  simp only [hy, negInf_f32, hM, bot_le, max_eq_right]

/-- The largest of real scores is real. -/
theorem refTop_real (s : FVec Ideal S4x2x4x4096x4352 .f32) (b : Fin 4) (h : Fin 2) (g : Fin 4) (n : Fin 4096) (y : Fin 4352 → ℝ)
    (hy : ∀ k, s (ix5 b h g n k) = (y k : EReal)) : ∃ M : ℝ, refTop s (ix4 b h g n) = (M : EReal) :=
  top5_real (by norm_num) s bcast_S_S4x2x4x4096 reducesTo_S4x2x4x4096x4352_S4x2x4x4096_d4 h_S_ b h g n y hy

theorem refExp_apply (s : FVec Ideal S4x2x4x4096x4352 .f32) (b : Fin 4) (h : Fin 2) (g : Fin 4) (n : Fin 4096) (k : Fin 4352) :
    refExp s (ix5 b h g n k) = Ideal.exp (s (ix5 b h g n k) - refTop s (ix4 b h g n)) := by
  pointwise [refExp]

theorem refWeights_apply (e : FVec Ideal S4x2x4x4096x4352 .f32) (b : Fin 4) (h : Fin 2) (g : Fin 4) (n : Fin 4096) (k : Fin 4352) :
    refWeights e (ix5 b h g n k) = Ideal.div (e (ix5 b h g n k)) (∑ x : Fin 4352, e (ix5 b h g n x)) := by
  pointwise [refWeights]

theorem refOut_apply (p : FVec Ideal S4x2x4x4096x4352 .f32) (V : FVec Ideal S4x4352x2x128 .f32) (R : Fin 16384) (C : Fin 1024) :
    refOut p V (ix2 R C) = ∑ x : Fin 4352, V (ix4 ⟨R.val / 4096, by omega⟩ x ⟨C.val / 512, by omega⟩ ⟨C.val % 128, by omega⟩)
      * p (ix5 ⟨R.val / 4096, by omega⟩ ⟨C.val / 512, by omega⟩ ⟨C.val / 128 % 4, by omega⟩ ⟨R.val % 4096, by omega⟩ x) := by
  pointwise [refOut]

/-- The plain attention of real queries and keys is the softmax average. -/
theorem refAttn_eq (hQ : ∀ i, Q i = (Qr i : EReal)) (hK : ∀ i, K i = (Kr i : EReal)) (V : FVec Ideal S4x4352x2x128 .f32) (R : Fin 16384)
    (C : Fin 1024) : refOut (refWeights (refExp (refScores Q K))) V (ix2 R C) = attn Qr Kr V R C := by
  rw [refOut_apply]
  unfold attn attnAt
  generalize (⟨R.val / 4096, _⟩ : Fin 4) = b
  generalize (⟨R.val % 4096, _⟩ : Fin 4096) = n
  generalize (⟨C.val / 512, _⟩ : Fin 2) = h
  generalize (⟨C.val / 128 % 4, _⟩ : Fin 4) = g
  generalize (⟨C.val % 128, _⟩ : Fin 128) = d
  obtain ⟨M, hM⟩ := refTop_real (refScores Q K) b h g n (fun k => dotR Qr Kr b n h g k.val / Real.sqrt 128) (refScores_apply hQ hK b h g n)
  have he (k : Fin 4352) : refExp (refScores Q K) (ix5 b h g n k)
      = Ideal.exp ((dotR Qr Kr b n h g k.val / Real.sqrt 128 - M : ℝ) : EReal) := by
    rw [refExp_apply, refScores_apply hQ hK, hM, EReal.coe_sub]
  have hs : ∑ x : Fin 4352, refExp (refScores Q K) (ix5 b h g n x)
      = ((∑ k ∈ Finset.range nKeys, Real.exp (dotR Qr Kr b n h g k / Real.sqrt 128 - M) : ℝ) : EReal) := by
    rw [coe_sum]
    refine Eq.trans ?_ (Finset.sum_range (n := 4352) fun k => ((Real.exp (dotR Qr Kr b n h g k / Real.sqrt 128 - M) : ℝ) : EReal)).symm
    exact Finset.sum_congr rfl fun k _ => (he k).trans (Ideal.exp_coe _)
  simp only [mul_scale]
  rw [← sum_div_mix _ M]
  refine Eq.trans ?_ (Finset.sum_range (n := 4352) _).symm
  refine Finset.sum_congr rfl fun k _ => ?_
  rw [refWeights_apply, he, hs, valN_of_lt]

end

end Cert.Attn

end
-- ==== Proof.Attn.lean ====
/- The attention's value claim: of finite queries and keys, the kernel's result and the plain softmax attention's are equal at
   the extended reals. -/
module

public import proofs.«01_k».proof.Defs
public import proofs.«01_k».proof.Proof.AttnValue
public import proofs.«01_k».proof.Proof.AttnReference
public import proofs.«01_k».proof.Proof.AttnFrames
public import Idealize.ShloMosaic.Lib.ReduceAll

@[expose] public section

set_option maxRecDepth 16384

noncomputable section

open Idealize.ShloMosaic Idealize.ShloMosaic.TcCoe Idealize.SL.Sem

namespace Cert.Attn

/-- The precondition's shape facts. -/
theorem preFacts : Cert.Pre_finite_scores.Facts where
  bcast_S_S4x4096x8x128 := by decide
  reducesTo_S4x4096x8x128_S_d0_1_2_3 := by decide
  h_S_ := by decide
  bcast_S_S4x4352x2x128 := by decide
  reducesTo_S4x4352x2x128_S_d0_1_2_3 := by decide

instance : Cert.Pre_finite_scores.Facts := preFacts

/-- The literal +∞. -/
theorem posInf_f32 : Ideal.ofBits .f32 2139095040#32 = ⊤ := by simp [Ideal.ofBits, Ideal.ieee]

/-- A value whose magnitude is below +∞ is real. -/
theorem real_of_abs_lt (x : EReal) (h : max x (-x) < ⊤) : ∃ r : ℝ, x = r := by
  induction x with
  | bot => simp at h
  | top => simp at h
  | coe r => exact ⟨r, rfl⟩

/-- Every element's magnitude below +∞, as the host tests it: every element is real. -/
theorem all_real {s : Shape} {axes : List (Fin s.rank)} (x : FVec Ideal s .f32) (hb : (⟨0, ![]⟩ : Shape).BroadcastsInDim s ![])
    (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32)))
      (constantI ⟨0, ![]⟩ 1 1#1) h hu j = 1#1) (i : s.Idx) : ∃ r : ℝ, x i = (r : EReal) := by
  haveI : Subsingleton (⟨0, ![]⟩ : Shape).Idx := ⟨fun a b => funext fun k => k.elim0⟩
  have hi := Host.reduce_andi_all _ _ h hu j e i
  have hi' : Ideal.cmp .olt (max (x i) (-(x i))) (Ideal.ofBits .f32 2139095040#32) = 1 := hi
  rw [posInf_f32, Ideal.cmp_olt_eq_one] at hi'
  exact real_of_abs_lt _ hi'

/-- An `and` of two bits is one: both are. -/
theorem andi_one : ∀ a b : BitVec 1, IntOp.andi a b = 1#1 → a = 1#1 ∧ b = 1#1 := by decide

/-- The precondition: the queries and keys are real. -/
theorem real_of_pre (m : (ℓ : Loc Cert.Kernel2Ideal.nD Cert.Kernel2Ideal.τ Cert.Kernel2Ideal.sig) → Buf (Elt Ideal) ℓ)
    (h : Cert.Pre_Kernel2Ideal_finite_scores m) (c : Dev Cert.Kernel2Ideal.nD) :
    (∀ i, ∃ r : ℝ, argQ m c i = (r : EReal)) ∧ ∀ i, ∃ r : ℝ, argK m c i = (r : EReal) := by
  have e := congrFun (h c) ix0
  obtain ⟨e1, e2⟩ := andi_one _ _ e
  exact ⟨all_real _ _ _ _ _ e1, all_real _ _ _ _ _ e2⟩

/-- The kernel's frame under the precondition. -/
theorem frame_kernel2Ideal_pre : Cert.quiescent_Kernel2Ideal_pre_finite_scores := fun m ρ _ => frame (F := Ideal) m ρ

/-- The plain attention's frame under the precondition. -/
theorem frame_reference2Ideal_pre : Cert.quiescent_Reference2Ideal_pre_finite_scores := fun m ρ _ => frame_reference2Ideal m ρ trivial

/-- Of finite queries and keys, whatever the values and the bound, the kernel and the plain attention leave the same array. -/
theorem algebraic : Cert.algebraic_Kernel2Ideal_Reference2Ideal_pre_finite_scores := by
  intro m ρ m' ρ' hpre hagree
  choose Qr hQ using fun c => (real_of_pre m hpre c).1
  choose Kr hK using fun c => (real_of_pre m hpre c).2
  refine ⟨fun c => outV m (Qr c) (Kr c) c, run m hQ hK ρ, ?_⟩
  refine (θ_run Cert.Reference2Ideal.defs _ _).mono (fun _ h c => ⟨(h c).1.trans ?_, (h c).2⟩) (Cert.Reference2Ideal.Value.run (F := Ideal) m' ρ')
  obtain ⟨-, e1, e2, e3⟩ := hagree c
  rw [e1, e2, e3]
  funext i
  obtain ⟨R, C, rfl⟩ : ∃ (R : Fin 16384) (C : Fin 1024), i = ix2 R C := ⟨i 0, i 1, eq_ix2 i⟩
  exact refAttn_eq (hQ c) (hK c) (argV m c) R C

end Cert.Attn

end
-- ==== Proof.TailFrames.lean ====
/- The frames of the gated merge, the output projection and the MLP, in one call, and of its plain host lines. -/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import Idealize.ShloMosaic.Lib.Quiescent

@[expose] public section

noncomputable section

open Idealize.ShloMosaic Idealize.ShloMosaic.TcCoe Idealize.SL.Sem

namespace Cert.Proof.Tail

/-- The kernel ends, leaving its arguments as they were and every counter at zero. -/
theorem frame_kernel3 : Cert.quiescent_Kernel3 := fun m ρ _ => Cert.Kernel3.Gen.frame m ρ

/-- The same at the ideal instance. -/
theorem frame_kernel3Ideal : Cert.quiescent_Kernel3Ideal := fun m ρ _ => Cert.Kernel3Ideal.Gen.frame m ρ

/-- The host lines end, leaving their arguments as they were; they have no counter. -/
theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Nothing was rewritten on the way to the ideal instance. -/
theorem preserves : Cert.preserves_Kernel3_Kernel3Ideal := trivial

end Cert.Proof.Tail

end
-- ==== Proof.TailSpec.lean ====
/- The layer's tail, a row at a time: the linear attention's heads normalised and gated, the two branches merged, the
   output projection, and the MLP, each with its gated residual. A row is one token; the functions below take its
   vectors and give its result. -/
module

public import Idealize.ShloMosaic.PureOps.Ideal
public import Idealize.ShloMosaic.Lib.Pointwise

@[expose] public section

noncomputable section

open Idealize.ShloMosaic

namespace Cert.Tail

/-- The logistic function. -/
def sigm (a : EReal) : EReal := Ideal.div (Ideal.ofBits .f32 1065353216#32) (Ideal.ofBits .f32 1065353216#32 + Ideal.exp (-a))

/-- The reciprocal root of the mean square, `N` being the word for the number of entries. -/
def rinv (N : BitVec 32) {n : Nat} (a : Fin n → EReal) : EReal :=
  Ideal.rsqrt (Ideal.div (∑ k, a k * a k) (Ideal.ofBits .f32 N) + Ideal.ofBits .f32 897988541#32)

/-- Entry `k` of one of the linear attention's heads, normalised. -/
def head (o gn : Fin 256 → EReal) (k : Fin 256) : EReal := o k * rinv 1132462080#32 o * gn k

/-- The two branches through their projections, each times its gate. -/
def merged (attn gla ga gg : Fin 1024 → EReal) (wa wg : Fin 1024 → Fin 1024 → EReal) (k : Fin 1024) : EReal :=
  ga k * (∑ i, attn i * wa i k) + gg k * (∑ i, gla i * wg i k)

/-- The output projection, gated, added to the layer's input. -/
def resid {n : Nat} (x g : Fin 1024 → EReal) (y : Fin n → EReal) (w : Fin n → Fin 1024 → EReal) (k : Fin 1024) : EReal :=
  x k + g k * (∑ i, y i * w i k)

/-- The second norm with its modulation. -/
def modulated (x n2 sc sh : Fin 1024 → EReal) (k : Fin 1024) : EReal :=
  x k * rinv 1149239296#32 x * n2 k * (Ideal.ofBits .f32 1065353216#32 + sc k) + sh k

/-- One of the MLP's hidden entries: the squared positive part. -/
def hidden {n : Nat} (h : Fin 1024 → EReal) (w : Fin 1024 → Fin n → EReal) (j : Fin n) : EReal :=
  max (∑ i, h i * w i j) (Ideal.ofBits .f32 0#32) * max (∑ i, h i * w i j) (Ideal.ofBits .f32 0#32)

/-- One token's result: `x` the layer's input, `attn` and `gla` the two branches, `ga` and `gg` their gates. -/
def row (x attn gla ga gg gt1 sh2 sc2 gt2 n2 : Fin 1024 → EReal)
    (wa wg wo : Fin 1024 → Fin 1024 → EReal) (w1 : Fin 1024 → Fin 4096 → EReal) (w2 : Fin 4096 → Fin 1024 → EReal) : Fin 1024 → EReal :=
  let x1 := resid x gt1 (merged attn gla ga gg wa wg) wo
  resid x1 gt2 (hidden (modulated x1 n2 sc2 sh2) w1) w2

/-- The tail's arguments: the layer's input, the attention, the linear attention's two directions, the gates before
    their activations, the heads' gain, the modulation, the branches' and the output's projections, the second norm's
    gain and the MLP's weights. -/
structure Args where
  x : (⟨3, ![4, 4096, 1024]⟩ : Shape).Idx → EReal
  attn : (⟨3, ![4, 4096, 1024]⟩ : Shape).Idx → EReal
  fwd : (⟨4, ![4, 4, 4096, 256]⟩ : Shape).Idx → EReal
  bwd : (⟨4, ![4, 4, 4096, 256]⟩ : Shape).Idx → EReal
  go : (⟨3, ![4, 4096, 1024]⟩ : Shape).Idx → EReal
  ga : (⟨3, ![4, 4096, 1024]⟩ : Shape).Idx → EReal
  gg : (⟨3, ![4, 4096, 1024]⟩ : Shape).Idx → EReal
  gn : (⟨1, ![256]⟩ : Shape).Idx → EReal
  mod : (⟨2, ![4, 6144]⟩ : Shape).Idx → EReal
  wa : (⟨2, ![1024, 1024]⟩ : Shape).Idx → EReal
  wg : (⟨2, ![1024, 1024]⟩ : Shape).Idx → EReal
  wo : (⟨2, ![1024, 1024]⟩ : Shape).Idx → EReal
  n2 : (⟨1, ![1024]⟩ : Shape).Idx → EReal
  w1 : (⟨2, ![1024, 4096]⟩ : Shape).Idx → EReal
  w2 : (⟨2, ![4096, 1024]⟩ : Shape).Idx → EReal

namespace Args

variable (a : Args)

/-- The two directions added, the second read backwards. -/
def o (b : Fin 4) (n : Fin 4096) (h : Fin 4) (d : Fin 256) : EReal :=
  a.fwd (ix4 b h n d) + a.bwd (ix4 b h n.rev d)

/-- The output gate's activation. -/
def silu (b : Fin 4) (n : Fin 4096) (k : Fin 1024) : EReal := a.go (ix3 b n k) * sigm (a.go (ix3 b n k))

/-- The linear attention's row of a token: its heads normalised and gated. -/
def gla (b : Fin 4) (n : Fin 4096) (k : Fin 1024) : EReal :=
  head (a.o b n ⟨k.val / 256, by omega⟩) (fun d => a.gn (ix1 d)) ⟨k.val % 256, by omega⟩ * a.silu b n k

/-- One of the six modulation vectors of a sequence. -/
def vec (j : Fin 6) (b : Fin 4) (k : Fin 1024) : EReal := a.mod (ix2 b ⟨j.val * 1024 + k.val, by omega⟩)

/-- The tail's result for token `n` of sequence `b`. -/
def token (b : Fin 4) (n : Fin 4096) : Fin 1024 → EReal :=
  row (fun k => a.x (ix3 b n k)) (fun k => a.attn (ix3 b n k)) (a.gla b n) (fun k => sigm (a.ga (ix3 b n k))) (fun k => sigm (a.gg (ix3 b n k)))
    (a.vec 2 b) (a.vec 3 b) (a.vec 4 b) (a.vec 5 b) (fun k => a.n2 (ix1 k)) (fun i k => a.wa (ix2 i k)) (fun i k => a.wg (ix2 i k))
    (fun i k => a.wo (ix2 i k)) (fun i k => a.w1 (ix2 i k)) (fun i k => a.w2 (ix2 i k))

/-- The tail's result, tokens laid out in rows. -/
def result (R : Fin 16384) (k : Fin 1024) : EReal := a.token ⟨R.val / 4096, by omega⟩ ⟨R.val % 4096, by omega⟩ k

end Args

end Cert.Tail

end
-- ==== Proof.TailReference.lean ====
/- What the plain lines of the layer's tail compute at an index. -/
module

public import proofs.«01_k».proof.Proof.TailSpec
public import proofs.«01_k».proof.Proof.Gen.Reference3Ideal.Run
public import Idealize.ShloMosaic.Lib.Pointwise

@[expose] public section

set_option maxRecDepth 65536

noncomputable section

open Idealize.ShloMosaic Idealize.ShloMosaic.TcCoe Idealize.SL.Sem Idealize.ShloMosaic.StableHlo

namespace Cert.Tail

section
open Cert.Reference3Ideal Cert.Reference3Ideal.Gen

/-- The linear attention's two directions added, heads last but one. -/
def refO (of ob : FVec Ideal S4x4x4096x256 .f32) : FVec Ideal S4x4096x4x256 .f32 :=
  transpose S4x4096x4x256 [0, 2, 1, 3] (addf of (Host.reverse [2] ob)) transposes_S4x4x4096x256_S4x4096x4x256_0_2_1_3

/-- The heads normalised. -/
def refNorm (o : FVec Ideal S4x4096x4x256 .f32) (gn : FVec Ideal S256 .f32) : FVec Ideal S4x4096x4x256 .f32 :=
  mulf (mulf o (broadcastInDim S4x4096x4x256 ![0, 1, 2, 3] bcast_S4x4096x4x1_S4x4096x4x256_0_1_2_3 (Host.rsqrt (addf (Host.divf (broadcastInDim S4x4096x4x1 ![0, 1, 2] bcast_S4x4096x4_S4x4096x4x1_0_1_2 (Host.reduceAdd (mulf o o) (constant S_ .f32 0x00000000#32) reducesTo_S4x4096x4x256_S4x4096x4_d3 h_S_)) (broadcastInDim S4x4096x4x1 ![] bcast_S_S4x4096x4x1 (constant S_ .f32 0x43800000#32))) (broadcastInDim S4x4096x4x1 ![] bcast_S_S4x4096x4x1 (constant S_ .f32 0x358637BD#32)))))) (broadcastInDim S4x4096x4x256 ![0, 1, 2, 3] bcast_S1x1x1x256_S4x4096x4x256_0_1_2_3 (broadcastInDim S1x1x1x256 ![3] bcast_S256_S1x1x1x256_3 gn))

/-- The heads times their gates. -/
def refGla (n : FVec Ideal S4x4096x4x256 .f32) (go : FVec Ideal S4x4096x1024 .f32) : FVec Ideal S4x4096x1024 .f32 :=
  shapeCast _ (mulf n (mulf (shapeCast _ go shapeCasts_S4x4096x1024_S4x4096x4x256) (Host.divf (broadcastInDim S4x4096x4x256 ![] bcast_S_S4x4096x4x256 (constant S_ .f32 0x3F800000#32)) (addf (broadcastInDim S4x4096x4x256 ![] bcast_S_S4x4096x4x256 (constant S_ .f32 0x3F800000#32)) (Host.exp (Host.negf (shapeCast _ go shapeCasts_S4x4096x1024_S4x4096x4x256))))))) shapeCasts_S4x4096x4x256_S4x4096x1024

/-- A branch through its projection, times its gate's logistic function. -/
def refBranch (g a : FVec Ideal S4x4096x1024 .f32) (w : FVec Ideal S1024x1024 .f32) : FVec Ideal S4x4096x1024 .f32 :=
  mulf (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf g)))) (Host.dotGeneral dot_S4x4096x1024_S1024x1024_S4x4096x1024_2_0_01_1_n_n none a w)

/-- A modulation vector of each sequence, spread over its tokens. -/
def refRows (s : FVec Ideal S4x1x1024 .f32) : FVec Ideal S4x4096x1024 .f32 :=
  broadcastInDim S4x4096x1024 ![0, 1, 2] bcast_S4x1x1024_S4x4096x1024_0_1_2 s

/-- A modulation vector with an axis of one token. -/
def refVec (s : FVec Ideal S4x1024 .f32) : FVec Ideal S4x1x1024 .f32 := broadcastInDim S4x1x1024 ![0, 2] bcast_S4x1024_S4x1x1024_0_2 s

/-- The output projection, gated, added to the input. -/
def refX1 (x y : FVec Ideal S4x4096x1024 .f32) (g : FVec Ideal S4x1024 .f32) (w : FVec Ideal S1024x1024 .f32) : FVec Ideal S4x4096x1024 .f32 :=
  addf x (mulf (refRows (refVec g)) (Host.dotGeneral dot_S4x4096x1024_S1024x1024_S4x4096x1024_2_0_01_1_n_n none y w))

/-- The second norm with its modulation. -/
def refH (x : FVec Ideal S4x4096x1024 .f32) (n2 : FVec Ideal S1024 .f32) (sc sh : FVec Ideal S4x1024 .f32) : FVec Ideal S4x4096x1024 .f32 :=
  addf (mulf (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 n2))) (refRows (addf (broadcastInDim S4x1x1024 ![] bcast_S_S4x1x1024 (constant S_ .f32 0x3F800000#32)) (refVec sc)))) (refRows (refVec sh))

/-- The MLP's hidden entries. -/
def refU (h : FVec Ideal S4x4096x1024 .f32) (w : FVec Ideal S1024x4096 .f32) : FVec Ideal S4x4096x4096 .f32 :=
  maximumf (Host.dotGeneral dot_S4x4096x1024_S1024x4096_S4x4096x4096_2_0_01_1_n_n none h w) (broadcastInDim S4x4096x4096 ![] bcast_S_S4x4096x4096 (constant S_ .f32 0x00000000#32))

/-- The MLP's product, gated, added, and laid out by rows. -/
def refOut (x : FVec Ideal S4x4096x1024 .f32) (u : FVec Ideal S4x4096x4096 .f32) (g : FVec Ideal S4x1024 .f32) (w : FVec Ideal S4096x1024 .f32) : FVec Ideal S16384x1024 .f32 :=
  shapeCast _ (addf x (mulf (refRows (refVec g)) (Host.dotGeneral dot_S4x4096x4096_S4096x1024_S4x4096x1024_2_0_01_1_n_n none (mulf u u) w))) shapeCasts_S4x4096x1024_S16384x1024

theorem refO_apply (of ob : FVec Ideal S4x4x4096x256 .f32) (b : Fin 4) (n : Fin 4096) (h : Fin 4) (d : Fin 256) :
    refO of ob (ix4 b n h d) = of (ix4 b h n d) + ob (ix4 b h n.rev d) := by
  pointwise [refO]
  rfl

theorem refNorm_apply (o : FVec Ideal S4x4096x4x256 .f32) (gn : FVec Ideal S256 .f32) (b : Fin 4) (n : Fin 4096) (h : Fin 4) (d : Fin 256) :
    refNorm o gn (ix4 b n h d) = o (ix4 b n h d) * rinv 1132462080#32 (fun k : Fin 256 => o (ix4 b n h k)) * gn (ix1 d) := by
  pointwise [refNorm, rinv]

theorem refGla_apply (n : FVec Ideal S4x4096x4x256 .f32) (go : FVec Ideal S4x4096x1024 .f32) (b : Fin 4) (s : Fin 4096) (k : Fin 1024) :
    refGla n go (ix3 b s k) = n (ix4 b s ⟨k.val / 256, by omega⟩ ⟨k.val % 256, by omega⟩) * (go (ix3 b s k) * sigm (go (ix3 b s k))) := by
  pointwise [refGla, sigm]

theorem refBranch_apply (g a : FVec Ideal S4x4096x1024 .f32) (w : FVec Ideal S1024x1024 .f32) (b : Fin 4) (s : Fin 4096) (k : Fin 1024) :
    refBranch g a w (ix3 b s k) = sigm (g (ix3 b s k)) * ∑ i : Fin 1024, a (ix3 b s i) * w (ix2 i k) := by
  pointwise [refBranch, sigm]

theorem refX1_apply (x y : FVec Ideal S4x4096x1024 .f32) (g : FVec Ideal S4x1024 .f32) (w : FVec Ideal S1024x1024 .f32) (b : Fin 4) (s : Fin 4096) (k : Fin 1024) :
    refX1 x y g w (ix3 b s k) = resid (fun k => x (ix3 b s k)) (fun k => g (ix2 b k)) (fun i : Fin 1024 => y (ix3 b s i)) (fun i k => w (ix2 i k)) k := by
  pointwise [refX1, refRows, refVec, resid]

theorem refH_apply (x : FVec Ideal S4x4096x1024 .f32) (n2 : FVec Ideal S1024 .f32) (sc sh : FVec Ideal S4x1024 .f32) (b : Fin 4) (s : Fin 4096) (k : Fin 1024) :
    refH x n2 sc sh (ix3 b s k) = modulated (fun k => x (ix3 b s k)) (fun k => n2 (ix1 k)) (fun k => sc (ix2 b k)) (fun k => sh (ix2 b k)) k := by
  pointwise [refH, refRows, refVec, modulated, rinv]

theorem refU_apply (h : FVec Ideal S4x4096x1024 .f32) (w : FVec Ideal S1024x4096 .f32) (b : Fin 4) (s : Fin 4096) (j : Fin 4096) :
    refU h w (ix3 b s j) * refU h w (ix3 b s j) = hidden (fun i => h (ix3 b s i)) (fun i j => w (ix2 i j)) j := by
  pointwise [refU, hidden]

theorem refOut_apply (x : FVec Ideal S4x4096x1024 .f32) (u : FVec Ideal S4x4096x4096 .f32) (g : FVec Ideal S4x1024 .f32) (w : FVec Ideal S4096x1024 .f32)
    (R : Fin 16384) (k : Fin 1024) : refOut x u g w (ix2 R k)
      = resid (fun k => x (ix3 ⟨R.val / 4096, by omega⟩ ⟨R.val % 4096, by omega⟩ k)) (fun k => g (ix2 ⟨R.val / 4096, by omega⟩ k))
        (fun i : Fin 4096 => u (ix3 ⟨R.val / 4096, by omega⟩ ⟨R.val % 4096, by omega⟩ i) * u (ix3 ⟨R.val / 4096, by omega⟩ ⟨R.val % 4096, by omega⟩ i)) (fun i k => w (ix2 i k)) k := by
  pointwise [refOut, refRows, refVec, resid]

/-- The lines' result from their arguments. -/
def refAll (a : Args) : FVec Ideal S16384x1024 .f32 :=
  let x1 := refX1 a.x (addf (refBranch a.ga a.attn a.wa) (refBranch a.gg (refGla (refNorm (refO a.fwd a.bwd) a.gn) a.go) a.wg))
    (extractStridedSlice S4x1024 ![0, 2048] a.mod slices_S4x6144_S4x1024_0_2048) a.wo
  refOut x1 (refU (refH x1 a.n2 (extractStridedSlice S4x1024 ![0, 4096] a.mod slices_S4x6144_S4x1024_0_4096)
      (extractStridedSlice S4x1024 ![0, 3072] a.mod slices_S4x6144_S4x1024_0_3072)) a.w1)
    (extractStridedSlice S4x1024 ![0, 5120] a.mod slices_S4x6144_S4x1024_0_5120) a.w2

theorem slice2 (m : FVec Ideal S4x6144 .f32) (b : Fin 4) (k : Fin 1024) :
    extractStridedSlice S4x1024 ![0, 2048] m slices_S4x6144_S4x1024_0_2048 (ix2 b k) = m (ix2 b ⟨2048 + k.val, by omega⟩) := by
  pointwise []

theorem slice3 (m : FVec Ideal S4x6144 .f32) (b : Fin 4) (k : Fin 1024) :
    extractStridedSlice S4x1024 ![0, 3072] m slices_S4x6144_S4x1024_0_3072 (ix2 b k) = m (ix2 b ⟨3072 + k.val, by omega⟩) := by
  pointwise []

theorem slice4 (m : FVec Ideal S4x6144 .f32) (b : Fin 4) (k : Fin 1024) :
    extractStridedSlice S4x1024 ![0, 4096] m slices_S4x6144_S4x1024_0_4096 (ix2 b k) = m (ix2 b ⟨4096 + k.val, by omega⟩) := by
  pointwise []

theorem slice5 (m : FVec Ideal S4x6144 .f32) (b : Fin 4) (k : Fin 1024) :
    extractStridedSlice S4x1024 ![0, 5120] m slices_S4x6144_S4x1024_0_5120 (ix2 b k) = m (ix2 b ⟨5120 + k.val, by omega⟩) := by
  pointwise []

/-- The plain lines' result is the tail, token by token. -/
theorem refAll_apply (a : Args) (R : Fin 16384) (k : Fin 1024) : refAll a (ix2 R k) = a.result R k := by
  unfold refAll Args.result Args.token row
  rw [refOut_apply]
  generalize (⟨R.val / 4096, _⟩ : Fin 4) = b
  generalize (⟨R.val % 4096, _⟩ : Fin 4096) = n
  have hg (i : Fin 1024) : refGla (refNorm (refO a.fwd a.bwd) a.gn) a.go (ix3 b n i) = a.gla b n i := by
    rw [refGla_apply, refNorm_apply]
    simp only [refO_apply]
    rfl
  have hm (i : Fin 1024) : addf (refBranch a.ga a.attn a.wa) (refBranch a.gg (refGla (refNorm (refO a.fwd a.bwd) a.gn) a.go) a.wg) (ix3 b n i)
      = merged (fun k => a.attn (ix3 b n k)) (a.gla b n) (fun k => sigm (a.ga (ix3 b n k))) (fun k => sigm (a.gg (ix3 b n k)))
        (fun i k => a.wa (ix2 i k)) (fun i k => a.wg (ix2 i k)) i := by
    rw [addf_apply, refBranch_apply, refBranch_apply]
    simp only [hg]
    rfl
  simp only [refU_apply, refH_apply, refX1_apply, hm, slice2, slice3, slice4, slice5]
  rfl

variable (m : (ℓ : Loc nD τ sig) → Buf (Elt Ideal) ℓ) (ρ : Dev nD → PrngReg)

/-- The arguments as launched. -/
abbrev refArgs (c : Dev nD) : Args where
  x := m ((c : Thread nD τ).loc main_arg0)
  attn := m ((c : Thread nD τ).loc main_arg1)
  fwd := m ((c : Thread nD τ).loc main_arg2)
  bwd := m ((c : Thread nD τ).loc main_arg3)
  go := m ((c : Thread nD τ).loc main_arg4)
  ga := m ((c : Thread nD τ).loc main_arg5)
  gg := m ((c : Thread nD τ).loc main_arg6)
  gn := m ((c : Thread nD τ).loc main_arg7)
  mod := m ((c : Thread nD τ).loc main_arg8)
  wa := m ((c : Thread nD τ).loc main_arg9)
  wg := m ((c : Thread nD τ).loc main_arg10)
  wo := m ((c : Thread nD τ).loc main_arg11)
  n2 := m ((c : Thread nD τ).loc main_arg12)
  w1 := m ((c : Thread nD τ).loc main_arg13)
  w2 := m ((c : Thread nD τ).loc main_arg14)

/-- What the run leaves is the lines' result from the arguments as launched. -/
theorem res_eq (c : Dev nD) : Cert.Reference3Ideal.Value.res_out0 (F := Ideal) m c = refAll (refArgs m c) := rfl

end

end Cert.Tail

end
-- ==== Proof.TailPoint.lean ====
/- The tail body's arithmetic at one index, at the extended reals. -/
module

public import proofs.«01_k».proof.Proof.TailSpec
public import proofs.«01_k».proof.Proof.Gen.Kernel3Ideal.Skeleton

@[expose] public section

set_option maxRecDepth 16384

noncomputable section

open Idealize.ShloMosaic Idealize.ShloMosaic.TcCoe Idealize.SL.Sem

namespace Cert.Tail

open Cert.Kernel3Ideal Cert.Kernel3Ideal.Gen

/-- A head's row, from its two directions and its gate. -/
def headOf (gn : FVec Ideal S1x256 .f32) (o1 o2 g : FVec Ideal S512x256 .bf16) (r : Fin 512) (d : Fin 256) : EReal :=
  head (fun d => o1 (ix2 r d) + o2 (ix2 r d)) (fun d => gn (ix2 0 d)) d * g (ix2 r d)

theorem pay3_apply (gn : FVec Ideal S1x256 .f32) (o1 o2 g : FVec Ideal S512x256 .bf16) (r : Fin 512) (d : Fin 256) :
    k0_pay3 (F := Ideal) gn o1 o2 g (ix2 r d) = headOf gn o1 o2 g r d := by
  pointwise [k0_pay3, k0_pay2, headOf, head, rinv]

theorem pay6_apply (gn : FVec Ideal S1x256 .f32) (o1 o2 g : FVec Ideal S512x256 .bf16) (r : Fin 512) (d : Fin 256) :
    k0_pay6 (F := Ideal) (k0_pay2 gn) (k0_pay4 o1 o2) (k0_pay5 o1 o2) g (ix2 r d) = headOf gn o1 o2 g r d := by
  pointwise [k0_pay6, k0_pay5, k0_pay4, k0_pay2, headOf, head, rinv]

theorem pay7_apply (gn : FVec Ideal S1x256 .f32) (o1 o2 g : FVec Ideal S512x256 .bf16) (r : Fin 512) (d : Fin 256) :
    k0_pay7 (F := Ideal) (k0_pay2 gn) o1 o2 g (ix2 r d) = headOf gn o1 o2 g r d := by
  pointwise [k0_pay7, k0_pay2, headOf, head, rinv]

/-- Four heads side by side. -/
def heads (a0 a1 a2 a3 : Fin 256 → EReal) (i : Fin 1024) : EReal :=
  if h : i.val < 256 then a0 ⟨i.val, h⟩ else if h1 : i.val - 256 < 256 then a1 ⟨i.val - 256, h1⟩
    else if h2 : i.val - 256 - 256 < 256 then a2 ⟨i.val - 256 - 256, h2⟩ else a3 ⟨i.val - 256 - 256 - 256, by omega⟩

/-- Four heads of one family side by side: entry `i` is entry `i % 256` of head `i / 256`. -/
theorem heads_eq (f : Fin 4 → Fin 256 → EReal) (i : Fin 1024) :
    heads (f 0) (f 1) (f 2) (f 3) i = f ⟨i.val / 256, by omega⟩ ⟨i.val % 256, by omega⟩ := by
  have e (a : Fin 4) (d : Fin 256) (h : i.val = a.val * 256 + d.val) : f a d = f ⟨i.val / 256, by omega⟩ ⟨i.val % 256, by omega⟩ := by
    have h1 : (⟨i.val / 256, by omega⟩ : Fin 4) = a := Fin.ext (by show i.val / 256 = a.val; omega)
    have h2 : (⟨i.val % 256, by omega⟩ : Fin 256) = d := Fin.ext (by show i.val % 256 = d.val; omega)
    rw [h1, h2]
  unfold heads
  split
  · exact e 0 _ (by show i.val = 0 * 256 + i.val; omega)
  split
  · exact e 1 _ (by show i.val = 1 * 256 + (i.val - 256); omega)
  split
  · exact e 2 _ (by show i.val = 2 * 256 + (i.val - 256 - 256); omega)
  · exact e 3 _ (by show i.val = 3 * 256 + (i.val - 256 - 256 - 256); omega)

theorem pay12_apply (gn : FVec Ideal S1x256 .f32) (a0 a1 a2 o1 o2 g : FVec Ideal S512x256 .bf16) (ga : FVec Ideal S512x1024 .bf16) (attn : FVec Ideal S512x1024 .bf16)
    (wa : FVec Ideal S1024x1024 .bf16) (gg : FVec Ideal S512x1024 .bf16) (wg : FVec Ideal S1024x1024 .bf16) (r : Fin 512) (k : Fin 1024) :
    k0_pay12 (k0_pay2 gn) a0 a1 a2 (k0_pay8 o1 o2) (k0_pay9 o1 o2) (Scalar.ofBits .f32 0x43800000#32) g ga attn wa gg wg (ix2 r k)
      = merged (fun k => attn (ix2 r k)) (heads (fun d => a0 (ix2 r d)) (fun d => a1 (ix2 r d)) (fun d => a2 (ix2 r d)) (headOf gn o1 o2 g r))
        (fun k => ga (ix2 r k)) (fun k => gg (ix2 r k)) (fun i k => wa (ix2 i k)) (fun i k => wg (ix2 i k)) k := by
  pointwise [k0_pay12, k0_pay9, k0_pay8, k0_pay2]
  rfl

theorem pay13_apply (x : FVec Ideal S512x1024 .f32) (g : FVec Ideal S1x1x1x1024 .f32) (y : FVec Ideal S512x1024 .bf16) (w : FVec Ideal S1024x1024 .bf16) (r : Fin 512) (k : Fin 1024) :
    k0_pay13 (k0_pay10 x) (k0_pay11 g) y w (ix2 r k) = resid (fun k => x (ix2 r k)) (fun k => g (ix4 0 0 0 k)) (fun i : Fin 1024 => y (ix2 r i)) (fun i k => w (ix2 i k)) k := by
  pointwise [k0_pay13, k0_pay10, k0_pay11, resid]

theorem pay14_apply (x : FVec Ideal S512x1024 .f32) (g : FVec Ideal S1x1024 .f32) (y : FVec Ideal S512x1024 .bf16) (w : FVec Ideal S1024x1024 .bf16) (n2 : FVec Ideal S1x1024 .f32)
    (sc sh : FVec Ideal S1x1x1x1024 .f32) (r : Fin 512) (k : Fin 1024) :
    k0_pay14 x g y w n2 sc sh (ix2 r k) = modulated (fun k => k0_pay13 x g y w (ix2 r k)) (fun k => n2 (ix2 0 k)) (fun k => sc (ix4 0 0 0 k)) (fun k => sh (ix4 0 0 0 k)) k := by
  pointwise [k0_pay14, modulated, rinv]

theorem pay16_apply (x : FVec Ideal S512x1024 .f32) (g : FVec Ideal S1x1024 .f32) (y : FVec Ideal S512x1024 .bf16) (w : FVec Ideal S1024x1024 .bf16) (n2 : FVec Ideal S1x1024 .f32)
    (sc sh : FVec Ideal S1x1x1x1024 .f32) (w1 : FVec Ideal S1024x1024 .bf16) (r : Fin 512) (j : Fin 1024) :
    k0_pay16 x g y w n2 sc sh w1 (ix2 r j) = hidden (fun k => k0_pay14 x g y w n2 sc sh (ix2 r k)) (fun i j : Fin 1024 => w1 (ix2 i j)) j := by
  pointwise [k0_pay16, hidden]

/-- A chunk of the MLP's second product. -/
def chunk (h : Fin 1024 → EReal) (w1 w2 : FVec Ideal S1024x1024 .bf16) (k : Fin 1024) : EReal :=
  ∑ j : Fin 1024, hidden h (fun i j : Fin 1024 => w1 (ix2 i j)) j * w2 (ix2 j k)

theorem pay17_apply (h : FVec Ideal S512x1024 .bf16) (u : FVec Ideal S512x1024 .bf16) (p0 w1 p1 w2 p2 w3 p3 : FVec Ideal S1024x1024 .bf16) (r : Fin 512) (k : Fin 1024) :
    k0_pay17 h (k0_pay15 (F := Ideal)) u p0 w1 p1 w2 p2 w3 p3 (ix2 r k)
      = Ideal.ofBits .f32 0#32 + (∑ j : Fin 1024, u (ix2 r j) * p0 (ix2 j k)) + chunk (fun i => h (ix2 r i)) w1 p1 k
        + chunk (fun i => h (ix2 r i)) w2 p2 k + chunk (fun i => h (ix2 r i)) w3 p3 k := by
  pointwise [k0_pay17, k0_pay15, chunk, hidden]

theorem pay1_apply (x a : FVec Ideal S512x1024 .f32) (g : FVec Ideal S1x1x1x1024 .f32) (r : Fin 512) (k : Fin 1024) :
    k0_pay1 x a g (ix2 r k) = x (ix2 r k) + g (ix4 0 0 0 k) * a (ix2 r k) := by
  pointwise [k0_pay1]

end Cert.Tail

end
-- ==== Proof.TailBody.lean ====
/- What the tail's body leaves in its block: the payloads over the blocks' loads, and its entries, each token's result
   from the blocks' rows. -/
module

public import proofs.«01_k».proof.Proof.TailPoint
public import proofs.«01_k».proof.Proof.Gen.Kernel3Ideal.Value
public import Idealize.ShloMosaic.Lib.WholeRead

@[expose] public section

set_option maxRecDepth 65536

noncomputable section

open Idealize.ShloMosaic Idealize.ShloMosaic.TcCoe Idealize.SL.Sem

namespace Cert.Tail

open Cert.Kernel3Ideal Cert.Kernel3Ideal.Gen

/-- The columns from `o` on, 256 of them. -/
def cols (X : FVec Ideal S512x1024 .bf16) (o : Nat) (h : o + 256 ≤ 1024) : FVec Ideal S512x256 .bf16 :=
  fun j => X (ix2 (j 0) ⟨o + (j 1).val, by have := (j 1).isLt; change (j 1).val < 256 at this; omega⟩)

/-- A chunk of the MLP's first weights. -/
def wcol (W : FVec Ideal S1024x4096 .bf16) (o : Nat) (h : o + 1024 ≤ 4096) : FVec Ideal S1024x1024 .bf16 :=
  fun j => W (ix2 (j 0) ⟨o + (j 1).val, by have := (j 1).isLt; change (j 1).val < 1024 at this; omega⟩)

/-- A chunk of the MLP's second weights. -/
def wrow (W : FVec Ideal S4096x1024 .bf16) (o : Nat) (h : o + 1024 ≤ 4096) : FVec Ideal S1024x1024 .bf16 :=
  fun j => W (ix2 ⟨o + (j 0).val, by have := (j 0).isLt; change (j 0).val < 1024 at this; omega⟩ (j 1))

/-- A load of 256 columns. -/
theorem ld_cols (X : S512x1024.Idx → Elt Ideal .bf16) (o : Nat)
    (inb : ∀ a, (![0, o] : Fin 2 → Nat) a + (![512, 256] : Fin 2 → Nat) a ≤ S512x1024.size a) :
    View.ld X (Rect.unit (s := S512x1024) ![0, o] ![512, 256] inb) = cols X o (inb 1) :=
  funext fun j => congrArg X (funext fun a => Fin.ext (by
    match a with
    | ⟨0, _⟩ => show 0 + 1 * (j 0).val = (j 0).val; omega
    | ⟨1, _⟩ => show o + 1 * (j 1).val = o + (j 1).val; omega))

/-- A load of a chunk of the MLP's first weights. -/
theorem ld_wcol (W : S1024x4096.Idx → Elt Ideal .bf16) (o : Nat)
    (inb : ∀ a, (![0, o] : Fin 2 → Nat) a + (![1024, 1024] : Fin 2 → Nat) a ≤ S1024x4096.size a) :
    View.ld W (Rect.unit (s := S1024x4096) ![0, o] ![1024, 1024] inb) = wcol W o (inb 1) :=
  funext fun j => congrArg W (funext fun a => Fin.ext (by
    match a with
    | ⟨0, _⟩ => show 0 + 1 * (j 0).val = (j 0).val; omega
    | ⟨1, _⟩ => show o + 1 * (j 1).val = o + (j 1).val; omega))

/-- A load of a chunk of the MLP's second weights. -/
theorem ld_wrow (W : S4096x1024.Idx → Elt Ideal .bf16) (o : Nat)
    (inb : ∀ a, (![o, 0] : Fin 2 → Nat) a + (![1024, 1024] : Fin 2 → Nat) a ≤ S4096x1024.size a) :
    View.ld W (Rect.unit (s := S4096x1024) ![o, 0] ![1024, 1024] inb) = wrow W o (inb 0) :=
  funext fun j => congrArg W (funext fun a => Fin.ext (by
    match a with
    | ⟨0, _⟩ => show o + 1 * (j 0).val = o + (j 0).val; omega
    | ⟨1, _⟩ => show 0 + 1 * (j 1).val = (j 1).val; omega))

section
variable (x0 : FVec Ideal S512x1024 .f32) (x1 x2 x3 x4 x5 x6 : FVec Ideal S512x1024 .bf16) (x7 : FVec Ideal S1x256 .f32) (x8 : FVec Ideal S1x1x1x1024 .f32)
  (x9 x10 x11 : FVec Ideal S1024x1024 .bf16) (x12 x13 x14 : FVec Ideal S1x1x1x1024 .f32) (x15 : FVec Ideal S1x1024 .f32)
  (x16 : FVec Ideal S1024x4096 .bf16) (x17 : FVec Ideal S4096x1024 .bf16)

/-- The merged branches. -/
def bodyY : FVec Ideal S512x1024 .bf16 :=
  k0_pay12 (k0_pay2 x7) (k0_pay3 x7 (cols x2 0 (by omega)) (cols x3 0 (by omega)) (cols x4 0 (by omega)))
    (k0_pay6 (k0_pay2 x7) (k0_pay4 (cols x2 256 (by omega)) (cols x3 256 (by omega))) (k0_pay5 (cols x2 256 (by omega)) (cols x3 256 (by omega))) (cols x4 256 (by omega)))
    (k0_pay7 (k0_pay2 x7) (cols x2 512 (by omega)) (cols x3 512 (by omega)) (cols x4 512 (by omega)))
    (k0_pay8 (cols x2 768 (by omega)) (cols x3 768 (by omega))) (k0_pay9 (cols x2 768 (by omega)) (cols x3 768 (by omega)))
    (Scalar.ofBits .f32 0x43800000#32) (cols x4 768 (by omega)) x5 x1 x9 x6 x10

/-- The residual after the output projection, from the merged branches. -/
def bodyX (y : FVec Ideal S512x1024 .bf16) : FVec Ideal S512x1024 .f32 := k0_pay13 (k0_pay10 x0) (k0_pay11 x8) y x11

/-- The modulated rows. -/
def bodyH (y : FVec Ideal S512x1024 .bf16) : FVec Ideal S512x1024 .bf16 := k0_pay14 (k0_pay10 x0) (k0_pay11 x8) y x11 x15 x13 x12

/-- The MLP's product. -/
def bodyM (y : FVec Ideal S512x1024 .bf16) : FVec Ideal S512x1024 .f32 :=
  k0_pay17 (bodyH x0 x8 x11 x12 x13 x15 y) (k0_pay15 (F := Ideal))
    (k0_pay16 (k0_pay10 x0) (k0_pay11 x8) y x11 x15 x13 x12 (wcol x16 0 (by omega))) (wrow x17 0 (by omega))
    (wcol x16 1024 (by omega)) (wrow x17 1024 (by omega)) (wcol x16 2048 (by omega)) (wrow x17 2048 (by omega))
    (wcol x16 3072 (by omega)) (wrow x17 3072 (by omega))

/-- The body's block. -/
def body : FVec Ideal S512x1024 .f32 :=
  k0_pay1 (bodyX x0 x8 x11 (bodyY x1 x2 x3 x4 x5 x6 x7 x9 x10))
    (bodyM x0 x8 x11 x12 x13 x15 x16 x17 (bodyY x1 x2 x3 x4 x5 x6 x7 x9 x10)) x14

/-- A head's row from the blocks. -/
def headRow (r : Fin 512) (h : Fin 4) (d : Fin 256) : EReal :=
  head (fun d => x2 (ix2 r ⟨h.val * 256 + d.val, by omega⟩) + x3 (ix2 r ⟨h.val * 256 + d.val, by omega⟩)) (fun d => x7 (ix2 0 d)) d
    * x4 (ix2 r ⟨h.val * 256 + d.val, by omega⟩)

theorem bodyY_apply (r : Fin 512) (k : Fin 1024) : bodyY x1 x2 x3 x4 x5 x6 x7 x9 x10 (ix2 r k)
    = merged (fun k => x1 (ix2 r k)) (fun i => headRow x2 x3 x4 x7 r ⟨i.val / 256, by omega⟩ ⟨i.val % 256, by omega⟩) (fun k => x5 (ix2 r k))
      (fun k => x6 (ix2 r k)) (fun i k => x9 (ix2 i k)) (fun i k => x10 (ix2 i k)) k := by
  unfold bodyY
  rw [pay12_apply]
  congr 1
  funext i
  simp only [pay3_apply, pay6_apply, pay7_apply]
  exact heads_eq (headRow x2 x3 x4 x7 r) i

/-- A sum over 4096 entries in four chunks. -/
theorem sum_chunks (f : Fin 4096 → EReal) : ∑ j, f j
    = (∑ j : Fin 1024, f ⟨0 + j.val, by omega⟩) + (∑ j : Fin 1024, f ⟨1024 + j.val, by omega⟩)
      + (∑ j : Fin 1024, f ⟨2048 + j.val, by omega⟩) + ∑ j : Fin 1024, f ⟨3072 + j.val, by omega⟩ := by
  refine (Fin.sum_univ_add (a := 3072) (b := 1024) f).trans (congrArg₂ _ ?_ rfl)
  refine (Fin.sum_univ_add (a := 2048) (b := 1024) _).trans (congrArg₂ _ ?_ rfl)
  refine (Fin.sum_univ_add (a := 1024) (b := 1024) _).trans (congrArg₂ _ ?_ rfl)
  exact Finset.sum_congr rfl fun j _ => congrArg f (Fin.ext (Nat.zero_add _).symm)

theorem bodyM_apply (y : FVec Ideal S512x1024 .bf16) (r : Fin 512) (k : Fin 1024) : bodyM x0 x8 x11 x12 x13 x15 x16 x17 y (ix2 r k)
    = ∑ j : Fin 4096, hidden (fun i => bodyH x0 x8 x11 x12 x13 x15 y (ix2 r i)) (fun i j => x16 (ix2 i j)) j * x17 (ix2 j k) := by
  have hz : Ideal.ofBits .f32 0#32 = 0 := by simp [Ideal.ofBits, Ideal.ieee]
  unfold bodyM
  rw [pay17_apply, sum_chunks, hz, zero_add]
  simp only [pay16_apply]
  rfl

theorem bodyX_apply (y : FVec Ideal S512x1024 .bf16) (r : Fin 512) (k : Fin 1024) : bodyX x0 x8 x11 y (ix2 r k)
    = resid (fun k => x0 (ix2 r k)) (fun k => x8 (ix4 0 0 0 k)) (fun i : Fin 1024 => y (ix2 r i)) (fun i k => x11 (ix2 i k)) k :=
  pay13_apply x0 x8 y x11 r k

theorem bodyH_apply (y : FVec Ideal S512x1024 .bf16) (r : Fin 512) (k : Fin 1024) : bodyH x0 x8 x11 x12 x13 x15 y (ix2 r k)
    = modulated (fun k => bodyX x0 x8 x11 y (ix2 r k)) (fun k => x15 (ix2 0 k)) (fun k => x13 (ix4 0 0 0 k)) (fun k => x12 (ix4 0 0 0 k)) k :=
  pay14_apply _ _ y x11 x15 x13 x12 r k

/-- The body's block, row by row, is the tail of the blocks' rows. -/
theorem body_apply (r : Fin 512) (k : Fin 1024) : body x0 x1 x2 x3 x4 x5 x6 x7 x8 x9 x10 x11 x12 x13 x14 x15 x16 x17 (ix2 r k)
    = row (fun k => x0 (ix2 r k)) (fun k => x1 (ix2 r k)) (fun i => headRow x2 x3 x4 x7 r ⟨i.val / 256, by omega⟩ ⟨i.val % 256, by omega⟩)
      (fun k => x5 (ix2 r k)) (fun k => x6 (ix2 r k)) (fun k => x8 (ix4 0 0 0 k)) (fun k => x12 (ix4 0 0 0 k)) (fun k => x13 (ix4 0 0 0 k))
      (fun k => x14 (ix4 0 0 0 k)) (fun k => x15 (ix2 0 k)) (fun i k => x9 (ix2 i k)) (fun i k => x10 (ix2 i k)) (fun i k => x11 (ix2 i k))
      (fun i k => x16 (ix2 i k)) (fun i k => x17 (ix2 i k)) k := by
  unfold body row
  rw [pay1_apply, bodyM_apply]
  simp only [bodyH_apply, bodyX_apply, bodyY_apply]
  rfl

end

variable (m : (ℓ : Loc nD τ sig) → Buf (Elt Ideal) ℓ)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A load of a whole memref's block. -/
theorem readAt_eq {sp : Space} {s : Shape} {e : EltTy} {M : Memref sig .tc sp s e} (h : M.IsWhole) (X : s.Idx → Elt Ideal e) (R : Rect s) :
    View.readAt (Elt Ideal) M.view R.toLoadRect (h.unread X) = View.ld X R := funext fun j => h.readAt_unread X _ j

set_option maxHeartbeats 400000 in
/-- What a point's body leaves is the body of its blocks. -/
theorem outsAt_eq (c : Dev nD) (t : Fin cfg0.N) : outsAt0 m c t
    = body (iblk m c 0 t) (iblk m c 1 t) (iblk m c 2 t) (iblk m c 3 t) (X0_4 m c t) (X0_5 m c t) (X0_6 m c t) (iblk m c 7 t) (iblk m c 8 t)
      (iblk m c 9 t) (iblk m c 10 t) (iblk m c 11 t) (iblk m c 12 t) (iblk m c 13 t) (iblk m c 14 t) (iblk m c 15 t) (iblk m c 16 t) (iblk m c 17 t) := by
  unfold outsAt0 out0_A_18
  refine (View.read_writes_eq_canon _ _ _ ?_).trans ?_
  · intro y; apply cover0_A_18
  unfold kernelRun0_A
  dsimp only
  sl_unfold_words
  rw [View.canon_unit_zero hz2]
  simp only [readAt_eq, View.ld_unit_zero (S := S512x1024) hz2, View.ld_unit_zero (S := S1024x1024) hz2, View.ld_unit_zero (S := S1x256) hz2,
    View.ld_unit_zero (S := S1x1024) hz2, View.ld_unit_zero (S := S1x1x1x1024) hz4, ld_cols, ld_wcol, ld_wrow]
  unfold body bodyX bodyM bodyH bodyY
  with_reducible rfl

end Cert.Tail

end
-- ==== Proof.TailHost.lean ====
/- The arrays the tail's windows are cut from, as the host lays them out, at an index. -/
module

public import proofs.«01_k».proof.Proof.TailSpec
public import proofs.«01_k».proof.Proof.Gen.Kernel3Ideal.Frame
public import Idealize.ShloMosaic.Lib.StableHlo.Run
public import Idealize.ShloMosaic.Lib.Pointwise

@[expose] public section

set_option maxRecDepth 65536

noncomputable section

open Idealize.ShloMosaic Idealize.ShloMosaic.TcCoe Idealize.SL.Sem Idealize.ShloMosaic.StableHlo

namespace Cert.Tail

open Cert.Kernel3Ideal Cert.Kernel3Ideal.Gen

/-- A row per token. -/
def rows32 (X : FVec Ideal S4x4096x1024 .f32) : FVec Ideal S16384x1024 .f32 := shapeCast S16384x1024 X shapeCasts_S4x4096x1024_S16384x1024

/-- A row per token, in the narrow type. -/
def rows16 (X : FVec Ideal S4x4096x1024 .f32) : FVec Ideal S16384x1024 .bf16 := truncf .bf16 (rows32 X) bitsLt_bf16_f32

/-- A row per token of an array by heads. -/
def headRows (X : FVec Ideal S4x4x4096x256 .f32) : FVec Ideal S16384x1024 .bf16 :=
  truncf .bf16 (shapeCast S16384x1024 (transpose S4x4096x4x256 [0, 2, 1, 3] X transposes_S4x4x4096x256_S4x4096x4x256_0_2_1_3)
    shapeCasts_S4x4096x4x256_S16384x1024) bitsLt_bf16_f32

/-- The logistic function of every entry. -/
def sigArr (X : FVec Ideal S4x4096x1024 .f32) : FVec Ideal S4x4096x1024 .f32 :=
  Host.divf (broadcastInDim S4x4096x1024 ![] bcast_S_S4x4096x1024 (constant S_ .f32 0x3F800000#32))
    (addf (broadcastInDim S4x4096x1024 ![] bcast_S_S4x4096x1024 (constant S_ .f32 0x3F800000#32)) (Host.exp (Host.negf X)))

/-- The main array: zeros, the three gates, zeros. -/
def mainArr (go ga gg : FVec Ideal S4x4096x1024 .f32) : FVec Ideal S16384x6656 .bf16 :=
  concatenate S16384x6656 1 [⟨S16384x3072, broadcastInDim S16384x3072 ![] bcast_S_S16384x3072 (constant (F := Ideal) S_ .bf16 0x0000#16)⟩,
    ⟨S16384x1024, rows16 (mulf go (sigArr go))⟩, ⟨S16384x1024, rows16 (sigArr ga)⟩, ⟨S16384x1024, rows16 (sigArr gg)⟩,
    ⟨S16384x512, broadcastInDim S16384x512 ![] bcast_S_S16384x512 (constant (F := Ideal) S_ .bf16 0x0000#16)⟩]
    concatenates_S16384x3072_S16384x1024_S16384x1024_S16384x1024_S16384x512_S16384x6656_d1

/-- The modulation vectors, an axis for each, four rows of zeros after the sequences'. -/
def modArr (M : FVec Ideal S4x6144 .f32) : FVec Ideal S8x6x1x1024 .f32 :=
  shapeCast S8x6x1x1024 (concatenate S8x6144 0 [⟨S4x6144, M⟩, ⟨S4x6144, broadcastInDim S4x6144 ![] bcast_S_S4x6144 (constant (F := Ideal) S_ .f32 0x00000000#32)⟩]
    concatenates_S4x6144_S4x6144_S8x6144_d0) shapeCasts_S8x6144_S8x6x1x1024

section
variable (m : (ℓ : Loc nD τ sig) → Buf (Elt Ideal) ℓ)

/-- The program's arguments. -/
abbrev kArgs (c : Dev nD) : Args where
  x := m ((c : Thread nD τ).loc main_arg0)
  attn := m ((c : Thread nD τ).loc main_arg1)
  fwd := m ((c : Thread nD τ).loc main_arg2)
  bwd := m ((c : Thread nD τ).loc main_arg3)
  go := m ((c : Thread nD τ).loc main_arg4)
  ga := m ((c : Thread nD τ).loc main_arg5)
  gg := m ((c : Thread nD τ).loc main_arg6)
  gn := m ((c : Thread nD τ).loc main_arg7)
  mod := m ((c : Thread nD τ).loc main_arg8)
  wa := m ((c : Thread nD τ).loc main_arg9)
  wg := m ((c : Thread nD τ).loc main_arg10)
  wo := m ((c : Thread nD τ).loc main_arg11)
  n2 := m ((c : Thread nD τ).loc main_arg12)
  w1 := m ((c : Thread nD τ).loc main_arg13)
  w2 := m ((c : Thread nD τ).loc main_arg14)

set_option maxHeartbeats 2000000 in
/-- What the call is given. -/
theorem V21_eq (c : Dev nD) : (V m c main_v21 : FVec Ideal S16384x6656 .bf16) = mainArr (kArgs m c).go (kArgs m c).ga (kArgs m c).gg := by
  show StableHlo.after (List.flatten [hostOps0, hostOps0_1, hostOps0_2]) _ _ = _
  simp only [hostOps0, hostOps0_1, hostOps0_2, List.flatten_cons, List.flatten_nil, List.append_nil, List.cons_append, List.nil_append]
  after_results <;> rfl

set_option maxHeartbeats 2000000 in
theorem V24_eq (c : Dev nD) : (V m c main_v24 : FVec Ideal S8x6x1x1024 .f32) = modArr (kArgs m c).mod := by
  show StableHlo.after (List.flatten [hostOps0, hostOps0_1, hostOps0_2]) _ _ = _
  simp only [hostOps0, hostOps0_1, hostOps0_2, List.flatten_cons, List.flatten_nil, List.append_nil, List.cons_append, List.nil_append]
  after_results <;> rfl

set_option maxHeartbeats 2000000 in
theorem V25_eq (c : Dev nD) : (V m c main_v25 : FVec Ideal S16384x1024 .f32) = rows32 (kArgs m c).x := by
  show StableHlo.after (List.flatten [hostOps0, hostOps0_1, hostOps0_2]) _ _ = _
  simp only [hostOps0, hostOps0_1, hostOps0_2, List.flatten_cons, List.flatten_nil, List.append_nil, List.cons_append, List.nil_append]
  after_results <;> rfl

set_option maxHeartbeats 2000000 in
theorem V27_eq (c : Dev nD) : (V m c main_v27 : FVec Ideal S16384x1024 .bf16) = rows16 (kArgs m c).attn := by
  show StableHlo.after (List.flatten [hostOps0, hostOps0_1, hostOps0_2]) _ _ = _
  simp only [hostOps0, hostOps0_1, hostOps0_2, List.flatten_cons, List.flatten_nil, List.append_nil, List.cons_append, List.nil_append]
  after_results <;> rfl

set_option maxHeartbeats 2000000 in
theorem V30_eq (c : Dev nD) : (V m c main_v30 : FVec Ideal S16384x1024 .bf16) = headRows (kArgs m c).fwd := by
  show StableHlo.after (List.flatten [hostOps0, hostOps0_1, hostOps0_2]) _ _ = _
  simp only [hostOps0, hostOps0_1, hostOps0_2, List.flatten_cons, List.flatten_nil, List.append_nil, List.cons_append, List.nil_append]
  after_results <;> rfl

set_option maxHeartbeats 2000000 in
theorem V34_eq (c : Dev nD) : (V m c main_v34 : FVec Ideal S16384x1024 .bf16) = headRows (Host.reverse [2] (kArgs m c).bwd) := by
  show StableHlo.after (List.flatten [hostOps0, hostOps0_1, hostOps0_2]) _ _ = _
  simp only [hostOps0, hostOps0_1, hostOps0_2, List.flatten_cons, List.flatten_nil, List.append_nil, List.cons_append, List.nil_append]
  after_results <;> rfl

set_option maxHeartbeats 2000000 in
theorem V35_eq (c : Dev nD) : (V m c main_v35 : FVec Ideal S1x256 .f32) = broadcastInDim S1x256 ![1] bcast_S256_S1x256_1 (kArgs m c).gn := by
  show StableHlo.after (List.flatten [hostOps0, hostOps0_1, hostOps0_2]) _ _ = _
  simp only [hostOps0, hostOps0_1, hostOps0_2, List.flatten_cons, List.flatten_nil, List.append_nil, List.cons_append, List.nil_append]
  after_results <;> rfl

set_option maxHeartbeats 2000000 in
theorem V39_eq (c : Dev nD) : (V m c main_v39 : FVec Ideal S1x1024 .f32) = broadcastInDim S1x1024 ![1] bcast_S1024_S1x1024_1 (kArgs m c).n2 := by
  show StableHlo.after (List.flatten [hostOps0, hostOps0_1, hostOps0_2]) _ _ = _
  simp only [hostOps0, hostOps0_1, hostOps0_2, List.flatten_cons, List.flatten_nil, List.append_nil, List.cons_append, List.nil_append]
  after_results <;> rfl

set_option maxHeartbeats 2000000 in
/-- The weights are the arguments, narrowed. -/
theorem Vw_eq (c : Dev nD) : (V m c main_v36 : FVec Ideal S1024x1024 .bf16) = (kArgs m c).wa
    ∧ (V m c main_v37 : FVec Ideal S1024x1024 .bf16) = (kArgs m c).wg ∧ (V m c main_v38 : FVec Ideal S1024x1024 .bf16) = (kArgs m c).wo
    ∧ (V m c main_v40 : FVec Ideal S1024x4096 .bf16) = (kArgs m c).w1 ∧ (V m c main_v41 : FVec Ideal S4096x1024 .bf16) = (kArgs m c).w2 := by
  refine ⟨?_, ?_, ?_, ?_, ?_⟩ <;>
  · show StableHlo.after (List.flatten [hostOps0, hostOps0_1, hostOps0_2]) _ _ = _
    simp only [hostOps0, hostOps0_1, hostOps0_2, List.flatten_cons, List.flatten_nil, List.append_nil, List.cons_append, List.nil_append]
    after_results <;> rfl

end

/-- A token's row, from its sequence and position. -/
theorem rows32_apply (X : FVec Ideal S4x4096x1024 .f32) (R : Fin 16384) (C : Fin 1024) :
    rows32 X (ix2 R C) = X (ix3 ⟨R.val / 4096, by omega⟩ ⟨R.val % 4096, by omega⟩ C) := by
  pointwise [rows32]

theorem rows16_apply (X : FVec Ideal S4x4096x1024 .f32) (R : Fin 16384) (C : Fin 1024) :
    rows16 X (ix2 R C) = X (ix3 ⟨R.val / 4096, by omega⟩ ⟨R.val % 4096, by omega⟩ C) := by
  pointwise [rows16, rows32]

theorem headRows_apply (X : FVec Ideal S4x4x4096x256 .f32) (R : Fin 16384) (C : Fin 1024) :
    headRows X (ix2 R C) = X (ix4 ⟨R.val / 4096, by omega⟩ ⟨C.val / 256, by omega⟩ ⟨R.val % 4096, by omega⟩ ⟨C.val % 256, by omega⟩) := by
  pointwise [headRows]

/-- The heads' gain as a row. -/
theorem gain_apply (g : FVec Ideal S256 .f32) (z : Fin 1) (d : Fin 256) : broadcastInDim S1x256 ![1] bcast_S256_S1x256_1 g (ix2 z d) = g (ix1 d) := by
  pointwise []

/-- The second norm's gain as a row. -/
theorem norm_apply (g : FVec Ideal S1024 .f32) (z : Fin 1) (k : Fin 1024) : broadcastInDim S1x1024 ![1] bcast_S1024_S1x1024_1 g (ix2 z k) = g (ix1 k) := by
  pointwise []

theorem reverse_apply (X : FVec Ideal S4x4x4096x256 .f32) (b h : Fin 4) (n : Fin 4096) (d : Fin 256) :
    Host.reverse [2] X (ix4 b h n d) = X (ix4 b h n.rev d) := by
  pointwise []
  rfl

theorem sigArr_apply (X : FVec Ideal S4x4096x1024 .f32) (b : Fin 4) (n : Fin 4096) (k : Fin 1024) : sigArr X (ix3 b n k) = sigm (X (ix3 b n k)) := by
  pointwise [sigArr, sigm]

theorem siluArr_apply (X : FVec Ideal S4x4096x1024 .f32) (b : Fin 4) (n : Fin 4096) (k : Fin 1024) :
    mulf X (sigArr X) (ix3 b n k) = X (ix3 b n k) * sigm (X (ix3 b n k)) := by
  rw [mulf_apply, sigArr_apply]
  rfl

theorem mainArr_apply (go ga gg : FVec Ideal S4x4096x1024 .f32) (R : Fin 16384) (C : Fin 6656) :
    mainArr go ga gg (ix2 R C) = if h : C.val < 3072 then 0
      else if h : C.val - 3072 < 1024 then rows16 (mulf go (sigArr go)) (ix2 R ⟨C.val - 3072, h⟩)
      else if h : C.val - 3072 - 1024 < 1024 then rows16 (sigArr ga) (ix2 R ⟨C.val - 3072 - 1024, h⟩)
      else if h : C.val - 3072 - 1024 - 1024 < 1024 then rows16 (sigArr gg) (ix2 R ⟨C.val - 3072 - 1024 - 1024, h⟩) else 0 := by
  pointwise [mainArr]

theorem modArr_apply (M : FVec Ideal S4x6144 .f32) (b : Fin 4) (j : Fin 6) (k : Fin 1024) (hb) :
    modArr M (ix4 ⟨b.val, hb⟩ j 0 k) = M (ix2 b ⟨j.val * 1024 + k.val, by omega⟩) := by
  pointwise [modArr]

section
variable (go ga gg : FVec Ideal S4x4096x1024 .f32)

/-- The output gate's columns of the main array. -/
theorem main_go (R : Fin 16384) (k : Fin 1024) (hC) : mainArr go ga gg (ix2 R ⟨3 * 1024 + k.val, hC⟩)
    = go (ix3 ⟨R.val / 4096, by omega⟩ ⟨R.val % 4096, by omega⟩ k) * sigm (go (ix3 ⟨R.val / 4096, by omega⟩ ⟨R.val % 4096, by omega⟩ k)) := by
  have e : (⟨3 * 1024 + k.val - 3072, by omega⟩ : Fin 1024) = k := Fin.ext (by dsimp only; omega)
  rw [mainArr_apply, dif_neg (by dsimp only; omega), dif_pos (by dsimp only; omega), rows16_apply, siluArr_apply, e]

/-- The attention gate's columns of the main array. -/
theorem main_ga (R : Fin 16384) (k : Fin 1024) (hC) : mainArr go ga gg (ix2 R ⟨4 * 1024 + k.val, hC⟩)
    = sigm (ga (ix3 ⟨R.val / 4096, by omega⟩ ⟨R.val % 4096, by omega⟩ k)) := by
  have e : (⟨4 * 1024 + k.val - 3072 - 1024, by omega⟩ : Fin 1024) = k := Fin.ext (by dsimp only; omega)
  rw [mainArr_apply, dif_neg (by dsimp only; omega), dif_neg (by dsimp only; omega), dif_pos (by dsimp only; omega), rows16_apply, sigArr_apply, e]

/-- The linear attention gate's columns of the main array. -/
theorem main_gg (R : Fin 16384) (k : Fin 1024) (hC) : mainArr go ga gg (ix2 R ⟨5 * 1024 + k.val, hC⟩)
    = sigm (gg (ix3 ⟨R.val / 4096, by omega⟩ ⟨R.val % 4096, by omega⟩ k)) := by
  have e : (⟨5 * 1024 + k.val - 3072 - 1024 - 1024, by omega⟩ : Fin 1024) = k := Fin.ext (by dsimp only; omega)
  rw [mainArr_apply, dif_neg (by dsimp only; omega), dif_neg (by dsimp only; omega), dif_neg (by dsimp only; omega), dif_pos (by dsimp only; omega),
    rows16_apply, sigArr_apply, e]

end

end Cert.Tail

end
-- ==== Proof.TailValue.lean ====
/- The tail's blocks at an index, and the whole result from them. -/
module

public import proofs.«01_k».proof.Proof.TailBody
public import proofs.«01_k».proof.Proof.TailHost
public import Idealize.ShloMosaic.Lib.Pipeline.Value

@[expose] public section

set_option maxRecDepth 65536

noncomputable section

open Idealize.ShloMosaic Idealize.ShloMosaic.TcCoe Idealize.SL.Sem
open Idealize.ShloMosaic.Pipeline (Dat)

namespace Cert.Tail

open Cert.Kernel3Ideal Cert.Kernel3Ideal.Gen

variable (m : (ℓ : Loc nD τ sig) → Buf (Elt Ideal) ℓ) (ρ : Dev nD → PrngReg)

/-- The grid has 32 points. -/
theorem hN : cfg0.N = 32 := N_0
theorem lt_32 (t : Fin cfg0.N) : t.val < 32 := t.isLt.trans_eq hN
theorem lt_N {n : Nat} (h : n < 32) : n < cfg0.N := h.trans_eq hN.symm

/-- The windows that move with the tokens begin at the point's block of rows. -/
theorem idx_rows : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 3) ∧ (win0_5.index t 0 = t.val ∧ win0_5.index t 1 = 4)
    ∧ (win0_6.index t 0 = t.val ∧ win0_6.index t 1 = 5) ∧ (win0_18.index t 0 = t.val ∧ win0_18.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 3) ∧ (win0_5.index t 0 = t.val ∧ win0_5.index t 1 = 4)
    ∧ (win0_6.index t 0 = t.val ∧ win0_6.index t 1 = 5) ∧ (win0_18.index t 0 = t.val ∧ win0_18.index t 1 = 0))

/-- The modulation's windows take the sequence's row, each its own vector. -/
theorem idx_mod : ∀ t : Fin cfg0.N,
    (win0_8.index t 0 = t.val / 8 ∧ win0_8.index t 1 = 2 ∧ win0_8.index t 2 = 0 ∧ win0_8.index t 3 = 0)
    ∧ (win0_12.index t 0 = t.val / 8 ∧ win0_12.index t 1 = 3 ∧ win0_12.index t 2 = 0 ∧ win0_12.index t 3 = 0)
    ∧ (win0_13.index t 0 = t.val / 8 ∧ win0_13.index t 1 = 4 ∧ win0_13.index t 2 = 0 ∧ win0_13.index t 3 = 0)
    ∧ (win0_14.index t 0 = t.val / 8 ∧ win0_14.index t 1 = 5 ∧ win0_14.index t 2 = 0 ∧ win0_14.index t 3 = 0) :=
  (by decide +kernel : ∀ t : Fin grid0.N,
    (win0_8.index t 0 = t.val / 8 ∧ win0_8.index t 1 = 2 ∧ win0_8.index t 2 = 0 ∧ win0_8.index t 3 = 0)
    ∧ (win0_12.index t 0 = t.val / 8 ∧ win0_12.index t 1 = 3 ∧ win0_12.index t 2 = 0 ∧ win0_12.index t 3 = 0)
    ∧ (win0_13.index t 0 = t.val / 8 ∧ win0_13.index t 1 = 4 ∧ win0_13.index t 2 = 0 ∧ win0_13.index t 3 = 0)
    ∧ (win0_14.index t 0 = t.val / 8 ∧ win0_14.index t 1 = 5 ∧ win0_14.index t 2 = 0 ∧ win0_14.index t 3 = 0))

/-- The other windows are whole arrays. -/
theorem idx_whole : ∀ t : Fin cfg0.N, (win0_7.index t 0 = 0 ∧ win0_7.index t 1 = 0) ∧ (win0_9.index t 0 = 0 ∧ win0_9.index t 1 = 0)
    ∧ (win0_10.index t 0 = 0 ∧ win0_10.index t 1 = 0) ∧ (win0_11.index t 0 = 0 ∧ win0_11.index t 1 = 0)
    ∧ (win0_15.index t 0 = 0 ∧ win0_15.index t 1 = 0) ∧ (win0_16.index t 0 = 0 ∧ win0_16.index t 1 = 0)
    ∧ (win0_17.index t 0 = 0 ∧ win0_17.index t 1 = 0) :=
  (by decide +kernel : ∀ t : Fin grid0.N, (win0_7.index t 0 = 0 ∧ win0_7.index t 1 = 0) ∧ (win0_9.index t 0 = 0 ∧ win0_9.index t 1 = 0)
    ∧ (win0_10.index t 0 = 0 ∧ win0_10.index t 1 = 0) ∧ (win0_11.index t 0 = 0 ∧ win0_11.index t 1 = 0)
    ∧ (win0_15.index t 0 = 0 ∧ win0_15.index t 1 = 0) ∧ (win0_16.index t 0 = 0 ∧ win0_16.index t 1 = 0)
    ∧ (win0_17.index t 0 = 0 ∧ win0_17.index t 1 = 0))

/-- Row `r` of point `t` among all the tokens. -/
def rowOf (t : Fin cfg0.N) (r : Fin 512) : Fin 16384 := ⟨t.val * 512 + r.val, by have := lt_32 t; omega⟩

/-- A rank-two array at two equal indices. -/
theorem at2 {n0 n1 : Nat} (X : (⟨2, ![n0, n1]⟩ : Shape).Idx → EReal) (y : (⟨2, ![n0, n1]⟩ : Shape).Idx) (R : Fin n0) (C : Fin n1)
    (h0 : (y 0 : Nat) = R.val) (h1 : (y 1 : Nat) = C.val) : X y = X (ix2 R C) :=
  congrArg X (funext fun a => Fin.ext (by
    match a with
    | ⟨0, _⟩ => exact h0
    | ⟨1, _⟩ => exact h1))

/-- A rank-four array at two equal indices. -/
theorem at4 {n0 n1 n2 n3 : Nat} (X : (⟨4, ![n0, n1, n2, n3]⟩ : Shape).Idx → EReal) (y : (⟨4, ![n0, n1, n2, n3]⟩ : Shape).Idx)
    (i0 : Fin n0) (i1 : Fin n1) (i2 : Fin n2) (i3 : Fin n3)
    (h0 : (y 0 : Nat) = i0.val) (h1 : (y 1 : Nat) = i1.val) (h2 : (y 2 : Nat) = i2.val) (h3 : (y 3 : Nat) = i3.val) : X y = X (ix4 i0 i1 i2 i3) :=
  congrArg X (funext fun a => Fin.ext (by
    match a with
    | ⟨0, _⟩ => exact h0
    | ⟨1, _⟩ => exact h1
    | ⟨2, _⟩ => exact h2
    | ⟨3, _⟩ => exact h3))

/-- The block of the input. -/
theorem iblk0_apply (c : Dev nD) (t : Fin cfg0.N) (r : Fin 512) (k : Fin 1024) :
    (iblk m c 0 t : S512x1024.Idx → EReal) (ix2 r k) = (V m c main_v25 : S16384x1024.Idx → EReal) (ix2 (rowOf t r) k) := by
  show (V m c main_v25 : S16384x1024.Idx → EReal) ((win0_0.rect t).emb (ix2 r k)) = _
  refine at2 _ _ _ _ ?_ ?_
  · rw [win0_0.rect_emb_val t (ix2 r k) 0]; show win0_0.index t 0 * 512 + r.val = t.val * 512 + r.val; rw [(idx_rows t).1.1]
  · rw [win0_0.rect_emb_val t (ix2 r k) 1]; show win0_0.index t 1 * 1024 + k.val = k.val; rw [(idx_rows t).1.2]; omega

/-- The block of the attention. -/
theorem iblk1_apply (c : Dev nD) (t : Fin cfg0.N) (r : Fin 512) (k : Fin 1024) :
    (iblk m c 1 t : S512x1024.Idx → EReal) (ix2 r k) = (V m c main_v27 : S16384x1024.Idx → EReal) (ix2 (rowOf t r) k) := by
  show (V m c main_v27 : S16384x1024.Idx → EReal) ((win0_1.rect t).emb (ix2 r k)) = _
  refine at2 _ _ _ _ ?_ ?_
  · rw [win0_1.rect_emb_val t (ix2 r k) 0]; show win0_1.index t 0 * 512 + r.val = t.val * 512 + r.val; rw [(idx_rows t).2.1.1]
  · rw [win0_1.rect_emb_val t (ix2 r k) 1]; show win0_1.index t 1 * 1024 + k.val = k.val; rw [(idx_rows t).2.1.2]; omega

/-- The block of the first direction. -/
theorem iblk2_apply (c : Dev nD) (t : Fin cfg0.N) (r : Fin 512) (k : Fin 1024) :
    (iblk m c 2 t : S512x1024.Idx → EReal) (ix2 r k) = (V m c main_v30 : S16384x1024.Idx → EReal) (ix2 (rowOf t r) k) := by
  show (V m c main_v30 : S16384x1024.Idx → EReal) ((win0_2.rect t).emb (ix2 r k)) = _
  refine at2 _ _ _ _ ?_ ?_
  · rw [win0_2.rect_emb_val t (ix2 r k) 0]; show win0_2.index t 0 * 512 + r.val = t.val * 512 + r.val; rw [(idx_rows t).2.2.1.1]
  · rw [win0_2.rect_emb_val t (ix2 r k) 1]; show win0_2.index t 1 * 1024 + k.val = k.val; rw [(idx_rows t).2.2.1.2]; omega

/-- The block of the second direction. -/
theorem iblk3_apply (c : Dev nD) (t : Fin cfg0.N) (r : Fin 512) (k : Fin 1024) :
    (iblk m c 3 t : S512x1024.Idx → EReal) (ix2 r k) = (V m c main_v34 : S16384x1024.Idx → EReal) (ix2 (rowOf t r) k) := by
  show (V m c main_v34 : S16384x1024.Idx → EReal) ((win0_3.rect t).emb (ix2 r k)) = _
  refine at2 _ _ _ _ ?_ ?_
  · rw [win0_3.rect_emb_val t (ix2 r k) 0]; show win0_3.index t 0 * 512 + r.val = t.val * 512 + r.val; rw [(idx_rows t).2.2.2.1.1]
  · rw [win0_3.rect_emb_val t (ix2 r k) 1]; show win0_3.index t 1 * 1024 + k.val = k.val; rw [(idx_rows t).2.2.2.1.2]; omega

/-- The block of the output gate. -/
theorem X4_apply (c : Dev nD) (t : Fin cfg0.N) (r : Fin 512) (k : Fin 1024) :
    (X0_4 m c t : S512x1024.Idx → EReal) (ix2 r k) = (V m c main_v21 : S16384x6656.Idx → EReal) (ix2 (rowOf t r) ⟨3 * 1024 + k.val, by omega⟩) := by
  unfold X0_4 Pipeline.Window.fill
  rw [dif_pos (moved0_4 t (ix2 r k))]
  show (V m c main_v21 : S16384x6656.Idx → EReal) ((win0_4.rect t).emb _) = _
  refine at2 _ _ _ _ ?_ ?_
  · rw [win0_4.rect_emb_val t _ 0]; show win0_4.index t 0 * 512 + r.val = t.val * 512 + r.val; rw [(idx_rows t).2.2.2.2.1.1]
  · rw [win0_4.rect_emb_val t _ 1]; show win0_4.index t 1 * 1024 + k.val = _; rw [(idx_rows t).2.2.2.2.1.2]

/-- The block of the attention's gate. -/
theorem X5_apply (c : Dev nD) (t : Fin cfg0.N) (r : Fin 512) (k : Fin 1024) :
    (X0_5 m c t : S512x1024.Idx → EReal) (ix2 r k) = (V m c main_v21 : S16384x6656.Idx → EReal) (ix2 (rowOf t r) ⟨4 * 1024 + k.val, by omega⟩) := by
  unfold X0_5 Pipeline.Window.fill
  rw [dif_pos (moved0_5 t (ix2 r k))]
  show (V m c main_v21 : S16384x6656.Idx → EReal) ((win0_5.rect t).emb _) = _
  refine at2 _ _ _ _ ?_ ?_
  · rw [win0_5.rect_emb_val t _ 0]; show win0_5.index t 0 * 512 + r.val = t.val * 512 + r.val; rw [(idx_rows t).2.2.2.2.2.1.1]
  · rw [win0_5.rect_emb_val t _ 1]; show win0_5.index t 1 * 1024 + k.val = _; rw [(idx_rows t).2.2.2.2.2.1.2]

/-- The block of the linear attention's gate. -/
theorem X6_apply (c : Dev nD) (t : Fin cfg0.N) (r : Fin 512) (k : Fin 1024) :
    (X0_6 m c t : S512x1024.Idx → EReal) (ix2 r k) = (V m c main_v21 : S16384x6656.Idx → EReal) (ix2 (rowOf t r) ⟨5 * 1024 + k.val, by omega⟩) := by
  unfold X0_6 Pipeline.Window.fill
  rw [dif_pos (moved0_6 t (ix2 r k))]
  show (V m c main_v21 : S16384x6656.Idx → EReal) ((win0_6.rect t).emb _) = _
  refine at2 _ _ _ _ ?_ ?_
  · rw [win0_6.rect_emb_val t _ 0]; show win0_6.index t 0 * 512 + r.val = t.val * 512 + r.val; rw [(idx_rows t).2.2.2.2.2.2.1.1]
  · rw [win0_6.rect_emb_val t _ 1]; show win0_6.index t 1 * 1024 + k.val = _; rw [(idx_rows t).2.2.2.2.2.2.1.2]

/-- The block of modulation vector 2. -/
theorem iblk8_apply (c : Dev nD) (t : Fin cfg0.N) (k : Fin 1024) :
    (iblk m c 8 t : S1x1x1x1024.Idx → EReal) (ix4 0 0 0 k)
      = (V m c main_v24 : S8x6x1x1024.Idx → EReal) (ix4 ⟨t.val / 8, by have := lt_32 t; omega⟩ 2 0 k) := by
  obtain ⟨h0, h1, h2, h3⟩ := (idx_mod t).1
  show (V m c main_v24 : S8x6x1x1024.Idx → EReal) ((win0_8.rect t).emb (ix4 0 0 0 k)) = _
  refine at4 _ _ _ _ _ _ ?_ ?_ ?_ ?_
  · rw [win0_8.rect_emb_val t (ix4 0 0 0 k) 0]; show win0_8.index t 0 * 1 + 0 = t.val / 8; omega
  · rw [win0_8.rect_emb_val t (ix4 0 0 0 k) 1]; show win0_8.index t 1 * 1 + 0 = 2; omega
  · rw [win0_8.rect_emb_val t (ix4 0 0 0 k) 2]; show win0_8.index t 2 * 1 + 0 = 0; omega
  · rw [win0_8.rect_emb_val t (ix4 0 0 0 k) 3]; show win0_8.index t 3 * 1024 + k.val = k.val; omega

/-- The block of modulation vector 3. -/
theorem iblk12_apply (c : Dev nD) (t : Fin cfg0.N) (k : Fin 1024) :
    (iblk m c 12 t : S1x1x1x1024.Idx → EReal) (ix4 0 0 0 k)
      = (V m c main_v24 : S8x6x1x1024.Idx → EReal) (ix4 ⟨t.val / 8, by have := lt_32 t; omega⟩ 3 0 k) := by
  obtain ⟨h0, h1, h2, h3⟩ := (idx_mod t).2.1
  show (V m c main_v24 : S8x6x1x1024.Idx → EReal) ((win0_12.rect t).emb (ix4 0 0 0 k)) = _
  refine at4 _ _ _ _ _ _ ?_ ?_ ?_ ?_
  · rw [win0_12.rect_emb_val t (ix4 0 0 0 k) 0]; show win0_12.index t 0 * 1 + 0 = t.val / 8; omega
  · rw [win0_12.rect_emb_val t (ix4 0 0 0 k) 1]; show win0_12.index t 1 * 1 + 0 = 3; omega
  · rw [win0_12.rect_emb_val t (ix4 0 0 0 k) 2]; show win0_12.index t 2 * 1 + 0 = 0; omega
  · rw [win0_12.rect_emb_val t (ix4 0 0 0 k) 3]; show win0_12.index t 3 * 1024 + k.val = k.val; omega

/-- The block of modulation vector 4. -/
theorem iblk13_apply (c : Dev nD) (t : Fin cfg0.N) (k : Fin 1024) :
    (iblk m c 13 t : S1x1x1x1024.Idx → EReal) (ix4 0 0 0 k)
      = (V m c main_v24 : S8x6x1x1024.Idx → EReal) (ix4 ⟨t.val / 8, by have := lt_32 t; omega⟩ 4 0 k) := by
  obtain ⟨h0, h1, h2, h3⟩ := (idx_mod t).2.2.1
  show (V m c main_v24 : S8x6x1x1024.Idx → EReal) ((win0_13.rect t).emb (ix4 0 0 0 k)) = _
  refine at4 _ _ _ _ _ _ ?_ ?_ ?_ ?_
  · rw [win0_13.rect_emb_val t (ix4 0 0 0 k) 0]; show win0_13.index t 0 * 1 + 0 = t.val / 8; omega
  · rw [win0_13.rect_emb_val t (ix4 0 0 0 k) 1]; show win0_13.index t 1 * 1 + 0 = 4; omega
  · rw [win0_13.rect_emb_val t (ix4 0 0 0 k) 2]; show win0_13.index t 2 * 1 + 0 = 0; omega
  · rw [win0_13.rect_emb_val t (ix4 0 0 0 k) 3]; show win0_13.index t 3 * 1024 + k.val = k.val; omega

/-- The block of modulation vector 5. -/
theorem iblk14_apply (c : Dev nD) (t : Fin cfg0.N) (k : Fin 1024) :
    (iblk m c 14 t : S1x1x1x1024.Idx → EReal) (ix4 0 0 0 k)
      = (V m c main_v24 : S8x6x1x1024.Idx → EReal) (ix4 ⟨t.val / 8, by have := lt_32 t; omega⟩ 5 0 k) := by
  obtain ⟨h0, h1, h2, h3⟩ := (idx_mod t).2.2.2
  show (V m c main_v24 : S8x6x1x1024.Idx → EReal) ((win0_14.rect t).emb (ix4 0 0 0 k)) = _
  refine at4 _ _ _ _ _ _ ?_ ?_ ?_ ?_
  · rw [win0_14.rect_emb_val t (ix4 0 0 0 k) 0]; show win0_14.index t 0 * 1 + 0 = t.val / 8; omega
  · rw [win0_14.rect_emb_val t (ix4 0 0 0 k) 1]; show win0_14.index t 1 * 1 + 0 = 5; omega
  · rw [win0_14.rect_emb_val t (ix4 0 0 0 k) 2]; show win0_14.index t 2 * 1 + 0 = 0; omega
  · rw [win0_14.rect_emb_val t (ix4 0 0 0 k) 3]; show win0_14.index t 3 * 1024 + k.val = k.val; omega

/-- The block of the heads' gain. -/
theorem iblk7_apply (c : Dev nD) (t : Fin cfg0.N) (r : Fin 1) (k : Fin 256) :
    (iblk m c 7 t : S1x256.Idx → EReal) (ix2 r k) = (V m c main_v35 : S1x256.Idx → EReal) (ix2 r k) := by
  show (V m c main_v35 : S1x256.Idx → EReal) ((win0_7.rect t).emb (ix2 r k)) = _
  refine at2 _ _ _ _ ?_ ?_
  · rw [win0_7.rect_emb_val t (ix2 r k) 0]; show win0_7.index t 0 * 1 + r.val = _; rw [(idx_whole t).1.1]; show 0 * 1 + r.val = r.val; omega
  · rw [win0_7.rect_emb_val t (ix2 r k) 1]; show win0_7.index t 1 * 256 + k.val = k.val; rw [(idx_whole t).1.2]; omega

/-- The block of the second norm's gain. -/
theorem iblk15_apply (c : Dev nD) (t : Fin cfg0.N) (r : Fin 1) (k : Fin 1024) :
    (iblk m c 15 t : S1x1024.Idx → EReal) (ix2 r k) = (V m c main_v39 : S1x1024.Idx → EReal) (ix2 r k) := by
  show (V m c main_v39 : S1x1024.Idx → EReal) ((win0_15.rect t).emb (ix2 r k)) = _
  refine at2 _ _ _ _ ?_ ?_
  · rw [win0_15.rect_emb_val t (ix2 r k) 0]; show win0_15.index t 0 * 1 + r.val = _; rw [(idx_whole t).2.2.2.2.1.1]; show 0 * 1 + r.val = r.val; omega
  · rw [win0_15.rect_emb_val t (ix2 r k) 1]; show win0_15.index t 1 * 1024 + k.val = k.val; rw [(idx_whole t).2.2.2.2.1.2]; omega

/-- The block of the attention's projection. -/
theorem iblk9_apply (c : Dev nD) (t : Fin cfg0.N) (r : Fin 1024) (k : Fin 1024) :
    (iblk m c 9 t : S1024x1024.Idx → EReal) (ix2 r k) = (V m c main_v36 : S1024x1024.Idx → EReal) (ix2 r k) := by
  show (V m c main_v36 : S1024x1024.Idx → EReal) ((win0_9.rect t).emb (ix2 r k)) = _
  refine at2 _ _ _ _ ?_ ?_
  · rw [win0_9.rect_emb_val t (ix2 r k) 0]; show win0_9.index t 0 * 1024 + r.val = _; rw [(idx_whole t).2.1.1]; show 0 * 1024 + r.val = r.val; omega
  · rw [win0_9.rect_emb_val t (ix2 r k) 1]; show win0_9.index t 1 * 1024 + k.val = k.val; rw [(idx_whole t).2.1.2]; omega

/-- The block of the linear attention's projection. -/
theorem iblk10_apply (c : Dev nD) (t : Fin cfg0.N) (r : Fin 1024) (k : Fin 1024) :
    (iblk m c 10 t : S1024x1024.Idx → EReal) (ix2 r k) = (V m c main_v37 : S1024x1024.Idx → EReal) (ix2 r k) := by
  show (V m c main_v37 : S1024x1024.Idx → EReal) ((win0_10.rect t).emb (ix2 r k)) = _
  refine at2 _ _ _ _ ?_ ?_
  · rw [win0_10.rect_emb_val t (ix2 r k) 0]; show win0_10.index t 0 * 1024 + r.val = _; rw [(idx_whole t).2.2.1.1]; show 0 * 1024 + r.val = r.val; omega
  · rw [win0_10.rect_emb_val t (ix2 r k) 1]; show win0_10.index t 1 * 1024 + k.val = k.val; rw [(idx_whole t).2.2.1.2]; omega

/-- The block of the output's projection. -/
theorem iblk11_apply (c : Dev nD) (t : Fin cfg0.N) (r : Fin 1024) (k : Fin 1024) :
    (iblk m c 11 t : S1024x1024.Idx → EReal) (ix2 r k) = (V m c main_v38 : S1024x1024.Idx → EReal) (ix2 r k) := by
  show (V m c main_v38 : S1024x1024.Idx → EReal) ((win0_11.rect t).emb (ix2 r k)) = _
  refine at2 _ _ _ _ ?_ ?_
  · rw [win0_11.rect_emb_val t (ix2 r k) 0]; show win0_11.index t 0 * 1024 + r.val = _; rw [(idx_whole t).2.2.2.1.1]; show 0 * 1024 + r.val = r.val; omega
  · rw [win0_11.rect_emb_val t (ix2 r k) 1]; show win0_11.index t 1 * 1024 + k.val = k.val; rw [(idx_whole t).2.2.2.1.2]; omega

/-- The block of the MLP's first weights. -/
theorem iblk16_apply (c : Dev nD) (t : Fin cfg0.N) (r : Fin 1024) (k : Fin 4096) :
    (iblk m c 16 t : S1024x4096.Idx → EReal) (ix2 r k) = (V m c main_v40 : S1024x4096.Idx → EReal) (ix2 r k) := by
  show (V m c main_v40 : S1024x4096.Idx → EReal) ((win0_16.rect t).emb (ix2 r k)) = _
  refine at2 _ _ _ _ ?_ ?_
  · rw [win0_16.rect_emb_val t (ix2 r k) 0]; show win0_16.index t 0 * 1024 + r.val = _; rw [(idx_whole t).2.2.2.2.2.1.1]; show 0 * 1024 + r.val = r.val; omega
  · rw [win0_16.rect_emb_val t (ix2 r k) 1]; show win0_16.index t 1 * 4096 + k.val = k.val; rw [(idx_whole t).2.2.2.2.2.1.2]; omega

/-- The block of the MLP's second weights. -/
theorem iblk17_apply (c : Dev nD) (t : Fin cfg0.N) (r : Fin 4096) (k : Fin 1024) :
    (iblk m c 17 t : S4096x1024.Idx → EReal) (ix2 r k) = (V m c main_v41 : S4096x1024.Idx → EReal) (ix2 r k) := by
  show (V m c main_v41 : S4096x1024.Idx → EReal) ((win0_17.rect t).emb (ix2 r k)) = _
  refine at2 _ _ _ _ ?_ ?_
  · rw [win0_17.rect_emb_val t (ix2 r k) 0]; show win0_17.index t 0 * 4096 + r.val = _; rw [(idx_whole t).2.2.2.2.2.2.1]; show 0 * 4096 + r.val = r.val; omega
  · rw [win0_17.rect_emb_val t (ix2 r k) 1]; show win0_17.index t 1 * 1024 + k.val = k.val; rw [(idx_whole t).2.2.2.2.2.2.2]; omega

/-- The result, tokens laid out in rows. -/
def out (c : Dev nD) : Buf (Elt Ideal) ((c : Thread nD τ).loc main_v42) := fun y : S16384x1024.Idx => (kArgs m c).result (y 0) (y 1)

/-- The second direction's rows read the tokens backwards. -/
theorem V34_apply (c : Dev nD) (R : Fin 16384) (C : Fin 1024) : (V m c main_v34 : S16384x1024.Idx → EReal) (ix2 R C)
    = (kArgs m c).bwd (ix4 ⟨R.val / 4096, by omega⟩ ⟨C.val / 256, by omega⟩ (⟨R.val % 4096, by omega⟩ : Fin 4096).rev ⟨C.val % 256, by omega⟩) :=
  (congrFun (V34_eq m c) _).trans ((headRows_apply _ R C).trans (reverse_apply _ _ _ _ _))

theorem V35_apply (c : Dev nD) (z : Fin 1) (d : Fin 256) : (V m c main_v35 : S1x256.Idx → EReal) (ix2 z d) = (kArgs m c).gn (ix1 d) :=
  (congrFun (V35_eq m c) _).trans (gain_apply _ z d)

theorem V39_apply (c : Dev nD) (z : Fin 1) (k : Fin 1024) : (V m c main_v39 : S1x1024.Idx → EReal) (ix2 z k) = (kArgs m c).n2 (ix1 k) :=
  (congrFun (V39_eq m c) _).trans (norm_apply _ z k)

/-- The modulation vectors of a point's sequence. -/
theorem vec_apply (c : Dev nD) (t : Fin cfg0.N) (r : Fin 512) (j : Fin 6) (k : Fin 1024) :
    (V m c main_v24 : S8x6x1x1024.Idx → EReal) (ix4 ⟨t.val / 8, by have := lt_32 t; omega⟩ j 0 k)
      = (kArgs m c).vec j ⟨(rowOf t r).val / 4096, by omega⟩ k := by
  have := lt_32 t
  have e : (⟨t.val / 8, by omega⟩ : Fin 4) = ⟨(rowOf t r).val / 4096, by omega⟩ := Fin.ext (by unfold rowOf; dsimp only; omega)
  rw [V24_eq]
  refine (modArr_apply (kArgs m c).mod ⟨t.val / 8, by omega⟩ j k _).trans ?_
  rw [e]
  rfl

/-- A head's row of a point's blocks is the token's. -/
theorem headRow_apply (c : Dev nD) (t : Fin cfg0.N) (r : Fin 512) (i : Fin 1024) :
    headRow (iblk m c 2 t) (iblk m c 3 t) (X0_4 m c t) (iblk m c 7 t) r ⟨i.val / 256, by omega⟩ ⟨i.val % 256, by omega⟩
      = (kArgs m c).gla ⟨(rowOf t r).val / 4096, by omega⟩ ⟨(rowOf t r).val % 4096, by omega⟩ i := by
  have e : (⟨i.val / 256 * 256 + i.val % 256, by omega⟩ : Fin 1024) = i := Fin.ext (by dsimp only; omega)
  have eh (d : Fin 256) : (⟨(i.val / 256 * 256 + d.val) / 256, by omega⟩ : Fin 4) = ⟨i.val / 256, by omega⟩ := Fin.ext (by dsimp only; omega)
  have ed (d : Fin 256) : (⟨(i.val / 256 * 256 + d.val) % 256, by omega⟩ : Fin 256) = d := Fin.ext (by dsimp only; omega)
  unfold headRow Args.gla
  have h30 := V30_eq m c
  have h34 := V34_apply m c
  have h35 := V35_apply m c
  rw [X4_apply, V21_eq, main_go, e]
  simp only [iblk2_apply, iblk3_apply, iblk7_apply, h30, h34, h35, headRows_apply, eh, ed]
  rfl

/-- What point `t` leaves in its block: the tail's result of its tokens. -/
theorem outsAt_apply (c : Dev nD) (t : Fin cfg0.N) (r : Fin 512) (k : Fin 1024) :
    (outsAt0 m c t : S512x1024.Idx → EReal) (ix2 r k) = (kArgs m c).result (rowOf t r) k := by
  rw [outsAt_eq, body_apply]
  have h25 := V25_eq m c
  have h27 := V27_eq m c
  have h21 := V21_eq m c
  have h39 := V39_apply m c
  obtain ⟨ea, eg, eo, e1, e2⟩ := Vw_eq m c
  simp only [headRow_apply, iblk0_apply, iblk1_apply, X5_apply, X6_apply, iblk8_apply, iblk12_apply, iblk13_apply, iblk14_apply, iblk15_apply,
    iblk9_apply, iblk10_apply, iblk11_apply, iblk16_apply, iblk17_apply, vec_apply m c t r, h25, h27, h21, h39, ea, eg, eo, e1, e2,
    rows32_apply, rows16_apply, main_ga, main_gg]
  rfl

/-- What point `t` writes back is its block of the result. -/
theorem flushed_eq (c : Dev nD) (t : Fin cfg0.N) : (dats m 0 c).flushed 18 t = (win0_18.blk t).view.read (Elt Ideal) (out m c) := by
  rw [Cert.Kernel3Ideal.Value.flushed18]
  funext (y : S512x1024.Idx)
  obtain ⟨r, k, rfl⟩ : ∃ (r : Fin 512) (k : Fin 1024), y = ix2 r k := ⟨y 0, y 1, funext fun a => by fin_cases a <;> rfl⟩
  refine (outsAt_apply m c t r k).trans ?_
  have h0 : rowOf t r = ((win0_18.rect t).emb (ix2 r k) 0 : Fin 16384) :=
    Fin.ext ((win0_18.rect_emb_val t (ix2 r k) 0).trans (by rw [(idx_rows t).2.2.2.2.2.2.2.1]; rfl)).symm
  have h1 : k = ((win0_18.rect t).emb (ix2 r k) 1 : Fin 1024) :=
    Fin.ext ((win0_18.rect_emb_val t (ix2 r k) 1).trans (by rw [(idx_rows t).2.2.2.2.2.2.2.2]; show 0 * 1024 + k.val = k.val; omega)).symm
  show _ = (kArgs m c).result ((win0_18.rect t).emb (ix2 r k) 0) ((win0_18.rect t).emb (ix2 r k) 1)
  exact congrArg₂ _ h0 h1

/-- An entry is in a point's block when each coordinate is within the block's bounds. -/
theorem mem_blk (t : Fin cfg0.N) (i : S16384x1024.Idx) : i ∈ ((cfg0.win 18).blk t).view.set ↔
    ∀ a : Fin 2, win0_18.index t a * win0_18.size a ≤ (i a : Nat) ∧ (i a : Nat) < win0_18.index t a * win0_18.size a + win0_18.size a := by
  show i ∈ ((View.whole main_v42).slice (win0_18.rect t)).set ↔ _
  rw [View.set_slice_whole, Rect.mem_set_unit]
  exact Iff.rfl

/-- The points' blocks tile the result. -/
theorem cover (i : S16384x1024.Idx) : ∃ t : Fin cfg0.N, (cfg0.win 18).flush t = true ∧ i ∈ ((cfg0.win 18).blk t).view.set := by
  have h0 : (i 0 : Nat) < 16384 := (i 0).isLt
  have h1 : (i 1 : Nat) < 1024 := (i 1).isLt
  refine ⟨⟨(i 0 : Nat) / 512, lt_N (by omega)⟩, flush0_18 _, ?_⟩
  rw [mem_blk]
  obtain ⟨e0, e1⟩ := (idx_rows ⟨(i 0 : Nat) / 512, lt_N (by omega)⟩).2.2.2.2.2.2.2
  intro a
  match a with
  | ⟨0, _⟩ => show win0_18.index _ 0 * 512 ≤ (i 0 : Nat) ∧ (i 0 : Nat) < win0_18.index _ 0 * 512 + 512; rw [e0]; dsimp only; omega
  | ⟨1, _⟩ => show win0_18.index _ 1 * 1024 ≤ (i 1 : Nat) ∧ (i 1 : Nat) < win0_18.index _ 1 * 1024 + 1024; rw [e1]; omega

end Cert.Tail

end
-- ==== Proof.Tail.lean ====
/- The claim of the gated merge, the output projection and the MLP: equality with the plain host lines at the extended
   reals. -/
module

public import proofs.«01_k».proof.Proof.TailFrames
public import proofs.«01_k».proof.Proof.TailReference
public import proofs.«01_k».proof.Proof.TailValue

@[expose] public section

noncomputable section

open Idealize.ShloMosaic Idealize.ShloMosaic.TcCoe Idealize.SL.Sem

namespace Cert.Proof.Tail

open Cert.Tail

section
open Cert.Kernel3Ideal Cert.Kernel3Ideal.Gen
variable (m : (ℓ : Loc nD τ sig) → Buf (Elt Ideal) ℓ) (ρ : Dev nD → PrngReg)

/-- The kernel's run with its result read, its arguments unchanged. -/
theorem run : θ_run defs (onTc (τ := τ) (Cert.Kernel3Ideal.main (F := Ideal))) ⟨m, fun _ => 0, ρ⟩ fun r => ∀ c : Dev nD,
      r.2.mem ((c : Thread nD τ).loc main_v42) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ h c => ⟨(h c).1.trans ((dats m 0 c).arrAt_eq_of_cover 18 (out m c) (fun t _ => flushed_eq m c t) cover), (h c).2⟩)
    (Cert.Kernel3Ideal.Value.run_blocks m ρ)

end

/-- On equal arguments the kernel and the plain lines leave the same array. -/
theorem algebraic : Cert.algebraic_Kernel3Ideal_Reference3Ideal := by
  intro m ρ m' ρ' _ hagree
  refine ⟨fun c => out m c, run m ρ, ?_⟩
  refine (θ_run Cert.Reference3Ideal.defs _ _).mono (fun _ h c => ⟨(h c).1.trans ?_, (h c).2⟩) (Cert.Reference3Ideal.Value.run (F := Ideal) m' ρ')
  have ha : refArgs m' c = kArgs m c := by
    obtain ⟨e0, e1, e2, e3, e4, e5, e6, e7, e8, e9, e10, e11, e12, e13, e14⟩ := hagree c
    unfold refArgs kArgs
    rw [e0, e1, e2, e3, e4, e5, e6, e7, e8, e9, e10, e11, e12, e13, e14]
  refine (res_eq m' c).trans ?_
  rw [ha]
  funext (i : (⟨2, ![16384, 1024]⟩ : Shape).Idx)
  obtain ⟨R, C, rfl⟩ : ∃ (R : Fin 16384) (C : Fin 1024), i = ix2 R C := ⟨i 0, i 1, funext fun a => by fin_cases a <;> rfl⟩
  exact refAll_apply (kArgs m c) R C

end Cert.Proof.Tail

end
-- ==== Proof.StateFrames.lean ====
/- The frames of the call that sums the context into the states the linear attention starts from, and of its plain host lines. -/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import Idealize.ShloMosaic.Lib.Quiescent

@[expose] public section

noncomputable section

open Idealize.ShloMosaic Idealize.ShloMosaic.TcCoe Idealize.SL.Sem

namespace Cert.Proof.State

/-- The kernel ends, leaving its arguments as they were and every counter at zero. -/
theorem frame_kernel4 : Cert.quiescent_Kernel4 := fun m ρ _ => Cert.Kernel4.Gen.frame m ρ

/-- The same at the ideal instance. -/
theorem frame_kernel4Ideal : Cert.quiescent_Kernel4Ideal := fun m ρ _ => Cert.Kernel4Ideal.Gen.frame m ρ

/-- The host lines end, leaving their arguments as they were; they have no counter. -/
theorem frame_reference4Ideal : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- Nothing was rewritten on the way to the ideal instance. -/
theorem preserves : Cert.preserves_Kernel4_Kernel4Ideal := trivial

end Cert.Proof.State

end
-- ==== Proof.StateSpec.lean ====
/- The states the linear attention starts from, as sums over the context: of every key, decayed by the gates after it, times its value. -/
module

public import proofs.«01_k».proof.Proof.AttnSpec

@[expose] public section

noncomputable section

open Idealize.ShloMosaic

namespace Cert.State

/-- The sum of the first entries, the one at `t` with them. -/
def upTo (g : Fin 256 → EReal) (t : Fin 256) : EReal := ∑ s : Fin 256, if s ≤ t then g s else 0

/-- The sum of the last entries, the one at `t` with them. -/
def since (g : Fin 256 → EReal) (t : Fin 256) : EReal := ∑ s : Fin 256, if t ≤ s then g s else 0

/-- One entry of the state the first direction starts from: of the values' and the keys' component, and the gates' logarithms. -/
def fwd (v k g : Fin 256 → EReal) : EReal := ∑ t : Fin 256, v t * (k t * Ideal.exp (upTo g 255 - upTo g t))

/-- One entry of the state the second direction starts from, its gates counted from the end. -/
def bwd (v k g : Fin 256 → EReal) : EReal := ∑ t : Fin 256, v t * (k t * Ideal.exp (since g 0 - since g t))

/-- The first entries of a reversed list are the last ones of the list. -/
theorem upTo_rev (g : Fin 256 → EReal) (t : Fin 256) : upTo (fun s => g s.rev) t = since g t.rev := by
  unfold upTo since
  refine (Equiv.sum_comp Fin.revPerm fun s : Fin 256 => if t.rev ≤ s then g s else 0).symm.trans ?_ |>.symm
  refine Finset.sum_congr rfl fun s _ => ?_
  show (if t.rev ≤ s.rev then g s.rev else 0) = if s ≤ t then g s.rev else 0
  simp only [Fin.rev_le_rev]

/-- The second direction's state is the first's of the reversed context. -/
theorem fwd_rev (v k g : Fin 256 → EReal) : fwd (fun t => v t.rev) (fun t => k t.rev) (fun t => g t.rev) = bwd v k g := by
  unfold fwd bwd
  refine Eq.trans ?_ (Equiv.sum_comp Fin.revPerm fun t : Fin 256 => v t * (k t * Ideal.exp (since g 0 - since g t)))
  refine Finset.sum_congr rfl fun t _ => ?_
  rw [upTo_rev, upTo_rev]
  rfl

/-- One over the logarithm of 2. -/
def log2e : ℝ := 1 / Real.log 2

theorem log2e_pos : 0 < log2e := one_div_pos.2 Attn.log2_pos

/-- A difference scaled by a positive real. -/
theorem sub_mul_coe (x y : EReal) {c : ℝ} (hc : 0 ≤ c) : x * (c : EReal) - y * (c : EReal) = (x - y) * (c : EReal) := by
  rw [mul_comm x, mul_comm y, mul_comm (x - y), sub_eq_add_neg, sub_eq_add_neg,
    EReal.left_distrib_of_nonneg_of_ne_top (by exact_mod_cast hc) (EReal.coe_ne_top c), mul_neg]

/-- A sum scaled by a positive real. -/
theorem sum_mul_coe {ι : Type} (s : Finset ι) (f : ι → EReal) {c : ℝ} (hc : 0 ≤ c) : ∑ i ∈ s, f i * (c : EReal) = (∑ i ∈ s, f i) * (c : EReal) := by
  classical
  induction s using Finset.induction_on with
  | empty => simp
  | insert i s hi ih =>
    rw [Finset.sum_insert hi, Finset.sum_insert hi, ih, EReal.right_distrib_of_nonneg_of_ne_top (by exact_mod_cast hc) (EReal.coe_ne_top c)]

theorem upTo_scaled (g : Fin 256 → EReal) (t : Fin 256) : upTo (fun s => g s * (log2e : EReal)) t = upTo g t * (log2e : EReal) := by
  unfold upTo
  rw [← sum_mul_coe _ _ log2e_pos.le]
  exact Finset.sum_congr rfl fun s _ => by split <;> simp

theorem since_scaled (g : Fin 256 → EReal) (t : Fin 256) : since (fun s => g s * (log2e : EReal)) t = since g t * (log2e : EReal) := by
  unfold since
  rw [← sum_mul_coe _ _ log2e_pos.le]
  exact Finset.sum_congr rfl fun s _ => by split <;> simp

/-- Two to a number over the logarithm of 2 is its exponential, at the infinities too. -/
theorem exp2_log2e (x : EReal) : Ideal.exp2 (x * (log2e : EReal)) = Ideal.exp x := by
  induction x with
  | bot => rw [EReal.bot_mul_coe_of_pos log2e_pos]; rfl
  | top => rw [EReal.top_mul_coe_of_pos log2e_pos]; rfl
  | coe x =>
    rw [← EReal.coe_mul, Attn.exp2_real, Ideal.exp_coe, Attn.exp_pow2]
    unfold log2e
    rw [mul_one_div]

end Cert.State

end
-- ==== Proof.StateReference.lean ====
/- What the plain lines of the linear attention's start states compute at an index. -/
module

public import proofs.«01_k».proof.Proof.StateSpec
public import proofs.«01_k».proof.Proof.Gen.Reference4Ideal.Run
public import Idealize.ShloMosaic.Lib.Pointwise

@[expose] public section

set_option maxRecDepth 65536

noncomputable section

open Idealize.ShloMosaic Idealize.ShloMosaic.TcCoe Idealize.SL.Sem Idealize.ShloMosaic.StableHlo

namespace Cert.State

open Cert.Reference4Ideal Cert.Reference4Ideal.Gen

/-- The gates' running sums. -/
def cum (g : FVec Ideal S4x4x256x128 .f32) : FVec Ideal S4x4x256x128 .f32 :=
  Host.reduceWindowAdd ![1, 1, 256, 1] ![1, 1, 1, 1] ![0, 0, 255, 0] ![0, 0, 0, 0] g (broadcastInDim S_ ![] bcast_S_S_ (constant S_ .f32 0x00000000#32)) reduceWindows_S4x4x256x128_S4x4x256x128_w1s1p0_0_w1s1p0_0_w256s1p255_0_w1s1p0_0 h_S_

/-- A state from the values, the keys and the gates. -/
def refState (v : FVec Ideal S4x4x256x256 .f32) (k g : FVec Ideal S4x4x256x128 .f32) : FVec Ideal S4x4x256x128 .f32 :=
  Host.dotGeneral dot_S4x4x256x256_S4x4x256x128_S4x4x256x128_2_2_3_3_01_01 none v (mulf k (Host.exp (subf (broadcastInDim S4x4x256x128 ![0, 1, 2, 3] bcast_S4x4x1x128_S4x4x256x128_0_1_2_3 (extractStridedSlice S4x4x1x128 ![0, 0, 255, 0] (cum g) slices_S4x4x256x128_S4x4x1x128_0_0_255_0)) (cum g))))

/-- The keys by head. -/
def refK (k : FVec Ideal S4x256x512 .f32) : FVec Ideal S4x4x256x128 .f32 :=
  transpose S4x4x256x128 [0, 2, 1, 3] (shapeCast _ k shapeCasts_S4x256x512_S4x256x4x128) transposes_S4x256x4x128_S4x4x256x128_0_2_1_3

/-- The values by head. -/
def refV (v : FVec Ideal S4x256x1024 .f32) : FVec Ideal S4x4x256x256 .f32 :=
  transpose S4x4x256x256 [0, 2, 1, 3] (shapeCast _ v shapeCasts_S4x256x1024_S4x256x4x256) transposes_S4x256x4x256_S4x4x256x256_0_2_1_3

/-- The positions of a window of 256 along the third axis. -/
def windowEquiv : Fin 256 ≃ (⟨4, ![1, 1, 256, 1]⟩ : Shape).Idx where
  toFun n := ix4 (0 : Fin 1) (0 : Fin 1) n (0 : Fin 1)
  invFun w := w 2
  left_inv n := rfl
  right_inv w := funext fun a => by
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _

/-- A fold that adds, from zero, is the sum. -/
theorem foldl_add (n : Nat) (f : Fin n → EReal) : (List.finRange n).foldl (fun r i => r + f i) 0 = ∑ i, f i := by
  rw [← List.foldl_map (f := f) (g := fun r x : EReal => r + x), Fin.sum_univ_def, List.sum_eq_foldl]

/-- The running sum, an entry at a time. -/
theorem cum_apply (g : FVec Ideal S4x4x256x128 .f32) (b h : Fin 4) (t : Fin 256) (d : Fin 128) :
    cum g (ix4 b h t d) = upTo (fun s => g (ix4 b h s d)) t := by
  have hz : (broadcastInDim S_ ![] bcast_S_S_ (constant (F := Ideal) S_ .f32 0x00000000#32)) (Shape.Idx.first h_S_) = (0 : EReal) := by
    pointwise
  unfold cum Host.reduceWindowAdd
  rw [hz]
  show Host.reduceWindow (· + ·) ![1, 1, 256, 1] ![1, 1, 1, 1] ![0, 0, 255, 0] ![0, 0, 0, 0] g (fun _ : (⟨0, ![]⟩ : Shape).Idx => (0 : EReal))
    reduceWindows_S4x4x256x128_S4x4x256x128_w1s1p0_0_w1s1p0_0_w256s1p255_0_w1s1p0_0 (by decide) (ix4 b h t d) = _
  unfold Host.reduceWindow
  dsimp only
  rw [foldl_add]
  unfold upTo
  refine Fintype.sum_equiv (((⟨4, ![1, 1, 256, 1]⟩ : Shape).rowMajor.symm.trans windowEquiv.symm).trans (Equiv.addLeft (t + 1))) _
    (fun s : Fin 256 => if s ≤ t then g (ix4 b h s d) else 0) fun i => ?_
  obtain ⟨n, hw⟩ := windowEquiv.surjective ((⟨4, ![1, 1, 256, 1]⟩ : Shape).rowMajor.symm i)
  have w0 : ((⟨4, ![1, 1, 256, 1]⟩ : Shape).rowMajor.symm i 0).val = 0 := by rw [← hw]; rfl
  have w1 : ((⟨4, ![1, 1, 256, 1]⟩ : Shape).rowMajor.symm i 1).val = 0 := by rw [← hw]; rfl
  have w2 : ((⟨4, ![1, 1, 256, 1]⟩ : Shape).rowMajor.symm i 2).val = n.val := by rw [← hw]; rfl
  have w3 : ((⟨4, ![1, 1, 256, 1]⟩ : Shape).rowMajor.symm i 3).val = 0 := by rw [← hw]; rfl
  have hn' : t + 1 + windowEquiv.symm ((⟨4, ![1, 1, 256, 1]⟩ : Shape).rowMajor.symm i) = t + 1 + n := by rw [← hw, Equiv.symm_apply_apply]
  have hv : (t + 1 + n : Fin 256).val = (t.val + 1 + n.val) % 256 := by simp [Fin.val_add]
  have ht := t.isLt
  have hn := n.isLt
  refine Eq.trans ?_ (congrArg (fun s : Fin 256 => if s ≤ t then g (ix4 b h s d) else 0) hn'.symm)
  show _ = if (t + 1 + n : Fin 256) ≤ t then g (ix4 b h (t + 1 + n) d) else 0
  by_cases hc : 255 ≤ t.val + n.val
  · have hin : ∀ a : Fin 4, (![0, 0, 255, 0] : Fin 4 → Nat) a ≤ ((ix4 b h t d : S4x4x256x128.Idx) a).val * (![1, 1, 1, 1] : Fin 4 → Nat) a + ((⟨4, ![1, 1, 256, 1]⟩ : Shape).rowMajor.symm i a).val
        ∧ ((ix4 b h t d : S4x4x256x128.Idx) a).val * (![1, 1, 1, 1] : Fin 4 → Nat) a + ((⟨4, ![1, 1, 256, 1]⟩ : Shape).rowMajor.symm i a).val - (![0, 0, 255, 0] : Fin 4 → Nat) a < S4x4x256x128.size a := by
      intro a
      match a with
      | ⟨0, _⟩ => show 0 ≤ b.val * 1 + ((⟨4, ![1, 1, 256, 1]⟩ : Shape).rowMajor.symm i 0).val ∧ b.val * 1 + ((⟨4, ![1, 1, 256, 1]⟩ : Shape).rowMajor.symm i 0).val - 0 < 4; omega
      | ⟨1, _⟩ => show 0 ≤ h.val * 1 + ((⟨4, ![1, 1, 256, 1]⟩ : Shape).rowMajor.symm i 1).val ∧ h.val * 1 + ((⟨4, ![1, 1, 256, 1]⟩ : Shape).rowMajor.symm i 1).val - 0 < 4; omega
      | ⟨2, _⟩ => show 255 ≤ t.val * 1 + ((⟨4, ![1, 1, 256, 1]⟩ : Shape).rowMajor.symm i 2).val ∧ t.val * 1 + ((⟨4, ![1, 1, 256, 1]⟩ : Shape).rowMajor.symm i 2).val - 255 < 256; omega
      | ⟨3, _⟩ => show 0 ≤ d.val * 1 + ((⟨4, ![1, 1, 256, 1]⟩ : Shape).rowMajor.symm i 3).val ∧ d.val * 1 + ((⟨4, ![1, 1, 256, 1]⟩ : Shape).rowMajor.symm i 3).val - 0 < 128; omega
    refine Eq.trans ((dif_pos hin).trans ?_) (if_pos (show (t + 1 + n : Fin 256).val ≤ t.val by omega)).symm
    refine congrArg g (funext fun a => Fin.ext ?_)
    match a with
    | ⟨0, _⟩ => show b.val * 1 + ((⟨4, ![1, 1, 256, 1]⟩ : Shape).rowMajor.symm i 0).val - 0 = b.val; omega
    | ⟨1, _⟩ => show h.val * 1 + ((⟨4, ![1, 1, 256, 1]⟩ : Shape).rowMajor.symm i 1).val - 0 = h.val; omega
    | ⟨2, _⟩ => show t.val * 1 + ((⟨4, ![1, 1, 256, 1]⟩ : Shape).rowMajor.symm i 2).val - 255 = (t + 1 + n : Fin 256).val; omega
    | ⟨3, _⟩ => show d.val * 1 + ((⟨4, ![1, 1, 256, 1]⟩ : Shape).rowMajor.symm i 3).val - 0 = d.val; omega
  · refine Eq.trans (dif_neg fun hin => hc ?_) (if_neg (show ¬ (t + 1 + n : Fin 256).val ≤ t.val by omega)).symm
    have := (hin 2).1
    change 255 ≤ t.val * 1 + ((⟨4, ![1, 1, 256, 1]⟩ : Shape).rowMajor.symm i 2).val at this
    omega

theorem refState_apply (v : FVec Ideal S4x4x256x256 .f32) (k g : FVec Ideal S4x4x256x128 .f32) (b h : Fin 4) (e : Fin 256) (d : Fin 128) :
    refState v k g (ix4 b h e d) = fwd (fun t => v (ix4 b h t e)) (fun t => k (ix4 b h t d)) (fun t => g (ix4 b h t d)) := by
  pointwise [refState, cum_apply, fwd]

theorem refK_apply (k : FVec Ideal S4x256x512 .f32) (b h : Fin 4) (t : Fin 256) (d : Fin 128) :
    refK k (ix4 b h t d) = k (ix3 b t ⟨h.val * 128 + d.val, by omega⟩) := by
  pointwise [refK]

theorem refV_apply (v : FVec Ideal S4x256x1024 .f32) (b h : Fin 4) (t : Fin 256) (e : Fin 256) :
    refV v (ix4 b h t e) = v (ix3 b t ⟨h.val * 256 + e.val, by omega⟩) := by
  pointwise [refV]

theorem flipK_apply (k : FVec Ideal S4x4x256x128 .f32) (b h : Fin 4) (t : Fin 256) (d : Fin 128) :
    Host.reverse [2] k (ix4 b h t d) = k (ix4 b h t.rev d) := by
  pointwise
  congr 2

theorem flipV_apply (v : FVec Ideal S4x4x256x256 .f32) (b h : Fin 4) (t : Fin 256) (d : Fin 256) :
    Host.reverse [2] v (ix4 b h t d) = v (ix4 b h t.rev d) := by
  pointwise
  congr 2

end Cert.State

end
-- ==== Proof.StateBody.lean ====
/- What the call that sums the context leaves in its blocks, at an index. -/
module

public import proofs.«01_k».proof.Proof.StateSpec
public import proofs.«01_k».proof.Proof.Gen.Kernel4Ideal.Frame
public import Idealize.ShloMosaic.Lib.Pointwise
public import Idealize.ShloMosaic.Lib.WordCmp
public import Idealize.ShloMosaic.Lib.Pipeline.ValueKit.Tiles

@[expose] public section

set_option maxRecDepth 65536

noncomputable section

open Idealize.ShloMosaic Idealize.ShloMosaic.TcCoe Idealize.SL.Sem

namespace Cert.State

open Cert.Kernel4Ideal Cert.Kernel4Ideal.Gen

/-- The mask of a comparison of two positions, as a number. -/
theorem mask_apply (a b : Fin 256) : (FloatOps.sitofp (F := Ideal) FTy.f32
    (BitVec.setWidth 32 (IntOp.cmpi CmpIPredicate.sge (BitVec.ofNat 32 a.val) (BitVec.ofNat 32 b.val))) : EReal) = if b ≤ a then 1 else 0 := by
  have ha := a.isLt
  have hb := b.isLt
  rw [WordCmp.cmpi_sge_ofNat (by omega) (by omega)]
  by_cases h : b ≤ a
  · have h' : b.val ≤ a.val := h
    rw [if_pos h, decide_eq_true h']
    show (((1 : Int) : ℝ) : EReal) = 1
    norm_num
  · have h' : ¬ b.val ≤ a.val := h
    rw [if_neg h, decide_eq_false h']
    show (((0 : Int) : ℝ) : EReal) = 0
    norm_num

/-- The keys decayed by the gates after them. -/
theorem pay5_apply (k g : FVec Ideal S256x512 .bf16) (t : Fin 256) (j : Fin 512) :
    k0_pay5 (F := Ideal) k g (ix2 t j) = k (ix2 t j) * Ideal.exp2 (upTo (fun s => g (ix2 s j)) 255 - upTo (fun s => g (ix2 s j)) t) := by
  pointwise [k0_pay5, k0_pay4, upTo]
  have h255 (x : Fin 256) := mask_apply 255 x
  simp only [mask_apply, ite_mul, one_mul, zero_mul]
  erw [Finset.sum_congr rfl fun x _ => congrArg (· * g (ix2 x j)) (h255 x)]
  simp only [ite_mul, one_mul, zero_mul]
  rfl

/-- The keys decayed by the gates before them. -/
theorem pay6_apply (k g : FVec Ideal S256x512 .bf16) (t : Fin 256) (j : Fin 512) :
    k0_pay6 (F := Ideal) k g (ix2 t j) = k (ix2 t j) * Ideal.exp2 (since (fun s => g (ix2 s j)) 0 - since (fun s => g (ix2 s j)) t) := by
  pointwise [k0_pay6, k0_pay4, since]
  have h0 (x : Fin 256) := mask_apply x 0
  simp only [mask_apply, ite_mul, one_mul, zero_mul]
  erw [Finset.sum_congr rfl fun x _ => congrArg (· * g (ix2 x j)) (h0 x)]
  simp only [ite_mul, one_mul, zero_mul]
  rfl

section
variable (k g : FVec Ideal S256x512 .bf16) (v : FVec Ideal S256x256 .bf16) (e : Fin 256) (d : Fin 128)

/-- A head's product: its values' columns with the decayed keys' columns from `o` on. -/
def prod (o : Nat) (ho : o + 128 ≤ 512) : EReal := ∑ t : Fin 256, v (ix2 t e) * k (ix2 t ⟨o + d.val, by omega⟩)

theorem pay8_apply : k0_pay8 (F := Ideal) k g v (ix4 0 0 e d) = prod (k0_pay5 k g) v e d 0 (by omega) := by
  pointwise [k0_pay8, k0_pay7, prod]
theorem pay10_apply : k0_pay10 (F := Ideal) (k0_pay9 k g v) (ix4 0 0 e d) = prod (k0_pay6 k g) v e d 0 (by omega) := by
  pointwise [k0_pay10, k0_pay9, k0_pay7, prod]
theorem pay12_apply : k0_pay12 (F := Ideal) k v (ix4 0 0 e d) = prod k v e d 128 (by omega) := by
  pointwise [k0_pay12, k0_pay11, prod]
theorem pay13_apply : k0_pay13 (F := Ideal) k v (ix4 0 0 e d) = prod k v e d 128 (by omega) := by
  pointwise [k0_pay13, k0_pay11, prod]
theorem pay15_apply : k0_pay15 (F := Ideal) k v (ix4 0 0 e d) = prod k v e d 256 (by omega) := by
  pointwise [k0_pay15, k0_pay14, prod]
theorem pay16_apply : k0_pay16 (F := Ideal) k v (ix4 0 0 e d) = prod k v e d 256 (by omega) := by
  pointwise [k0_pay16, k0_pay14, prod]
theorem pay2_apply : k0_pay2 (F := Ideal) k v (ix4 0 0 e d) = prod k v e d 384 (by omega) := by
  pointwise [k0_pay2, k0_pay1, prod]
theorem pay3_apply : k0_pay3 (F := Ideal) k v (ix4 0 0 e d) = prod k v e d 384 (by omega) := by
  pointwise [k0_pay3, k0_pay1, prod]
end

/-- A head's columns of the values. -/
def vcols (X : FVec Ideal S256x1024 .bf16) (o : Nat) (h : o + 256 ≤ 1024) : FVec Ideal S256x256 .bf16 :=
  fun j => X (ix2 (j 0) ⟨o + (j 1).val, by have := (j 1).isLt; change (j 1).val < 256 at this; omega⟩)

/-- A load of a head's columns. -/
theorem ld_vcols (X : S256x1024.Idx → Elt Ideal .bf16) (o : Nat)
    (inb : ∀ a, (![0, o] : Fin 2 → Nat) a + (![256, 256] : Fin 2 → Nat) a ≤ S256x1024.size a) :
    View.ld X (Rect.unit (s := S256x1024) ![0, o] ![256, 256] inb) = vcols X o (inb 1) :=
  funext fun j => congrArg X (funext fun a => Fin.ext (by
    match a with
    | ⟨0, _⟩ => show 0 + 1 * (j 0).val = (j 0).val; omega
    | ⟨1, _⟩ => show o + 1 * (j 1).val = o + (j 1).val; omega))

theorem hz2 : (![0, 0] : Fin 2 → Nat) = fun _ => 0 := by funext a; fin_cases a <;> rfl

/-- An entry of the block: head `h`'s product of a component of the values and one of the keys. -/
def blockAt (k : FVec Ideal S256x512 .bf16) (v : FVec Ideal S256x1024 .bf16) (h : Fin 4) (e : Fin 256) (d : Fin 128) : EReal :=
  ∑ t : Fin 256, v (ix2 t ⟨h.val * 256 + e.val, by omega⟩) * k (ix2 t ⟨h.val * 128 + d.val, by omega⟩)

/-- A head's store, where it holds an entry, holds that entry of the block. -/
theorem tile (k : FVec Ideal S256x512 .bf16) (v : FVec Ideal S256x1024 .bf16) (z : Fin 1) (h : Fin 4) (e : Fin 256) (d : Fin 128)
    (H : Nat) (hH : H < 4) (w : (⟨4, ![1, 1, 256, 128]⟩ : Shape).Idx → Elt Ideal .f32)
    (hw : ∀ e d, w (ix4 0 0 e d) = prod k (vcols v (H * 256) (by omega)) e d (H * 128) (by omega)) :
    View.TileAt (Val := Elt Ideal) (S := S1x4x256x128) (e := .f32) (ix4 z h e d) ![0, H, 0, 0] ![1, 1, 256, 128] w (blockAt k v h e d) := by
  intro x hx
  obtain ⟨x0, x1, x2, x3, rfl⟩ : ∃ (x0 x1 : Fin 1) (x2 : Fin 256) (x3 : Fin 128), x = ix4 x0 x1 x2 x3 :=
    ⟨x 0, x 1, x 2, x 3, funext fun a => by fin_cases a <;> rfl⟩
  have h1 : h.val = H + x1.val := hx 1
  have h2 : e.val = 0 + x2.val := hx 2
  have h3 : d.val = 0 + x3.val := hx 3
  obtain rfl : x2 = e := Fin.ext (by omega)
  obtain rfl : x3 = d := Fin.ext (by omega)
  obtain rfl : x0 = 0 := Subsingleton.elim _ _
  obtain rfl : x1 = 0 := Subsingleton.elim _ _
  obtain rfl : H = h.val := by have : ((0 : Fin 1) : Nat) = 0 := rfl; omega
  exact (hw x2 x3).trans rfl

section
variable (x0 : FVec Ideal S256x512 .bf16) (x1 : FVec Ideal S256x1024 .bf16) (x2 x3 : FVec Ideal S256x512 .bf16)
  (z : Fin 1) (h : Fin 4) (e : Fin 256) (d : Fin 128)

/-- The first direction's block. -/
theorem out4_apply : out0_4 (F := Ideal) x0 x1 x2 x3 (ix4 z h e d) = blockAt (k0_pay5 x0 x2) x1 h e d := by
  unfold out0_4 k0_pay17
  rw [View.ld_unit_zero (S := S256x512) hz2, View.ld_unit_zero (S := S256x512) hz2]
  refine View.canon_eq_of_allAt _ _ _ (cover0_4 _ _ _ _ _) ?_
  refine View.allAt_cons_unit _ _ _ _ _ (tile _ x1 z h e d 3 (by omega) _ fun e d => ?_) ?_
  · exact (pay2_apply _ _ e d).trans (by rw [ld_vcols])
  refine View.allAt_cons_unit _ _ _ _ _ (tile _ x1 z h e d 2 (by omega) _ fun e d => ?_) ?_
  · exact (pay15_apply _ _ e d).trans (by rw [ld_vcols])
  refine View.allAt_cons_unit _ _ _ _ _ (tile _ x1 z h e d 1 (by omega) _ fun e d => ?_) ?_
  · exact (pay12_apply _ _ e d).trans (by rw [ld_vcols])
  refine View.allAt_cons_unit _ _ _ _ _ (tile _ x1 z h e d 0 (by omega) _ fun e d => ?_) (View.allAt_nil _ _)
  · exact (pay8_apply _ _ _ e d).trans (by rw [ld_vcols])

/-- The second direction's block. -/
theorem out5_apply : out0_5 (F := Ideal) x0 x1 x2 x3 (ix4 z h e d) = blockAt (k0_pay6 x0 x3) x1 h e d := by
  unfold out0_5 k0_pay18
  rw [View.ld_unit_zero (S := S256x512) hz2, View.ld_unit_zero (S := S256x512) hz2]
  refine View.canon_eq_of_allAt _ _ _ (cover0_5 _ _ _ _ _) ?_
  refine View.allAt_cons_unit _ _ _ _ _ (tile _ x1 z h e d 3 (by omega) _ fun e d => ?_) ?_
  · exact (pay3_apply _ _ e d).trans (by rw [ld_vcols])
  refine View.allAt_cons_unit _ _ _ _ _ (tile _ x1 z h e d 2 (by omega) _ fun e d => ?_) ?_
  · exact (pay16_apply _ _ e d).trans (by rw [ld_vcols])
  refine View.allAt_cons_unit _ _ _ _ _ (tile _ x1 z h e d 1 (by omega) _ fun e d => ?_) ?_
  · exact (pay13_apply _ _ e d).trans (by rw [ld_vcols])
  refine View.allAt_cons_unit _ _ _ _ _ (tile _ x1 z h e d 0 (by omega) _ fun e d => ?_) (View.allAt_nil _ _)
  · exact (pay10_apply _ _ _ e d).trans (by rw [ld_vcols])

end

end Cert.State

end
-- ==== Proof.StateHost.lean ====
/- The arrays the context call's windows are cut from, as the host lays them out, at an index. -/
module

public import proofs.«01_k».proof.Proof.StateSpec
public import proofs.«01_k».proof.Proof.Gen.Kernel4Ideal.Frame
public import Idealize.ShloMosaic.Lib.StableHlo.Run
public import Idealize.ShloMosaic.Lib.Pointwise

@[expose] public section

set_option maxRecDepth 65536

noncomputable section

open Idealize.ShloMosaic Idealize.ShloMosaic.TcCoe Idealize.SL.Sem Idealize.ShloMosaic.StableHlo

namespace Cert.State

open Cert.Kernel4Ideal Cert.Kernel4Ideal.Gen

/-- A row per position: zeros, the keys, the values. -/
def mainArr (k : FVec Ideal S4x256x512 .f32) (v : FVec Ideal S4x256x1024 .f32) : FVec Ideal S1024x2048 .bf16 :=
  concatenate S1024x2048 1 [⟨S1024x512, broadcastInDim S1024x512 ![] bcast_S_S1024x512 (constant (F := Ideal) S_ .bf16 0x0000#16)⟩,
    ⟨S1024x512, truncf (F := Ideal) .bf16 (shapeCast S1024x512 k shapeCasts_S4x256x512_S1024x512) bitsLt_bf16_f32⟩,
    ⟨S1024x1024, truncf (F := Ideal) .bf16 (shapeCast S1024x1024 v shapeCasts_S4x256x1024_S1024x1024) bitsLt_bf16_f32⟩]
    concatenates_S1024x512_S1024x512_S1024x1024_S1024x2048_d1

/-- A row per position of one direction's gates, in powers of two. -/
def gateRows (g : FVec Ideal S4x4x256x128 .f32) : FVec Ideal S1024x512 .bf16 :=
  truncf .bf16 (mulf (shapeCast S1024x512 (transpose S4x256x4x128 [0, 2, 1, 3] g transposes_S4x4x256x128_S4x256x4x128_0_2_1_3) shapeCasts_S4x256x4x128_S1024x512)
    (broadcastInDim S1024x512 ![] bcast_S_S1024x512 (Host.divf (constant S_ .f32 0x3F800000#32) (Host.log (constant S_ .f32 0x40000000#32))))) bitsLt_bf16_f32

/-- Both directions' gates. -/
def gateArr (gf gb : FVec Ideal S4x4x256x128 .f32) : FVec Ideal S1024x1024 .bf16 :=
  concatenate S1024x1024 1 [⟨S1024x512, gateRows gf⟩, ⟨S1024x512, gateRows gb⟩] concatenates_S1024x512_S1024x512_S1024x1024_d1

section
variable (m : (ℓ : Loc nD τ sig) → Buf (Elt Ideal) ℓ)

set_option maxHeartbeats 1000000 in
/-- What the call is given. -/
theorem V7_eq (c : Dev nD) : (V m c main_v7 : FVec Ideal S1024x2048 .bf16)
    = mainArr (m ((c : Thread nD τ).loc main_arg0)) (m ((c : Thread nD τ).loc main_arg1)) := by
  show StableHlo.after hostOps0 _ _ = _
  after_results <;> rfl

set_option maxHeartbeats 1000000 in
theorem V18_eq (c : Dev nD) : (V m c main_v18 : FVec Ideal S1024x1024 .bf16)
    = gateArr (m ((c : Thread nD τ).loc main_arg2)) (m ((c : Thread nD τ).loc main_arg3)) := by
  show StableHlo.after hostOps0 _ _ = _
  after_results <;> rfl

end

/-- The scale of the gates. -/
theorem scale_eq : Ideal.div (Ideal.ofBits .f32 1065353216#32) (Ideal.log (Ideal.ofBits .f32 1073741824#32)) = (log2e : EReal) := by
  have h1 : Ideal.ofBits .f32 0x3F800000#32 = (1 : EReal) := by
    simp [Ideal.ofBits, Ideal.ieee, -EReal.coe_mul]
    norm_num
  rw [Attn.log_lit2, h1, Ideal.div_coe Attn.log2_pos.ne', one_mul]
  rfl

theorem keys_apply (k : FVec Ideal S4x256x512 .f32) (v : FVec Ideal S4x256x1024 .f32) (R : Fin 1024) (C : Fin 512) :
    mainArr k v (ix2 R ⟨1 * 512 + C.val, by omega⟩) = k (ix3 ⟨R.val / 256, by omega⟩ ⟨R.val % 256, by omega⟩ C) := by
  pointwise [mainArr]

theorem values_apply (k : FVec Ideal S4x256x512 .f32) (v : FVec Ideal S4x256x1024 .f32) (R : Fin 1024) (C : Fin 1024) :
    mainArr k v (ix2 R ⟨1 * 1024 + C.val, by omega⟩) = v (ix3 ⟨R.val / 256, by omega⟩ ⟨R.val % 256, by omega⟩ C) := by
  pointwise [mainArr]
  rw [dif_neg (by omega), dif_neg (by omega)]
  exact congrArg v (congrArg _ (Fin.ext (by dsimp only; omega)))

theorem gateRows_apply (g : FVec Ideal S4x4x256x128 .f32) (R : Fin 1024) (C : Fin 512) :
    gateRows g (ix2 R C) = g (ix4 ⟨R.val / 256, by omega⟩ ⟨C.val / 128, by omega⟩ ⟨R.val % 256, by omega⟩ ⟨C.val % 128, by omega⟩) * (log2e : EReal) := by
  rw [← scale_eq]
  pointwise [gateRows]

theorem gateF_apply (gf gb : FVec Ideal S4x4x256x128 .f32) (R : Fin 1024) (C : Fin 512) :
    gateArr gf gb (ix2 R ⟨0 * 512 + C.val, by omega⟩) = gateRows gf (ix2 R C) := by
  pointwise [gateArr]

theorem gateB_apply (gf gb : FVec Ideal S4x4x256x128 .f32) (R : Fin 1024) (C : Fin 512) :
    gateArr gf gb (ix2 R ⟨1 * 512 + C.val, by omega⟩) = gateRows gb (ix2 R C) := by
  pointwise [gateArr]

end Cert.State

end
-- ==== Proof.StateValue.lean ====
/- The context call's blocks at an index, and both its results from them. -/
module

public import proofs.«01_k».proof.Proof.StateBody
public import proofs.«01_k».proof.Proof.StateHost
public import proofs.«01_k».proof.Proof.Gen.Kernel4Ideal.Value
public import Idealize.ShloMosaic.Lib.Pipeline.Value

@[expose] public section

set_option maxRecDepth 65536

noncomputable section

open Idealize.ShloMosaic Idealize.ShloMosaic.TcCoe Idealize.SL.Sem
open Idealize.ShloMosaic.Pipeline (Dat)

namespace Cert.State

open Cert.Kernel4Ideal Cert.Kernel4Ideal.Gen

/-- The states' arguments: keys and values a row per position, the logarithms of both directions' gates by head. -/
structure Args where
  k : (⟨3, ![4, 256, 512]⟩ : Shape).Idx → EReal
  v : (⟨3, ![4, 256, 1024]⟩ : Shape).Idx → EReal
  gf : (⟨4, ![4, 4, 256, 128]⟩ : Shape).Idx → EReal
  gb : (⟨4, ![4, 4, 256, 128]⟩ : Shape).Idx → EReal

/-- The state the first direction starts from. -/
def Args.first (A : Args) (b h : Fin 4) (e : Fin 256) (d : Fin 128) : EReal :=
  fwd (fun t => A.v (ix3 b t ⟨h.val * 256 + e.val, by omega⟩)) (fun t => A.k (ix3 b t ⟨h.val * 128 + d.val, by omega⟩)) (fun t => A.gf (ix4 b h t d))

/-- The state the second direction starts from. -/
def Args.second (A : Args) (b h : Fin 4) (e : Fin 256) (d : Fin 128) : EReal :=
  bwd (fun t => A.v (ix3 b t ⟨h.val * 256 + e.val, by omega⟩)) (fun t => A.k (ix3 b t ⟨h.val * 128 + d.val, by omega⟩)) (fun t => A.gb (ix4 b h t d))

variable (m : (ℓ : Loc nD τ sig) → Buf (Elt Ideal) ℓ) (ρ : Dev nD → PrngReg)

/-- The program's arguments. -/
abbrev kArgs (c : Dev nD) : Args where
  k := m ((c : Thread nD τ).loc main_arg0)
  v := m ((c : Thread nD τ).loc main_arg1)
  gf := m ((c : Thread nD τ).loc main_arg2)
  gb := m ((c : Thread nD τ).loc main_arg3)

/-- The grid has 4 points. -/
theorem hN : cfg0.N = 4 := N_0
theorem lt_4 (t : Fin cfg0.N) : t.val < 4 := t.isLt.trans_eq hN

/-- Each point takes its sequence's rows and leaves its sequence's states. -/
theorem idx_facts : ∀ t : Fin cfg0.N, (win0_0.index t 0 = t.val ∧ win0_0.index t 1 = 1) ∧ (win0_1.index t 0 = t.val ∧ win0_1.index t 1 = 1)
    ∧ (win0_2.index t 0 = t.val ∧ win0_2.index t 1 = 0) ∧ (win0_3.index t 0 = t.val ∧ win0_3.index t 1 = 1)
    ∧ (win0_4.index t 0 = t.val ∧ win0_4.index t 1 = 0 ∧ win0_4.index t 2 = 0 ∧ win0_4.index t 3 = 0)
    ∧ (win0_5.index t 0 = t.val ∧ win0_5.index t 1 = 0 ∧ win0_5.index t 2 = 0 ∧ win0_5.index t 3 = 0) :=
  (by decide +kernel : ∀ t : Fin grid0.N, (win0_0.index t 0 = t.val ∧ win0_0.index t 1 = 1) ∧ (win0_1.index t 0 = t.val ∧ win0_1.index t 1 = 1)
    ∧ (win0_2.index t 0 = t.val ∧ win0_2.index t 1 = 0) ∧ (win0_3.index t 0 = t.val ∧ win0_3.index t 1 = 1)
    ∧ (win0_4.index t 0 = t.val ∧ win0_4.index t 1 = 0 ∧ win0_4.index t 2 = 0 ∧ win0_4.index t 3 = 0)
    ∧ (win0_5.index t 0 = t.val ∧ win0_5.index t 1 = 0 ∧ win0_5.index t 2 = 0 ∧ win0_5.index t 3 = 0))

/-- The sequence of a point. -/
def seqOf (t : Fin cfg0.N) : Fin 4 := ⟨t.val, lt_4 t⟩

/-- Position `r` of a point's sequence among all rows. -/
def rowOf (t : Fin cfg0.N) (r : Fin 256) : Fin 1024 := ⟨t.val * 256 + r.val, by have := lt_4 t; omega⟩

theorem rowOf_div (t : Fin cfg0.N) (r : Fin 256) (h : (rowOf t r).val / 256 < 4) : (⟨(rowOf t r).val / 256, h⟩ : Fin 4) = seqOf t :=
  Fin.ext (by unfold rowOf seqOf; dsimp only; omega)
theorem rowOf_mod (t : Fin cfg0.N) (r : Fin 256) (h : (rowOf t r).val % 256 < 256) : (⟨(rowOf t r).val % 256, h⟩ : Fin 256) = r :=
  Fin.ext (by unfold rowOf; dsimp only; omega)

/-- A rank-two array at two equal indices. -/
theorem at2 {n0 n1 : Nat} (X : (⟨2, ![n0, n1]⟩ : Shape).Idx → EReal) (y : (⟨2, ![n0, n1]⟩ : Shape).Idx) (R : Fin n0) (C : Fin n1)
    (h0 : (y 0 : Nat) = R.val) (h1 : (y 1 : Nat) = C.val) : X y = X (ix2 R C) :=
  congrArg X (funext fun a => Fin.ext (by
    match a with
    | ⟨0, _⟩ => exact h0
    | ⟨1, _⟩ => exact h1))

/-- The keys of a point. -/
theorem iblk0_apply (c : Dev nD) (t : Fin cfg0.N) (r : Fin 256) (j : Fin 512) :
    (iblk m c 0 t : S256x512.Idx → EReal) (ix2 r j) = (kArgs m c).k (ix3 (seqOf t) r j) := by
  have e : (iblk m c 0 t : S256x512.Idx → EReal) (ix2 r j) = (V m c main_v7 : S1024x2048.Idx → EReal) (ix2 (rowOf t r) ⟨1 * 512 + j.val, by omega⟩) := by
    show (V m c main_v7 : S1024x2048.Idx → EReal) ((win0_0.rect t).emb (ix2 r j)) = _
    refine at2 _ _ _ _ ?_ ?_
    · rw [win0_0.rect_emb_val t (ix2 r j) 0]; show win0_0.index t 0 * 256 + r.val = t.val * 256 + r.val; rw [(idx_facts t).1.1]
    · rw [win0_0.rect_emb_val t (ix2 r j) 1]; show win0_0.index t 1 * 512 + j.val = 1 * 512 + j.val; rw [(idx_facts t).1.2]
  rw [e, V7_eq, keys_apply, rowOf_div, rowOf_mod]

/-- The values of a point. -/
theorem iblk1_apply (c : Dev nD) (t : Fin cfg0.N) (r : Fin 256) (j : Fin 1024) :
    (iblk m c 1 t : S256x1024.Idx → EReal) (ix2 r j) = (kArgs m c).v (ix3 (seqOf t) r j) := by
  have e : (iblk m c 1 t : S256x1024.Idx → EReal) (ix2 r j) = (V m c main_v7 : S1024x2048.Idx → EReal) (ix2 (rowOf t r) ⟨1 * 1024 + j.val, by omega⟩) := by
    show (V m c main_v7 : S1024x2048.Idx → EReal) ((win0_1.rect t).emb (ix2 r j)) = _
    refine at2 _ _ _ _ ?_ ?_
    · rw [win0_1.rect_emb_val t (ix2 r j) 0]; show win0_1.index t 0 * 256 + r.val = t.val * 256 + r.val; rw [(idx_facts t).2.1.1]
    · rw [win0_1.rect_emb_val t (ix2 r j) 1]; show win0_1.index t 1 * 1024 + j.val = 1 * 1024 + j.val; rw [(idx_facts t).2.1.2]
  rw [e, V7_eq, values_apply, rowOf_div, rowOf_mod]

/-- A head's gates, from its columns. -/
theorem gate_head (g : FVec Ideal S4x4x256x128 .f32) (t : Fin cfg0.N) (r : Fin 256) (h : Fin 4) (d : Fin 128) :
    gateRows g (ix2 (rowOf t r) ⟨h.val * 128 + d.val, by omega⟩) = g (ix4 (seqOf t) h r d) * (log2e : EReal) := by
  have eh : (⟨(h.val * 128 + d.val) / 128, by omega⟩ : Fin 4) = h := Fin.ext (by dsimp only; omega)
  have ed : (⟨(h.val * 128 + d.val) % 128, by omega⟩ : Fin 128) = d := Fin.ext (by dsimp only; omega)
  rw [gateRows_apply, rowOf_div, rowOf_mod, eh, ed]

/-- The first direction's gates of a point. -/
theorem iblk2_apply (c : Dev nD) (t : Fin cfg0.N) (r : Fin 256) (h : Fin 4) (d : Fin 128) :
    (iblk m c 2 t : S256x512.Idx → EReal) (ix2 r ⟨h.val * 128 + d.val, by omega⟩) = (kArgs m c).gf (ix4 (seqOf t) h r d) * (log2e : EReal) := by
  have e (j : Fin 512) : (iblk m c 2 t : S256x512.Idx → EReal) (ix2 r j) = (V m c main_v18 : S1024x1024.Idx → EReal) (ix2 (rowOf t r) ⟨0 * 512 + j.val, by omega⟩) := by
    show (V m c main_v18 : S1024x1024.Idx → EReal) ((win0_2.rect t).emb (ix2 r j)) = _
    refine at2 _ _ _ _ ?_ ?_
    · rw [win0_2.rect_emb_val t (ix2 r j) 0]; show win0_2.index t 0 * 256 + r.val = t.val * 256 + r.val; rw [(idx_facts t).2.2.1.1]
    · rw [win0_2.rect_emb_val t (ix2 r j) 1]; show win0_2.index t 1 * 512 + j.val = 0 * 512 + j.val; rw [(idx_facts t).2.2.1.2]
  rw [e, V18_eq, gateF_apply, gate_head]

/-- The second direction's gates of a point. -/
theorem iblk3_apply (c : Dev nD) (t : Fin cfg0.N) (r : Fin 256) (h : Fin 4) (d : Fin 128) :
    (iblk m c 3 t : S256x512.Idx → EReal) (ix2 r ⟨h.val * 128 + d.val, by omega⟩) = (kArgs m c).gb (ix4 (seqOf t) h r d) * (log2e : EReal) := by
  have e (j : Fin 512) : (iblk m c 3 t : S256x512.Idx → EReal) (ix2 r j) = (V m c main_v18 : S1024x1024.Idx → EReal) (ix2 (rowOf t r) ⟨1 * 512 + j.val, by omega⟩) := by
    show (V m c main_v18 : S1024x1024.Idx → EReal) ((win0_3.rect t).emb (ix2 r j)) = _
    refine at2 _ _ _ _ ?_ ?_
    · rw [win0_3.rect_emb_val t (ix2 r j) 0]; show win0_3.index t 0 * 256 + r.val = t.val * 256 + r.val; rw [(idx_facts t).2.2.2.1.1]
    · rw [win0_3.rect_emb_val t (ix2 r j) 1]; show win0_3.index t 1 * 512 + j.val = 1 * 512 + j.val; rw [(idx_facts t).2.2.2.1.2]
  rw [e, V18_eq, gateB_apply, gate_head]

/-- What a point leaves in its block of the first result: its sequence's states. -/
theorem first_apply (c : Dev nD) (t : Fin cfg0.N) (z : Fin 1) (h : Fin 4) (e : Fin 256) (d : Fin 128) :
    out0_4 (F := Ideal) (iblk m c 0 t) (iblk m c 1 t) (iblk m c 2 t) (iblk m c 3 t) (ix4 z h e d) = (kArgs m c).first (seqOf t) h e d := by
  refine (out4_apply _ _ _ _ z h e d).trans ?_
  unfold blockAt Args.first fwd
  refine Finset.sum_congr rfl fun r _ => ?_
  rw [pay5_apply, iblk0_apply, iblk1_apply]
  simp only [iblk2_apply, upTo_scaled, sub_mul_coe _ _ log2e_pos.le, exp2_log2e]

/-- What a point leaves in its block of the second result. -/
theorem second_apply (c : Dev nD) (t : Fin cfg0.N) (z : Fin 1) (h : Fin 4) (e : Fin 256) (d : Fin 128) :
    out0_5 (F := Ideal) (iblk m c 0 t) (iblk m c 1 t) (iblk m c 2 t) (iblk m c 3 t) (ix4 z h e d) = (kArgs m c).second (seqOf t) h e d := by
  refine (out5_apply _ _ _ _ z h e d).trans ?_
  unfold blockAt Args.second bwd
  refine Finset.sum_congr rfl fun r _ => ?_
  rw [pay6_apply, iblk0_apply, iblk1_apply]
  simp only [iblk3_apply, since_scaled, sub_mul_coe _ _ log2e_pos.le, exp2_log2e]

/-- The states the first direction starts from. -/
def out4 (c : Dev nD) : Buf (Elt Ideal) ((c : Thread nD τ).loc main_v19_0) := fun y : S4x4x256x128.Idx => (kArgs m c).first (y 0) (y 1) (y 2) (y 3)

/-- The states the second direction starts from. -/
def out5 (c : Dev nD) : Buf (Elt Ideal) ((c : Thread nD τ).loc main_v19_1) := fun y : S4x4x256x128.Idx => (kArgs m c).second (y 0) (y 1) (y 2) (y 3)

/-- A function of four coordinates at equal ones. -/
theorem at4 (f : Fin 4 → Fin 4 → Fin 256 → Fin 128 → EReal) (y : S4x4x256x128.Idx) (b h : Fin 4) (e : Fin 256) (d : Fin 128)
    (h0 : (y 0 : Nat) = b.val) (h1 : (y 1 : Nat) = h.val) (h2 : (y 2 : Nat) = e.val) (h3 : (y 3 : Nat) = d.val) :
    f b h e d = f (y 0) (y 1) (y 2) (y 3) := by
  rw [show (y 0 : Fin 4) = b from Fin.ext h0, show (y 1 : Fin 4) = h from Fin.ext h1, show (y 2 : Fin 256) = e from Fin.ext h2, show (y 3 : Fin 128) = d from Fin.ext h3]

/-- What point `t` writes back is its block of the first result. -/
theorem flushed4_eq (c : Dev nD) (t : Fin cfg0.N) : (dats m 0 c).flushed 4 t = (win0_4.blk t).view.read (Elt Ideal) (out4 m c) := by
  rw [Cert.Kernel4Ideal.Value.flushed4]
  funext (y : S1x4x256x128.Idx)
  obtain ⟨z, h, e, d, rfl⟩ : ∃ (z : Fin 1) (h : Fin 4) (e : Fin 256) (d : Fin 128), y = ix4 z h e d :=
    ⟨y 0, y 1, y 2, y 3, funext fun a => by fin_cases a <;> rfl⟩
  refine (first_apply m c t z h e d).trans ?_
  obtain ⟨e0, e1, e2, e3⟩ := (idx_facts t).2.2.2.2.1
  refine at4 _ ((win0_4.rect t).emb (ix4 z h e d)) _ _ _ _ ?_ ?_ ?_ ?_
  · rw [win0_4.rect_emb_val t _ 0]; show win0_4.index t 0 * 1 + z.val = t.val; rw [e0]; omega
  · rw [win0_4.rect_emb_val t _ 1]; show win0_4.index t 1 * 4 + h.val = h.val; rw [e1]; omega
  · rw [win0_4.rect_emb_val t _ 2]; show win0_4.index t 2 * 256 + e.val = e.val; rw [e2]; omega
  · rw [win0_4.rect_emb_val t _ 3]; show win0_4.index t 3 * 128 + d.val = d.val; rw [e3]; omega

/-- What point `t` writes back is its block of the second result. -/
theorem flushed5_eq (c : Dev nD) (t : Fin cfg0.N) : (dats m 0 c).flushed 5 t = (win0_5.blk t).view.read (Elt Ideal) (out5 m c) := by
  rw [Cert.Kernel4Ideal.Value.flushed5]
  funext (y : S1x4x256x128.Idx)
  obtain ⟨z, h, e, d, rfl⟩ : ∃ (z : Fin 1) (h : Fin 4) (e : Fin 256) (d : Fin 128), y = ix4 z h e d :=
    ⟨y 0, y 1, y 2, y 3, funext fun a => by fin_cases a <;> rfl⟩
  refine (second_apply m c t z h e d).trans ?_
  obtain ⟨e0, e1, e2, e3⟩ := (idx_facts t).2.2.2.2.2
  refine at4 _ ((win0_5.rect t).emb (ix4 z h e d)) _ _ _ _ ?_ ?_ ?_ ?_
  · rw [win0_5.rect_emb_val t _ 0]; show win0_5.index t 0 * 1 + z.val = t.val; rw [e0]; omega
  · rw [win0_5.rect_emb_val t _ 1]; show win0_5.index t 1 * 4 + h.val = h.val; rw [e1]; omega
  · rw [win0_5.rect_emb_val t _ 2]; show win0_5.index t 2 * 256 + e.val = e.val; rw [e2]; omega
  · rw [win0_5.rect_emb_val t _ 3]; show win0_5.index t 3 * 128 + d.val = d.val; rw [e3]; omega

/-- An entry is in a point's block when each coordinate is within the block's bounds. -/
theorem mem_blk4 (t : Fin cfg0.N) (i : S4x4x256x128.Idx) : i ∈ ((cfg0.win 4).blk t).view.set ↔
    ∀ a : Fin 4, win0_4.index t a * win0_4.size a ≤ (i a : Nat) ∧ (i a : Nat) < win0_4.index t a * win0_4.size a + win0_4.size a := by
  show i ∈ ((View.whole main_v19_0).slice (win0_4.rect t)).set ↔ _
  rw [View.set_slice_whole, Rect.mem_set_unit]
  exact Iff.rfl

theorem mem_blk5 (t : Fin cfg0.N) (i : S4x4x256x128.Idx) : i ∈ ((cfg0.win 5).blk t).view.set ↔
    ∀ a : Fin 4, win0_5.index t a * win0_5.size a ≤ (i a : Nat) ∧ (i a : Nat) < win0_5.index t a * win0_5.size a + win0_5.size a := by
  show i ∈ ((View.whole main_v19_1).slice (win0_5.rect t)).set ↔ _
  rw [View.set_slice_whole, Rect.mem_set_unit]
  exact Iff.rfl

/-- A block of one sequence, taken at the entry's own, holds the entry. -/
theorem bounds (i : S4x4x256x128.Idx) (x : Fin 4 → Nat) (hx : x 0 = (i 0 : Nat) ∧ x 1 = 0 ∧ x 2 = 0 ∧ x 3 = 0) (a : Fin 4) :
    x a * (![1, 4, 256, 128] : Fin 4 → Nat) a ≤ (i a : Nat) ∧ (i a : Nat) < x a * (![1, 4, 256, 128] : Fin 4 → Nat) a + (![1, 4, 256, 128] : Fin 4 → Nat) a := by
  have h1 : (i 1 : Nat) < 4 := (i 1).isLt
  have h2 : (i 2 : Nat) < 256 := (i 2).isLt
  have h3 : (i 3 : Nat) < 128 := (i 3).isLt
  obtain ⟨e0, e1, e2, e3⟩ := hx
  match a with
  | ⟨0, _⟩ => show x 0 * 1 ≤ (i 0 : Nat) ∧ (i 0 : Nat) < x 0 * 1 + 1; omega
  | ⟨1, _⟩ => show x 1 * 4 ≤ (i 1 : Nat) ∧ (i 1 : Nat) < x 1 * 4 + 4; omega
  | ⟨2, _⟩ => show x 2 * 256 ≤ (i 2 : Nat) ∧ (i 2 : Nat) < x 2 * 256 + 256; omega
  | ⟨3, _⟩ => show x 3 * 128 ≤ (i 3 : Nat) ∧ (i 3 : Nat) < x 3 * 128 + 128; omega

/-- The points' blocks tile the first result. -/
theorem covers4 (i : S4x4x256x128.Idx) : ∃ t : Fin cfg0.N, (cfg0.win 4).flush t = true ∧ i ∈ ((cfg0.win 4).blk t).view.set := by
  have h0 : (i 0 : Nat) < 4 := (i 0).isLt
  refine ⟨⟨(i 0 : Nat), h0.trans_eq hN.symm⟩, flush0_4 _, (mem_blk4 _ i).2 fun a => ?_⟩
  exact bounds i (win0_4.index _) (idx_facts ⟨(i 0 : Nat), h0.trans_eq hN.symm⟩).2.2.2.2.1 a

/-- The points' blocks tile the second result. -/
theorem covers5 (i : S4x4x256x128.Idx) : ∃ t : Fin cfg0.N, (cfg0.win 5).flush t = true ∧ i ∈ ((cfg0.win 5).blk t).view.set := by
  have h0 : (i 0 : Nat) < 4 := (i 0).isLt
  refine ⟨⟨(i 0 : Nat), h0.trans_eq hN.symm⟩, flush0_5 _, (mem_blk5 _ i).2 fun a => ?_⟩
  exact bounds i (win0_5.index _) (idx_facts ⟨(i 0 : Nat), h0.trans_eq hN.symm⟩).2.2.2.2.2 a

end Cert.State

end
-- ==== Proof.State.lean ====
/- The claim of the states the linear attention starts from: equality with the plain host lines at the extended reals. -/
module

public import proofs.«01_k».proof.Proof.StateFrames
public import proofs.«01_k».proof.Proof.StateReference
public import proofs.«01_k».proof.Proof.StateValue

@[expose] public section

noncomputable section

open Idealize.ShloMosaic Idealize.ShloMosaic.TcCoe Idealize.SL.Sem

namespace Cert.Proof.State

open Cert.State

section
open Cert.Kernel4Ideal Cert.Kernel4Ideal.Gen
variable (m : (ℓ : Loc nD τ sig) → Buf (Elt Ideal) ℓ) (ρ : Dev nD → PrngReg)

/-- The kernel's run with its results read, its arguments unchanged. -/
theorem run : θ_run defs (onTc (τ := τ) (Cert.Kernel4Ideal.main (F := Ideal))) ⟨m, fun _ => 0, ρ⟩ fun r => ∀ c : Dev nD,
      r.2.mem ((c : Thread nD τ).loc main_v19_0) = out4 m c
      ∧ r.2.mem ((c : Thread nD τ).loc main_v19_1) = out5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 (out4 m c) (fun t _ => flushed4_eq m c t) covers4),
      (h c).2.1.trans ((dats m 0 c).arrAt_eq_of_cover 5 (out5 m c) (fun t _ => flushed5_eq m c t) covers5), (h c).2.2⟩)
    (Cert.Kernel4Ideal.Value.run_blocks m ρ)

end

/-- The plain lines' first result, an entry at a time. -/
theorem first_eq (A : Args) (b h : Fin 4) (e : Fin 256) (d : Fin 128) : refState (refV A.v) (refK A.k) A.gf (ix4 b h e d) = A.first b h e d := by
  rw [refState_apply]
  simp only [refV_apply, refK_apply]
  rfl

/-- The plain lines' second result, an entry at a time: the sum of the reversed context. -/
theorem second_eq (A : Args) (b h : Fin 4) (e : Fin 256) (d : Fin 128) :
    refState (Host.reverse [2] (refV A.v)) (Host.reverse [2] (refK A.k)) (Host.reverse [2] A.gb) (ix4 b h e d) = A.second b h e d := by
  rw [refState_apply]
  have hv : (fun t => Host.reverse [2] (refV A.v) (ix4 b h t e)) = fun t : Fin 256 => A.v (ix3 b t.rev ⟨h.val * 256 + e.val, by omega⟩) :=
    funext fun t => (flipV_apply _ b h t e).trans (refV_apply _ b h t.rev e)
  have hk : (fun t => Host.reverse [2] (refK A.k) (ix4 b h t d)) = fun t : Fin 256 => A.k (ix3 b t.rev ⟨h.val * 128 + d.val, by omega⟩) :=
    funext fun t => (flipK_apply _ b h t d).trans (refK_apply _ b h t.rev d)
  have hg : (fun t => Host.reverse [2] A.gb (ix4 b h t d)) = fun t : Fin 256 => A.gb (ix4 b h t.rev d) := funext fun t => flipK_apply _ b h t d
  exact (congr (congr (congrArg fwd hv) hk) hg).trans
    (fwd_rev (fun t => A.v (ix3 b t ⟨h.val * 256 + e.val, by omega⟩)) (fun t => A.k (ix3 b t ⟨h.val * 128 + d.val, by omega⟩)) (fun t => A.gb (ix4 b h t d)))

/-- An index of a state by its coordinates. -/
theorem idx_eq (i : (⟨4, ![4, 4, 256, 128]⟩ : Shape).Idx) : ∃ (b h : Fin 4) (e : Fin 256) (d : Fin 128), i = ix4 b h e d :=
  ⟨i 0, i 1, i 2, i 3, funext fun a => by fin_cases a <;> rfl⟩

/-- On equal arguments the kernel and the plain lines leave the same arrays. -/
theorem algebraic : Cert.algebraic_Kernel4Ideal_Reference4Ideal := by
  intro m ρ m' ρ' _ hagree
  refine ⟨fun c => out4 m c, fun c => out5 m c, run m ρ, ?_⟩
  refine (θ_run Cert.Reference4Ideal.defs _ _).mono (fun _ h c => ⟨(h c).1.trans ?_, (h c).2.1.trans ?_, (h c).2.2⟩)
    (Cert.Reference4Ideal.Value.run (F := Ideal) m' ρ')
  · obtain ⟨e0, e1, e2, -⟩ := hagree c
    rw [e0, e1, e2]
    funext (i : (⟨4, ![4, 4, 256, 128]⟩ : Shape).Idx)
    obtain ⟨b, h, e, d, rfl⟩ := idx_eq i
    exact first_eq (kArgs m c) b h e d
  · obtain ⟨e0, e1, -, e3⟩ := hagree c
    rw [e0, e1, e3]
    funext (i : (⟨4, ![4, 4, 256, 128]⟩ : Shape).Idx)
    obtain ⟨b, h, e, d, rfl⟩ := idx_eq i
    exact second_eq (kArgs m c) b h e d

end Cert.Proof.State

end
-- ==== Proof.ProjFrames.lean ====
/- The frames of the input projection's call, and of its plain host lines. -/
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import Idealize.ShloMosaic.Lib.Quiescent

@[expose] public section

noncomputable section

open Idealize.ShloMosaic Idealize.ShloMosaic.TcCoe Idealize.SL.Sem

namespace Cert.Proof.Proj

/-- The kernel ends, leaving its arguments as they were and every counter at zero. -/
theorem frame_kernel5 : Cert.quiescent_Kernel5 := fun m ρ _ => Cert.Kernel5.Gen.frame m ρ

/-- The same at the ideal instance. -/
theorem frame_kernel5Ideal : Cert.quiescent_Kernel5Ideal := fun m ρ _ => Cert.Kernel5Ideal.Gen.frame m ρ

/-- The host lines end, leaving their arguments as they were; they have no counter. -/
theorem frame_reference5Ideal : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- Nothing was rewritten on the way to the ideal instance. -/
theorem preserves : Cert.preserves_Kernel5_Kernel5Ideal := trivial

end Cert.Proof.Proj

end
-- ==== Proof.ProjSpec.lean ====
/- The input projection, a token's row at a time: the row normalised and modulated, its products with the weights, and
   what is done to each group of columns. -/
module

public import proofs.«01_k».proof.Proof.TailSpec
public import Idealize.ShloMosaic.PureOps.Ideal
public import Idealize.ShloMosaic.Lib.Pointwise

@[expose] public section

noncomputable section

open Idealize.ShloMosaic

namespace Cert.Proj

/-- One head, normalised. -/
def head (a g : Fin 128 → EReal) (d : Fin 128) : EReal := a d * Tail.rinv 1124073472#32 a * g d

/-- The other entry of a component's pair: each half of a head pairs its first 32 entries with its last. -/
def mate (d : Fin 128) : Fin 128 := if d.val % 64 < 32 then ⟨(d.val + 128 - 96) % 128, by omega⟩ else ⟨(d.val + 128 - 32) % 128, by omega⟩

/-- The pairs turned, the sine given with its sign. -/
def turn (n c s : Fin 128 → EReal) (d : Fin 128) : EReal := n d * c d + n (mate d) * s d

/-- The logistic function by its hyperbolic tangent. -/
def sigT (a : EReal) : EReal :=
  Ideal.ofBits .f32 1056964608#32 * Ideal.tanh (Ideal.ofBits .f32 1056964608#32 * a) + Ideal.ofBits .f32 1056964608#32

/-- The gates' logarithm from the smaller of the value and zero. -/
def decayT (z : EReal) : EReal :=
  (min z (Ideal.ofBits .f32 0#32) - Ideal.log (Ideal.ofBits .f32 1065353216#32 + Ideal.exp (Ideal.ofBits .f32 0#32 - max z (-z))))
    * Ideal.ofBits .f32 1035512379#32

/-- What is done to group `n` of 128 columns, of whose products `a` is the row. -/
def act (qg kg cs sn : Fin 128 → EReal) (n : Nat) (a : Fin 128 → EReal) (d : Fin 128) : EReal :=
  if n < 2 then turn (head a kg) cs sn d
  else if n < 16 then a d
  else if n < 24 then turn (head a qg) cs sn d
  else if n < 32 then a d * sigT (a d)
  else if n < 48 then sigT (a d)
  else a d

/-- Entry `d` of group `n` of 128 columns: the weights come as 13 chunks of 512 columns. -/
def group (h : Fin 1024 → EReal) (W : Fin 13 → Fin 1024 → Fin 512 → EReal) (qg kg cs sn : Fin 128 → EReal)
    (n : Nat) (hn : n < 52) (d : Fin 128) : EReal :=
  act qg kg cs sn n (fun e => ∑ k, h k * W ⟨n / 4, by omega⟩ k ⟨n % 4 * 128 + e.val, by omega⟩) d

theorem group_congr {h h' : Fin 1024 → EReal} {W : Fin 13 → Fin 1024 → Fin 512 → EReal} {qg kg cs cs' sn sn' : Fin 128 → EReal}
    {n n' : Nat} {hn : n < 52} {hn' : n' < 52} {d d' : Fin 128} (eh : h = h') (ec : cs = cs') (es : sn = sn') (en : n = n') (ed : d = d') :
    group h W qg kg cs sn n hn d = group h' W qg kg cs' sn' n' hn' d' := by
  subst eh ec es en ed; rfl

/-- The input projection's arguments: the layer's input, the modulation, the norm's gain, the weights, the queries' and
    keys' gains, both directions' low-rank gates with their biases, and the angles' cosines and sines. -/
structure Args where
  x : (⟨3, ![4, 4096, 1024]⟩ : Shape).Idx → EReal
  mod : (⟨2, ![4, 6144]⟩ : Shape).Idx → EReal
  n1 : (⟨1, ![1024]⟩ : Shape).Idx → EReal
  w : (⟨2, ![1024, 6688]⟩ : Shape).Idx → EReal
  qn : (⟨1, ![128]⟩ : Shape).Idx → EReal
  kn : (⟨1, ![128]⟩ : Shape).Idx → EReal
  wf : (⟨2, ![16, 512]⟩ : Shape).Idx → EReal
  bf : (⟨1, ![512]⟩ : Shape).Idx → EReal
  wb : (⟨2, ![16, 512]⟩ : Shape).Idx → EReal
  bb : (⟨1, ![512]⟩ : Shape).Idx → EReal
  cos : (⟨3, ![4096, 2, 32]⟩ : Shape).Idx → EReal
  sin : (⟨3, ![4096, 2, 32]⟩ : Shape).Idx → EReal

/-- Where a column of the result comes from in the weights. -/
def src (c : Nat) : Nat := if c < 2048 then c else if c < 3072 then c + 32 else if c < 6144 then c + 544 else c - 3040

theorem src_lt {c : Nat} (h : c < 6656) : src c < 6688 := by unfold src; split_ifs <;> omega

/-- The factor of a column: the linear attention's queries are scaled. -/
def factor (c : Nat) : EReal := if c < 6144 then 1 else Ideal.ofBits .f32 1035273459#32

namespace Args

variable (a : Args) (b : Fin 4) (n : Fin 4096)

/-- One of the six modulation vectors of a sequence. -/
def vec (j : Fin 6) (k : Fin 1024) : EReal := a.mod (ix2 b ⟨j.val * 1024 + k.val, by omega⟩)

/-- A token's row, normalised and modulated. -/
def row : Fin 1024 → EReal := Tail.modulated (fun k => a.x (ix3 b n k)) (fun k => a.n1 (ix1 k)) (a.vec b 1) (a.vec b 0)

/-- The row's products with the weights. -/
def p (j : Fin 6688) : EReal := ∑ k, a.row b n k * a.w (ix2 k j)

/-- The angles' cosines and signed sines over a head: its halves have an angle each. -/
def cosL (d : Fin 128) : EReal := a.cos (ix3 n ⟨d.val / 64, by omega⟩ ⟨d.val % 32, by omega⟩)
def sinL (d : Fin 128) : EReal :=
  if d.val % 64 < 32 then -a.sin (ix3 n ⟨d.val / 64, by omega⟩ ⟨d.val % 32, by omega⟩) else a.sin (ix3 n ⟨d.val / 64, by omega⟩ ⟨d.val % 32, by omega⟩)

/-- A group of 128 columns before what is done to it. -/
def cols (g : Nat) (hg : g < 52) (e : Fin 128) : EReal := a.p b n ⟨src (g * 128 + e.val), src_lt (by omega)⟩ * factor (g * 128 + e.val)

/-- The first result, for a token. -/
def main (c : Fin 6656) : EReal :=
  act (fun e => a.qn (ix1 e)) (fun e => a.kn (ix1 e)) (a.cosL n) (a.sinL n) (c.val / 128) (a.cols b n (c.val / 128) (by omega)) ⟨c.val % 128, by omega⟩

/-- The second result, for a token: the first direction's gates, then the second's. -/
def decay (c : Fin 1024) : EReal :=
  if h : c.val < 512 then decayT ((∑ j : Fin 16, a.p b n ⟨2048 + j.val, by omega⟩ * a.wf (ix2 j ⟨c.val, h⟩)) + a.bf (ix1 ⟨c.val, h⟩))
  else decayT ((∑ j : Fin 16, a.p b n ⟨2064 + j.val, by omega⟩ * a.wb (ix2 j ⟨c.val - 512, by omega⟩)) + a.bb (ix1 ⟨c.val - 512, by omega⟩))

end Args

end Cert.Proj

end
-- ==== Proof.ProjMath.lean ====
/- The two forms of the logistic function and of the gates' logarithm, and a sum whose terms vanish off a window. -/
module

public import proofs.«01_k».proof.Proof.ProjSpec
public import proofs.«01_k».proof.Proof.StateSpec

@[expose] public section

noncomputable section

open Idealize.ShloMosaic

namespace Cert.Proj

/-- The literal one half. -/
theorem lit_half : Ideal.ofBits .f32 1056964608#32 = ((1 / 2 : ℝ) : EReal) := by
  simp [Ideal.ofBits, Ideal.ieee, -EReal.coe_mul]; norm_num

/-- The literal 1. -/
theorem lit_one : Ideal.ofBits .f32 1065353216#32 = ((1 : ℝ) : EReal) := by
  simp [Ideal.ofBits, Ideal.ieee, -EReal.coe_mul]; norm_num

/-- The literal 0. -/
theorem lit_zero : Ideal.ofBits .f32 0#32 = (0 : EReal) := by
  simp [Ideal.ofBits, Ideal.ieee]

/-- The literal 16. -/
theorem lit_16 : Ideal.ofBits .f32 1098907648#32 = ((16 : ℝ) : EReal) := by
  simp [Ideal.ofBits, Ideal.ieee, -EReal.coe_mul]; norm_num

/-- The logarithm's literal, and the same over sixteen: the two words differ by a power of two. -/
theorem lit_log : Ideal.ofBits .f32 1069066811#32 = ((12102203 / 8388608 : ℝ) : EReal) := by
  simp [Ideal.ofBits, Ideal.ieee, -EReal.coe_mul]; norm_num
theorem lit_log16 : Ideal.ofBits .f32 1035512379#32 = ((12102203 / 134217728 : ℝ) : EReal) := by
  simp [Ideal.ofBits, Ideal.ieee, -EReal.coe_mul]; norm_num

/-- The logistic function by its hyperbolic tangent. -/
theorem sigT_eq (x : EReal) : sigT x = Tail.sigm x := by
  unfold sigT Tail.sigm
  rw [lit_half, lit_one]
  induction x with
  | bot =>
    rw [EReal.coe_mul_bot_of_pos (by norm_num), EReal.neg_bot]
    show ((1 / 2 : ℝ) : EReal) * (-1) + ((1 / 2 : ℝ) : EReal) = Ideal.div ((1 : ℝ) : EReal) (((1 : ℝ) : EReal) + ⊤)
    rw [EReal.coe_add_top, Ideal.div, if_neg (by simp), EReal.inv_top, mul_zero]
    have : (-1 : EReal) = ((-1 : ℝ) : EReal) := by norm_num
    rw [this, ← EReal.coe_mul, ← EReal.coe_add]
    norm_num
  | top =>
    rw [EReal.coe_mul_top_of_pos (by norm_num), EReal.neg_top]
    show ((1 / 2 : ℝ) : EReal) * 1 + ((1 / 2 : ℝ) : EReal) = Ideal.div ((1 : ℝ) : EReal) (((1 : ℝ) : EReal) + 0)
    rw [mul_one, add_zero, ← EReal.coe_add, Ideal.div_coe (by norm_num), ← EReal.coe_mul]
    norm_num
  | coe r =>
    rw [← EReal.coe_mul, ← EReal.coe_neg]
    show ((1 / 2 : ℝ) : EReal) * (Real.tanh (1 / 2 * r) : ℝ) + ((1 / 2 : ℝ) : EReal) = Ideal.div ((1 : ℝ) : EReal) (((1 : ℝ) : EReal) + (Real.exp (-r) : ℝ))
    have hp := Real.exp_pos (-r)
    rw [← EReal.coe_add, Ideal.div_coe (by positivity), ← EReal.coe_mul, ← EReal.coe_add, ← EReal.coe_mul]
    congr 1
    rw [Real.tanh_eq_sinh_div_cosh, Real.sinh_eq, Real.cosh_eq]
    have e1 : Real.exp (-r) = Real.exp (-(1 / 2 * r)) * Real.exp (-(1 / 2 * r)) := by rw [← Real.exp_add]; congr 1; ring
    have e2 : Real.exp (-(1 / 2 * r)) = (Real.exp (1 / 2 * r))⁻¹ := Real.exp_neg _
    have hq := Real.exp_pos (1 / 2 * r)
    rw [e1, e2]
    field_simp
    ring

/-- The gates' logarithm as the negated softplus of the negated value. -/
def decayR (z : EReal) : EReal :=
  Ideal.div (-(max (-z) 0 + Ideal.log1p (Ideal.exp (-max (-z) (- -z))))) (Ideal.ofBits .f32 1098907648#32) * Ideal.ofBits .f32 1069066811#32

theorem coe_max' (a b : ℝ) : max (a : EReal) (b : EReal) = ((max a b : ℝ) : EReal) := EReal.coe_strictMono.monotone.map_max.symm
theorem coe_min' (a b : ℝ) : min (a : EReal) (b : EReal) = ((min a b : ℝ) : EReal) := EReal.coe_strictMono.monotone.map_min.symm

/-- The two forms of the logarithm before its scale. -/
theorem softplus_eq (z : EReal) : -(max (-z) 0 + Ideal.log1p (Ideal.exp (-max (-z) (- -z)))) = min z 0 - Ideal.log (1 + Ideal.exp (0 - max z (-z))) := by
  have e0 : (1 : EReal) = ((1 : ℝ) : EReal) := by norm_num
  rw [neg_neg, max_comm (-z) z, zero_sub, Ideal.log1p]
  induction z with
  | bot =>
    have h : Ideal.log (1 + Ideal.exp (-max ⊥ (-⊥))) = 0 := by
      rw [EReal.neg_bot, max_eq_right bot_le, EReal.neg_top]
      show Ideal.log (1 + 0) = 0
      rw [add_zero, e0, Ideal.log_coe, if_neg (by norm_num), Real.log_one]; norm_num
    rw [h]; simp
  | top =>
    have h : Ideal.log (1 + Ideal.exp (-max ⊤ (-⊤))) = 0 := by
      rw [max_eq_left le_top, EReal.neg_top]
      show Ideal.log (1 + 0) = 0
      rw [add_zero, e0, Ideal.log_coe, if_neg (by norm_num), Real.log_one]; norm_num
    rw [h]; simp
  | coe r =>
    obtain ⟨q, hq⟩ : ∃ q : ℝ, Ideal.log (1 + Ideal.exp (-max (r : EReal) (-r))) = (q : EReal) := by
      rw [← EReal.coe_neg, coe_max', ← EReal.coe_neg]
      have hp := Real.exp_pos (-max r (-r))
      refine ⟨Real.log (1 + Real.exp (-max r (-r))), ?_⟩
      show Ideal.log (1 + ((Real.exp (-max r (-r)) : ℝ) : EReal)) = _
      rw [e0, ← EReal.coe_add, Ideal.log_coe, if_neg (by linarith)]
    rw [hq, ← EReal.coe_neg, ← EReal.coe_zero, coe_max', coe_min', ← EReal.coe_add, ← EReal.coe_neg, ← EReal.coe_sub]
    congr 1
    rcases le_total r 0 with h | h
    · rw [max_eq_left (by linarith), min_eq_left h]; ring
    · rw [max_eq_right (by linarith), min_eq_right h]; ring

/-- The two forms of the gates' logarithm. -/
theorem decay_eq (z : EReal) : decayR z = decayT z := by
  unfold decayR decayT
  rw [softplus_eq, lit_16, lit_log, lit_log16, lit_zero, lit_one, Ideal.div_coe (by norm_num), mul_assoc, ← EReal.coe_mul]
  norm_num

/-- A sum whose terms vanish off a window of sixteen. -/
theorem sum_window (f : Fin 128 → EReal) (o : Nat) (ho : o + 16 ≤ 128) (hz : ∀ j : Fin 128, j.val < o ∨ o + 16 ≤ j.val → f j = 0) :
    ∑ j, f j = ∑ i : Fin 16, f ⟨o + i.val, by omega⟩ := by
  refine (Fintype.sum_of_injective (fun i : Fin 16 => (⟨o + i.val, by omega⟩ : Fin 128)) ?_ _ f ?_ fun _ => rfl).symm
  · intro i j h
    have := congrArg Fin.val h
    exact Fin.ext (by dsimp only at this; omega)
  · intro j hj
    refine hz j ?_
    by_contra hc
    exact hj ⟨⟨j.val - o, by omega⟩, Fin.ext (by show o + (j.val - o) = j.val; omega)⟩

end Cert.Proj

end
-- ==== Proof.ProjReference.lean ====
/- The input projection's plain host lines at an index. -/
module

public import proofs.«01_k».proof.Proof.ProjMath
public import proofs.«01_k».proof.Proof.Gen.Reference5Ideal.Run
public import Idealize.ShloMosaic.Lib.Pointwise

@[expose] public section

set_option maxRecDepth 65536

noncomputable section

open Idealize.ShloMosaic Idealize.ShloMosaic.TcCoe Idealize.SL.Sem Idealize.ShloMosaic.StableHlo

namespace Cert.Proj

open Cert.Reference5Ideal Cert.Reference5Ideal.Gen

/-- The normalised, modulated rows through the weights. -/
def refP (x : FVec Ideal S4x4096x1024 .f32) (M : FVec Ideal S4x6144 .f32) (n1 : FVec Ideal S1024 .f32) (w : FVec Ideal S1024x6688 .f32) : FVec Ideal S4x4096x6688 .f32 :=
  Host.dotGeneral dot_S4x4096x1024_S1024x6688_S4x4096x6688_2_0_01_1_n_n none (addf (mulf (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 n1))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 1024] M slices_S4x6144_S4x1024_0_1024))))) (broadcastInDim S4x4096x1024 ![0, 1, 2] bcast_S4x1x1024_S4x4096x1024_0_1_2 (broadcastInDim S4x1x1024 ![0, 2] bcast_S4x1024_S4x1x1024_0_2 (extractStridedSlice S4x1024 ![0, 0] M slices_S4x6144_S4x1024_0_0)))) w

/-- The keys' heads, normalised. -/
def refK (p : FVec Ideal S4x4096x6688 .f32) (g : FVec Ideal S128 .f32) : FVec Ideal S4x4096x2x128 .f32 :=
  let a : FVec Ideal S4x4096x2x128 .f32 := shapeCast _ (extractStridedSlice S4x4096x256 ![0, 0, 0] p slices_S4x4096x6688_S4x4096x256_0_0_0) shapeCasts_S4x4096x256_S4x4096x2x128
  mulf (mulf a (broadcastInDim S4x4096x2x128 ![0, 1, 2, 3] bcast_S4x4096x2x1_S4x4096x2x128_0_1_2_3 (Host.rsqrt (addf (Host.divf (broadcastInDim S4x4096x2x1 ![0, 1, 2] bcast_S4x4096x2_S4x4096x2x1_0_1_2 (Host.reduceAdd (mulf a a) (constant S_ .f32 0x00000000#32) reducesTo_S4x4096x2x128_S4x4096x2_d3 h_S_)) (broadcastInDim S4x4096x2x1 ![] bcast_S_S4x4096x2x1 (constant S_ .f32 0x43000000#32))) (broadcastInDim S4x4096x2x1 ![] bcast_S_S4x4096x2x1 (constant S_ .f32 0x358637BD#32)))))) (broadcastInDim S4x4096x2x128 ![0, 1, 2, 3] bcast_S1x1x1x128_S4x4096x2x128_0_1_2_3 (broadcastInDim S1x1x1x128 ![3] bcast_S128_S1x1x1x128_3 g))

/-- The queries' heads, normalised. -/
def refQ (p : FVec Ideal S4x4096x6688 .f32) (g : FVec Ideal S128 .f32) : FVec Ideal S4x4096x8x128 .f32 :=
  let a : FVec Ideal S4x4096x8x128 .f32 := shapeCast _ (extractStridedSlice S4x4096x1024 ![0, 0, 2080] p slices_S4x4096x6688_S4x4096x1024_0_0_2080) shapeCasts_S4x4096x1024_S4x4096x8x128
  mulf (mulf a (broadcastInDim S4x4096x8x128 ![0, 1, 2, 3] bcast_S4x4096x8x1_S4x4096x8x128_0_1_2_3 (Host.rsqrt (addf (Host.divf (broadcastInDim S4x4096x8x1 ![0, 1, 2] bcast_S4x4096x8_S4x4096x8x1_0_1_2 (Host.reduceAdd (mulf a a) (constant S_ .f32 0x00000000#32) reducesTo_S4x4096x8x128_S4x4096x8_d3 h_S_)) (broadcastInDim S4x4096x8x1 ![] bcast_S_S4x4096x8x1 (constant S_ .f32 0x43000000#32))) (broadcastInDim S4x4096x8x1 ![] bcast_S_S4x4096x8x1 (constant S_ .f32 0x358637BD#32)))))) (broadcastInDim S4x4096x8x128 ![0, 1, 2, 3] bcast_S1x1x1x128_S4x4096x8x128_0_1_2_3 (broadcastInDim S1x1x1x128 ![3] bcast_S128_S1x1x1x128_3 g))

/-- The keys' heads turned, a row per token. -/
def turnK (a : FVec Ideal S4x4096x2x128 .f32) (cs sn : FVec Ideal S4096x2x32 .f32) : FVec Ideal S16384x256 .f32 :=
  let v : FVec Ideal S4x4096x2x2x2x32 .f32 := shapeCast _ a shapeCasts_S4x4096x2x128_S4x4096x2x2x2x32
  let u : FVec Ideal S4x4096x2x2x32 .f32 := shapeCast _ (extractStridedSlice S4x4096x2x2x1x32 ![0, 0, 0, 0, 0, 0] v slices_S4x4096x2x2x2x32_S4x4096x2x2x1x32_0_0_0_0_0_0) shapeCasts_S4x4096x2x2x1x32_S4x4096x2x2x32
  let w : FVec Ideal S4x4096x2x2x32 .f32 := shapeCast _ (extractStridedSlice S4x4096x2x2x1x32 ![0, 0, 0, 0, 1, 0] v slices_S4x4096x2x2x2x32_S4x4096x2x2x1x32_0_0_0_0_1_0) shapeCasts_S4x4096x2x2x1x32_S4x4096x2x2x32
  let c := broadcastInDim S4x4096x2x2x32 ![0, 1, 2, 3, 4] bcast_S1x4096x1x2x32_S4x4096x2x2x32_0_1_2_3_4 (broadcastInDim S1x4096x1x2x32 ![1, 3, 4] bcast_S4096x2x32_S1x4096x1x2x32_1_3_4 cs)
  let s := broadcastInDim S4x4096x2x2x32 ![0, 1, 2, 3, 4] bcast_S1x4096x1x2x32_S4x4096x2x2x32_0_1_2_3_4 (broadcastInDim S1x4096x1x2x32 ![1, 3, 4] bcast_S4096x2x32_S1x4096x1x2x32_1_3_4 sn)
  shapeCast _ (concatenate S4x4096x2x2x2x32 4 [⟨S4x4096x2x2x1x32, broadcastInDim S4x4096x2x2x1x32 ![0, 1, 2, 3, 5] bcast_S4x4096x2x2x32_S4x4096x2x2x1x32_0_1_2_3_5 (subf (mulf u c) (mulf w s))⟩, ⟨S4x4096x2x2x1x32, broadcastInDim S4x4096x2x2x1x32 ![0, 1, 2, 3, 5] bcast_S4x4096x2x2x32_S4x4096x2x2x1x32_0_1_2_3_5 (addf (mulf w c) (mulf u s))⟩] concatenates_S4x4096x2x2x1x32_S4x4096x2x2x1x32_S4x4096x2x2x2x32_d4) shapeCasts_S4x4096x2x2x2x32_S16384x256

/-- The queries' heads turned, a row per token. -/
def turnQ (a : FVec Ideal S4x4096x8x128 .f32) (cs sn : FVec Ideal S4096x2x32 .f32) : FVec Ideal S16384x1024 .f32 :=
  let v : FVec Ideal S4x4096x8x2x2x32 .f32 := shapeCast _ a shapeCasts_S4x4096x8x128_S4x4096x8x2x2x32
  let u : FVec Ideal S4x4096x8x2x32 .f32 := shapeCast _ (extractStridedSlice S4x4096x8x2x1x32 ![0, 0, 0, 0, 0, 0] v slices_S4x4096x8x2x2x32_S4x4096x8x2x1x32_0_0_0_0_0_0) shapeCasts_S4x4096x8x2x1x32_S4x4096x8x2x32
  let w : FVec Ideal S4x4096x8x2x32 .f32 := shapeCast _ (extractStridedSlice S4x4096x8x2x1x32 ![0, 0, 0, 0, 1, 0] v slices_S4x4096x8x2x2x32_S4x4096x8x2x1x32_0_0_0_0_1_0) shapeCasts_S4x4096x8x2x1x32_S4x4096x8x2x32
  let c := broadcastInDim S4x4096x8x2x32 ![0, 1, 2, 3, 4] bcast_S1x4096x1x2x32_S4x4096x8x2x32_0_1_2_3_4 (broadcastInDim S1x4096x1x2x32 ![1, 3, 4] bcast_S4096x2x32_S1x4096x1x2x32_1_3_4 cs)
  let s := broadcastInDim S4x4096x8x2x32 ![0, 1, 2, 3, 4] bcast_S1x4096x1x2x32_S4x4096x8x2x32_0_1_2_3_4 (broadcastInDim S1x4096x1x2x32 ![1, 3, 4] bcast_S4096x2x32_S1x4096x1x2x32_1_3_4 sn)
  shapeCast _ (concatenate S4x4096x8x2x2x32 4 [⟨S4x4096x8x2x1x32, broadcastInDim S4x4096x8x2x1x32 ![0, 1, 2, 3, 5] bcast_S4x4096x8x2x32_S4x4096x8x2x1x32_0_1_2_3_5 (subf (mulf u c) (mulf w s))⟩, ⟨S4x4096x8x2x1x32, broadcastInDim S4x4096x8x2x1x32 ![0, 1, 2, 3, 5] bcast_S4x4096x8x2x32_S4x4096x8x2x1x32_0_1_2_3_5 (addf (mulf w c) (mulf u s))⟩] concatenates_S4x4096x8x2x1x32_S4x4096x8x2x1x32_S4x4096x8x2x2x32_d4) shapeCasts_S4x4096x8x2x2x32_S16384x1024

/-- The logistic function of 1024 columns, a row per token. -/
def refSig (a : FVec Ideal S4x4096x1024 .f32) : FVec Ideal S4x4096x1024 .f32 :=
  Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf a)))

/-- The first result's columns, a row per token. -/
def refMain (p : FVec Ideal S4x4096x6688 .f32) (qn kn : FVec Ideal S128 .f32) (cs sn : FVec Ideal S4096x2x32 .f32) : FVec Ideal S16384x6656 .f32 :=
  concatenate S16384x6656 1 [⟨S16384x256, turnK (refK p kn) cs sn⟩,
    ⟨S16384x256, shapeCast _ (extractStridedSlice S4x4096x256 ![0, 0, 256] p slices_S4x4096x6688_S4x4096x256_0_0_256) shapeCasts_S4x4096x256_S16384x256⟩,
    ⟨S16384x512, shapeCast _ (extractStridedSlice S4x4096x512 ![0, 0, 512] p slices_S4x4096x6688_S4x4096x512_0_0_512) shapeCasts_S4x4096x512_S16384x512⟩,
    ⟨S16384x1024, shapeCast _ (extractStridedSlice S4x4096x1024 ![0, 0, 1024] p slices_S4x4096x6688_S4x4096x1024_0_0_1024) shapeCasts_S4x4096x1024_S16384x1024⟩,
    ⟨S16384x1024, turnQ (refQ p qn) cs sn⟩,
    ⟨S16384x1024, shapeCast _ (mulf (extractStridedSlice S4x4096x1024 ![0, 0, 3616] p slices_S4x4096x6688_S4x4096x1024_0_0_3616)
      (refSig (extractStridedSlice S4x4096x1024 ![0, 0, 3616] p slices_S4x4096x6688_S4x4096x1024_0_0_3616))) shapeCasts_S4x4096x1024_S16384x1024⟩,
    ⟨S16384x1024, shapeCast _ (refSig (extractStridedSlice S4x4096x1024 ![0, 0, 4640] p slices_S4x4096x6688_S4x4096x1024_0_0_4640)) shapeCasts_S4x4096x1024_S16384x1024⟩,
    ⟨S16384x1024, shapeCast _ (refSig (extractStridedSlice S4x4096x1024 ![0, 0, 5664] p slices_S4x4096x6688_S4x4096x1024_0_0_5664)) shapeCasts_S4x4096x1024_S16384x1024⟩,
    ⟨S16384x512, shapeCast _ (mulf (extractStridedSlice S4x4096x512 ![0, 0, 3104] p slices_S4x4096x6688_S4x4096x512_0_0_3104) (broadcastInDim S4x4096x512 ![] bcast_S_S4x4096x512 (constant S_ .f32 0x3DB504F3#32))) shapeCasts_S4x4096x512_S16384x512⟩]
    concatenates_S16384x256_S16384x256_S16384x512_S16384x1024_S16384x1024_S16384x1024_S16384x1024_S16384x1024_S16384x512_S16384x6656_d1

/-- The gates' logarithm: the negated softplus of the negated value, over sixteen, to base two. -/
def refLog (l : FVec Ideal S4x4096x512 .f32) : FVec Ideal S4x4096x512 .f32 :=
  let z := (constant (F := Ideal) S_ .f32 0x00000000#32)
  let d := subf (Host.negf l) (broadcastInDim S4x4096x512 ![] bcast_S_S4x4096x512 z)
  mulf (Host.divf (Host.negf (select (cmpf .une d d) (addf (Host.negf l) (broadcastInDim S4x4096x512 ![] bcast_S_S4x4096x512 z)) (addf (maximumf (Host.negf l) (broadcastInDim S4x4096x512 ![] bcast_S_S4x4096x512 z)) (Host.log1p (Host.exp (Host.negf (Host.absf d))))))) (broadcastInDim S4x4096x512 ![] bcast_S_S4x4096x512 (constant S_ .f32 0x41800000#32))) (broadcastInDim S4x4096x512 ![] bcast_S_S4x4096x512 (constant S_ .f32 0x3FB8AA3B#32))

/-- A direction's gates before the logarithm, from its low-rank columns. -/
def refGate (lr : FVec Ideal S4x4096x16 .f32) (w : FVec Ideal S16x512 .f32) (b : FVec Ideal S512 .f32) : FVec Ideal S4x4096x512 .f32 :=
  addf (Host.dotGeneral dot_S4x4096x16_S16x512_S4x4096x512_2_0_01_1_n_n none lr w) (broadcastInDim S4x4096x512 ![0, 1, 2] bcast_S1x1x512_S4x4096x512_0_1_2 (broadcastInDim S1x1x512 ![2] bcast_S512_S1x1x512_2 b))

/-- The second result's columns, a row per token. -/
def refDecay (p : FVec Ideal S4x4096x6688 .f32) (wf : FVec Ideal S16x512 .f32) (bf : FVec Ideal S512 .f32) (wb : FVec Ideal S16x512 .f32) (bb : FVec Ideal S512 .f32) : FVec Ideal S16384x1024 .f32 :=
  concatenate S16384x1024 1 [
    ⟨S16384x512, shapeCast _ (refLog (refGate (extractStridedSlice S4x4096x16 ![0, 0, 2048] p slices_S4x4096x6688_S4x4096x16_0_0_2048) wf bf)) shapeCasts_S4x4096x512_S16384x512⟩,
    ⟨S16384x512, shapeCast _ (refLog (refGate (extractStridedSlice S4x4096x16 ![0, 0, 2064] p slices_S4x4096x6688_S4x4096x16_0_0_2064) wb bb)) shapeCasts_S4x4096x512_S16384x512⟩]
    concatenates_S16384x512_S16384x512_S16384x1024_d1

/-- The rows' products, an entry at a time. -/
theorem refP_apply (a : Args) (b : Fin 4) (n : Fin 4096) (j : Fin 6688) : refP a.x a.mod a.n1 a.w (ix3 b n j) = a.p b n j := by
  pointwise [refP, Args.p, Args.row, Tail.modulated, Tail.rinv, Args.vec]

theorem refK_apply (p : FVec Ideal S4x4096x6688 .f32) (g : FVec Ideal S128 .f32) (b : Fin 4) (n : Fin 4096) (h : Fin 2) (d : Fin 128) :
    refK p g (ix4 b n h d) = head (fun e => p (ix3 b n ⟨h.val * 128 + e.val, by omega⟩)) (fun e => g (ix1 e)) d := by
  pointwise [refK, head, Tail.rinv]

theorem refQ_apply (p : FVec Ideal S4x4096x6688 .f32) (g : FVec Ideal S128 .f32) (b : Fin 4) (n : Fin 4096) (h : Fin 8) (d : Fin 128) :
    refQ p g (ix4 b n h d) = head (fun e => p (ix3 b n ⟨2080 + (h.val * 128 + e.val), by omega⟩)) (fun e => g (ix1 e)) d := by
  pointwise [refQ, head, Tail.rinv]

/-- The pairs turned half by half are the pairs turned with the signed sine. -/
theorem turn_pair (A : Fin 128 → EReal) (C S : Fin 2 → Fin 32 → EReal) (c : Nat) :
    (if c / 32 % 2 < 1 then A ⟨c / 64 % 2 * 64 + c % 32, by omega⟩ * C ⟨c / 64 % 2, by omega⟩ ⟨c % 32, by omega⟩
        - A ⟨c / 64 % 2 * 64 + 32 + c % 32, by omega⟩ * S ⟨c / 64 % 2, by omega⟩ ⟨c % 32, by omega⟩
      else A ⟨c / 64 % 2 * 64 + 32 + c % 32, by omega⟩ * C ⟨c / 64 % 2, by omega⟩ ⟨c % 32, by omega⟩
        + A ⟨c / 64 % 2 * 64 + c % 32, by omega⟩ * S ⟨c / 64 % 2, by omega⟩ ⟨c % 32, by omega⟩)
    = turn A (fun d => C ⟨d.val / 64, by omega⟩ ⟨d.val % 32, by omega⟩)
        (fun d => if d.val % 64 < 32 then -S ⟨d.val / 64, by omega⟩ ⟨d.val % 32, by omega⟩ else S ⟨d.val / 64, by omega⟩ ⟨d.val % 32, by omega⟩)
        ⟨c % 128, by omega⟩ := by
  have e0 : (⟨c % 128 / 64, by omega⟩ : Fin 2) = ⟨c / 64 % 2, by omega⟩ := Fin.ext (by (try dsimp only); omega)
  have e1 : (⟨c % 128 % 32, by omega⟩ : Fin 32) = ⟨c % 32, by omega⟩ := Fin.ext (by (try dsimp only); omega)
  unfold turn mate
  dsimp only
  rw [e0, e1]
  by_cases h : c / 32 % 2 < 1
  · have hd : c % 128 % 64 < 32 := by omega
    have e2 : (⟨c / 64 % 2 * 64 + c % 32, by omega⟩ : Fin 128) = ⟨c % 128, by omega⟩ := Fin.ext (by (try dsimp only); omega)
    have e3 : (⟨c / 64 % 2 * 64 + 32 + c % 32, by omega⟩ : Fin 128) = ⟨(c % 128 + 128 - 96) % 128, by omega⟩ := Fin.ext (by (try dsimp only); omega)
    rw [if_pos h, if_pos hd, if_pos hd, e2, e3, sub_eq_add_neg, mul_neg]
  · have hd : ¬ c % 128 % 64 < 32 := by omega
    have e2 : (⟨c / 64 % 2 * 64 + 32 + c % 32, by omega⟩ : Fin 128) = ⟨c % 128, by omega⟩ := Fin.ext (by (try dsimp only); omega)
    have e3 : (⟨c / 64 % 2 * 64 + c % 32, by omega⟩ : Fin 128) = ⟨(c % 128 + 128 - 32) % 128, by omega⟩ := Fin.ext (by (try dsimp only); omega)
    rw [if_neg h, if_neg hd, if_neg hd, e2, e3]

theorem turnK_apply (a : FVec Ideal S4x4096x2x128 .f32) (cs sn : FVec Ideal S4096x2x32 .f32) (R : Fin 16384) (c : Fin 256) :
    turnK a cs sn (ix2 R c) = turn (fun e => a (ix4 ⟨R.val / 4096, by omega⟩ ⟨R.val % 4096, by omega⟩ ⟨c.val / 128, by omega⟩ e))
      (fun d => cs (ix3 ⟨R.val % 4096, by omega⟩ ⟨d.val / 64, by omega⟩ ⟨d.val % 32, by omega⟩))
      (fun d => if d.val % 64 < 32 then -sn (ix3 ⟨R.val % 4096, by omega⟩ ⟨d.val / 64, by omega⟩ ⟨d.val % 32, by omega⟩)
        else sn (ix3 ⟨R.val % 4096, by omega⟩ ⟨d.val / 64, by omega⟩ ⟨d.val % 32, by omega⟩)) ⟨c.val % 128, by omega⟩ := by
  refine Eq.trans ?_ (turn_pair (fun e => a (ix4 ⟨R.val / 4096, by omega⟩ ⟨R.val % 4096, by omega⟩ ⟨c.val / 128, by omega⟩ e))
    (fun i e => cs (ix3 ⟨R.val % 4096, by omega⟩ i e)) (fun i e => sn (ix3 ⟨R.val % 4096, by omega⟩ i e)) c.val)
  pointwise [turnK]
  by_cases h : c.val / 32 % 2 < 1
  · exact (dif_pos h).trans (if_pos h).symm
  · exact (dif_neg h).trans (if_neg h).symm

theorem turnQ_apply (a : FVec Ideal S4x4096x8x128 .f32) (cs sn : FVec Ideal S4096x2x32 .f32) (R : Fin 16384) (c : Fin 1024) :
    turnQ a cs sn (ix2 R c) = turn (fun e => a (ix4 ⟨R.val / 4096, by omega⟩ ⟨R.val % 4096, by omega⟩ ⟨c.val / 128, by omega⟩ e))
      (fun d => cs (ix3 ⟨R.val % 4096, by omega⟩ ⟨d.val / 64, by omega⟩ ⟨d.val % 32, by omega⟩))
      (fun d => if d.val % 64 < 32 then -sn (ix3 ⟨R.val % 4096, by omega⟩ ⟨d.val / 64, by omega⟩ ⟨d.val % 32, by omega⟩)
        else sn (ix3 ⟨R.val % 4096, by omega⟩ ⟨d.val / 64, by omega⟩ ⟨d.val % 32, by omega⟩)) ⟨c.val % 128, by omega⟩ := by
  refine Eq.trans ?_ (turn_pair (fun e => a (ix4 ⟨R.val / 4096, by omega⟩ ⟨R.val % 4096, by omega⟩ ⟨c.val / 128, by omega⟩ e))
    (fun i e => cs (ix3 ⟨R.val % 4096, by omega⟩ i e)) (fun i e => sn (ix3 ⟨R.val % 4096, by omega⟩ i e)) c.val)
  pointwise [turnQ]
  by_cases h : c.val / 32 % 2 < 1
  · exact (dif_pos h).trans (if_pos h).symm
  · exact (dif_neg h).trans (if_neg h).symm

theorem refSig_apply (a : FVec Ideal S4x4096x1024 .f32) (b : Fin 4) (n : Fin 4096) (k : Fin 1024) : refSig a (ix3 b n k) = Tail.sigm (a (ix3 b n k)) := by
  pointwise [refSig, Tail.sigm]

theorem refLog_apply (l : FVec Ideal S4x4096x512 .f32) (b : Fin 4) (n : Fin 4096) (k : Fin 512) : refLog l (ix3 b n k) = decayR (l (ix3 b n k)) := by
  pointwise [refLog, decayR]
  rw [if_neg (fun h => h rfl)]
  rfl

theorem refGate_apply (lr : FVec Ideal S4x4096x16 .f32) (w : FVec Ideal S16x512 .f32) (bi : FVec Ideal S512 .f32) (b : Fin 4) (n : Fin 4096) (k : Fin 512) :
    refGate lr w bi (ix3 b n k) = (∑ j, lr (ix3 b n j) * w (ix2 j k)) + bi (ix1 k) := by
  pointwise [refGate]

section slices
variable (p : FVec Ideal S4x4096x6688 .f32) (b : Fin 4) (n : Fin 4096)

theorem low_first (j : Fin 16) : extractStridedSlice S4x4096x16 ![0, 0, 2048] p slices_S4x4096x6688_S4x4096x16_0_0_2048 (ix3 b n j) = p (ix3 b n ⟨2048 + j.val, by omega⟩) := by
  pointwise []
theorem low_second (j : Fin 16) : extractStridedSlice S4x4096x16 ![0, 0, 2064] p slices_S4x4096x6688_S4x4096x16_0_0_2064 (ix3 b n j) = p (ix3 b n ⟨2064 + j.val, by omega⟩) := by
  pointwise []
theorem cols_3616 (k : Fin 1024) : extractStridedSlice S4x4096x1024 ![0, 0, 3616] p slices_S4x4096x6688_S4x4096x1024_0_0_3616 (ix3 b n k) = p (ix3 b n ⟨3616 + k.val, by omega⟩) := by
  pointwise []
theorem cols_4640 (k : Fin 1024) : extractStridedSlice S4x4096x1024 ![0, 0, 4640] p slices_S4x4096x6688_S4x4096x1024_0_0_4640 (ix3 b n k) = p (ix3 b n ⟨4640 + k.val, by omega⟩) := by
  pointwise []
theorem cols_5664 (k : Fin 1024) : extractStridedSlice S4x4096x1024 ![0, 0, 5664] p slices_S4x4096x6688_S4x4096x1024_0_0_5664 (ix3 b n k) = p (ix3 b n ⟨5664 + k.val, by omega⟩) := by
  pointwise []

end slices

/-- The products of a program's arguments. -/
abbrev refPA (a : Args) : FVec Ideal S4x4096x6688 .f32 := refP a.x a.mod a.n1 a.w

theorem refPA_apply (a : Args) (b : Fin 4) (n : Fin 4096) (j : Fin 6688) : refPA a (ix3 b n j) = a.p b n j := refP_apply a b n j

/-- A column's activations, from the products'. -/
theorem silu_at {x y : EReal} {z : EReal} (hx : x = z) (hy : y = Tail.sigm z) : x * y = z * sigT z := by rw [hx, hy, sigT_eq]
theorem gate_at {y z : EReal} (hy : y = Tail.sigm z) : y = sigT z := by rw [hy, sigT_eq]

/-- The second result, an entry at a time. -/
theorem refDecay_apply (a : Args) (R : Fin 16384) (c : Fin 1024) :
    refDecay (refPA a) a.wf a.bf a.wb a.bb (ix2 R c) = a.decay ⟨R.val / 4096, by omega⟩ ⟨R.val % 4096, by omega⟩ c := by
  pointwise [refDecay]
  unfold Args.decay
  by_cases h : c.val < 512
  · refine (dif_pos h).trans ?_
    rw [dif_pos h, refLog_apply, refGate_apply, decay_eq]
    simp only [low_first, refP_apply]
  · refine (dif_neg h).trans ?_
    rw [dif_neg h, refLog_apply, refGate_apply, decay_eq]
    simp only [low_second, refP_apply]

section act
variable {qg kg cs sn : Fin 128 → EReal} {n : Nat} {a : Fin 128 → EReal} {d : Fin 128}

theorem act_keys (h : n < 2) : act qg kg cs sn n a d = turn (head a kg) cs sn d := by
  unfold act; rw [if_pos h]
theorem act_plain (h : 2 ≤ n) (h' : n < 16) : act qg kg cs sn n a d = a d := by
  unfold act; rw [if_neg (by omega), if_pos h']
theorem act_queries (h : 16 ≤ n) (h' : n < 24) : act qg kg cs sn n a d = turn (head a qg) cs sn d := by
  unfold act; rw [if_neg (by omega), if_neg (by omega), if_pos h']
theorem act_silu (h : 24 ≤ n) (h' : n < 32) : act qg kg cs sn n a d = a d * sigT (a d) := by
  unfold act; rw [if_neg (by omega), if_neg (by omega), if_neg (by omega), if_pos h']
theorem act_gate (h : 32 ≤ n) (h' : n < 48) : act qg kg cs sn n a d = sigT (a d) := by
  unfold act; rw [if_neg (by omega), if_neg (by omega), if_neg (by omega), if_neg (by omega), if_pos h']
theorem act_scaled (h : 48 ≤ n) : act qg kg cs sn n a d = a d := by
  unfold act; rw [if_neg (by omega), if_neg (by omega), if_neg (by omega), if_neg (by omega), if_neg (by omega)]

end act

/-- A group's column is a column of the products. -/
theorem cols_eq (a : Args) (b : Fin 4) (n : Fin 4096) {g : Nat} {hg : g < 52} {e : Fin 128} (j : Nat) (hj : j < 6688) (h : src (g * 128 + e.val) = j)
    (h6 : g * 128 + e.val < 6144) : a.cols b n g hg e = a.p b n ⟨j, hj⟩ := by
  subst h
  unfold Args.cols factor
  rw [if_pos h6, mul_one]

/-- Heads of equal entries. -/
theorem turn_head {A A' g c s : Fin 128 → EReal} {d d' : Fin 128} (h : ∀ e, A e = head A' g e) (hd : d = d') : turn A c s d = turn (head A' g) c s d' := by
  rw [hd, funext h]

theorem head_cong {A A' g : Fin 128 → EReal} (d : Fin 128) (h : ∀ e, A e = A' e) : head A g d = head A' g d := by
  rw [funext h]

set_option maxHeartbeats 1000000 in
/-- The first result, an entry at a time. -/
theorem refMain_apply (a : Args) (R : Fin 16384) (c : Fin 6656) :
    refMain (refPA a) a.qn a.kn a.cos a.sin (ix2 R c) = a.main ⟨R.val / 4096, by omega⟩ ⟨R.val % 4096, by omega⟩ c := by
  pointwise [refMain]
  unfold Args.main
  have hc := c.isLt
  by_cases h1 : c.val < 256
  · refine (dif_pos h1).trans ?_
    rw [turnK_apply, act_keys (by omega)]
    refine turn_head (fun e => (refK_apply _ _ _ _ _ e).trans (head_cong e fun e => ?_)) rfl
    exact (refP_apply a _ _ _).trans (cols_eq a _ _ _ _ (by unfold src; (try dsimp only); split_ifs <;> omega) (by (try dsimp only); omega)).symm
  refine (dif_neg h1).trans ?_
  by_cases h2 : c.val - 256 < 256
  · refine (dif_pos h2).trans ?_
    rw [act_plain (by omega) (by omega)]
    exact (refP_apply a _ _ _).trans (cols_eq a _ _ _ _ (by unfold src; (try dsimp only); split_ifs <;> omega) (by (try dsimp only); omega)).symm
  refine (dif_neg h2).trans ?_
  by_cases h3 : c.val - 256 - 256 < 512
  · refine (dif_pos h3).trans ?_
    rw [act_plain (by omega) (by omega)]
    exact (refP_apply a _ _ _).trans (cols_eq a _ _ _ _ (by unfold src; (try dsimp only); split_ifs <;> omega) (by (try dsimp only); omega)).symm
  refine (dif_neg h3).trans ?_
  by_cases h4 : c.val - 256 - 256 - 512 < 1024
  · refine (dif_pos h4).trans ?_
    rw [act_plain (by omega) (by omega)]
    exact (refP_apply a _ _ _).trans (cols_eq a _ _ _ _ (by unfold src; (try dsimp only); split_ifs <;> omega) (by (try dsimp only); omega)).symm
  refine (dif_neg h4).trans ?_
  by_cases h5 : c.val - 256 - 256 - 512 - 1024 < 1024
  · refine (dif_pos h5).trans ?_
    rw [turnQ_apply, act_queries (by omega) (by omega)]
    refine turn_head (fun e => (refQ_apply _ _ _ _ _ e).trans (head_cong e fun e => ?_)) (Fin.ext (by (try dsimp only); omega))
    exact (refP_apply a _ _ _).trans (cols_eq a _ _ _ _ (by unfold src; (try dsimp only); split_ifs <;> omega) (by (try dsimp only); omega)).symm
  refine (dif_neg h5).trans ?_
  by_cases h6 : c.val - 256 - 256 - 512 - 1024 - 1024 < 1024
  · refine (dif_pos h6).trans ?_
    have e : refPA a (ix3 ⟨R.val / 4096, by omega⟩ ⟨R.val % 4096, by omega⟩ ⟨3616 + (c.val - 256 - 256 - 512 - 1024 - 1024), by omega⟩)
        = a.cols ⟨R.val / 4096, by omega⟩ ⟨R.val % 4096, by omega⟩ (c.val / 128) (by omega) ⟨c.val % 128, by omega⟩ :=
      (refPA_apply a _ _ _).trans (cols_eq a _ _ _ _ (by unfold src; (try dsimp only); split_ifs <;> omega) (by (try dsimp only); omega)).symm
    rw [act_silu (by omega) (by omega)]
    exact silu_at e ((refSig_apply _ _ _ _).trans (congrArg Tail.sigm ((cols_3616 _ _ _ _).trans e)))
  refine (dif_neg h6).trans ?_
  by_cases h7 : c.val - 256 - 256 - 512 - 1024 - 1024 - 1024 < 1024
  · refine (dif_pos h7).trans ?_
    have e : refPA a (ix3 ⟨R.val / 4096, by omega⟩ ⟨R.val % 4096, by omega⟩ ⟨4640 + (c.val - 256 - 256 - 512 - 1024 - 1024 - 1024), by omega⟩)
        = a.cols ⟨R.val / 4096, by omega⟩ ⟨R.val % 4096, by omega⟩ (c.val / 128) (by omega) ⟨c.val % 128, by omega⟩ :=
      (refPA_apply a _ _ _).trans (cols_eq a _ _ _ _ (by unfold src; (try dsimp only); split_ifs <;> omega) (by (try dsimp only); omega)).symm
    rw [act_gate (by omega) (by omega)]
    exact gate_at ((refSig_apply _ _ _ _).trans (congrArg Tail.sigm ((cols_4640 _ _ _ _).trans e)))
  refine (dif_neg h7).trans ?_
  by_cases h8 : c.val - 256 - 256 - 512 - 1024 - 1024 - 1024 - 1024 < 1024
  · refine (dif_pos h8).trans ?_
    have e : refPA a (ix3 ⟨R.val / 4096, by omega⟩ ⟨R.val % 4096, by omega⟩ ⟨5664 + (c.val - 256 - 256 - 512 - 1024 - 1024 - 1024 - 1024), by omega⟩)
        = a.cols ⟨R.val / 4096, by omega⟩ ⟨R.val % 4096, by omega⟩ (c.val / 128) (by omega) ⟨c.val % 128, by omega⟩ :=
      (refPA_apply a _ _ _).trans (cols_eq a _ _ _ _ (by unfold src; (try dsimp only); split_ifs <;> omega) (by (try dsimp only); omega)).symm
    rw [act_gate (by omega) (by omega)]
    exact gate_at ((refSig_apply _ _ _ _).trans (congrArg Tail.sigm ((cols_5664 _ _ _ _).trans e)))
  refine (dif_neg h8).trans ?_
  rw [act_scaled (by omega)]
  have e (j : Nat) (hj : j < 6688) (h : src (c.val / 128 * 128 + c.val % 128) = j) :
      a.p ⟨R.val / 4096, by omega⟩ ⟨R.val % 4096, by omega⟩ ⟨j, hj⟩ * Ideal.ofBits .f32 1035273459#32
        = a.cols ⟨R.val / 4096, by omega⟩ ⟨R.val % 4096, by omega⟩ (c.val / 128) (by omega) ⟨c.val % 128, by omega⟩ := by
    subst h
    unfold Args.cols factor
    rw [if_neg (by (try dsimp only); omega)]
  exact (congrArg (· * Ideal.ofBits .f32 1035273459#32) (refPA_apply a _ _ _)).trans (e _ _ (by unfold src; split_ifs <;> omega))

/-- The second result as the program's run gives it, from the contents of its arrays. -/
def resDecay (v : Valuation τ sig (Elt Ideal)) : FVec Ideal S16384x1024 .bf16 :=
  truncf .bf16 (concatenate S16384x1024 1 [⟨S16384x512, (shapeCast _ (mulf (Host.divf (Host.negf (select (cmpf .une (Cert.Reference5Ideal.Value.res_main_call1_call0_v3 v) (Cert.Reference5Ideal.Value.res_main_call1_call0_v3 v)) (addf (Cert.Reference5Ideal.Value.res_main_call1_v0 v) (broadcastInDim S4x4096x512 ![] bcast_S_S4x4096x512 (Cert.Reference5Ideal.Value.res_main_call1_call0_cst v))) (addf (maximumf (Cert.Reference5Ideal.Value.res_main_call1_v0 v) (broadcastInDim S4x4096x512 ![] bcast_S_S4x4096x512 (Cert.Reference5Ideal.Value.res_main_call1_call0_cst v))) (Host.log1p (Host.exp (Host.negf (Host.absf (Cert.Reference5Ideal.Value.res_main_call1_call0_v3 v)))))))) (broadcastInDim S4x4096x512 ![] bcast_S_S4x4096x512 (constant S_ .f32 0x41800000#32))) (broadcastInDim S4x4096x512 ![] bcast_S_S4x4096x512 (constant S_ .f32 0x3FB8AA3B#32))) shapeCasts_S4x4096x512_S16384x512)⟩, ⟨S16384x512, (shapeCast _ (mulf (Host.divf (Host.negf (select (cmpf .une (Cert.Reference5Ideal.Value.res_main_call2_call0_v3 v) (Cert.Reference5Ideal.Value.res_main_call2_call0_v3 v)) (addf (Cert.Reference5Ideal.Value.res_main_call2_v0 v) (broadcastInDim S4x4096x512 ![] bcast_S_S4x4096x512 (Cert.Reference5Ideal.Value.res_main_call2_call0_cst v))) (addf (maximumf (Cert.Reference5Ideal.Value.res_main_call2_v0 v) (broadcastInDim S4x4096x512 ![] bcast_S_S4x4096x512 (Cert.Reference5Ideal.Value.res_main_call2_call0_cst v))) (Host.log1p (Host.exp (Host.negf (Host.absf (Cert.Reference5Ideal.Value.res_main_call2_call0_v3 v)))))))) (broadcastInDim S4x4096x512 ![] bcast_S_S4x4096x512 (constant S_ .f32 0x41800000#32))) (broadcastInDim S4x4096x512 ![] bcast_S_S4x4096x512 (constant S_ .f32 0x3FB8AA3B#32))) shapeCasts_S4x4096x512_S16384x512)⟩] concatenates_S16384x512_S16384x512_S16384x1024_d1) bitsLt_bf16_f32

section
variable (m : (ℓ : Loc nD τ sig) → Buf (Elt Ideal) ℓ)

/-- The host lines' arguments. -/
abbrev refArgs (c : Dev nD) : Args where
  x := m ((c : Thread nD τ).loc main_arg0)
  mod := m ((c : Thread nD τ).loc main_arg1)
  n1 := m ((c : Thread nD τ).loc main_arg2)
  w := m ((c : Thread nD τ).loc main_arg3)
  qn := m ((c : Thread nD τ).loc main_arg4)
  kn := m ((c : Thread nD τ).loc main_arg5)
  wf := m ((c : Thread nD τ).loc main_arg6)
  bf := m ((c : Thread nD τ).loc main_arg7)
  wb := m ((c : Thread nD τ).loc main_arg8)
  bb := m ((c : Thread nD τ).loc main_arg9)
  cos := m ((c : Thread nD τ).loc main_arg10)
  sin := m ((c : Thread nD τ).loc main_arg11)

set_option maxHeartbeats 4000000 in
/-- The first result's columns, before the cast, are those. -/
theorem res_eq (c : Dev nD) : Cert.Reference5Ideal.Value.res_main_v127 (F := Ideal) (launchContents m c)
    = refMain (refPA (refArgs m c)) (refArgs m c).qn (refArgs m c).kn (refArgs m c).cos (refArgs m c).sin := rfl

set_option maxHeartbeats 4000000 in
/-- The second result, cast, is the logarithms of both directions' gates. -/
theorem res_decay_eq (c : Dev nD) : resDecay (launchContents m c)
    = refDecay (refPA (refArgs m c)) (refArgs m c).wf (refArgs m c).bf (refArgs m c).wb (refArgs m c).bb := rfl

end

end Cert.Proj

end
-- ==== Proof.ProjBody.lean ====
/- What the input projection's call leaves in its blocks, at an index. -/
module

public import proofs.«01_k».proof.Proof.ProjSpec
public import proofs.«01_k».proof.Proof.Gen.Kernel5Ideal.Frame
public import Idealize.ShloMosaic.Lib.Pointwise
public import Idealize.ShloMosaic.Lib.WordCmp
public import Idealize.ShloMosaic.Lib.Pipeline.ValueKit.Tiles

@[expose] public section

set_option maxRecDepth 65536

noncomputable section

open Idealize.ShloMosaic Idealize.ShloMosaic.TcCoe Idealize.SL.Sem

namespace Cert.Proj

open Cert.Kernel5Ideal Cert.Kernel5Ideal.Gen

/-- The rows normalised and modulated. -/
theorem pay7_apply (x : Vec Ideal S256x1024 .f32) (n1 : Vec Ideal S1x1024 .f32) (sc sh : Vec Ideal S1x1x1x1024 .f32) (r : Fin 256) (k : Fin 1024) :
    k0_pay7 (F := Ideal) x n1 sc sh (ix2 r k)
      = Tail.modulated (fun k => x (ix2 r k)) (fun k => n1 (ix2 0 k)) (fun k => sc (ix4 0 0 0 k)) (fun k => sh (ix4 0 0 0 k)) k := by
  pointwise [k0_pay7, Tail.modulated, Tail.rinv]

/-- A chunk of columns' products. -/
theorem pay2_apply (hb : FVec Ideal S256x1024 .bf16) (w : Vec Ideal S1x1024x512 .bf16) (r : Fin 256) (e : Fin 512) :
    k0_pay2 (F := Ideal) hb w (ix2 r e) = ∑ k, hb (ix2 r k) * w (ix3 0 k e) := by
  pointwise [k0_pay2]

/-- One of a chunk's four groups of 128 columns. -/
def lanes (A : FVec Ideal S256x512 .f32) : Nat → FVec Ideal S256x128 .f32
  | 0 => extractStridedSlice S256x128 ![0, 0] A slices_S256x512_o0_0_S256x128
  | 1 => extractStridedSlice S256x128 ![0, 128] A slices_S256x512_o0_128_S256x128
  | 2 => extractStridedSlice S256x128 ![0, 256] A slices_S256x512_o0_256_S256x128
  | _ => extractStridedSlice S256x128 ![0, 384] A slices_S256x512_o0_384_S256x128

theorem lanes_apply (A : FVec Ideal S256x512 .f32) (s : Nat) (hs : s < 4) (r : Fin 256) (e : Fin 128) :
    lanes A s (ix2 r e) = A (ix2 r ⟨s * 128 + e.val, by omega⟩) := by
  match s, hs with
  | 0, _ => pointwise [lanes]
  | 1, _ => pointwise [lanes]
  | 2, _ => pointwise [lanes]
  | 3, _ => pointwise [lanes]

/-- The sigmoid of a group. -/
def sigV (a : FVec Ideal S256x128 .f32) : FVec Ideal S256x128 .f32 :=
  addf (mulf (broadcast S256x128 (Scalar.ofBits .f32 0x3F000000#32)) (tanh (mulf (broadcast S256x128 (Scalar.ofBits .f32 0x3F000000#32)) a)))
    (broadcast S256x128 (Scalar.ofBits .f32 0x3F000000#32))

/-- What the call does to group `n` of the columns. -/
def actV (qg kg : Vec Ideal S1x128 .f32) (cs sn : Vec Ideal S256x128 .f32) (n : Nat) (a : FVec Ideal S256x128 .f32) : FVec Ideal S256x128 .bf16 :=
  if n < 2 then k0_pay15 (k0_pay14 a kg cs sn)
  else if n < 16 then truncf .bf16 a bitsLt_bf16_f32
  else if n < 24 then k0_pay15 (k0_pay14 a qg cs sn)
  else if n < 32 then truncf .bf16 (mulf a (sigV a)) bitsLt_bf16_f32
  else if n < 48 then truncf .bf16 (sigV a) bitsLt_bf16_f32
  else truncf .bf16 a bitsLt_bf16_f32

/-- The lanes that take their mate from the right, by the remainder of their number. -/
theorem lane_mask : ∀ d : Fin 128, IntOp.cmpi CmpIPredicate.slt
    (Scalar.select
      (IntOp.andi
        (IntOp.xori (IntOp.cmpi CmpIPredicate.slt (IntOp.remsi ArithUnit.vector (BitVec.ofNat 32 d.val) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne (IntOp.remsi ArithUnit.vector (BitVec.ofNat 32 d.val) (Scalar.select (Scalar.cmpi CmpIPredicate.eq 64#32 0#32) 1#32 64#32)) 0#32))
      (IntOp.addi (IntOp.remsi ArithUnit.vector (BitVec.ofNat 32 d.val) (Scalar.select (Scalar.cmpi CmpIPredicate.eq 64#32 0#32) 1#32 64#32)) (Scalar.select (Scalar.cmpi CmpIPredicate.eq 64#32 0#32) 1#32 64#32))
      (IntOp.remsi ArithUnit.vector (BitVec.ofNat 32 d.val) (Scalar.select (Scalar.cmpi CmpIPredicate.eq 64#32 0#32) 1#32 64#32)))
    32#32 = if d.val % 64 < 32 then 1#1 else 0#1 := by decide +kernel

theorem sigV_apply (a : FVec Ideal S256x128 .f32) (r : Fin 256) (d : Fin 128) : sigV a (ix2 r d) = sigT (a (ix2 r d)) := by
  pointwise [sigV, sigT]

theorem head_apply (a : FVec Ideal S256x128 .f32) (g : Vec Ideal S1x128 .f32) (cs sn : Vec Ideal S256x128 .f32) (r : Fin 256) (d : Fin 128) :
    k0_pay15 (F := Ideal) (k0_pay14 a g cs sn) (ix2 r d)
      = turn (head (fun e => a (ix2 r e)) (fun e => g (ix2 0 e))) (fun e => cs (ix2 r e)) (fun e => sn (ix2 r e)) d := by
  pointwise [k0_pay15, k0_pay14, turn, head, Tail.rinv, mate]
  rw [lane_mask d]
  by_cases h : d.val % 64 < 32
  · simp only [if_pos h]; rfl
  · simp only [if_neg h]; rfl

/-- What is done to a group of columns, at an index. -/
theorem actV_apply (qg kg : Vec Ideal S1x128 .f32) (cs sn : Vec Ideal S256x128 .f32) (n : Nat) (a : FVec Ideal S256x128 .f32)
    (r : Fin 256) (d : Fin 128) :
    actV qg kg cs sn n a (ix2 r d) = act (fun e => qg (ix2 0 e)) (fun e => kg (ix2 0 e)) (fun e => cs (ix2 r e)) (fun e => sn (ix2 r e)) n
      (fun e => a (ix2 r e)) d := by
  unfold actV act
  split_ifs
  · exact head_apply a kg cs sn r d
  · rfl
  · exact head_apply a qg cs sn r d
  · exact congrArg (a (ix2 r d) * ·) (sigV_apply a r d)
  · exact sigV_apply a r d
  · rfl

/-- The weights' chunk of 512 columns that holds group `n` of 128. -/
def chunk (W : Vec Ideal S13x1024x512 .bf16) (n : Nat) (hn : n < 52) : Vec Ideal S1x1024x512 .bf16 :=
  View.ld W (Rect.unit (s := S13x1024x512) ![n / 4, 0, 0] S1x1024x512.size (fun a => by
    match a with
    | ⟨0, _⟩ => show n / 4 + 1 ≤ 13; omega
    | ⟨1, _⟩ => exact le_refl 1024
    | ⟨2, _⟩ => exact le_refl 512))

theorem chunk_apply (W : Vec Ideal S13x1024x512 .bf16) (n : Nat) (hn : n < 52) (k : Fin 1024) (e : Fin 512) :
    chunk W n hn (ix3 0 k e) = W (ix3 ⟨n / 4, by omega⟩ k e) := congrArg W (funext fun a => Fin.ext (by
  match a with
  | ⟨0, _⟩ => show n / 4 + 1 * 0 = n / 4; omega
  | ⟨1, _⟩ => show 0 + 1 * k.val = k.val; omega
  | ⟨2, _⟩ => show 0 + 1 * e.val = e.val; omega))

/-- Half of a block's rows, from row `H` on. -/
def half1024 (X : Vec Ideal S512x1024 .f32) (H : Nat) (hH : H + 256 ≤ 512) : Vec Ideal S256x1024 .f32 :=
  View.ld X (Rect.unit (s := S512x1024) ![H, 0] S256x1024.size (fun a => by
    match a with
    | ⟨0, _⟩ => exact hH
    | ⟨1, _⟩ => exact le_refl 1024))

theorem half1024_apply (X : Vec Ideal S512x1024 .f32) (H : Nat) (hH : H + 256 ≤ 512) (r : Fin 256) (k : Fin 1024) :
    half1024 X H hH (ix2 r k) = X (ix2 ⟨H + r.val, by omega⟩ k) := congrArg X (funext fun a => Fin.ext (by
  match a with
  | ⟨0, _⟩ => show H + 1 * r.val = H + r.val; omega
  | ⟨1, _⟩ => show 0 + 1 * k.val = k.val; omega))

/-- The same of the angles' tables. -/
def half128 (X : Vec Ideal S512x128 .f32) (H : Nat) (hH : H + 256 ≤ 512) : Vec Ideal S256x128 .f32 :=
  View.ld X (Rect.unit (s := S512x128) ![H, 0] S256x128.size (fun a => by
    match a with
    | ⟨0, _⟩ => exact hH
    | ⟨1, _⟩ => exact le_refl 128))

theorem half128_apply (X : Vec Ideal S512x128 .f32) (H : Nat) (hH : H + 256 ≤ 512) (r : Fin 256) (k : Fin 128) :
    half128 X H hH (ix2 r k) = X (ix2 ⟨H + r.val, by omega⟩ k) := congrArg X (funext fun a => Fin.ext (by
  match a with
  | ⟨0, _⟩ => show H + 1 * r.val = H + r.val; omega
  | ⟨1, _⟩ => show 0 + 1 * k.val = k.val; omega))

theorem hz2 : (![0, 0] : Fin 2 → Nat) = fun _ => 0 := by funext a; fin_cases a <;> rfl
theorem hz4 : (![0, 0, 0, 0] : Fin 4 → Nat) = fun _ => 0 := by funext a; fin_cases a <;> rfl

section
variable (x0 : Vec Ideal S512x1024 .f32) (x1 x2 : Vec Ideal S1x1x1x1024 .f32) (x3 : Vec Ideal S1x1024 .f32)
  (x4 : Vec Ideal S13x1024x512 .bf16) (x5 : Vec Ideal S1024x128 .bf16) (x6 : Vec Ideal S128x1024 .bf16) (x7 : Vec Ideal S1x1024 .f32)
  (x8 x9 : Vec Ideal S512x128 .f32) (x10 x11 : Vec Ideal S1x128 .f32)

/-- Half of the rows, normalised and modulated. -/
def hbV (H : Nat) (hH : H + 256 ≤ 512) : FVec Ideal S256x1024 .bf16 :=
  k0_pay7 (half1024 x0 H hH) (View.ld x3 r0_1) (View.ld x2 r0_2) (View.ld x1 r0_2)

/-- A row, normalised and modulated. -/
def hbRow (r : Fin 512) : Fin 1024 → EReal :=
  Tail.modulated (fun k => x0 (ix2 r k)) (fun k => x3 (ix2 0 k)) (fun k => x2 (ix4 0 0 0 k)) (fun k => x1 (ix4 0 0 0 k))

theorem hbV_apply (H : Nat) (hH : H + 256 ≤ 512) (r : Fin 256) (k : Fin 1024) :
    hbV x0 x1 x2 x3 H hH (ix2 r k) = hbRow x0 x1 x2 x3 ⟨H + r.val, by omega⟩ k := by
  unfold hbV hbRow
  rw [pay7_apply, View.ld_unit_zero (S := S1x1024) hz2, View.ld_unit_zero (S := S1x1x1x1024) hz4, View.ld_unit_zero (S := S1x1x1x1024) hz4]
  simp only [half1024_apply]

/-- What is stored for half of the rows and group `n` of the columns. -/
def pieceV (H : Nat) (hH : H + 256 ≤ 512) (n : Nat) (hn : n < 52) : FVec Ideal S256x128 .bf16 :=
  actV (View.ld x10 r0_4) (View.ld x11 r0_4) (half128 x8 H hH) (half128 x9 H hH) n
    (lanes (k0_pay2 (hbV x0 x1 x2 x3 H hH) (chunk x4 n hn)) (n % 4))

/-- The block's entry in row `r` and column `col`. -/
def mainAt (r : Fin 512) (col : Fin 6656) : EReal :=
  group (hbRow x0 x1 x2 x3 r) (fun c k e => x4 (ix3 c k e)) (fun e => x10 (ix2 0 e)) (fun e => x11 (ix2 0 e))
    (fun e => x8 (ix2 r e)) (fun e => x9 (ix2 r e)) (col.val / 128) (by omega) ⟨col.val % 128, by omega⟩

theorem pieceV_apply (H : Nat) (hH : H + 256 ≤ 512) (n : Nat) (hn : n < 52) (r : Fin 256) (d : Fin 128) :
    pieceV x0 x1 x2 x3 x4 x8 x9 x10 x11 H hH n hn (ix2 r d)
      = group (hbRow x0 x1 x2 x3 ⟨H + r.val, by omega⟩) (fun c k e => x4 (ix3 c k e)) (fun e => x10 (ix2 0 e)) (fun e => x11 (ix2 0 e))
        (fun e => x8 (ix2 ⟨H + r.val, by omega⟩ e)) (fun e => x9 (ix2 ⟨H + r.val, by omega⟩ e)) n hn d := by
  unfold pieceV group
  rw [actV_apply, View.ld_unit_zero (S := S1x128) hz2, View.ld_unit_zero (S := S1x128) hz2]
  simp only [half128_apply, lanes_apply _ (n % 4) (Nat.mod_lt n (by omega)), pay2_apply, chunk_apply, hbV_apply]

/-- A store, where it holds an entry, holds that entry of the block. -/
theorem main_tile (r : Fin 512) (col : Fin 6656) (H C : Nat) (w : (⟨2, ![256, 128]⟩ : Shape).Idx → Elt Ideal .bf16)
    (hH : H + 256 ≤ 512) (hC : C % 128 = 0) (hn : C / 128 < 52)
    (hw : w = pieceV x0 x1 x2 x3 x4 x8 x9 x10 x11 H hH (C / 128) hn) :
    View.TileAt (Val := Elt Ideal) (S := S512x6656) (e := .bf16) (ix2 r col) ![H, C] ![256, 128] w
      (mainAt x0 x1 x2 x3 x4 x8 x9 x10 x11 r col) := by
  intro x hx
  obtain ⟨a, d, rfl⟩ : ∃ (a : Fin 256) (d : Fin 128), x = ix2 a d := ⟨x 0, x 1, funext fun a => by fin_cases a <;> rfl⟩
  have h0 : r.val = H + a.val := hx 0
  have h1 : col.val = C + d.val := hx 1
  have hr : (⟨H + a.val, by omega⟩ : Fin 512) = r := Fin.ext (by show H + a.val = r.val; omega)
  subst hw
  refine (pieceV_apply x0 x1 x2 x3 x4 x8 x9 x10 x11 H hH (C / 128) hn a d).trans ?_
  rw [hr]
  exact group_congr rfl rfl rfl (by omega) (Fin.ext (by show d.val = col.val % 128; omega))

set_option maxHeartbeats 4000000 in
/-- The first result's block. -/
theorem out12_apply (r : Fin 512) (col : Fin 6656) : out0_12 (F := Ideal) x0 x1 x2 x3 x4 x5 x6 x7 x8 x9 x10 x11 (ix2 r col)
    = mainAt x0 x1 x2 x3 x4 x8 x9 x10 x11 r col := by
  unfold out0_12
  refine View.canon_eq_of_allAt _ _ _ (cover0_12 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) ?_
  repeat' first
    | exact View.allAt_nil _ _
    | refine View.allAt_cons_unit _ _ _ _ _ (main_tile x0 x1 x2 x3 x4 x8 x9 x10 x11 r col _ _ _ (by decide) (by decide) (by decide) rfl) ?_

end

end Cert.Proj

end
-- ==== Proof.ProjDecay.lean ====
/- The second block the input projection's call leaves, at an index: the gates' logarithm. -/
module

public import proofs.«01_k».proof.Proof.ProjBody

@[expose] public section

set_option maxRecDepth 65536

noncomputable section

open Idealize.ShloMosaic Idealize.ShloMosaic.TcCoe Idealize.SL.Sem

namespace Cert.Proj

open Cert.Kernel5Ideal Cert.Kernel5Ideal.Gen

/-- The products with the low-rank weights. -/
theorem pay18_apply (hb : FVec Ideal S256x1024 .bf16) (w : Vec Ideal S1024x128 .bf16) (r : Fin 256) (j : Fin 128) :
    k0_pay18 (F := Ideal) hb w (ix2 r j) = ∑ k, hb (ix2 r k) * w (ix2 k j) := by
  pointwise [k0_pay18]

/-- The gates of 128 columns. -/
theorem pay25_apply (l : FVec Ideal S256x128 .f32) (w : Vec Ideal S128x128 .bf16) (b : Vec Ideal S1x128 .f32) (r : Fin 256) (d : Fin 128) :
    k0_pay25 (F := Ideal) l w b (ix2 r d) = decayT ((∑ j, l (ix2 r j) * w (ix2 j d)) + b (ix2 0 d)) := by
  pointwise [k0_pay25, decayT]
  rfl

/-- 128 columns of the second weights. -/
def gcols (W : Vec Ideal S128x1024 .bf16) (C : Nat) (hC : C + 128 ≤ 1024) : Vec Ideal S128x128 .bf16 :=
  View.ld W (Rect.unit (s := S128x1024) ![0, C] S128x128.size (fun a => by
    match a with
    | ⟨0, _⟩ => exact le_refl 128
    | ⟨1, _⟩ => exact hC))

theorem gcols_apply (W : Vec Ideal S128x1024 .bf16) (C : Nat) (hC : C + 128 ≤ 1024) (j : Fin 128) (d : Fin 128) :
    gcols W C hC (ix2 j d) = W (ix2 j ⟨C + d.val, by omega⟩) := congrArg W (funext fun a => Fin.ext (by
  match a with
  | ⟨0, _⟩ => show 0 + 1 * j.val = j.val; omega
  | ⟨1, _⟩ => show C + 1 * d.val = C + d.val; omega))

/-- 128 columns of the biases. -/
def bcols (b : Vec Ideal S1x1024 .f32) (C : Nat) (hC : C + 128 ≤ 1024) : Vec Ideal S1x128 .f32 :=
  View.ld b (Rect.unit (s := S1x1024) ![0, C] S1x128.size (fun a => by
    match a with
    | ⟨0, _⟩ => exact le_refl 1
    | ⟨1, _⟩ => exact hC))

theorem bcols_apply (b : Vec Ideal S1x1024 .f32) (C : Nat) (hC : C + 128 ≤ 1024) (d : Fin 128) :
    bcols b C hC (ix2 0 d) = b (ix2 0 ⟨C + d.val, by omega⟩) := congrArg b (funext fun a => Fin.ext (by
  match a with
  | ⟨0, _⟩ => rfl
  | ⟨1, _⟩ => show C + 1 * d.val = C + d.val; omega))

section
variable (x0 : Vec Ideal S512x1024 .f32) (x1 x2 : Vec Ideal S1x1x1x1024 .f32) (x3 : Vec Ideal S1x1024 .f32)
  (x4 : Vec Ideal S13x1024x512 .bf16) (x5 : Vec Ideal S1024x128 .bf16) (x6 : Vec Ideal S128x1024 .bf16) (x7 : Vec Ideal S1x1024 .f32)
  (x8 x9 : Vec Ideal S512x128 .f32) (x10 x11 : Vec Ideal S1x128 .f32)

/-- The second block's entry in row `r` and column `col`. -/
def decayAt (r : Fin 512) (col : Fin 1024) : EReal :=
  decayT ((∑ j : Fin 128, (∑ k, hbRow x0 x1 x2 x3 r k * x5 (ix2 k j)) * x6 (ix2 j col)) + x7 (ix2 0 col))

/-- A store, where it holds an entry, holds that entry of the block. -/
theorem decay_tile (r : Fin 512) (col : Fin 1024) (H C : Nat) (w : (⟨2, ![256, 128]⟩ : Shape).Idx → Elt Ideal .bf16)
    (hH : H + 256 ≤ 512) (hC : C + 128 ≤ 1024)
    (hw : w = k0_pay25 (k0_pay18 (hbV x0 x1 x2 x3 H hH) (View.ld x5 r0_10)) (gcols x6 C hC) (bcols x7 C hC)) :
    View.TileAt (Val := Elt Ideal) (S := S512x1024) (e := .bf16) (ix2 r col) ![H, C] ![256, 128] w (decayAt x0 x1 x2 x3 x5 x6 x7 r col) := by
  intro x hx
  obtain ⟨a, d, rfl⟩ : ∃ (a : Fin 256) (d : Fin 128), x = ix2 a d := ⟨x 0, x 1, funext fun a => by fin_cases a <;> rfl⟩
  have h0 : r.val = H + a.val := hx 0
  have h1 : col.val = C + d.val := hx 1
  have hr : (⟨H + a.val, by omega⟩ : Fin 512) = r := Fin.ext (by show H + a.val = r.val; omega)
  have hc : (⟨C + d.val, by omega⟩ : Fin 1024) = col := Fin.ext (by show C + d.val = col.val; omega)
  subst hw
  rw [pay25_apply, View.ld_unit_zero (S := S1024x128) hz2]
  simp only [pay18_apply, gcols_apply, bcols_apply, hbV_apply, hr, hc]
  rfl

/-- The second result's block. -/
theorem out13_apply (r : Fin 512) (col : Fin 1024) : out0_13 (F := Ideal) x0 x1 x2 x3 x4 x5 x6 x7 x8 x9 x10 x11 (ix2 r col)
    = decayAt x0 x1 x2 x3 x5 x6 x7 r col := by
  unfold out0_13
  refine View.canon_eq_of_allAt _ _ _ (cover0_13 _ _ _ _ _ _ _ _ _ _ _ _ _ _ _ _ _) ?_
  repeat' first
    | exact View.allAt_nil _ _
    | refine View.allAt_cons_unit _ _ _ _ _ (decay_tile x0 x1 x2 x3 x5 x6 x7 r col _ _ _ (by decide) (by decide) rfl) ?_

end

end Cert.Proj

end
-- ==== Proof.ProjHost.lean ====
/- The arrays the input projection's windows are cut from, as the host lays them out, at an index. -/
module

public import proofs.«01_k».proof.Proof.ProjSpec
public import proofs.«01_k».proof.Proof.Gen.Kernel5Ideal.Frame
public import Idealize.ShloMosaic.Lib.StableHlo.Run
public import Idealize.ShloMosaic.Lib.Pointwise

@[expose] public section

set_option maxRecDepth 65536

noncomputable section

open Idealize.ShloMosaic Idealize.ShloMosaic.TcCoe Idealize.SL.Sem Idealize.ShloMosaic.StableHlo

namespace Cert.Proj

open Cert.Kernel5Ideal Cert.Kernel5Ideal.Gen

/-- A row per token. -/
def rows (X : FVec Ideal S4x4096x1024 .f32) : FVec Ideal S16384x1024 .f32 := shapeCast S16384x1024 X shapeCasts_S4x4096x1024_S16384x1024

/-- The modulation vectors, an axis for each, four rows of zeros after the sequences'. -/
def modArr (M : FVec Ideal S4x6144 .f32) : FVec Ideal S8x6x1x1024 .f32 :=
  shapeCast S8x6x1x1024 (concatenate S8x6144 0 [⟨S4x6144, M⟩, ⟨S4x6144, broadcastInDim S4x6144 ![] bcast_S_S4x6144 (constant (F := Ideal) S_ .f32 0x00000000#32)⟩]
    concatenates_S4x6144_S4x6144_S8x6144_d0) shapeCasts_S8x6144_S8x6x1x1024

/-- 1024 columns of the weights as they are. -/
def wide (w : FVec Ideal S1024x1024 .f32) : FVec Ideal S1024x1024 .f32 :=
  mulf w (broadcastInDim S1024x1024 ![] bcast_S_S1024x1024 (constant (F := Ideal) S_ .f32 0x3F800000#32))

/-- The weights' columns in the call's order, those of the linear attention's queries scaled. -/
def wCols (W : FVec Ideal S1024x6688 .f32) : FVec Ideal S1024x6656 .f32 :=
  concatenate S1024x6656 1 [
    ⟨S1024x2048, mulf (extractStridedSlice S1024x2048 ![0, 0] W slices_S1024x6688_S1024x2048_0_0)
      (broadcastInDim S1024x2048 ![] bcast_S_S1024x2048 (constant (F := Ideal) S_ .f32 0x3F800000#32))⟩,
    ⟨S1024x1024, wide (extractStridedSlice S1024x1024 ![0, 2080] W slices_S1024x6688_S1024x1024_0_2080)⟩,
    ⟨S1024x1024, wide (extractStridedSlice S1024x1024 ![0, 3616] W slices_S1024x6688_S1024x1024_0_3616)⟩,
    ⟨S1024x1024, wide (extractStridedSlice S1024x1024 ![0, 4640] W slices_S1024x6688_S1024x1024_0_4640)⟩,
    ⟨S1024x1024, wide (extractStridedSlice S1024x1024 ![0, 5664] W slices_S1024x6688_S1024x1024_0_5664)⟩,
    ⟨S1024x512, mulf (extractStridedSlice S1024x512 ![0, 3104] W slices_S1024x6688_S1024x512_0_3104)
      (broadcastInDim S1024x512 ![] bcast_S_S1024x512 (constant (F := Ideal) S_ .f32 0x3DB504F3#32))⟩]
    concatenates_S1024x2048_S1024x1024_S1024x1024_S1024x1024_S1024x1024_S1024x512_S1024x6656_d1

/-- The same in 13 chunks. -/
def wArr (W : FVec Ideal S1024x6688 .f32) : FVec Ideal S13x1024x512 .bf16 :=
  truncf .bf16 (transpose S13x1024x512 [1, 0, 2] (shapeCast S1024x13x512 (wCols W) shapeCasts_S1024x6656_S1024x13x512) transposes_S1024x13x512_S13x1024x512_1_0_2) bitsLt_bf16_f32

/-- The gates' low-rank columns, zeros after them. -/
def lrArr (W : FVec Ideal S1024x6688 .f32) : FVec Ideal S1024x128 .bf16 :=
  truncf .bf16 (concatenate S1024x128 1 [⟨S1024x32, extractStridedSlice S1024x32 ![0, 2048] W slices_S1024x6688_S1024x32_0_2048⟩,
    ⟨S1024x96, broadcastInDim S1024x96 ![] bcast_S_S1024x96 (constant (F := Ideal) S_ .f32 0x00000000#32)⟩] concatenates_S1024x32_S1024x96_S1024x128_d1) bitsLt_bf16_f32

/-- Both directions' second weights, side by side, each in its own sixteen rows. -/
def gkArr (wf wb : FVec Ideal S16x512 .f32) : FVec Ideal S128x1024 .bf16 :=
  truncf .bf16 (concatenate S128x1024 1
    [⟨S128x512, pad S128x512 ![0, 0] ![112, 0] ![0, 0] wf (sitofp (F := Ideal) .f32 (constantI S_ 32 0#32)) pads_S16x512_S128x512_01120_000 h_S_⟩,
     ⟨S128x512, pad S128x512 ![16, 0] ![96, 0] ![0, 0] wb (sitofp (F := Ideal) .f32 (constantI S_ 32 0#32)) pads_S16x512_S128x512_16960_000 h_S_⟩]
    concatenates_S128x512_S128x512_S128x1024_d1) bitsLt_bf16_f32

/-- Both directions' biases as a row. -/
def bArr (bf bb : FVec Ideal S512 .f32) : FVec Ideal S1x1024 .f32 :=
  broadcastInDim S1x1024 ![1] bcast_S1024_S1x1024_1 (concatenate S1024 0 [⟨S512, bf⟩, ⟨S512, bb⟩] concatenates_S512_S512_S1024_d0)

/-- One of the two angles of every position. -/
def angle0 (X : FVec Ideal S4096x2x32 .f32) : FVec Ideal S4096x32 .f32 :=
  shapeCast S4096x32 (extractStridedSlice S4096x1x32 ![0, 0, 0] X slices_S4096x2x32_S4096x1x32_0_0_0) shapeCasts_S4096x1x32_S4096x32
def angle1 (X : FVec Ideal S4096x2x32 .f32) : FVec Ideal S4096x32 .f32 :=
  shapeCast S4096x32 (extractStridedSlice S4096x1x32 ![0, 1, 0] X slices_S4096x2x32_S4096x1x32_0_1_0) shapeCasts_S4096x1x32_S4096x32

/-- Four runs of 32 lanes. -/
def runs (a b c d : FVec Ideal S4096x32 .f32) : FVec Ideal S4096x128 .f32 :=
  concatenate S4096x128 1 [⟨S4096x32, a⟩, ⟨S4096x32, b⟩, ⟨S4096x32, c⟩, ⟨S4096x32, d⟩] concatenates_S4096x32_S4096x32_S4096x32_S4096x32_S4096x128_d1

/-- The cosines and the signed sines by lanes. -/
def cosArr (X : FVec Ideal S4096x2x32 .f32) : FVec Ideal S4096x128 .f32 := runs (angle0 X) (angle0 X) (angle1 X) (angle1 X)
def sinArr (X : FVec Ideal S4096x2x32 .f32) : FVec Ideal S4096x128 .f32 := runs (Host.negf (angle0 X)) (angle0 X) (Host.negf (angle1 X)) (angle1 X)

section
variable (m : (ℓ : Loc nD τ sig) → Buf (Elt Ideal) ℓ)

/-- The program's arguments. -/
abbrev kArgs (c : Dev nD) : Args where
  x := m ((c : Thread nD τ).loc main_arg0)
  mod := m ((c : Thread nD τ).loc main_arg1)
  n1 := m ((c : Thread nD τ).loc main_arg2)
  w := m ((c : Thread nD τ).loc main_arg3)
  qn := m ((c : Thread nD τ).loc main_arg4)
  kn := m ((c : Thread nD τ).loc main_arg5)
  wf := m ((c : Thread nD τ).loc main_arg6)
  bf := m ((c : Thread nD τ).loc main_arg7)
  wb := m ((c : Thread nD τ).loc main_arg8)
  bb := m ((c : Thread nD τ).loc main_arg9)
  cos := m ((c : Thread nD τ).loc main_arg10)
  sin := m ((c : Thread nD τ).loc main_arg11)

set_option maxHeartbeats 4000000 in
/-- What the call is given: the rows, the modulation and the norm's gain. -/
theorem Vx_eq (c : Dev nD) : (V m c main_v55 : FVec Ideal S16384x1024 .f32) = rows (kArgs m c).x
    ∧ (V m c main_v2 : FVec Ideal S8x6x1x1024 .f32) = modArr (kArgs m c).mod
    ∧ (V m c main_v56 : FVec Ideal S1x1024 .f32) = broadcastInDim S1x1024 ![1] bcast_S1024_S1x1024_1 (kArgs m c).n1 := by
  refine ⟨?_, ?_, ?_⟩ <;>
  · show StableHlo.after (List.flatten [hostOps0, hostOps0_1, hostOps0_2, hostOps0_3, hostOps0_4]) _ _ = _
    simp only [hostOps0, hostOps0_1, hostOps0_2, hostOps0_3, hostOps0_4, List.flatten_cons, List.flatten_nil, List.append_nil, List.cons_append, List.nil_append]
    after_results <;> rfl

set_option maxHeartbeats 4000000 in
/-- The weights. -/
theorem Vw_eq (c : Dev nD) : (V m c main_v24 : FVec Ideal S13x1024x512 .bf16) = wArr (kArgs m c).w
    ∧ (V m c main_v28 : FVec Ideal S1024x128 .bf16) = lrArr (kArgs m c).w
    ∧ (V m c main_v32 : FVec Ideal S128x1024 .bf16) = gkArr (kArgs m c).wf (kArgs m c).wb
    ∧ (V m c main_v34 : FVec Ideal S1x1024 .f32) = bArr (kArgs m c).bf (kArgs m c).bb := by
  refine ⟨?_, ?_, ?_, ?_⟩ <;>
  · show StableHlo.after (List.flatten [hostOps0, hostOps0_1, hostOps0_2, hostOps0_3, hostOps0_4]) _ _ = _
    simp only [hostOps0, hostOps0_1, hostOps0_2, hostOps0_3, hostOps0_4, List.flatten_cons, List.flatten_nil, List.append_nil, List.cons_append, List.nil_append]
    after_results <;> rfl

set_option maxHeartbeats 4000000 in
/-- The angles and the heads' gains. -/
theorem Vr_eq (c : Dev nD) : (V m c main_v43 : FVec Ideal S4096x128 .f32) = cosArr (kArgs m c).cos
    ∧ (V m c main_v54 : FVec Ideal S4096x128 .f32) = sinArr (kArgs m c).sin
    ∧ (V m c main_v57 : FVec Ideal S1x128 .f32) = broadcastInDim S1x128 ![1] bcast_S128_S1x128_1 (kArgs m c).qn
    ∧ (V m c main_v58 : FVec Ideal S1x128 .f32) = broadcastInDim S1x128 ![1] bcast_S128_S1x128_1 (kArgs m c).kn := by
  refine ⟨?_, ?_, ?_, ?_⟩ <;>
  · show StableHlo.after (List.flatten [hostOps0, hostOps0_1, hostOps0_2, hostOps0_3, hostOps0_4]) _ _ = _
    simp only [hostOps0, hostOps0_1, hostOps0_2, hostOps0_3, hostOps0_4, List.flatten_cons, List.flatten_nil, List.append_nil, List.cons_append, List.nil_append]
    after_results <;> rfl

end

/-- A token's row, from its sequence and position. -/
theorem rows_apply (X : FVec Ideal S4x4096x1024 .f32) (R : Fin 16384) (C : Fin 1024) :
    rows X (ix2 R C) = X (ix3 ⟨R.val / 4096, by omega⟩ ⟨R.val % 4096, by omega⟩ C) := by
  pointwise [rows]

/-- The norm's gain as a row. -/
theorem norm_apply (g : FVec Ideal S1024 .f32) (z : Fin 1) (k : Fin 1024) : broadcastInDim S1x1024 ![1] bcast_S1024_S1x1024_1 g (ix2 z k) = g (ix1 k) := by
  pointwise []

/-- A head's gain as a row. -/
theorem gain_apply (g : FVec Ideal S128 .f32) (z : Fin 1) (d : Fin 128) : broadcastInDim S1x128 ![1] bcast_S128_S1x128_1 g (ix2 z d) = g (ix1 d) := by
  pointwise []

theorem modArr_apply (M : FVec Ideal S4x6144 .f32) (b : Fin 4) (j : Fin 6) (k : Fin 1024) (hb) :
    modArr M (ix4 ⟨b.val, hb⟩ j 0 k) = M (ix2 b ⟨j.val * 1024 + k.val, by omega⟩) := by
  pointwise [modArr]

theorem wArr_apply (W : FVec Ideal S1024x6688 .f32) (c : Fin 13) (k : Fin 1024) (e : Fin 512) :
    wArr W (ix3 c k e) = wCols W (ix2 k ⟨c.val * 512 + e.val, by omega⟩) := by
  pointwise [wArr]

theorem wCols_apply (W : FVec Ideal S1024x6688 .f32) (k : Fin 1024) (c : Fin 6656) :
    wCols W (ix2 k c) = W (ix2 k ⟨src c.val, src_lt c.isLt⟩) * factor c.val := by
  pointwise [wCols, wide]
  have key (i : Nat) (hi : i < 6688) (e : src c.val = i) : W (ix2 k ⟨i, hi⟩) = W (ix2 k ⟨src c.val, src_lt c.isLt⟩) := by subst e; rfl
  have one (h : c.val < 6144) : factor c.val = 1 := if_pos h
  have hc := c.isLt
  have fin (i : Nat) (hi : i < 6688) (e : src c.val = i) (h : c.val < 6144) :
      W (ix2 k ⟨i, hi⟩) = W (ix2 k ⟨src c.val, src_lt c.isLt⟩) * factor c.val := by rw [one h, mul_one]; exact key i hi e
  by_cases h1 : c.val < 2048
  · exact (dif_pos h1).trans (fin _ _ (by unfold src; split_ifs <;> omega) (by omega))
  refine (dif_neg h1).trans ?_
  by_cases h2 : c.val - 2048 < 1024
  · exact (dif_pos h2).trans (fin _ _ (by unfold src; split_ifs <;> omega) (by omega))
  refine (dif_neg h2).trans ?_
  by_cases h3 : c.val - 2048 - 1024 < 1024
  · exact (dif_pos h3).trans (fin _ _ (by unfold src; split_ifs <;> omega) (by omega))
  refine (dif_neg h3).trans ?_
  by_cases h4 : c.val - 2048 - 1024 - 1024 < 1024
  · exact (dif_pos h4).trans (fin _ _ (by unfold src; split_ifs <;> omega) (by omega))
  refine (dif_neg h4).trans ?_
  by_cases h5 : c.val - 2048 - 1024 - 1024 - 1024 < 1024
  · exact (dif_pos h5).trans (fin _ _ (by unfold src; split_ifs <;> omega) (by omega))
  refine (dif_neg h5).trans ?_
  rw [show factor c.val = Ideal.ofBits .f32 1035273459#32 from if_neg (by omega)]
  exact congrArg (· * Ideal.ofBits .f32 1035273459#32) (key _ _ (by unfold src; split_ifs <;> omega))

theorem lrArr_apply (W : FVec Ideal S1024x6688 .f32) (k : Fin 1024) (j : Fin 128) :
    lrArr W (ix2 k j) = if h : j.val < 32 then W (ix2 k ⟨2048 + j.val, by omega⟩) else 0 := by
  pointwise [lrArr]

/-- The padding is zero. -/
theorem pad_zero : (FloatOps.sitofp (F := Ideal) FTy.f32 (0#32) : EReal) = 0 := by
  show (((0 : Int) : ℝ) : EReal) = 0
  norm_num

/-- The first direction's columns of the second weights. -/
theorem gkArr_first (wf wb : FVec Ideal S16x512 .f32) (j : Fin 128) (c : Fin 1024) (hc : c.val < 512) :
    gkArr wf wb (ix2 j c) = if h : j.val < 16 then wf (ix2 ⟨j.val, h⟩ ⟨c.val, hc⟩) else 0 := by
  pointwise [gkArr]
  rw [dif_pos hc, pad_zero]
  by_cases h : j.val < 16
  · rw [dif_pos ⟨h, hc⟩, dif_pos h]
  · rw [dif_neg (fun h' => h h'.1), dif_neg h]

/-- The second direction's. -/
theorem gkArr_second (wf wb : FVec Ideal S16x512 .f32) (j : Fin 128) (c : Fin 1024) (hc : ¬ c.val < 512) :
    gkArr wf wb (ix2 j c) = if h : 16 ≤ j.val ∧ j.val - 16 < 16 then wb (ix2 ⟨j.val - 16, h.2⟩ ⟨c.val - 512, by omega⟩) else 0 := by
  pointwise [gkArr]
  rw [dif_neg hc, pad_zero]
  by_cases h : 16 ≤ j.val ∧ j.val - 16 < 16
  · rw [dif_pos ⟨h, by omega⟩, dif_pos h]
  · rw [dif_neg (fun h' => h h'.1), dif_neg h]

theorem bArr_apply (bf bb : FVec Ideal S512 .f32) (z : Fin 1) (c : Fin 1024) :
    bArr bf bb (ix2 z c) = if h : c.val < 512 then bf (ix1 ⟨c.val, h⟩) else bb (ix1 ⟨c.val - 512, by omega⟩) := by
  pointwise [bArr]

/-- The angles' arrays at equal indices. -/
theorem angle_at (X : FVec Ideal S4096x2x32 .f32) (n : Fin 4096) {i i' : Fin 2} {e e' : Fin 32} (hi : i.val = i'.val) (he : e.val = e'.val) :
    X (ix3 n i e) = X (ix3 n i' e') := by
  rw [Fin.ext hi, Fin.ext he]

theorem cosArr_apply (X : FVec Ideal S4096x2x32 .f32) (n : Fin 4096) (d : Fin 128) :
    cosArr X (ix2 n d) = X (ix3 n ⟨d.val / 64, by omega⟩ ⟨d.val % 32, by omega⟩) := by
  pointwise [cosArr, runs, angle0, angle1]
  have fin (i : Fin 2) (e : Nat) (he : e < 32) (hi : i.val = d.val / 64) (h : e = d.val % 32) :
      X (ix3 n i ⟨e, he⟩) = X (ix3 n ⟨d.val / 64, by omega⟩ ⟨d.val % 32, by omega⟩) := angle_at X n hi h
  by_cases h0 : d.val < 32
  · exact (dif_pos h0).trans (fin 0 _ _ (by show 0 = d.val / 64; omega) (by omega))
  refine (dif_neg h0).trans ?_
  by_cases h1 : d.val - 32 < 32
  · exact (dif_pos h1).trans (fin 0 _ _ (by show 0 = d.val / 64; omega) (by omega))
  refine (dif_neg h1).trans ?_
  by_cases h2 : d.val - 32 - 32 < 32
  · exact (dif_pos h2).trans (fin 1 _ _ (by show 1 = d.val / 64; omega) (by omega))
  refine (dif_neg h2).trans ?_
  exact fin 1 _ _ (by show 1 = d.val / 64; omega) (by omega)

theorem sinArr_apply (X : FVec Ideal S4096x2x32 .f32) (n : Fin 4096) (d : Fin 128) :
    sinArr X (ix2 n d) = if d.val % 64 < 32 then -X (ix3 n ⟨d.val / 64, by omega⟩ ⟨d.val % 32, by omega⟩) else X (ix3 n ⟨d.val / 64, by omega⟩ ⟨d.val % 32, by omega⟩) := by
  pointwise [sinArr, runs, angle0, angle1]
  have fin (i : Fin 2) (e : Nat) (he : e < 32) (hi : i.val = d.val / 64) (h : e = d.val % 32) :
      X (ix3 n i ⟨e, he⟩) = X (ix3 n ⟨d.val / 64, by omega⟩ ⟨d.val % 32, by omega⟩) := angle_at X n hi h
  by_cases h0 : d.val < 32
  · exact (dif_pos h0).trans ((congrArg (fun z : EReal => -z) (fin 0 _ _ (by show 0 = d.val / 64; omega) (by omega))).trans (if_pos (by omega)).symm)
  refine (dif_neg h0).trans ?_
  by_cases h1 : d.val - 32 < 32
  · exact (dif_pos h1).trans ((fin 0 _ _ (by show 0 = d.val / 64; omega) (by omega)).trans (if_neg (by omega)).symm)
  refine (dif_neg h1).trans ?_
  by_cases h2 : d.val - 32 - 32 < 32
  · exact (dif_pos h2).trans ((congrArg (fun z : EReal => -z) (fin 1 _ _ (by show 1 = d.val / 64; omega) (by omega))).trans (if_pos (by omega)).symm)
  refine (dif_neg h2).trans ?_
  exact (fin 1 _ _ (by show 1 = d.val / 64; omega) (by omega)).trans (if_neg (by omega)).symm

end Cert.Proj

end
-- ==== Proof.ProjValue.lean ====
/- The input projection's blocks at an index, and both its results from them. -/
module

public import proofs.«01_k».proof.Proof.ProjBody
public import proofs.«01_k».proof.Proof.ProjDecay
public import proofs.«01_k».proof.Proof.ProjMath
public import proofs.«01_k».proof.Proof.ProjHost
public import proofs.«01_k».proof.Proof.StateSpec
public import proofs.«01_k».proof.Proof.TailValue
public import proofs.«01_k».proof.Proof.Gen.Kernel5Ideal.Value
public import Idealize.ShloMosaic.Lib.Pipeline.Value

@[expose] public section

set_option maxRecDepth 65536

noncomputable section

open Idealize.ShloMosaic Idealize.ShloMosaic.TcCoe Idealize.SL.Sem
open Idealize.ShloMosaic.Pipeline (Dat)

namespace Cert.Proj

open Cert.Kernel5Ideal Cert.Kernel5Ideal.Gen
open Tail (at2 at4)

variable (m : (ℓ : Loc nD τ sig) → Buf (Elt Ideal) ℓ) (ρ : Dev nD → PrngReg)

/-- The grid has 32 points. -/
theorem hN : cfg0.N = 32 := N_0
theorem lt_32 (t : Fin cfg0.N) : t.val < 32 := t.isLt.trans_eq hN

/-- The blocks that follow the point. -/
theorem idx_moving : ∀ t : Fin cfg0.N, (win0_0.index t 0 = t.val ∧ win0_0.index t 1 = 0)
    ∧ (win0_1.index t 0 = t.val / 8 ∧ win0_1.index t 1 = 0 ∧ win0_1.index t 2 = 0 ∧ win0_1.index t 3 = 0)
    ∧ (win0_2.index t 0 = t.val / 8 ∧ win0_2.index t 1 = 1 ∧ win0_2.index t 2 = 0 ∧ win0_2.index t 3 = 0)
    ∧ (win0_8.index t 0 = t.val % 8 ∧ win0_8.index t 1 = 0) ∧ (win0_9.index t 0 = t.val % 8 ∧ win0_9.index t 1 = 0)
    ∧ (win0_12.index t 0 = t.val ∧ win0_12.index t 1 = 0) ∧ (win0_13.index t 0 = t.val ∧ win0_13.index t 1 = 0) :=
  (by decide +kernel : ∀ t : Fin grid0.N, (win0_0.index t 0 = t.val ∧ win0_0.index t 1 = 0)
    ∧ (win0_1.index t 0 = t.val / 8 ∧ win0_1.index t 1 = 0 ∧ win0_1.index t 2 = 0 ∧ win0_1.index t 3 = 0)
    ∧ (win0_2.index t 0 = t.val / 8 ∧ win0_2.index t 1 = 1 ∧ win0_2.index t 2 = 0 ∧ win0_2.index t 3 = 0)
    ∧ (win0_8.index t 0 = t.val % 8 ∧ win0_8.index t 1 = 0) ∧ (win0_9.index t 0 = t.val % 8 ∧ win0_9.index t 1 = 0)
    ∧ (win0_12.index t 0 = t.val ∧ win0_12.index t 1 = 0) ∧ (win0_13.index t 0 = t.val ∧ win0_13.index t 1 = 0))

/-- The blocks that are the whole array at every point. -/
theorem idx_whole : ∀ t : Fin cfg0.N, (win0_3.index t 0 = 0 ∧ win0_3.index t 1 = 0)
    ∧ (win0_4.index t 0 = 0 ∧ win0_4.index t 1 = 0 ∧ win0_4.index t 2 = 0)
    ∧ (win0_5.index t 0 = 0 ∧ win0_5.index t 1 = 0) ∧ (win0_6.index t 0 = 0 ∧ win0_6.index t 1 = 0) ∧ (win0_7.index t 0 = 0 ∧ win0_7.index t 1 = 0)
    ∧ (win0_10.index t 0 = 0 ∧ win0_10.index t 1 = 0) ∧ (win0_11.index t 0 = 0 ∧ win0_11.index t 1 = 0) :=
  (by decide +kernel : ∀ t : Fin grid0.N, (win0_3.index t 0 = 0 ∧ win0_3.index t 1 = 0)
    ∧ (win0_4.index t 0 = 0 ∧ win0_4.index t 1 = 0 ∧ win0_4.index t 2 = 0)
    ∧ (win0_5.index t 0 = 0 ∧ win0_5.index t 1 = 0) ∧ (win0_6.index t 0 = 0 ∧ win0_6.index t 1 = 0) ∧ (win0_7.index t 0 = 0 ∧ win0_7.index t 1 = 0)
    ∧ (win0_10.index t 0 = 0 ∧ win0_10.index t 1 = 0) ∧ (win0_11.index t 0 = 0 ∧ win0_11.index t 1 = 0))

/-- The sequence of a point, and the position in it of the point's row `r`. -/
def seqOf (t : Fin cfg0.N) : Fin 4 := ⟨t.val / 8, by have := lt_32 t; omega⟩
def posOf (t : Fin cfg0.N) (r : Fin 512) : Fin 4096 := ⟨t.val % 8 * 512 + r.val, by omega⟩

/-- Row `r` of a point among all rows. -/
def rowOf (t : Fin cfg0.N) (r : Fin 512) : Fin 16384 := ⟨t.val * 512 + r.val, by have := lt_32 t; omega⟩

theorem rowOf_div (t : Fin cfg0.N) (r : Fin 512) (h : (rowOf t r).val / 4096 < 4) : (⟨(rowOf t r).val / 4096, h⟩ : Fin 4) = seqOf t :=
  Fin.ext (by unfold rowOf seqOf; dsimp only; omega)
theorem rowOf_mod (t : Fin cfg0.N) (r : Fin 512) (h : (rowOf t r).val % 4096 < 4096) : (⟨(rowOf t r).val % 4096, h⟩ : Fin 4096) = posOf t r :=
  Fin.ext (by unfold rowOf posOf; dsimp only; omega)

/-- A rank-three array at two equal indices. -/
theorem at3 {n0 n1 n2 : Nat} (X : (⟨3, ![n0, n1, n2]⟩ : Shape).Idx → EReal) (y : (⟨3, ![n0, n1, n2]⟩ : Shape).Idx) (A : Fin n0) (B : Fin n1) (C : Fin n2)
    (h0 : (y 0 : Nat) = A.val) (h1 : (y 1 : Nat) = B.val) (h2 : (y 2 : Nat) = C.val) : X y = X (ix3 A B C) :=
  congrArg X (funext fun a => Fin.ext (by
    match a with
    | ⟨0, _⟩ => exact h0
    | ⟨1, _⟩ => exact h1
    | ⟨2, _⟩ => exact h2))

/-- The rows of a point. -/
theorem iblk0_apply (c : Dev nD) (t : Fin cfg0.N) (r : Fin 512) (k : Fin 1024) :
    (iblk m c 0 t : S512x1024.Idx → EReal) (ix2 r k) = (kArgs m c).x (ix3 (seqOf t) (posOf t r) k) := by
  have e : (iblk m c 0 t : S512x1024.Idx → EReal) (ix2 r k) = (V m c main_v55 : S16384x1024.Idx → EReal) (ix2 (rowOf t r) k) := by
    show (V m c main_v55 : S16384x1024.Idx → EReal) ((win0_0.rect t).emb (ix2 r k)) = _
    refine at2 _ _ _ _ ?_ ?_
    · rw [win0_0.rect_emb_val t (ix2 r k) 0]; show win0_0.index t 0 * 512 + r.val = t.val * 512 + r.val; rw [(idx_moving t).1.1]
    · rw [win0_0.rect_emb_val t (ix2 r k) 1]; show win0_0.index t 1 * 1024 + k.val = k.val; rw [(idx_moving t).1.2]; omega
  rw [e, (Vx_eq m c).1, rows_apply, rowOf_div, rowOf_mod]

/-- The shift of a point's sequence. -/
theorem iblk1_apply (c : Dev nD) (t : Fin cfg0.N) (k : Fin 1024) :
    (iblk m c 1 t : S1x1x1x1024.Idx → EReal) (ix4 0 0 0 k) = (kArgs m c).vec (seqOf t) 0 k := by
  obtain ⟨e0, e1, e2, e3⟩ := (idx_moving t).2.1
  have e : (iblk m c 1 t : S1x1x1x1024.Idx → EReal) (ix4 0 0 0 k) = (V m c main_v2 : S8x6x1x1024.Idx → EReal) (ix4 ⟨(seqOf t).val, by omega⟩ 0 0 k) := by
    show (V m c main_v2 : S8x6x1x1024.Idx → EReal) ((win0_1.rect t).emb (ix4 0 0 0 k)) = _
    refine at4 _ _ _ _ _ _ ?_ ?_ ?_ ?_
    · rw [win0_1.rect_emb_val t (ix4 0 0 0 k) 0]; show win0_1.index t 0 * 1 + 0 = t.val / 8; rw [e0]; omega
    · rw [win0_1.rect_emb_val t (ix4 0 0 0 k) 1]; show win0_1.index t 1 * 1 + 0 = 0; rw [e1]
    · rw [win0_1.rect_emb_val t (ix4 0 0 0 k) 2]; show win0_1.index t 2 * 1 + 0 = 0; rw [e2]
    · rw [win0_1.rect_emb_val t (ix4 0 0 0 k) 3]; show win0_1.index t 3 * 1024 + k.val = k.val; rw [e3]; omega
  rw [e, (Vx_eq m c).2.1, modArr_apply]
  rfl

/-- The scale of a point's sequence. -/
theorem iblk2_apply (c : Dev nD) (t : Fin cfg0.N) (k : Fin 1024) :
    (iblk m c 2 t : S1x1x1x1024.Idx → EReal) (ix4 0 0 0 k) = (kArgs m c).vec (seqOf t) 1 k := by
  obtain ⟨e0, e1, e2, e3⟩ := (idx_moving t).2.2.1
  have e : (iblk m c 2 t : S1x1x1x1024.Idx → EReal) (ix4 0 0 0 k) = (V m c main_v2 : S8x6x1x1024.Idx → EReal) (ix4 ⟨(seqOf t).val, by omega⟩ 1 0 k) := by
    show (V m c main_v2 : S8x6x1x1024.Idx → EReal) ((win0_2.rect t).emb (ix4 0 0 0 k)) = _
    refine at4 _ _ _ _ _ _ ?_ ?_ ?_ ?_
    · rw [win0_2.rect_emb_val t (ix4 0 0 0 k) 0]; show win0_2.index t 0 * 1 + 0 = t.val / 8; rw [e0]; omega
    · rw [win0_2.rect_emb_val t (ix4 0 0 0 k) 1]; show win0_2.index t 1 * 1 + 0 = 1; rw [e1]
    · rw [win0_2.rect_emb_val t (ix4 0 0 0 k) 2]; show win0_2.index t 2 * 1 + 0 = 0; rw [e2]
    · rw [win0_2.rect_emb_val t (ix4 0 0 0 k) 3]; show win0_2.index t 3 * 1024 + k.val = k.val; rw [e3]; omega
  rw [e, (Vx_eq m c).2.1, modArr_apply]
  rfl

/-- The norm's gain. -/
theorem iblk3_apply (c : Dev nD) (t : Fin cfg0.N) (k : Fin 1024) : (iblk m c 3 t : S1x1024.Idx → EReal) (ix2 0 k) = (kArgs m c).n1 (ix1 k) := by
  obtain ⟨e0, e1⟩ := (idx_whole t).1
  have e : (iblk m c 3 t : S1x1024.Idx → EReal) (ix2 0 k) = (V m c main_v56 : S1x1024.Idx → EReal) (ix2 0 k) := by
    show (V m c main_v56 : S1x1024.Idx → EReal) ((win0_3.rect t).emb (ix2 0 k)) = _
    refine at2 _ _ _ _ ?_ ?_
    · rw [win0_3.rect_emb_val t (ix2 0 k) 0]; show win0_3.index t 0 * 1 + 0 = 0; rw [e0]
    · rw [win0_3.rect_emb_val t (ix2 0 k) 1]; show win0_3.index t 1 * 1024 + k.val = k.val; rw [e1]; omega
  rw [e, (Vx_eq m c).2.2, norm_apply]

/-- The weights by groups of 128 columns. -/
theorem iblk4_apply (c : Dev nD) (t : Fin cfg0.N) (k : Fin 1024) (n : Nat) (hn : n < 52) (e : Fin 128) :
    (iblk m c 4 t : S13x1024x512.Idx → EReal) (ix3 ⟨n / 4, by omega⟩ k ⟨n % 4 * 128 + e.val, by omega⟩)
      = (kArgs m c).w (ix2 k ⟨src (n * 128 + e.val), src_lt (by omega)⟩) * factor (n * 128 + e.val) := by
  obtain ⟨e0, e1, e2⟩ := (idx_whole t).2.1
  have h (a : Fin 13) (f : Fin 512) : (iblk m c 4 t : S13x1024x512.Idx → EReal) (ix3 a k f) = (V m c main_v24 : S13x1024x512.Idx → EReal) (ix3 a k f) := by
    show (V m c main_v24 : S13x1024x512.Idx → EReal) ((win0_4.rect t).emb (ix3 a k f)) = _
    refine at3 _ _ _ _ _ ?_ ?_ ?_
    · rw [win0_4.rect_emb_val t (ix3 a k f) 0]; show win0_4.index t 0 * 13 + a.val = a.val; rw [e0]; omega
    · rw [win0_4.rect_emb_val t (ix3 a k f) 1]; show win0_4.index t 1 * 1024 + k.val = k.val; rw [e1]; omega
    · rw [win0_4.rect_emb_val t (ix3 a k f) 2]; show win0_4.index t 2 * 512 + f.val = f.val; rw [e2]; omega
  have hi : n / 4 * 512 + (n % 4 * 128 + e.val) = n * 128 + e.val := by omega
  rw [h, (Vw_eq m c).1, wArr_apply, wCols_apply]
  simp only [hi]

/-- The low-rank columns of the weights, padded with zeros. -/
theorem iblk5_apply (c : Dev nD) (t : Fin cfg0.N) (k : Fin 1024) (j : Fin 128) :
    (iblk m c 5 t : S1024x128.Idx → EReal) (ix2 k j) = if h : j.val < 32 then (kArgs m c).w (ix2 k ⟨2048 + j.val, by omega⟩) else 0 := by
  obtain ⟨e0, e1⟩ := (idx_whole t).2.2.1
  have e : (iblk m c 5 t : S1024x128.Idx → EReal) (ix2 k j) = (V m c main_v28 : S1024x128.Idx → EReal) (ix2 k j) := by
    show (V m c main_v28 : S1024x128.Idx → EReal) ((win0_5.rect t).emb (ix2 k j)) = _
    refine at2 _ _ _ _ ?_ ?_
    · rw [win0_5.rect_emb_val t (ix2 k j) 0]; show win0_5.index t 0 * 1024 + k.val = k.val; rw [e0]; omega
    · rw [win0_5.rect_emb_val t (ix2 k j) 1]; show win0_5.index t 1 * 128 + j.val = j.val; rw [e1]; omega
  rw [e, (Vw_eq m c).2.1, lrArr_apply]

/-- The gates' second weights: the window is the whole array. -/
theorem iblk6_eq (c : Dev nD) (t : Fin cfg0.N) (j : Fin 128) (f : Fin 1024) :
    (iblk m c 6 t : S128x1024.Idx → EReal) (ix2 j f) = gkArr (kArgs m c).wf (kArgs m c).wb (ix2 j f) := by
  obtain ⟨e0, e1⟩ := (idx_whole t).2.2.2.1
  have e : (iblk m c 6 t : S128x1024.Idx → EReal) (ix2 j f) = (V m c main_v32 : S128x1024.Idx → EReal) (ix2 j f) := by
    show (V m c main_v32 : S128x1024.Idx → EReal) ((win0_6.rect t).emb (ix2 j f)) = _
    refine at2 _ _ _ _ ?_ ?_
    · rw [win0_6.rect_emb_val t (ix2 j f) 0]; show win0_6.index t 0 * 128 + j.val = j.val; rw [e0]; omega
    · rw [win0_6.rect_emb_val t (ix2 j f) 1]; show win0_6.index t 1 * 1024 + f.val = f.val; rw [e1]; omega
  rw [e, (Vw_eq m c).2.2.1]

/-- The gates' biases. -/
theorem iblk7_eq (c : Dev nD) (t : Fin cfg0.N) (f : Fin 1024) :
    (iblk m c 7 t : S1x1024.Idx → EReal) (ix2 0 f) = bArr (kArgs m c).bf (kArgs m c).bb (ix2 0 f) := by
  obtain ⟨e0, e1⟩ := (idx_whole t).2.2.2.2.1
  have e : (iblk m c 7 t : S1x1024.Idx → EReal) (ix2 0 f) = (V m c main_v34 : S1x1024.Idx → EReal) (ix2 0 f) := by
    show (V m c main_v34 : S1x1024.Idx → EReal) ((win0_7.rect t).emb (ix2 0 f)) = _
    refine at2 _ _ _ _ ?_ ?_
    · rw [win0_7.rect_emb_val t (ix2 0 f) 0]; show win0_7.index t 0 * 1 + 0 = 0; rw [e0]
    · rw [win0_7.rect_emb_val t (ix2 0 f) 1]; show win0_7.index t 1 * 1024 + f.val = f.val; rw [e1]; omega
  rw [e, (Vw_eq m c).2.2.2]

/-- The cosines of a point's positions. -/
theorem iblk8_apply (c : Dev nD) (t : Fin cfg0.N) (r : Fin 512) (d : Fin 128) :
    (iblk m c 8 t : S512x128.Idx → EReal) (ix2 r d) = (kArgs m c).cosL (posOf t r) d := by
  obtain ⟨e0, e1⟩ := (idx_moving t).2.2.2.1
  have e : (iblk m c 8 t : S512x128.Idx → EReal) (ix2 r d) = (V m c main_v43 : S4096x128.Idx → EReal) (ix2 (posOf t r) d) := by
    show (V m c main_v43 : S4096x128.Idx → EReal) ((win0_8.rect t).emb (ix2 r d)) = _
    refine at2 _ _ _ _ ?_ ?_
    · rw [win0_8.rect_emb_val t (ix2 r d) 0]; show win0_8.index t 0 * 512 + r.val = t.val % 8 * 512 + r.val; rw [e0]
    · rw [win0_8.rect_emb_val t (ix2 r d) 1]; show win0_8.index t 1 * 128 + d.val = d.val; rw [e1]; omega
  rw [e, (Vr_eq m c).1, cosArr_apply]
  rfl

/-- The signed sines of a point's positions. -/
theorem iblk9_apply (c : Dev nD) (t : Fin cfg0.N) (r : Fin 512) (d : Fin 128) :
    (iblk m c 9 t : S512x128.Idx → EReal) (ix2 r d) = (kArgs m c).sinL (posOf t r) d := by
  obtain ⟨e0, e1⟩ := (idx_moving t).2.2.2.2.1
  have e : (iblk m c 9 t : S512x128.Idx → EReal) (ix2 r d) = (V m c main_v54 : S4096x128.Idx → EReal) (ix2 (posOf t r) d) := by
    show (V m c main_v54 : S4096x128.Idx → EReal) ((win0_9.rect t).emb (ix2 r d)) = _
    refine at2 _ _ _ _ ?_ ?_
    · rw [win0_9.rect_emb_val t (ix2 r d) 0]; show win0_9.index t 0 * 512 + r.val = t.val % 8 * 512 + r.val; rw [e0]
    · rw [win0_9.rect_emb_val t (ix2 r d) 1]; show win0_9.index t 1 * 128 + d.val = d.val; rw [e1]; omega
  rw [e, (Vr_eq m c).2.1, sinArr_apply]
  rfl

/-- The queries' and keys' gains. -/
theorem iblk10_apply (c : Dev nD) (t : Fin cfg0.N) (d : Fin 128) : (iblk m c 10 t : S1x128.Idx → EReal) (ix2 0 d) = (kArgs m c).qn (ix1 d) := by
  obtain ⟨e0, e1⟩ := (idx_whole t).2.2.2.2.2.1
  have e : (iblk m c 10 t : S1x128.Idx → EReal) (ix2 0 d) = (V m c main_v57 : S1x128.Idx → EReal) (ix2 0 d) := by
    show (V m c main_v57 : S1x128.Idx → EReal) ((win0_10.rect t).emb (ix2 0 d)) = _
    refine at2 _ _ _ _ ?_ ?_
    · rw [win0_10.rect_emb_val t (ix2 0 d) 0]; show win0_10.index t 0 * 1 + 0 = 0; rw [e0]
    · rw [win0_10.rect_emb_val t (ix2 0 d) 1]; show win0_10.index t 1 * 128 + d.val = d.val; rw [e1]; omega
  rw [e, (Vr_eq m c).2.2.1, gain_apply]
theorem iblk11_apply (c : Dev nD) (t : Fin cfg0.N) (d : Fin 128) : (iblk m c 11 t : S1x128.Idx → EReal) (ix2 0 d) = (kArgs m c).kn (ix1 d) := by
  obtain ⟨e0, e1⟩ := (idx_whole t).2.2.2.2.2.2
  have e : (iblk m c 11 t : S1x128.Idx → EReal) (ix2 0 d) = (V m c main_v58 : S1x128.Idx → EReal) (ix2 0 d) := by
    show (V m c main_v58 : S1x128.Idx → EReal) ((win0_11.rect t).emb (ix2 0 d)) = _
    refine at2 _ _ _ _ ?_ ?_
    · rw [win0_11.rect_emb_val t (ix2 0 d) 0]; show win0_11.index t 0 * 1 + 0 = 0; rw [e0]
    · rw [win0_11.rect_emb_val t (ix2 0 d) 1]; show win0_11.index t 1 * 128 + d.val = d.val; rw [e1]; omega
  rw [e, (Vr_eq m c).2.2.2, gain_apply]

/-- The literal scale of the linear attention's queries. -/
theorem lit_scale : Ideal.ofBits .f32 1035273459#32 = ((11863283 / 134217728 : ℝ) : EReal) := by
  simp [Ideal.ofBits, Ideal.ieee, -EReal.coe_mul]; norm_num

/-- A column's factor comes out of its sum. -/
theorem sum_factor (f g : Fin 1024 → EReal) (n : Nat) : ∑ k, f k * (g k * factor n) = (∑ k, f k * g k) * factor n := by
  unfold factor
  split_ifs
  · simp only [mul_one]
  · rw [lit_scale, ← State.sum_mul_coe _ _ (by norm_num)]
    simp only [mul_assoc]

/-- A point's row, normalised and modulated. -/
theorem hbRow_eq (c : Dev nD) (t : Fin cfg0.N) (r : Fin 512) :
    hbRow (iblk m c 0 t) (iblk m c 1 t) (iblk m c 2 t) (iblk m c 3 t) r = (kArgs m c).row (seqOf t) (posOf t r) := by
  unfold hbRow Args.row
  rw [funext fun k => iblk0_apply m c t r k, funext fun k => iblk1_apply m c t k, funext fun k => iblk2_apply m c t k, funext fun k => iblk3_apply m c t k]

/-- What a point leaves in its block of the first result. -/
theorem main_apply (c : Dev nD) (t : Fin cfg0.N) (r : Fin 512) (col : Fin 6656) :
    out0_12 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (ix2 r col) = (kArgs m c).main (seqOf t) (posOf t r) col := by
  refine (out12_apply _ _ _ _ _ _ _ _ _ _ _ _ r col).trans ?_
  unfold mainAt group Args.main
  have ea : (fun e : Fin 128 => ∑ k, hbRow (iblk m c 0 t) (iblk m c 1 t) (iblk m c 2 t) (iblk m c 3 t) r k
        * (iblk m c 4 t : S13x1024x512.Idx → EReal) (ix3 ⟨col.val / 128 / 4, by omega⟩ k ⟨col.val / 128 % 4 * 128 + e.val, by omega⟩))
      = (kArgs m c).cols (seqOf t) (posOf t r) (col.val / 128) (by omega) := by
    funext e
    simp only [iblk4_apply m c t _ (col.val / 128) (by omega) e]
    rw [sum_factor, hbRow_eq]
    rfl
  have e8 : (fun e => (iblk m c 8 t : S512x128.Idx → EReal) (ix2 r e)) = (kArgs m c).cosL (posOf t r) := funext fun d => iblk8_apply m c t r d
  have e9 : (fun e => (iblk m c 9 t : S512x128.Idx → EReal) (ix2 r e)) = (kArgs m c).sinL (posOf t r) := funext fun d => iblk9_apply m c t r d
  have e10 : (fun e => (iblk m c 10 t : S1x128.Idx → EReal) (ix2 0 e)) = fun e => (kArgs m c).qn (ix1 e) := funext fun d => iblk10_apply m c t d
  have e11 : (fun e => (iblk m c 11 t : S1x128.Idx → EReal) (ix2 0 e)) = fun e => (kArgs m c).kn (ix1 e) := funext fun d => iblk11_apply m c t d
  exact congrFun (congr (congrFun (congr (congr (congr (congrArg act e10) e11) e8) e9) _) ea) _

/-- The products behind a point's gates: a low-rank column's, where there is one. -/
theorem low_eq (c : Dev nD) (t : Fin cfg0.N) (r : Fin 512) (j : Fin 128) (h : j.val < 32) :
    ∑ k, hbRow (iblk m c 0 t) (iblk m c 1 t) (iblk m c 2 t) (iblk m c 3 t) r k * (iblk m c 5 t : S1024x128.Idx → EReal) (ix2 k j)
      = (kArgs m c).p (seqOf t) (posOf t r) ⟨2048 + j.val, by omega⟩ := by
  simp only [iblk5_apply, dif_pos h, hbRow_eq]
  rfl

/-- What a point leaves in its block of the second result. -/
theorem decay_apply (c : Dev nD) (t : Fin cfg0.N) (r : Fin 512) (col : Fin 1024) :
    out0_13 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (ix2 r col) = (kArgs m c).decay (seqOf t) (posOf t r) col := by
  refine (out13_apply _ _ _ _ _ _ _ _ _ _ _ _ r col).trans ?_
  unfold decayAt Args.decay
  by_cases h : col.val < 512
  · rw [dif_pos h]
    refine congrArg decayT (congrArg₂ (· + ·) ?_ ?_)
    · refine (sum_window _ 0 (by omega) fun j hj => ?_).trans (Finset.sum_congr rfl fun i _ => ?_)
      · rw [iblk6_eq, gkArr_first _ _ _ _ h, dif_neg (by omega), mul_zero]
      · rw [iblk6_eq, gkArr_first _ _ _ _ h, dif_pos (by dsimp only; omega), low_eq m c t r _ (by dsimp only; omega)]
        simp only [Nat.zero_add]
    · rw [iblk7_eq, bArr_apply, dif_pos h]
  · rw [dif_neg h]
    refine congrArg decayT (congrArg₂ (· + ·) ?_ ?_)
    · refine (sum_window _ 16 (by omega) fun j hj => ?_).trans (Finset.sum_congr rfl fun i _ => ?_)
      · rw [iblk6_eq, gkArr_second _ _ _ _ h, dif_neg (by omega), mul_zero]
      · rw [iblk6_eq, gkArr_second _ _ _ _ h, dif_pos (by dsimp only; omega), low_eq m c t r _ (by dsimp only; omega)]
        have e1 : (⟨2048 + (16 + i.val), by omega⟩ : Fin 6688) = ⟨2064 + i.val, by omega⟩ := Fin.ext (by dsimp only; omega)
        have e2 : (⟨16 + i.val - 16, by omega⟩ : Fin 16) = i := Fin.ext (by dsimp only; omega)
        simp only [e1, e2]
    · rw [iblk7_eq, bArr_apply, dif_neg h]

/-- The sequence and the position of a row. -/
def seqR (R : Fin 16384) : Fin 4 := ⟨R.val / 4096, by omega⟩
def posR (R : Fin 16384) : Fin 4096 := ⟨R.val % 4096, by omega⟩

/-- The first result, a row per token. -/
def out12 (c : Dev nD) : Buf (Elt Ideal) ((c : Thread nD τ).loc main_v59_0) :=
  fun y : S16384x6656.Idx => (kArgs m c).main (seqR (y 0)) (posR (y 0)) (y 1)

/-- The second result, a row per token. -/
def out13 (c : Dev nD) : Buf (Elt Ideal) ((c : Thread nD τ).loc main_v59_1) :=
  fun y : S16384x1024.Idx => (kArgs m c).decay (seqR (y 0)) (posR (y 0)) (y 1)

/-- A function of a token and a column at equal ones. -/
theorem at_token {n1 : Nat} (f : Fin 4 → Fin 4096 → Fin n1 → EReal) (y : (⟨2, ![16384, n1]⟩ : Shape).Idx) (t : Fin cfg0.N) (r : Fin 512) (col : Fin n1)
    (h0 : (y 0 : Nat) = t.val * 512 + r.val) (h1 : (y 1 : Nat) = col.val) :
    f (seqOf t) (posOf t r) col = f (seqR (y 0)) (posR (y 0)) (y 1) := by
  rw [show (y 0 : Fin 16384) = rowOf t r from Fin.ext h0, show (y 1 : Fin n1) = col from Fin.ext h1]
  exact congrFun (congr (congrArg f (rowOf_div t r _).symm) (rowOf_mod t r _).symm) col

/-- What point `t` writes back is its block of the first result. -/
theorem flushed12_eq (c : Dev nD) (t : Fin cfg0.N) : (dats m 0 c).flushed 12 t = (win0_12.blk t).view.read (Elt Ideal) (out12 m c) := by
  rw [Cert.Kernel5Ideal.Value.flushed12]
  funext (y : S512x6656.Idx)
  obtain ⟨r, col, rfl⟩ : ∃ (r : Fin 512) (col : Fin 6656), y = ix2 r col := ⟨y 0, y 1, funext fun a => by fin_cases a <;> rfl⟩
  refine (main_apply m c t r col).trans ?_
  obtain ⟨e0, e1⟩ := (idx_moving t).2.2.2.2.2.1
  refine at_token (kArgs m c).main ((win0_12.rect t).emb (ix2 r col)) t r col ?_ ?_
  · rw [win0_12.rect_emb_val t _ 0]; show win0_12.index t 0 * 512 + r.val = t.val * 512 + r.val; rw [e0]
  · rw [win0_12.rect_emb_val t _ 1]; show win0_12.index t 1 * 6656 + col.val = col.val; rw [e1]; omega

/-- What point `t` writes back is its block of the second result. -/
theorem flushed13_eq (c : Dev nD) (t : Fin cfg0.N) : (dats m 0 c).flushed 13 t = (win0_13.blk t).view.read (Elt Ideal) (out13 m c) := by
  rw [Cert.Kernel5Ideal.Value.flushed13]
  funext (y : S512x1024.Idx)
  obtain ⟨r, col, rfl⟩ : ∃ (r : Fin 512) (col : Fin 1024), y = ix2 r col := ⟨y 0, y 1, funext fun a => by fin_cases a <;> rfl⟩
  refine (decay_apply m c t r col).trans ?_
  obtain ⟨e0, e1⟩ := (idx_moving t).2.2.2.2.2.2
  refine at_token (kArgs m c).decay ((win0_13.rect t).emb (ix2 r col)) t r col ?_ ?_
  · rw [win0_13.rect_emb_val t _ 0]; show win0_13.index t 0 * 512 + r.val = t.val * 512 + r.val; rw [e0]
  · rw [win0_13.rect_emb_val t _ 1]; show win0_13.index t 1 * 1024 + col.val = col.val; rw [e1]; omega

/-- An entry is in a point's block when each coordinate is within the block's bounds. -/
theorem mem_blk12 (t : Fin cfg0.N) (i : S16384x6656.Idx) : i ∈ ((cfg0.win 12).blk t).view.set ↔
    ∀ a : Fin 2, win0_12.index t a * win0_12.size a ≤ (i a : Nat) ∧ (i a : Nat) < win0_12.index t a * win0_12.size a + win0_12.size a := by
  show i ∈ ((View.whole main_v59_0).slice (win0_12.rect t)).set ↔ _
  rw [View.set_slice_whole, Rect.mem_set_unit]
  exact Iff.rfl

theorem mem_blk13 (t : Fin cfg0.N) (i : S16384x1024.Idx) : i ∈ ((cfg0.win 13).blk t).view.set ↔
    ∀ a : Fin 2, win0_13.index t a * win0_13.size a ≤ (i a : Nat) ∧ (i a : Nat) < win0_13.index t a * win0_13.size a + win0_13.size a := by
  show i ∈ ((View.whole main_v59_1).slice (win0_13.rect t)).set ↔ _
  rw [View.set_slice_whole, Rect.mem_set_unit]
  exact Iff.rfl

/-- The point of a row. -/
def pointOf (R : Fin 16384) : Fin cfg0.N := ⟨R.val / 512, (show R.val / 512 < 32 by omega).trans_eq hN.symm⟩

/-- The block of a row's point holds the row. -/
theorem bounds {n1 : Nat} (i : (⟨2, ![16384, n1]⟩ : Shape).Idx) (x : Fin 2 → Nat) (hx : x 0 = (pointOf (i 0)).val ∧ x 1 = 0) (a : Fin 2) :
    x a * (![512, n1] : Fin 2 → Nat) a ≤ (i a : Nat) ∧ (i a : Nat) < x a * (![512, n1] : Fin 2 → Nat) a + (![512, n1] : Fin 2 → Nat) a := by
  have h1 : (i 1 : Nat) < n1 := (i 1).isLt
  obtain ⟨e0, e1⟩ := hx
  have e0' : x 0 = (i 0 : Nat) / 512 := e0
  match a with
  | ⟨0, _⟩ => show x 0 * 512 ≤ (i 0 : Nat) ∧ (i 0 : Nat) < x 0 * 512 + 512; omega
  | ⟨1, _⟩ => show x 1 * n1 ≤ (i 1 : Nat) ∧ (i 1 : Nat) < x 1 * n1 + n1; rw [e1]; omega

/-- The points' blocks tile the results. -/
theorem covers12 (i : S16384x6656.Idx) : ∃ t : Fin cfg0.N, (cfg0.win 12).flush t = true ∧ i ∈ ((cfg0.win 12).blk t).view.set :=
  ⟨pointOf (i 0), flush0_12 _, (mem_blk12 _ i).2 fun a => bounds i (win0_12.index _) (idx_moving (pointOf (i 0))).2.2.2.2.2.1 a⟩
theorem covers13 (i : S16384x1024.Idx) : ∃ t : Fin cfg0.N, (cfg0.win 13).flush t = true ∧ i ∈ ((cfg0.win 13).blk t).view.set :=
  ⟨pointOf (i 0), flush0_13 _, (mem_blk13 _ i).2 fun a => bounds i (win0_13.index _) (idx_moving (pointOf (i 0))).2.2.2.2.2.2 a⟩

end Cert.Proj

end
-- ==== Proof.Proj.lean ====
/- The claim of the input projection: equality with the plain host lines at the extended reals. -/
module

public import proofs.«01_k».proof.Proof.ProjFrames
public import proofs.«01_k».proof.Proof.ProjReference
public import proofs.«01_k».proof.Proof.ProjValue

@[expose] public section

noncomputable section

open Idealize.ShloMosaic Idealize.ShloMosaic.TcCoe Idealize.SL.Sem

namespace Cert.Proof.Proj

open Cert.Proj

section
open Cert.Kernel5Ideal Cert.Kernel5Ideal.Gen
variable (m : (ℓ : Loc nD τ sig) → Buf (Elt Ideal) ℓ) (ρ : Dev nD → PrngReg)

/-- The kernel's run with its results read, its arguments unchanged. -/
theorem run : θ_run defs (onTc (τ := τ) (Cert.Kernel5Ideal.main (F := Ideal))) ⟨m, fun _ => 0, ρ⟩ fun r => ∀ c : Dev nD,
      r.2.mem ((c : Thread nD τ).loc main_v59_0) = out12 m c
      ∧ r.2.mem ((c : Thread nD τ).loc main_v59_1) = out13 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans ((dats m 0 c).arrAt_eq_of_cover 12 (out12 m c) (fun t _ => flushed12_eq m c t) covers12),
      (h c).2.1.trans ((dats m 0 c).arrAt_eq_of_cover 13 (out13 m c) (fun t _ => flushed13_eq m c t) covers13), (h c).2.2⟩)
    (Cert.Kernel5Ideal.Value.run_blocks m ρ)

end

set_option maxHeartbeats 4000000 in
/-- On equal arguments the kernel and the plain lines leave the same arrays. -/
theorem algebraic : Cert.algebraic_Kernel5Ideal_Reference5Ideal := by
  intro m ρ m' ρ' _ hagree
  refine ⟨fun c => out12 m c, fun c => out13 m c, run m ρ, ?_⟩
  have same (c : Dev Cert.Reference5Ideal.nD) : refArgs m' c = kArgs m c := by
    obtain ⟨e0, e1, e2, e3, e4, e5, e6, e7, e8, e9, e10, e11⟩ := hagree c
    unfold refArgs kArgs
    rw [e0, e1, e2, e3, e4, e5, e6, e7, e8, e9, e10, e11]
  refine (θ_run Cert.Reference5Ideal.defs _ _).mono (fun _ h c => ⟨(h c).1.trans ?_, (h c).2.1.trans ?_, (h c).2.2⟩)
    (Cert.Reference5Ideal.Value.run (F := Ideal) m' ρ')
  · refine (res_eq m' c).trans ?_
    rw [same c]
    funext (i : (⟨2, ![16384, 6656]⟩ : Shape).Idx)
    obtain ⟨R, col, rfl⟩ : ∃ (R : Fin 16384) (col : Fin 6656), i = ix2 R col := ⟨i 0, i 1, funext fun a => by fin_cases a <;> rfl⟩
    exact refMain_apply (kArgs m c) R col
  · refine (res_decay_eq m' c).trans ?_
    rw [same c]
    funext (i : (⟨2, ![16384, 1024]⟩ : Shape).Idx)
    obtain ⟨R, col, rfl⟩ : ∃ (R : Fin 16384) (col : Fin 1024), i = ix2 R col := ⟨i 0, i 1, funext fun a => by fin_cases a <;> rfl⟩
    exact refDecay_apply (kArgs m c) R col

end Cert.Proof.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Loops
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Regroup
public import proofs.«01_k».proof.Proof.AttnFrames
public import proofs.«01_k».proof.Proof.Attn
public import proofs.«01_k».proof.Proof.Tail
public import proofs.«01_k».proof.Proof.State
public import proofs.«01_k».proof.Proof.Proj
public import Idealize.ShloMosaic.Adequacy
public import Idealize.ShloMosaic.Init

@[expose] public section

noncomputable section

namespace Cert.Proof

open Idealize.ShloMosaic Idealize.SL.Sem Cert.Kernel

/-- Every claim, each proved in its own module. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Attn.preFacts,
  Regroup.frame_kernel, Regroup.frame_kernelIdeal, Regroup.frame_referenceIdeal,
  Attn.frame_kernel2, Attn.frame_kernel2Ideal, Attn.frame_kernel2Ideal_pre, Attn.frame_reference2Ideal, Attn.frame_reference2Ideal_pre,
  Tail.frame_kernel3, Tail.frame_kernel3Ideal, Tail.frame_reference3Ideal,
  State.frame_kernel4, State.frame_kernel4Ideal, State.frame_reference4Ideal,
  Proj.frame_kernel5, Proj.frame_kernel5Ideal, Proj.frame_reference5Ideal,
  Regroup.preserves, Regroup.algebraic, Attn.preserves, Attn.algebraic, Tail.preserves, Tail.algebraic,
  State.preserves, State.algebraic, Proj.preserves, Proj.algebraic⟩

end Cert.Proof

end
